-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Rows (m : (ℓ : Loc Cert.Rows.nD Cert.Rows.τ Cert.Rows.sig) → Buf (Elt Bits) ℓ) : Prop :=
  True

def Pre_RowsReference (m : (ℓ : Loc Cert.RowsReference.nD Cert.RowsReference.τ Cert.RowsReference.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsIdeal_rows_pre [hPre_rows_pre : Cert.Pre_rows_pre.Facts] (m : (ℓ : Loc Cert.RowsIdeal.nD Cert.RowsIdeal.τ Cert.RowsIdeal.sig) → Buf (Elt Ideal) ℓ) : Prop :=
  ∀ c : Dev Cert.RowsIdeal.nD,
    (Cert.Pre_rows_pre.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def Pre_RowsReferenceIdeal (m : (ℓ : Loc Cert.RowsReferenceIdeal.nD Cert.RowsReferenceIdeal.τ Cert.RowsReferenceIdeal.sig) → Buf (Elt Ideal) ℓ) : Prop :=
  True

def Pre_RowsReferenceIdeal_rows_pre [hPre_rows_pre : Cert.Pre_rows_pre.Facts] (m : (ℓ : Loc Cert.RowsReferenceIdeal.nD Cert.RowsReferenceIdeal.τ Cert.RowsReferenceIdeal.sig) → Buf (Elt Ideal) ℓ) : Prop :=
  ∀ c : Dev Cert.RowsReferenceIdeal.nD,
    (Cert.Pre_rows_pre.fn (F := Ideal) (m ((c.tc : Thread Cert.RowsReferenceIdeal.nD Cert.RowsReferenceIdeal.τ).loc Cert.RowsReferenceIdeal.main_arg0)) (m ((c.tc : Thread Cert.RowsReferenceIdeal.nD Cert.RowsReferenceIdeal.τ).loc Cert.RowsReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsReference [hRowsReference : Cert.RowsReference.Facts] : Prop :=
  ∀ (m : (ℓ : Loc Cert.RowsReference.nD Cert.RowsReference.τ Cert.RowsReference.sig) → Buf (Elt Bits) ℓ) (g : Dev Cert.RowsReference.nD → PrngReg), Pre_RowsReference m →
    θ_run (Cert.RowsReference.defs (F := Bits)) (onTc (τ := Cert.RowsReference.τ) (Cert.RowsReference.main (F := Bits))) ⟨m, fun _ => 0, g⟩ (fun r => (∀ c : Dev Cert.RowsReference.nD,
      r.2.mem ((c.tc : Thread Cert.RowsReference.nD Cert.RowsReference.τ).loc Cert.RowsReference.main_arg0) = m ((c.tc : Thread Cert.RowsReference.nD Cert.RowsReference.τ).loc Cert.RowsReference.main_arg0)
      ∧ r.2.mem ((c.tc : Thread Cert.RowsReference.nD Cert.RowsReference.τ).loc Cert.RowsReference.main_arg1) = m ((c.tc : Thread Cert.RowsReference.nD Cert.RowsReference.τ).loc Cert.RowsReference.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsIdeal_pre_rows_pre [hRowsIdeal : Cert.RowsIdeal.Facts] [hPre_rows_pre : Cert.Pre_rows_pre.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_rows_pre m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_RowsReferenceIdeal_pre_rows_pre [hRowsReferenceIdeal : Cert.RowsReferenceIdeal.Facts] [hPre_rows_pre : Cert.Pre_rows_pre.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal_rows_pre m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v99) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Rows_RowsIdeal : Prop :=
  True

def preserves_RowsReference_RowsReferenceIdeal : Prop :=
  True

def algebraic_RowsIdeal_RowsReferenceIdeal_pre_rows_pre [hRowsIdeal : Cert.RowsIdeal.Facts] [hRowsReferenceIdeal : Cert.RowsReferenceIdeal.Facts] [hPre_rows_pre : Cert.Pre_rows_pre.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal_rows_pre m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v1_0)) (v1 : (c : Dev Cert.RowsIdeal.nD) → Buf (Elt Ideal) ((c.tc : Thread Cert.RowsIdeal.nD Cert.RowsIdeal.τ).loc Cert.RowsIdeal.main_v1_1)) (v2 : (c : Dev Cert.RowsIdeal.nD) → Buf (Elt Ideal) ((c.tc : Thread Cert.RowsIdeal.nD Cert.RowsIdeal.τ).loc Cert.RowsIdeal.main_v1_2)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v1_0) = v0 c
          ∧ r.2.mem ((c.tc : Thread Cert.RowsIdeal.nD Cert.RowsIdeal.τ).loc Cert.RowsIdeal.main_v1_1) = v1 c
          ∧ r.2.mem ((c.tc : Thread Cert.RowsIdeal.nD Cert.RowsIdeal.τ).loc Cert.RowsIdeal.main_v1_2) = v2 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v41) = v0 c
          ∧ r.2.mem ((c.tc : Thread Cert.RowsReferenceIdeal.nD Cert.RowsReferenceIdeal.τ).loc Cert.RowsReferenceIdeal.main_v43) = v1 c
          ∧ r.2.mem ((c.tc : Thread Cert.RowsReferenceIdeal.nD Cert.RowsReferenceIdeal.τ).loc Cert.RowsReferenceIdeal.main_v44) = v2 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1))

def Claim : Prop :=
  ∃ (hKernel : Cert.Kernel.Facts) (hReference : Cert.Reference.Facts) (hRows : Cert.Rows.Facts) (hRowsReference : Cert.RowsReference.Facts) (hRowsIdeal : Cert.RowsIdeal.Facts) (hRowsReferenceIdeal : Cert.RowsReferenceIdeal.Facts) (hPre_rows_pre : Cert.Pre_rows_pre.Facts),
    quiescent_Kernel (hKernel := hKernel)
    ∧ quiescent_Reference (hReference := hReference)
    ∧ quiescent_Rows (hRows := hRows)
    ∧ quiescent_RowsReference (hRowsReference := hRowsReference)
    ∧ quiescent_RowsIdeal (hRowsIdeal := hRowsIdeal)
    ∧ quiescent_RowsIdeal_pre_rows_pre (hRowsIdeal := hRowsIdeal) (hPre_rows_pre := hPre_rows_pre)
    ∧ quiescent_RowsReferenceIdeal (hRowsReferenceIdeal := hRowsReferenceIdeal)
    ∧ quiescent_RowsReferenceIdeal_pre_rows_pre (hRowsReferenceIdeal := hRowsReferenceIdeal) (hPre_rows_pre := hPre_rows_pre)
    ∧ bitexact_Kernel_Reference (hKernel := hKernel) (hReference := hReference)
    ∧ preserves_Rows_RowsIdeal
    ∧ preserves_RowsReference_RowsReferenceIdeal
    ∧ algebraic_RowsIdeal_RowsReferenceIdeal_pre_rows_pre (hRowsIdeal := hRowsIdeal) (hRowsReferenceIdeal := hRowsReferenceIdeal) (hPre_rows_pre := hPre_rows_pre)
-- ==== Pre_rows_pre.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1000 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S16 : Shape := ⟨1, ![16]⟩
abbrev S1024 : Shape := ⟨1, ![1024]⟩
abbrev S256 : Shape := ⟨1, ![256]⟩
abbrev S4096 : Shape := ⟨1, ![4096]⟩
abbrev S32 : Shape := ⟨1, ![32]⟩
abbrev S_ : Shape := ⟨0, ![]⟩
abbrev S1 : Shape := ⟨1, ![1]⟩

abbrev nBuf : Table → Nat
  | .hbm => 7
  | .shared => 2
  | .local .scVector .vmem => 9
  | _ => 0

abbrev bufTy : (tb : Table) → Fin (nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384, .i32⟩
  | .hbm, ⟨4, _⟩ => ⟨S16, .f32⟩
  | .hbm, ⟨5, _⟩ => ⟨S1, .f32⟩
  | .hbm, ⟨6, _⟩ => ⟨S_, .f32⟩
  | .shared, ⟨0, _⟩ => ⟨S4096, .i32⟩
  | .shared, ⟨1, _⟩ => ⟨S256, .f32⟩
  | .local .scVector .vmem, ⟨0, _⟩ => ⟨S1024, .f32⟩
  | .local .scVector .vmem, ⟨1, _⟩ => ⟨S1024, .f32⟩
  | .local .scVector .vmem, ⟨2, _⟩ => ⟨S1024, .f32⟩
  | .local .scVector .vmem, ⟨3, _⟩ => ⟨S1024, .i32⟩
  | .local .scVector .vmem, ⟨4, _⟩ => ⟨S1024, .i32⟩
  | .local .scVector .vmem, ⟨5, _⟩ => ⟨S256, .i32⟩
  | .local .scVector .vmem, ⟨6, _⟩ => ⟨S4096, .i32⟩
  | .local .scVector .vmem, ⟨7, _⟩ => ⟨S256, .f32⟩
  | .local .scVector .vmem, ⟨8, _⟩ => ⟨S32, .f32⟩
  | _, _ => ⟨S16384, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 5 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch9 : Ref sig .scVector := ⟨.shared, 0, rfl⟩
abbrev cc0_scratch10 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [BitOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg1 : BitVec 32 := BitVec.ofNat 32 (i 1).val
  let c1024_i32 : BitVec 32 := 1024#32
  let v3 : BitVec 32 := Scalar.muli arg1 c1024_i32
  ![v3.toNat]
@[reducible] def k0_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k0_off2 (k0_t1 : Fin k0_t1_loop.trips) : Fin 1 → Nat :=
  let c0_i32_2 : BitVec 32 := 0#32
  let c1_i32 : BitVec 32 := 1#32
  let arg18 : BitVec 32 := Scf.iv c0_i32_2 c1_i32 k0_t1
  let c16_i32_241 : BitVec 32 := 16#32
  let v216 : BitVec 32 := Scalar.muli arg18 c16_i32_241
  let v217 : Index := Scalar.indexCast v216
  ![v217.toNat]
def k0_off3 (i : grid0.Coords) : Fin 1 → Nat :=
  let arg1 : BitVec 32 := BitVec.ofNat 32 (i 1).val
  let c16_i32 : BitVec 32 := 16#32
  let v10 : BitVec 32 := Scalar.muli arg1 c16_i32
  ![v10.toNat]
@[reducible] def k0_t2_loop : Scf.Loop 32 :=
  let c0_i32_8 : BitVec 32 := 0#32
  let c16_i32_9 : BitVec 32 := 16#32
  let v11 : BitVec 32 := Scalar.addi c0_i32_8 c16_i32_9
  let c1_i32_10 : BitVec 32 := 1#32
  ⟨c0_i32_8, v11, c1_i32_10⟩
def k0_off4 (k0_t2 : Fin k0_t2_loop.trips) : Fin 1 → Nat :=
  let c0_i32_8 : BitVec 32 := 0#32
  let c1_i32_10 : BitVec 32 := 1#32
  let arg18 : BitVec 32 := Scf.iv c0_i32_8 c1_i32_10 k0_t2
  let c16_i32_241 : BitVec 32 := 16#32
  let v216 : BitVec 32 := Scalar.muli arg18 c16_i32_241
  let v217 : Index := Scalar.indexCast v216
  ![v217.toNat]
@[reducible] def k0_t3_loop : Scf.Loop 32 :=
  let c0_i32_31 : BitVec 32 := 0#32
  let c64_i32_32 : BitVec 32 := 64#32
  let v46 : BitVec 32 := Scalar.addi c0_i32_31 c64_i32_32
  let c1_i32_33 : BitVec 32 := 1#32
  ⟨c0_i32_31, v46, c1_i32_33⟩
def k0_off5 (k0_t3 : Fin k0_t3_loop.trips) : Fin 1 → Nat :=
  let c0_i32_31 : BitVec 32 := 0#32
  let c1_i32_33 : BitVec 32 := 1#32
  let arg18 : BitVec 32 := Scf.iv c0_i32_31 c1_i32_33 k0_t3
  let c16_i32_241 : BitVec 32 := 16#32
  let v216 : BitVec 32 := Scalar.muli arg18 c16_i32_241
  let v217 : Index := Scalar.indexCast v216
  ![v217.toNat]

def k0_chk1 (i : grid0.Coords) (v222 : IVec S16 32) : Prop :=
  (∀ (k0_h1 : k0_cond1 i = 1#1), ∀ a x, ((![v222] : Fin 1 → IVec S16 32) a x).toNat < S256.size a)
theorem k0_idx1_inb : ∀ (i : grid0.Coords) (v222 : IVec S16 32) (k0_hw1 : k0_chk1 i v222), ∀ (k0_h1 : k0_cond1 i = 1#1), ∀ a x, ((![v222] : Fin 1 → IVec S16 32) a x).toNat < S256.size a := fun i v222 k0_hw1 k0_h1 => k0_hw1 k0_h1
def k0_off6 (i : grid0.Coords) : Fin 1 → Nat :=
  let arg1 : BitVec 32 := BitVec.ofNat 32 (i 1).val
  let c256_i32 : BitVec 32 := 256#32
  let v48 : BitVec 32 := Scalar.muli arg1 c256_i32
  ![v48.toNat]
@[reducible] def k0_t4_loop : Scf.Loop 32 :=
  let c0_i32_38 : BitVec 32 := 0#32
  let c16_i32_39 : BitVec 32 := 16#32
  let v49 : BitVec 32 := Scalar.addi c0_i32_38 c16_i32_39
  let c1_i32_40 : BitVec 32 := 1#32
  ⟨c0_i32_38, v49, c1_i32_40⟩
@[reducible] def k0_t5_loop : Scf.Loop 32 :=
  let c0_i32_242 : BitVec 32 := 0#32
  let c16_i32_243 : BitVec 32 := 16#32
  let v217 : BitVec 32 := Scalar.addi c0_i32_242 c16_i32_243
  let c1_i32_244 : BitVec 32 := 1#32
  ⟨c0_i32_242, v217, c1_i32_244⟩
def k0_off7 (k0_t4 : Fin k0_t4_loop.trips) (k0_t5 : Fin k0_t5_loop.trips) : Fin 1 → Nat :=
  let c0_i32_242 : BitVec 32 := 0#32
  let c1_i32_244 : BitVec 32 := 1#32
  let arg20 : BitVec 32 := Scf.iv c0_i32_242 c1_i32_244 k0_t5
  let c256_i32_248 : BitVec 32 := 256#32
  let v222 : BitVec 32 := Scalar.muli arg20 c256_i32_248
  let c0_i32_38 : BitVec 32 := 0#32
  let c1_i32_40 : BitVec 32 := 1#32
  let arg18 : BitVec 32 := Scf.iv c0_i32_38 c1_i32_40 k0_t4
  let c16_i32_249 : BitVec 32 := 16#32
  let v223 : BitVec 32 := Scalar.muli arg18 c16_i32_249
  let v224 : BitVec 32 := Scalar.addi v222 v223
  let v225 : Index := Scalar.indexCast v224
  ![v225.toNat]
def k0_off8 (k0_t4 : Fin k0_t4_loop.trips) : Fin 1 → Nat :=
  let c0_i32_38 : BitVec 32 := 0#32
  let c1_i32_40 : BitVec 32 := 1#32
  let arg18 : BitVec 32 := Scf.iv c0_i32_38 c1_i32_40 k0_t4
  let c16_i32_246 : BitVec 32 := 16#32
  let v219 : BitVec 32 := Scalar.muli arg18 c16_i32_246
  let v220 : Index := Scalar.indexCast v219
  ![v220.toNat]
@[reducible] def k0_t6_loop : Scf.Loop 32 :=
  let c0_i32_43 : BitVec 32 := 0#32
  let c16_i32_44 : BitVec 32 := 16#32
  let v51 : BitVec 32 := Scalar.addi c0_i32_43 c16_i32_44
  let c1_i32_45 : BitVec 32 := 1#32
  ⟨c0_i32_43, v51, c1_i32_45⟩
def k0_off9 (k0_t6 : Fin k0_t6_loop.trips) : Fin 1 → Nat :=
  let c0_i32_43 : BitVec 32 := 0#32
  let c1_i32_45 : BitVec 32 := 1#32
  let arg18 : BitVec 32 := Scf.iv c0_i32_43 c1_i32_45 k0_t6
  let c16_i32_241 : BitVec 32 := 16#32
  let v216 : BitVec 32 := Scalar.muli arg18 c16_i32_241
  let v217 : Index := Scalar.indexCast v216
  ![v217.toNat]
@[reducible] def k0_t7_loop : Scf.Loop 32 :=
  let c0_i32_48 : BitVec 32 := 0#32
  let c16_i32_49 : BitVec 32 := 16#32
  let v53 : BitVec 32 := Scalar.addi c0_i32_48 c16_i32_49
  let c1_i32_50 : BitVec 32 := 1#32
  ⟨c0_i32_48, v53, c1_i32_50⟩
def k0_off10 (k0_t7 : Fin k0_t7_loop.trips) : Fin 1 → Nat :=
  let c0_i32_48 : BitVec 32 := 0#32
  let c1_i32_50 : BitVec 32 := 1#32
  let arg18 : BitVec 32 := Scf.iv c0_i32_48 c1_i32_50 k0_t7
  let c16_i32_241 : BitVec 32 := 16#32
  let v216 : BitVec 32 := Scalar.muli arg18 c16_i32_241
  let v217 : Index := Scalar.indexCast v216
  ![v217.toNat]
@[reducible] def k0_t8_loop : Scf.Loop 32 :=
  let c0_i32_87 : BitVec 32 := 0#32
  let c64_i32_88 : BitVec 32 := 64#32
  let v90 : BitVec 32 := Scalar.addi c0_i32_87 c64_i32_88
  let c1_i32_89 : BitVec 32 := 1#32
  ⟨c0_i32_87, v90, c1_i32_89⟩
def k0_off11 (k0_t8 : Fin k0_t8_loop.trips) : Fin 1 → Nat :=
  let c0_i32_87 : BitVec 32 := 0#32
  let c1_i32_89 : BitVec 32 := 1#32
  let arg18 : BitVec 32 := Scf.iv c0_i32_87 c1_i32_89 k0_t8
  let c16_i32_241 : BitVec 32 := 16#32
  let v216 : BitVec 32 := Scalar.muli arg18 c16_i32_241
  let v217 : Index := Scalar.indexCast v216
  ![v217.toNat]

def k0_chk2 (i : grid0.Coords) (v222 : IVec S16 32) : Prop :=
  (∀ (k0_h1 : k0_cond1 i = 1#1), ∀ a x, ((![v222] : Fin 1 → IVec S16 32) a x).toNat < S256.size a)
theorem k0_idx2_inb : ∀ (i : grid0.Coords) (v222 : IVec S16 32) (k0_hw2 : k0_chk2 i v222), ∀ (k0_h1 : k0_cond1 i = 1#1), ∀ a x, ((![v222] : Fin 1 → IVec S16 32) a x).toNat < S256.size a := fun i v222 k0_hw2 k0_h1 => k0_hw2 k0_h1
@[reducible] def k0_t9_loop : Scf.Loop 32 :=
  let c0_i32_95 : BitVec 32 := 0#32
  let c16_i32_96 : BitVec 32 := 16#32
  let v93 : BitVec 32 := Scalar.addi c0_i32_95 c16_i32_96
  let c1_i32_97 : BitVec 32 := 1#32
  ⟨c0_i32_95, v93, c1_i32_97⟩
@[reducible] def k0_t10_loop : Scf.Loop 32 :=
  let c0_i32_242 : BitVec 32 := 0#32
  let c16_i32_243 : BitVec 32 := 16#32
  let v217 : BitVec 32 := Scalar.addi c0_i32_242 c16_i32_243
  let c1_i32_244 : BitVec 32 := 1#32
  ⟨c0_i32_242, v217, c1_i32_244⟩
def k0_off12 (k0_t9 : Fin k0_t9_loop.trips) (k0_t10 : Fin k0_t10_loop.trips) : Fin 1 → Nat :=
  let c0_i32_242 : BitVec 32 := 0#32
  let c1_i32_244 : BitVec 32 := 1#32
  let arg20 : BitVec 32 := Scf.iv c0_i32_242 c1_i32_244 k0_t10
  let c256_i32_248 : BitVec 32 := 256#32
  let v222 : BitVec 32 := Scalar.muli arg20 c256_i32_248
  let c0_i32_95 : BitVec 32 := 0#32
  let c1_i32_97 : BitVec 32 := 1#32
  let arg18 : BitVec 32 := Scf.iv c0_i32_95 c1_i32_97 k0_t9
  let c16_i32_249 : BitVec 32 := 16#32
  let v223 : BitVec 32 := Scalar.muli arg18 c16_i32_249
  let v224 : BitVec 32 := Scalar.addi v222 v223
  let v225 : Index := Scalar.indexCast v224
  ![v225.toNat]
def k0_off13 (k0_t9 : Fin k0_t9_loop.trips) : Fin 1 → Nat :=
  let c0_i32_95 : BitVec 32 := 0#32
  let c1_i32_97 : BitVec 32 := 1#32
  let arg18 : BitVec 32 := Scf.iv c0_i32_95 c1_i32_97 k0_t9
  let c16_i32_246 : BitVec 32 := 16#32
  let v219 : BitVec 32 := Scalar.muli arg18 c16_i32_246
  let v220 : Index := Scalar.indexCast v219
  ![v220.toNat]
@[reducible] def k0_t11_loop : Scf.Loop 32 :=
  let c0_i32_101 : BitVec 32 := 0#32
  let c16_i32_102 : BitVec 32 := 16#32
  let v95 : BitVec 32 := Scalar.addi c0_i32_101 c16_i32_102
  let c1_i32_103 : BitVec 32 := 1#32
  ⟨c0_i32_101, v95, c1_i32_103⟩
def k0_off14 (k0_t11 : Fin k0_t11_loop.trips) : Fin 1 → Nat :=
  let c0_i32_101 : BitVec 32 := 0#32
  let c1_i32_103 : BitVec 32 := 1#32
  let arg18 : BitVec 32 := Scf.iv c0_i32_101 c1_i32_103 k0_t11
  let c16_i32_241 : BitVec 32 := 16#32
  let v216 : BitVec 32 := Scalar.muli arg18 c16_i32_241
  let v217 : Index := Scalar.indexCast v216
  ![v217.toNat]
@[reducible] def k0_t12_loop : Scf.Loop 32 :=
  let c0_i32_106 : BitVec 32 := 0#32
  let c16_i32_107 : BitVec 32 := 16#32
  let v97 : BitVec 32 := Scalar.addi c0_i32_106 c16_i32_107
  let c1_i32_108 : BitVec 32 := 1#32
  ⟨c0_i32_106, v97, c1_i32_108⟩
def k0_off15 (k0_t12 : Fin k0_t12_loop.trips) : Fin 1 → Nat :=
  let c0_i32_106 : BitVec 32 := 0#32
  let c1_i32_108 : BitVec 32 := 1#32
  let arg18 : BitVec 32 := Scf.iv c0_i32_106 c1_i32_108 k0_t12
  let c16_i32_241 : BitVec 32 := 16#32
  let v216 : BitVec 32 := Scalar.muli arg18 c16_i32_241
  let v217 : Index := Scalar.indexCast v216
  ![v217.toNat]
@[reducible] def k0_t13_loop : Scf.Loop 32 :=
  let c0_i32_144 : BitVec 32 := 0#32
  let c64_i32_145 : BitVec 32 := 64#32
  let v134 : BitVec 32 := Scalar.addi c0_i32_144 c64_i32_145
  let c1_i32_146 : BitVec 32 := 1#32
  ⟨c0_i32_144, v134, c1_i32_146⟩
def k0_off16 (k0_t13 : Fin k0_t13_loop.trips) : Fin 1 → Nat :=
  let c0_i32_144 : BitVec 32 := 0#32
  let c1_i32_146 : BitVec 32 := 1#32
  let arg18 : BitVec 32 := Scf.iv c0_i32_144 c1_i32_146 k0_t13
  let c16_i32_241 : BitVec 32 := 16#32
  let v216 : BitVec 32 := Scalar.muli arg18 c16_i32_241
  let v217 : Index := Scalar.indexCast v216
  ![v217.toNat]

def k0_chk3 (i : grid0.Coords) (v222 : IVec S16 32) : Prop :=
  (∀ (k0_h1 : k0_cond1 i = 1#1), ∀ a x, ((![v222] : Fin 1 → IVec S16 32) a x).toNat < S256.size a)
theorem k0_idx3_inb : ∀ (i : grid0.Coords) (v222 : IVec S16 32) (k0_hw3 : k0_chk3 i v222), ∀ (k0_h1 : k0_cond1 i = 1#1), ∀ a x, ((![v222] : Fin 1 → IVec S16 32) a x).toNat < S256.size a := fun i v222 k0_hw3 k0_h1 => k0_hw3 k0_h1
@[reducible] def k0_t14_loop : Scf.Loop 32 :=
  let c0_i32_152 : BitVec 32 := 0#32
  let c16_i32_153 : BitVec 32 := 16#32
  let v137 : BitVec 32 := Scalar.addi c0_i32_152 c16_i32_153
  let c1_i32_154 : BitVec 32 := 1#32
  ⟨c0_i32_152, v137, c1_i32_154⟩
@[reducible] def k0_t15_loop : Scf.Loop 32 :=
  let c0_i32_242 : BitVec 32 := 0#32
  let c16_i32_243 : BitVec 32 := 16#32
  let v217 : BitVec 32 := Scalar.addi c0_i32_242 c16_i32_243
  let c1_i32_244 : BitVec 32 := 1#32
  ⟨c0_i32_242, v217, c1_i32_244⟩
def k0_off17 (k0_t14 : Fin k0_t14_loop.trips) (k0_t15 : Fin k0_t15_loop.trips) : Fin 1 → Nat :=
  let c0_i32_242 : BitVec 32 := 0#32
  let c1_i32_244 : BitVec 32 := 1#32
  let arg20 : BitVec 32 := Scf.iv c0_i32_242 c1_i32_244 k0_t15
  let c256_i32_248 : BitVec 32 := 256#32
  let v222 : BitVec 32 := Scalar.muli arg20 c256_i32_248
  let c0_i32_152 : BitVec 32 := 0#32
  let c1_i32_154 : BitVec 32 := 1#32
  let arg18 : BitVec 32 := Scf.iv c0_i32_152 c1_i32_154 k0_t14
  let c16_i32_249 : BitVec 32 := 16#32
  let v223 : BitVec 32 := Scalar.muli arg18 c16_i32_249
  let v224 : BitVec 32 := Scalar.addi v222 v223
  let v225 : Index := Scalar.indexCast v224
  ![v225.toNat]
def k0_off18 (k0_t14 : Fin k0_t14_loop.trips) : Fin 1 → Nat :=
  let c0_i32_152 : BitVec 32 := 0#32
  let c1_i32_154 : BitVec 32 := 1#32
  let arg18 : BitVec 32 := Scf.iv c0_i32_152 c1_i32_154 k0_t14
  let c16_i32_246 : BitVec 32 := 16#32
  let v219 : BitVec 32 := Scalar.muli arg18 c16_i32_246
  let v220 : Index := Scalar.indexCast v219
  ![v220.toNat]
@[reducible] def k0_t16_loop : Scf.Loop 32 :=
  let c0_i32_158 : BitVec 32 := 0#32
  let c16_i32_159 : BitVec 32 := 16#32
  let v139 : BitVec 32 := Scalar.addi c0_i32_158 c16_i32_159
  let c1_i32_160 : BitVec 32 := 1#32
  ⟨c0_i32_158, v139, c1_i32_160⟩
def k0_off19 (k0_t16 : Fin k0_t16_loop.trips) : Fin 1 → Nat :=
  let c0_i32_158 : BitVec 32 := 0#32
  let c1_i32_160 : BitVec 32 := 1#32
  let arg18 : BitVec 32 := Scf.iv c0_i32_158 c1_i32_160 k0_t16
  let c16_i32_241 : BitVec 32 := 16#32
  let v216 : BitVec 32 := Scalar.muli arg18 c16_i32_241
  let v217 : Index := Scalar.indexCast v216
  ![v217.toNat]
@[reducible] def k0_t17_loop : Scf.Loop 32 :=
  let c0_i32_163 : BitVec 32 := 0#32
  let c16_i32_164 : BitVec 32 := 16#32
  let v141 : BitVec 32 := Scalar.addi c0_i32_163 c16_i32_164
  let c1_i32_165 : BitVec 32 := 1#32
  ⟨c0_i32_163, v141, c1_i32_165⟩
def k0_off20 (k0_t17 : Fin k0_t17_loop.trips) : Fin 1 → Nat :=
  let c0_i32_163 : BitVec 32 := 0#32
  let c1_i32_165 : BitVec 32 := 1#32
  let arg18 : BitVec 32 := Scf.iv c0_i32_163 c1_i32_165 k0_t17
  let c16_i32_241 : BitVec 32 := 16#32
  let v216 : BitVec 32 := Scalar.muli arg18 c16_i32_241
  let v217 : Index := Scalar.indexCast v216
  ![v217.toNat]
@[reducible] def k0_t18_loop : Scf.Loop 32 :=
  let c0_i32_201 : BitVec 32 := 0#32
  let c64_i32_202 : BitVec 32 := 64#32
  let v178 : BitVec 32 := Scalar.addi c0_i32_201 c64_i32_202
  let c1_i32_203 : BitVec 32 := 1#32
  ⟨c0_i32_201, v178, c1_i32_203⟩
def k0_off21 (k0_t18 : Fin k0_t18_loop.trips) : Fin 1 → Nat :=
  let c0_i32_201 : BitVec 32 := 0#32
  let c1_i32_203 : BitVec 32 := 1#32
  let arg18 : BitVec 32 := Scf.iv c0_i32_201 c1_i32_203 k0_t18
  let c16_i32_241 : BitVec 32 := 16#32
  let v216 : BitVec 32 := Scalar.muli arg18 c16_i32_241
  let v217 : Index := Scalar.indexCast v216
  ![v217.toNat]

def k0_chk4 (i : grid0.Coords) (v222 : IVec S16 32) : Prop :=
  (∀ (k0_h1 : k0_cond1 i = 1#1), ∀ a x, ((![v222] : Fin 1 → IVec S16 32) a x).toNat < S256.size a)
theorem k0_idx4_inb : ∀ (i : grid0.Coords) (v222 : IVec S16 32) (k0_hw4 : k0_chk4 i v222), ∀ (k0_h1 : k0_cond1 i = 1#1), ∀ a x, ((![v222] : Fin 1 → IVec S16 32) a x).toNat < S256.size a := fun i v222 k0_hw4 k0_h1 => k0_hw4 k0_h1
@[reducible] def k0_t19_loop : Scf.Loop 32 :=
  let c0_i32_209 : BitVec 32 := 0#32
  let c16_i32_210 : BitVec 32 := 16#32
  let v181 : BitVec 32 := Scalar.addi c0_i32_209 c16_i32_210
  let c1_i32_211 : BitVec 32 := 1#32
  ⟨c0_i32_209, v181, c1_i32_211⟩
@[reducible] def k0_t20_loop : Scf.Loop 32 :=
  let c0_i32_242 : BitVec 32 := 0#32
  let c16_i32_243 : BitVec 32 := 16#32
  let v217 : BitVec 32 := Scalar.addi c0_i32_242 c16_i32_243
  let c1_i32_244 : BitVec 32 := 1#32
  ⟨c0_i32_242, v217, c1_i32_244⟩
def k0_off22 (k0_t19 : Fin k0_t19_loop.trips) (k0_t20 : Fin k0_t20_loop.trips) : Fin 1 → Nat :=
  let c0_i32_242 : BitVec 32 := 0#32
  let c1_i32_244 : BitVec 32 := 1#32
  let arg20 : BitVec 32 := Scf.iv c0_i32_242 c1_i32_244 k0_t20
  let c256_i32_248 : BitVec 32 := 256#32
  let v222 : BitVec 32 := Scalar.muli arg20 c256_i32_248
  let c0_i32_209 : BitVec 32 := 0#32
  let c1_i32_211 : BitVec 32 := 1#32
  let arg18 : BitVec 32 := Scf.iv c0_i32_209 c1_i32_211 k0_t19
  let c16_i32_249 : BitVec 32 := 16#32
  let v223 : BitVec 32 := Scalar.muli arg18 c16_i32_249
  let v224 : BitVec 32 := Scalar.addi v222 v223
  let v225 : Index := Scalar.indexCast v224
  ![v225.toNat]
def k0_off23 (k0_t19 : Fin k0_t19_loop.trips) : Fin 1 → Nat :=
  let c0_i32_209 : BitVec 32 := 0#32
  let c1_i32_211 : BitVec 32 := 1#32
  let arg18 : BitVec 32 := Scf.iv c0_i32_209 c1_i32_211 k0_t19
  let c16_i32_246 : BitVec 32 := 16#32
  let v219 : BitVec 32 := Scalar.muli arg18 c16_i32_246
  let v220 : Index := Scalar.indexCast v219
  ![v220.toNat]
@[reducible] def k0_t21_loop : Scf.Loop 32 :=
  let c0_i32_215 : BitVec 32 := 0#32
  let c16_i32_216 : BitVec 32 := 16#32
  let v183 : BitVec 32 := Scalar.addi c0_i32_215 c16_i32_216
  let c1_i32_217 : BitVec 32 := 1#32
  ⟨c0_i32_215, v183, c1_i32_217⟩
def k0_off24 (k0_t21 : Fin k0_t21_loop.trips) : Fin 1 → Nat :=
  let c0_i32_215 : BitVec 32 := 0#32
  let c1_i32_217 : BitVec 32 := 1#32
  let arg18 : BitVec 32 := Scf.iv c0_i32_215 c1_i32_217 k0_t21
  let c16_i32_241 : BitVec 32 := 16#32
  let v216 : BitVec 32 := Scalar.muli arg18 c16_i32_241
  let v217 : Index := Scalar.indexCast v216
  ![v217.toNat]
@[reducible] def k0_t22_loop : Scf.Loop 32 :=
  let c0_i32_220 : BitVec 32 := 0#32
  let c16_i32_221 : BitVec 32 := 16#32
  let v185 : BitVec 32 := Scalar.addi c0_i32_220 c16_i32_221
  let c1_i32_222 : BitVec 32 := 1#32
  ⟨c0_i32_220, v185, c1_i32_222⟩
def k0_off25 (k0_t22 : Fin k0_t22_loop.trips) : Fin 1 → Nat :=
  let c0_i32_220 : BitVec 32 := 0#32
  let c1_i32_222 : BitVec 32 := 1#32
  let arg18 : BitVec 32 := Scf.iv c0_i32_220 c1_i32_222 k0_t22
  let c16_i32_241 : BitVec 32 := 16#32
  let v216 : BitVec 32 := Scalar.muli arg18 c16_i32_241
  let v217 : Index := Scalar.indexCast v216
  ![v217.toNat]
@[reducible] def k0_t23_loop : Scf.Loop 32 :=
  let c0_i32_229 : BitVec 32 := 0#32
  let c64_i32_230 : BitVec 32 := 64#32
  let v191 : BitVec 32 := Scalar.addi c0_i32_229 c64_i32_230
  let c1_i32_231 : BitVec 32 := 1#32
  ⟨c0_i32_229, v191, c1_i32_231⟩
def k0_off26 (k0_t23 : Fin k0_t23_loop.trips) : Fin 1 → Nat :=
  let c0_i32_229 : BitVec 32 := 0#32
  let c1_i32_231 : BitVec 32 := 1#32
  let arg18 : BitVec 32 := Scf.iv c0_i32_229 c1_i32_231 k0_t23
  let c16_i32_241 : BitVec 32 := 16#32
  let v216 : BitVec 32 := Scalar.muli arg18 c16_i32_241
  let v217 : Index := Scalar.indexCast v216
  ![v217.toNat]
def k0_cond2 (i : grid0.Coords) : BitVec 1 :=
  let arg1 : BitVec 32 := BitVec.ofNat 32 (i 1).val
  let c0_i32_239 : BitVec 32 := 0#32
  let v213 : BitVec 1 := Scalar.cmpi .eq arg1 c0_i32_239
  let v214 : BitVec 32 := Scalar.extui v213
  let c0_i32_240 : BitVec 32 := 0#32
  let v215 : BitVec 1 := Scalar.cmpi .ne v214 c0_i32_240
  v215

@[reducible] def k0_t24_loop : Scf.Loop 32 :=
  let c0_i32_242 : BitVec 32 := 0#32
  let c16_i32_243 : BitVec 32 := 16#32
  let v217 : BitVec 32 := Scalar.addi c0_i32_242 c16_i32_243
  let c1_i32_244 : BitVec 32 := 1#32
  ⟨c0_i32_242, v217, c1_i32_244⟩
def k0_off27 (k0_t24 : Fin k0_t24_loop.trips) : Fin 1 → Nat :=
  let c0_i32_242 : BitVec 32 := 0#32
  let c1_i32_244 : BitVec 32 := 1#32
  let arg18 : BitVec 32 := Scf.iv c0_i32_242 c1_i32_244 k0_t24
  let c16_i32_250 : BitVec 32 := 16#32
  let v244 : BitVec 32 := Scalar.muli arg18 c16_i32_250
  let v245 : Index := Scalar.indexCast v244
  ![v245.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S_ : Shape := ⟨0, ![]⟩
abbrev S1 : Shape := ⟨1, ![1]⟩
abbrev S1638 : Shape := ⟨1, ![1638]⟩
abbrev S1638x1 : Shape := ⟨2, ![1638, 1]⟩
abbrev S1x16384 : Shape := ⟨2, ![1, 16384]⟩
abbrev S3x16384 : Shape := ⟨2, ![3, 16384]⟩
abbrev S3x16x64x16 : Shape := ⟨4, ![3, 16, 64, 16]⟩
abbrev S3x16 : Shape := ⟨2, ![3, 16]⟩
abbrev S3x16x1x16 : Shape := ⟨4, ![3, 16, 1, 16]⟩
abbrev S3x16x16 : Shape := ⟨3, ![3, 16, 16]⟩
abbrev S3x16x1 : Shape := ⟨3, ![3, 16, 1]⟩
abbrev S3 : Shape := ⟨1, ![3]⟩
abbrev S3x1 : Shape := ⟨2, ![3, 1]⟩

abbrev nBuf : Space → Nat
  | .hbm => 204
  | .vmem => 0
  | .smem => 0
  | _ => 0

abbrev hbmTy0_0 (i : Nat) : BufTy := match i % 128 with
  | 0 => ⟨S16384, .f32⟩
  | 1 => ⟨S16384, .f32⟩
  | 2 => ⟨S16384, .f32⟩
  | 3 => ⟨S16384, .i32⟩
  | 4 => ⟨S16384, .i32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384, .i32⟩
  | 13 => ⟨S1, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .f32⟩
  | 21 => ⟨S16384, .i32⟩
  | 22 => ⟨S16384, .i1⟩
  | 23 => ⟨S_, .i32⟩
  | 24 => ⟨S16384, .i32⟩
  | 25 => ⟨S16384, .i1⟩
  | 26 => ⟨S16384, .i32⟩
  | 27 => ⟨S1638, .i32⟩
  | 28 => ⟨S1638, .i32⟩
  | 29 => ⟨S_, .i1⟩
  | 30 => ⟨S16384, .i1⟩
  | 31 => ⟨S_, .i32⟩
  | 32 => ⟨S1638, .i32⟩
  | 33 => ⟨S1638, .i1⟩
  | 34 => ⟨S_, .i32⟩
  | 35 => ⟨S1638, .i32⟩
  | 36 => ⟨S1638, .i32⟩
  | 37 => ⟨S1638, .i32⟩
  | 38 => ⟨S1638x1, .i32⟩
  | 39 => ⟨S_, .i1⟩
  | 40 => ⟨S1638, .i1⟩
  | 41 => ⟨S16384, .i1⟩
  | 42 => ⟨S_, .f32⟩
  | 43 => ⟨S_, .f32⟩
  | 44 => ⟨S16384, .f32⟩
  | 45 => ⟨S16384, .f32⟩
  | 46 => ⟨S_, .f32⟩
  | 47 => ⟨S_, .f32⟩
  | 48 => ⟨S16384, .f32⟩
  | 49 => ⟨S16384, .f32⟩
  | 50 => ⟨S1x16384, .f32⟩
  | 51 => ⟨S1x16384, .f32⟩
  | 52 => ⟨S1x16384, .f32⟩
  | 53 => ⟨S3x16384, .f32⟩
  | 54 => ⟨S3x16x64x16, .f32⟩
  | 55 => ⟨S_, .f32⟩
  | 56 => ⟨S3x16, .f32⟩
  | 57 => ⟨S_, .i32⟩
  | 58 => ⟨S_, .i32⟩
  | 59 => ⟨S3x16x64x16, .f32⟩
  | 60 => ⟨S_, .i32⟩
  | 61 => ⟨S_, .i32⟩
  | 62 => ⟨S3x16, .f32⟩
  | 63 => ⟨S_, .i32⟩
  | 64 => ⟨S_, .i1⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S3x16x1x16, .f32⟩
  | 77 => ⟨S3x16x16, .f32⟩
  | 78 => ⟨S3x16x1, .f32⟩
  | 79 => ⟨S3x16, .f32⟩
  | 80 => ⟨S3x16x1, .f32⟩
  | 81 => ⟨S3x16, .f32⟩
  | 82 => ⟨S3x16, .f32⟩
  | 83 => ⟨S3x16x1, .f32⟩
  | 84 => ⟨S3x16, .f32⟩
  | 85 => ⟨S3x16, .f32⟩
  | 86 => ⟨S3x16x1, .f32⟩
  | 87 => ⟨S3x16, .f32⟩
  | 88 => ⟨S3x16, .f32⟩
  | 89 => ⟨S3x16x1, .f32⟩
  | 90 => ⟨S3x16, .f32⟩
  | 91 => ⟨S3x16, .f32⟩
  | 92 => ⟨S3x16x1, .f32⟩
  | 93 => ⟨S3x16, .f32⟩
  | 94 => ⟨S3x16, .f32⟩
  | 95 => ⟨S3x16x1, .f32⟩
  | 96 => ⟨S3x16, .f32⟩
  | 97 => ⟨S3x16, .f32⟩
  | 98 => ⟨S3x16x1, .f32⟩
  | 99 => ⟨S3x16, .f32⟩
  | 100 => ⟨S3x16, .f32⟩
  | 101 => ⟨S3x16x1, .f32⟩
  | 102 => ⟨S3x16, .f32⟩
  | 103 => ⟨S3x16, .f32⟩
  | 104 => ⟨S3x16x1, .f32⟩
  | 105 => ⟨S3x16, .f32⟩
  | 106 => ⟨S3x16, .f32⟩
  | 107 => ⟨S3x16x1, .f32⟩
  | 108 => ⟨S3x16, .f32⟩
  | 109 => ⟨S3x16, .f32⟩
  | 110 => ⟨S3x16x1, .f32⟩
  | 111 => ⟨S3x16, .f32⟩
  | 112 => ⟨S3x16, .f32⟩
  | 113 => ⟨S3x16x1, .f32⟩
  | 114 => ⟨S3x16, .f32⟩
  | 115 => ⟨S3x16, .f32⟩
  | 116 => ⟨S3x16x1, .f32⟩
  | 117 => ⟨S3x16, .f32⟩
  | 118 => ⟨S3x16, .f32⟩
  | 119 => ⟨S3x16x1, .f32⟩
  | 120 => ⟨S3x16, .f32⟩
  | 121 => ⟨S3x16, .f32⟩
  | 122 => ⟨S3x16x1, .f32⟩
  | 123 => ⟨S3x16, .f32⟩
  | 124 => ⟨S3x16, .f32⟩
  | 125 => ⟨S3x16, .f32⟩
  | 126 => ⟨S3x16, .i32⟩
  | 127 => ⟨S_, .i32⟩
  | _ => ⟨S16384, .f32⟩

abbrev hbmTy0_1 (i : Nat) : BufTy := match i % 128 with
  | 0 => ⟨S3x16, .i32⟩
  | 1 => ⟨S3x16, .i1⟩
  | 2 => ⟨S_, .f32⟩
  | 3 => ⟨S3x16, .f32⟩
  | 4 => ⟨S3x16, .f32⟩
  | 5 => ⟨S3x16, .f32⟩
  | 6 => ⟨S_, .i32⟩
  | 7 => ⟨S_, .i32⟩
  | 8 => ⟨S_, .f32⟩
  | 9 => ⟨S3, .f32⟩
  | 10 => ⟨S3x1, .f32⟩
  | 11 => ⟨S3, .f32⟩
  | 12 => ⟨S3, .f32⟩
  | 13 => ⟨S3x1, .f32⟩
  | 14 => ⟨S3, .f32⟩
  | 15 => ⟨S3, .f32⟩
  | 16 => ⟨S3x1, .f32⟩
  | 17 => ⟨S3, .f32⟩
  | 18 => ⟨S3, .f32⟩
  | 19 => ⟨S3x1, .f32⟩
  | 20 => ⟨S3, .f32⟩
  | 21 => ⟨S3, .f32⟩
  | 22 => ⟨S3x1, .f32⟩
  | 23 => ⟨S3, .f32⟩
  | 24 => ⟨S3, .f32⟩
  | 25 => ⟨S3x1, .f32⟩
  | 26 => ⟨S3, .f32⟩
  | 27 => ⟨S3, .f32⟩
  | 28 => ⟨S3x1, .f32⟩
  | 29 => ⟨S3, .f32⟩
  | 30 => ⟨S3, .f32⟩
  | 31 => ⟨S3x1, .f32⟩
  | 32 => ⟨S3, .f32⟩
  | 33 => ⟨S3, .f32⟩
  | 34 => ⟨S3x1, .f32⟩
  | 35 => ⟨S3, .f32⟩
  | 36 => ⟨S3, .f32⟩
  | 37 => ⟨S3x1, .f32⟩
  | 38 => ⟨S3, .f32⟩
  | 39 => ⟨S3, .f32⟩
  | 40 => ⟨S3x1, .f32⟩
  | 41 => ⟨S3, .f32⟩
  | 42 => ⟨S3, .f32⟩
  | 43 => ⟨S3x1, .f32⟩
  | 44 => ⟨S3, .f32⟩
  | 45 => ⟨S3, .f32⟩
  | 46 => ⟨S3x1, .f32⟩
  | 47 => ⟨S3, .f32⟩
  | 48 => ⟨S3, .f32⟩
  | 49 => ⟨S3x1, .f32⟩
  | 50 => ⟨S3, .f32⟩
  | 51 => ⟨S3, .f32⟩
  | 52 => ⟨S3x1, .f32⟩
  | 53 => ⟨S3, .f32⟩
  | 54 => ⟨S3, .f32⟩
  | 55 => ⟨S3x1, .f32⟩
  | 56 => ⟨S3, .f32⟩
  | 57 => ⟨S3, .f32⟩
  | 58 => ⟨S16384, .i32⟩
  | 59 => ⟨S_, .i32⟩
  | 60 => ⟨S_, .i32⟩
  | 61 => ⟨S_, .i32⟩
  | 62 => ⟨S_, .i32⟩
  | 63 => ⟨S1, .f32⟩
  | 64 => ⟨S_, .f32⟩
  | 65 => ⟨S1, .f32⟩
  | 66 => ⟨S_, .f32⟩
  | 67 => ⟨S_, .f32⟩
  | 68 => ⟨S_, .f32⟩
  | 69 => ⟨S_, .f32⟩
  | 70 => ⟨S_, .f32⟩
  | 71 => ⟨S1, .f32⟩
  | 72 => ⟨S_, .f32⟩
  | 73 => ⟨S_, .f32⟩
  | 74 => ⟨S_, .f32⟩
  | 75 => ⟨S_, .f32⟩
  | _ => ⟨S16384, .f32⟩

abbrev hbmTy (i : Nat) : BufTy := match i / 128 with
  | 0 => hbmTy0_0 i
  | 1 => hbmTy0_1 i
  | _ => ⟨S16384, .f32⟩

abbrev bufTy : (tb : Table) → Fin (tcTables nBuf tb) → BufTy
  | .hbm, ⟨i, _⟩ => hbmTy i
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_values : Ref sig .tc := ⟨.hbm, 27, rfl⟩
abbrev main_indices : Ref sig .tc := ⟨.hbm, 28, rfl⟩
abbrev main_c_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_call3_v0 : Ref sig .tc := ⟨.hbm, 43, rfl⟩
abbrev main_call3_v1 : Ref sig .tc := ⟨.hbm, 44, rfl⟩
abbrev main_v27 : Ref sig .tc := ⟨.hbm, 45, rfl⟩
abbrev main_cst_8 : Ref sig .tc := ⟨.hbm, 46, rfl⟩
abbrev main_call4_v0 : Ref sig .tc := ⟨.hbm, 47, rfl⟩
abbrev main_call4_v1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_c_10 : Ref sig .tc := ⟨.hbm, 57, rfl⟩
abbrev main_c_11 : Ref sig .tc := ⟨.hbm, 58, rfl⟩
abbrev main_v35_0 : Ref sig .tc := ⟨.hbm, 59, rfl⟩
abbrev main_v35_1 : Ref sig .tc := ⟨.hbm, 60, rfl⟩
abbrev main_v35_2 : Ref sig .tc := ⟨.hbm, 61, rfl⟩
abbrev main_v35_3 : Ref sig .tc := ⟨.hbm, 62, rfl⟩
abbrev main_while0c_c_19 : Ref sig .tc := ⟨.hbm, 63, rfl⟩
abbrev main_while0c_v100 : Ref sig .tc := ⟨.hbm, 64, rfl⟩
abbrev main_while0b_c_19 : Ref sig .tc := ⟨.hbm, 65, rfl⟩
abbrev main_while0b_v100 : Ref sig .tc := ⟨.hbm, 66, rfl⟩
abbrev main_while0b_c_20 : Ref sig .tc := ⟨.hbm, 67, rfl⟩
abbrev main_while0b_v101 : Ref sig .tc := ⟨.hbm, 68, rfl⟩
abbrev main_while0b_v102 : Ref sig .tc := ⟨.hbm, 69, rfl⟩
abbrev main_while0b_c_21 : Ref sig .tc := ⟨.hbm, 70, rfl⟩
abbrev main_while0b_v103 : Ref sig .tc := ⟨.hbm, 71, rfl⟩
abbrev main_while0b_v104 : Ref sig .tc := ⟨.hbm, 72, rfl⟩
abbrev main_while0b_c_22 : Ref sig .tc := ⟨.hbm, 73, rfl⟩
abbrev main_while0b_c_23 : Ref sig .tc := ⟨.hbm, 74, rfl⟩
abbrev main_while0b_c_24 : Ref sig .tc := ⟨.hbm, 75, rfl⟩
abbrev main_while0b_v105 : Ref sig .tc := ⟨.hbm, 76, rfl⟩
abbrev main_while0b_v106 : Ref sig .tc := ⟨.hbm, 77, rfl⟩
abbrev main_while0b_v107 : Ref sig .tc := ⟨.hbm, 78, rfl⟩
abbrev main_while0b_v108 : Ref sig .tc := ⟨.hbm, 79, rfl⟩
abbrev main_while0b_v109 : Ref sig .tc := ⟨.hbm, 80, rfl⟩
abbrev main_while0b_v110 : Ref sig .tc := ⟨.hbm, 81, rfl⟩
abbrev main_while0b_v111 : Ref sig .tc := ⟨.hbm, 82, rfl⟩
abbrev main_while0b_v112 : Ref sig .tc := ⟨.hbm, 83, rfl⟩
abbrev main_while0b_v113 : Ref sig .tc := ⟨.hbm, 84, rfl⟩
abbrev main_while0b_v114 : Ref sig .tc := ⟨.hbm, 85, rfl⟩
abbrev main_while0b_v115 : Ref sig .tc := ⟨.hbm, 86, rfl⟩
abbrev main_while0b_v116 : Ref sig .tc := ⟨.hbm, 87, rfl⟩
abbrev main_while0b_v117 : Ref sig .tc := ⟨.hbm, 88, rfl⟩
abbrev main_while0b_v118 : Ref sig .tc := ⟨.hbm, 89, rfl⟩
abbrev main_while0b_v119 : Ref sig .tc := ⟨.hbm, 90, rfl⟩
abbrev main_while0b_v120 : Ref sig .tc := ⟨.hbm, 91, rfl⟩
abbrev main_while0b_v121 : Ref sig .tc := ⟨.hbm, 92, rfl⟩
abbrev main_while0b_v122 : Ref sig .tc := ⟨.hbm, 93, rfl⟩
abbrev main_while0b_v123 : Ref sig .tc := ⟨.hbm, 94, rfl⟩
abbrev main_while0b_v124 : Ref sig .tc := ⟨.hbm, 95, rfl⟩
abbrev main_while0b_v125 : Ref sig .tc := ⟨.hbm, 96, rfl⟩
abbrev main_while0b_v126 : Ref sig .tc := ⟨.hbm, 97, rfl⟩
abbrev main_while0b_v127 : Ref sig .tc := ⟨.hbm, 98, rfl⟩
abbrev main_while0b_v128 : Ref sig .tc := ⟨.hbm, 99, rfl⟩
abbrev main_while0b_v129 : Ref sig .tc := ⟨.hbm, 100, rfl⟩
abbrev main_while0b_v130 : Ref sig .tc := ⟨.hbm, 101, rfl⟩
abbrev main_while0b_v131 : Ref sig .tc := ⟨.hbm, 102, rfl⟩
abbrev main_while0b_v132 : Ref sig .tc := ⟨.hbm, 103, rfl⟩
abbrev main_while0b_v133 : Ref sig .tc := ⟨.hbm, 104, rfl⟩
abbrev main_while0b_v134 : Ref sig .tc := ⟨.hbm, 105, rfl⟩
abbrev main_while0b_v135 : Ref sig .tc := ⟨.hbm, 106, rfl⟩
abbrev main_while0b_v136 : Ref sig .tc := ⟨.hbm, 107, rfl⟩
abbrev main_while0b_v137 : Ref sig .tc := ⟨.hbm, 108, rfl⟩
abbrev main_while0b_v138 : Ref sig .tc := ⟨.hbm, 109, rfl⟩
abbrev main_while0b_v139 : Ref sig .tc := ⟨.hbm, 110, rfl⟩
abbrev main_while0b_v140 : Ref sig .tc := ⟨.hbm, 111, rfl⟩
abbrev main_while0b_v141 : Ref sig .tc := ⟨.hbm, 112, rfl⟩
abbrev main_while0b_v142 : Ref sig .tc := ⟨.hbm, 113, rfl⟩
abbrev main_while0b_v143 : Ref sig .tc := ⟨.hbm, 114, rfl⟩
abbrev main_while0b_v144 : Ref sig .tc := ⟨.hbm, 115, rfl⟩
abbrev main_while0b_v145 : Ref sig .tc := ⟨.hbm, 116, rfl⟩
abbrev main_while0b_v146 : Ref sig .tc := ⟨.hbm, 117, rfl⟩
abbrev main_while0b_v147 : Ref sig .tc := ⟨.hbm, 118, rfl⟩
abbrev main_while0b_v148 : Ref sig .tc := ⟨.hbm, 119, rfl⟩
abbrev main_while0b_v149 : Ref sig .tc := ⟨.hbm, 120, rfl⟩
abbrev main_while0b_v150 : Ref sig .tc := ⟨.hbm, 121, rfl⟩
abbrev main_while0b_v151 : Ref sig .tc := ⟨.hbm, 122, rfl⟩
abbrev main_while0b_v152 : Ref sig .tc := ⟨.hbm, 123, rfl⟩
abbrev main_while0b_v153 : Ref sig .tc := ⟨.hbm, 124, rfl⟩
abbrev main_while0b_v154 : Ref sig .tc := ⟨.hbm, 125, rfl⟩
abbrev main_while0b_v155 : Ref sig .tc := ⟨.hbm, 126, rfl⟩
abbrev main_while0b_c_25 : Ref sig .tc := ⟨.hbm, 127, rfl⟩
abbrev main_while0b_v156 : Ref sig .tc := ⟨.hbm, 128, rfl⟩
abbrev main_while0b_v157 : Ref sig .tc := ⟨.hbm, 129, rfl⟩
abbrev main_while0b_cst_26 : Ref sig .tc := ⟨.hbm, 130, rfl⟩
abbrev main_while0b_v158 : Ref sig .tc := ⟨.hbm, 131, rfl⟩
abbrev main_while0b_v159 : Ref sig .tc := ⟨.hbm, 132, rfl⟩
abbrev main_while0b_v160 : Ref sig .tc := ⟨.hbm, 133, rfl⟩
abbrev main_while0b_c_27 : Ref sig .tc := ⟨.hbm, 134, rfl⟩
abbrev main_while0b_v161 : Ref sig .tc := ⟨.hbm, 135, rfl⟩
abbrev main_cst_12 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_c_13 : Ref sig .tc := ⟨.hbm, 187, rfl⟩
abbrev main_v86 : Ref sig .tc := ⟨.hbm, 188, rfl⟩
abbrev main_c_14 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_cst_15 : Ref sig .tc := ⟨.hbm, 202, rfl⟩
abbrev main_v99 : Ref sig .tc := ⟨.hbm, 203, rfl⟩

abbrev nD : Nat := 1
abbrev τ : Topo := Topo.v7x

variable {F : FTy → Type} [BitOps F]

abbrev main_while0_count : Scf.Loop 32 := ⟨0#32, 64#32, 1#32⟩
-- ==== Rows.lean ====
abbrev S16384x1000 : Shape := ⟨2, ![16384, 1000]⟩
abbrev S16384 : Shape := ⟨1, ![16384]⟩
abbrev S16384x1 : Shape := ⟨2, ![16384, 1]⟩
abbrev S256x1000 : Shape := ⟨2, ![256, 1000]⟩
abbrev S256x1 : Shape := ⟨2, ![256, 1]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1, .i32⟩
  | .hbm, ⟨3, _⟩ => ⟨S16384x1, .f32⟩
  | .hbm, ⟨4, _⟩ => ⟨S16384x1, .f32⟩
  | .hbm, ⟨5, _⟩ => ⟨S16384x1, .f32⟩
  | .local _ .vmem, ⟨0, _⟩ => ⟨S256x1000, .f32⟩
  | .local _ .vmem, ⟨1, _⟩ => ⟨S256x1000, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowsReference.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S1x1000 : Shape := ⟨2, ![1, 1000]⟩

abbrev nBuf : Space → Nat
  | .hbm => 76
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1000, .f32⟩
  | .hbm, ⟨15, _⟩ => ⟨S16384x1000, .f32⟩
  | .hbm, ⟨16, _⟩ => ⟨S16384x1, .i32⟩
  | .hbm, ⟨17, _⟩ => ⟨S1x1000, .i32⟩
  | .hbm, ⟨18, _⟩ => ⟨S16384x1000, .i32⟩
  | .hbm, ⟨19, _⟩ => ⟨S16384x1000, .i32⟩
  | .hbm, ⟨20, _⟩ => ⟨S16384x1000, .i1⟩
  | .hbm, ⟨21, _⟩ => ⟨S16384x1000, .f32⟩
  | .hbm, ⟨22, _⟩ => ⟨S_, .f32⟩
  | .hbm, ⟨23, _⟩ => ⟨S16384x1000, .f32⟩
  | .hbm, ⟨24, _⟩ => ⟨S16384x1000, .f32⟩
  | .hbm, ⟨25, _⟩ => ⟨S_, .f32⟩
  | .hbm, ⟨26, _⟩ => ⟨S16384x1000, .f32⟩
  | .hbm, ⟨27, _⟩ => ⟨S16384x1000, .f32⟩
  | .hbm, ⟨28, _⟩ => ⟨S_, .f32⟩
  | .hbm, ⟨29, _⟩ => ⟨S16384x1000, .f32⟩
  | .hbm, ⟨30, _⟩ => ⟨S16384x1000, .f32⟩
  | .hbm, ⟨31, _⟩ => ⟨S16384x1000, .f32⟩
  | .hbm, ⟨32, _⟩ => ⟨S16384x1000, .i32⟩
  | .hbm, ⟨33, _⟩ => ⟨S_, .i32⟩
  | .hbm, ⟨34, _⟩ => ⟨S16384x1000, .i32⟩
  | .hbm, ⟨35, _⟩ => ⟨S16384x1000, .i1⟩
  | .hbm, ⟨36, _⟩ => ⟨S_, .f32⟩
  | .hbm, ⟨37, _⟩ => ⟨S_, .f32⟩
  | .hbm, ⟨38, _⟩ => ⟨S16384x1000, .f32⟩
  | .hbm, ⟨39, _⟩ => ⟨S16384x1000, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .i32⟩
  | .hbm, ⟨44, _⟩ => ⟨S16384x1000, .i32⟩
  | .hbm, ⟨45, _⟩ => ⟨S16384x1000, .i1⟩
  | .hbm, ⟨46, _⟩ => ⟨S_, .f32⟩
  | .hbm, ⟨47, _⟩ => ⟨S_, .f32⟩
  | .hbm, ⟨48, _⟩ => ⟨S16384x1000, .f32⟩
  | .hbm, ⟨49, _⟩ => ⟨S16384x1000, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x1000, .f32⟩
  | .hbm, ⟨54, _⟩ => ⟨S16384x1000, .i1⟩
  | .hbm, ⟨55, _⟩ => ⟨S_, .i32⟩
  | .hbm, ⟨56, _⟩ => ⟨S_, .i32⟩
  | .hbm, ⟨57, _⟩ => ⟨S16384x1000, .i32⟩
  | .hbm, ⟨58, _⟩ => ⟨S16384x1000, .i32⟩
  | .hbm, ⟨59, _⟩ => ⟨S_, .i32⟩
  | .hbm, ⟨60, _⟩ => ⟨S16384, .i32⟩
  | .hbm, ⟨61, _⟩ => ⟨S16384x1, .i32⟩
  | .hbm, ⟨62, _⟩ => ⟨S16384x1000, .i32⟩
  | .hbm, ⟨63, _⟩ => ⟨S16384x1000, .i1⟩
  | .hbm, ⟨64, _⟩ => ⟨S_, .f32⟩
  | .hbm, ⟨65, _⟩ => ⟨S_, .f32⟩
  | .hbm, ⟨66, _⟩ => ⟨S16384x1000, .f32⟩
  | .hbm, ⟨67, _⟩ => ⟨S16384x1000, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_call3_v0 : Ref sig .tc := ⟨.hbm, 56, rfl⟩
abbrev main_call3_v1 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_call4_v0 : Ref sig .tc := ⟨.hbm, 65, rfl⟩
abbrev main_call4_v1 : Ref sig .tc := ⟨.hbm, 66, rfl⟩
abbrev main_v37 : Ref sig .tc := ⟨.hbm, 67, rfl⟩
abbrev main_cst_13 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩

abbrev nD : Nat := 1
abbrev τ : Topo := Topo.v7x

variable {F : FTy → Type} [FloatOps F]
-- ==== Proof.Base.lean ====
/-
  The program as the launch theorem sees it: the call's configuration, the ghost resources, and eleven
  stages for its eleven meetings at the subcore barrier.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem hsub16 : 16 ≤ τ.nSub := hsub0
theorem bound_one : grid0.bound 1 = 16 := rfl
abbrev coreOf (c : Fin ((K (F := F)).nCore 0)) : Fin τ.nSC := (K (F := F)).core 0 c
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one call owns eleven stages, one per meeting at the barrier. -/
@[reducible] def blocks : Blocks 1 11 where
  first := fun _ => 0
  last := fun _ => 10
  fst := fun k => if k = 0 then 0 else 11
  blk := fun _ ι => ∃ j, ι = some j
  first_le_last := fun _ => by decide
  fst_val := fun q => by
    have : q = 0 := Subsingleton.elim _ _
    subst this; rfl
  fst_le := fun n q h => by
    have hn : n = 0 := by have := q.isLt; omega
    subst hn; exact Nat.zero_le _
  last_lt_fst := fun q => by
    simp only [if_neg (Nat.succ_ne_zero _)]; decide
  blk_iff := fun _ ι => ⟨fun ⟨j, h⟩ => ⟨j, Fin.zero_le _, Fin.le_last j, h⟩, fun ⟨j, _, _, h⟩ => ⟨j, h⟩⟩

attribute [local instance] blocks

/-! ## The resource algebra: the handshakes' rounds, the barrier's, the transfers' counters -/

abbrev UH : Type := URounds (GSem nD τ sig) ℕ
abbrev UB : Type := URounds (GSem nD τ sig) ℕ
abbrev UU : Type := UH × (UB × Counters)

local notation "𝕄" => MT nD τ sig (HIx 11) (Elt F) ℕ UU ℕ

abbrev EH : Emb UH (MT nD τ sig (HIx 11) (Elt F) ℕ UU ℕ) := embL
/-- The barrier's ghost state: the left half of the right factor. -/
def EB : Emb UB (MT nD τ sig (HIx 11) (Elt F) ℕ UU ℕ) :=
  ((Emb.inl : Emb UB (UB × Counters)).trans (Emb.inr : Emb (UB × Counters) UU)).trans
    (uEmb (nD := nD) (sig := sig) (Ix := HIx 11) (Val := Elt F) (Name := ℕ) (U := UU) (Lvl := ℕ)).toEmb
instance EB_landsIn : (EB : Emb UB 𝕄).LandsIn (upEmb : UEmb _ 𝕄) := by unfold EB; infer_instance

/-- Tile `(c, j)`'s barrier semaphore of device `d`. -/
abbrev bcell (d : Dev nD) (c : Fin τ.nSC) (j : Fin 16) : GSem nD τ sig := (V d c (Fin.castLE hsub16 j), .reg sc_bar0)

theorem sc_bar0_ne_go : (sc_bar0 : Sem sig) ≠ sc_go := by decide

end Cert.Proof.K

end
-- ==== Proof.Meet.lean ====
/-
  THE BARRIER MET ELEVEN TIMES. Sixteen tiles meet at one barrier semaphore each, eleven times over. A tile's
  signals reach the others' counters at their own pace, so a meeting's signals may mix on a counter with the next
  meeting's; what a tile may conclude from sixteen units on its own counter rests on all the tiles together: none
  can be two meetings ahead of another. So the sixteen counters stand in ONE invariant, which keeps how many
  times each tile has arrived and whether it is waiting, which signals have landed (each lands once: its token goes
  in), and what was handed over and not yet taken. A tile arrives by putting in what it hands over, signals,
  waits, and leaves with what the others handed to it.
-/
module

public import proofs.«01_k».proof.Proof.Base

@[expose] public section

noncomputable section

namespace Cert.Proof.K

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 11) (Elt F) ℕ UU ℕ

/-! ## Counting -/

/-- A signal: at tile `x.1`'s counter, of meeting `x.2.1`, from tile `x.2.2`. -/
abbrev Sig3 : Type := Fin 16 × Fin 11 × Fin 16

/-- What the numbers satisfy: tile `i` has arrived `R i` times, is waiting if `m i = 1`, its counter reads `v i`, and
    the signals `S` have landed. -/
structure Good (R m v : Fin 16 → ℕ) (S : Finset Sig3) : Prop where
  m_le : ∀ i, m i ≤ 1
  m_R : ∀ i, m i ≤ R i
  R_le : ∀ i, R i ≤ 11
  left_le : ∀ i j, R j - m j ≤ R i
  arrived : ∀ x ∈ S, x.2.1.val < R x.2.2
  count : ∀ j, v j + 16 * (R j - m j) = (S.filter (·.1 = j)).card

theorem good_zero : Good (fun _ => 0) (fun _ => 0) (fun _ => 0) ∅ where
  m_le _ := by simp
  m_R _ := by simp
  R_le _ := by simp
  left_le _ _ := by simp
  arrived x hx := by simp at hx
  count j := by simp

variable {R m v : Fin 16 → ℕ} {S : Finset Sig3}

theorem card_at_le (h : Good R m v S) (j : Fin 16) : (S.filter (·.1 = j)).card ≤ ∑ i, R i := by
  rw [Finset.card_eq_sum_card_fiberwise (f := fun x => x.2.2) (t := Finset.univ) (fun _ _ => Finset.mem_coe.mpr (Finset.mem_univ _))]
  refine Finset.sum_le_sum fun i _ => ?_
  have : ((S.filter (·.1 = j)).filter (fun x => x.2.2 = i)).card ≤ (Finset.range (R i)).card := by
    refine Finset.card_le_card_of_injOn (fun x => x.2.1.val) ?_ ?_
    · intro x hx
      simp only [Finset.coe_filter, Finset.mem_filter, Set.mem_setOf_eq] at hx
      have := h.arrived x hx.1.1
      rw [hx.2] at this
      simpa using this
    · intro x hx y hy hxy
      simp only [Finset.coe_filter, Finset.mem_filter, Set.mem_setOf_eq] at hx hy
      obtain ⟨x1, x2, x3⟩ := x; obtain ⟨y1, y2, y3⟩ := y
      simp only at hx hy hxy
      obtain ⟨⟨-, rfl⟩, rfl⟩ := hx
      obtain ⟨⟨-, rfl⟩, rfl⟩ := hy
      rw [Fin.ext hxy]
  rwa [Finset.card_range] at this

theorem sum_R_le (h : Good R m v S) : ∑ i, R i ≤ 176 :=
  (Finset.sum_le_sum fun i _ => h.R_le i).trans (by simp)

/-- A signal that has not landed finds its target short of its last meeting's end. -/
theorem Good.open_at (h : Good R m v S) {j i : Fin 16} {r : Fin 11} (hx : (j, r, i) ∉ S) : R j - m j < 11 := by
  by_contra hlt
  have h1 := h.count j
  have hi : (S.filter (·.1 = j)).card ≤ ((Finset.univ : Finset (Fin 11 × Fin 16)).erase (r, i)).card := by
    refine Finset.card_le_card_of_injOn (fun x => x.2) ?_ ?_
    · rintro ⟨x1, x2⟩ hx'
      simp only [Finset.coe_filter, Set.mem_setOf_eq] at hx'
      obtain ⟨hS, rfl⟩ := hx'
      simp only [Finset.coe_erase, Finset.coe_univ, Set.mem_diff, Set.mem_univ, Set.mem_singleton_iff, true_and]
      rintro rfl; exact hx hS
    · rintro ⟨x1, x2⟩ hx' ⟨y1, y2⟩ hy' hxy
      simp only [Finset.coe_filter, Set.mem_setOf_eq] at hx' hy'
      obtain ⟨-, rfl⟩ := hx'; obtain ⟨-, rfl⟩ := hy'
      exact Prod.ext rfl hxy
  rw [Finset.card_erase_of_mem (Finset.mem_univ _), Finset.card_univ] at hi
  simp only [Fintype.card_prod, Fintype.card_fin] at hi
  omega

theorem Good.arrive (h : Good R m v S) {i : Fin 16} (hm : m i = 0) (hR : R i < 11) :
    Good (Function.update R i (R i + 1)) (Function.update m i 1) v S where
  m_le k := by
    by_cases e : k = i
    · subst e; simp
    · simpa [e] using h.m_le k
  m_R k := by
    by_cases e : k = i
    · subst e; simp
    · simpa [e] using h.m_R k
  R_le k := by
    by_cases e : k = i
    · subst e; rw [Function.update_self]; exact hR
    · simpa [e] using h.R_le k
  left_le k j := by
    have h1 := h.left_le k j
    by_cases ej : j = i
    · subst ej
      rw [hm] at h1
      by_cases ek : k = j
      · subst ek; simp
      · simp only [Function.update_self, Function.update_of_ne ek]; omega
    · by_cases ek : k = i
      · subst ek; simp only [Function.update_self, Function.update_of_ne ej]; omega
      · simpa only [Function.update_of_ne ek, Function.update_of_ne ej] using h1
  arrived x hx := by
    have := h.arrived x hx
    by_cases e : x.2.2 = i
    · rw [e] at this ⊢; rw [Function.update_self]; omega
    · rwa [Function.update_of_ne e]
  count j := by
    have := h.count j
    by_cases e : j = i
    · subst e; rw [Function.update_self, Function.update_self]; rw [hm] at this; simpa using this
    · rwa [Function.update_of_ne e, Function.update_of_ne e]

theorem Good.land (h : Good R m v S) {j i : Fin 16} {r : Fin 11} (hx : (j, r, i) ∉ S) (hr : r.val < R i) :
    Good R m (Function.update v j (v j + 1)) (insert (j, r, i) S) where
  m_le := h.m_le
  m_R := h.m_R
  R_le := h.R_le
  left_le := h.left_le
  arrived x hx' := by
    rcases Finset.mem_insert.mp hx' with rfl | hx'
    · exact hr
    · exact h.arrived x hx'
  count k := by
    have := h.count k
    rw [Finset.filter_insert]
    by_cases e : k = j
    · subst e
      rw [if_pos rfl, Finset.card_insert_of_notMem (fun hm => hx (Finset.mem_filter.mp hm).1), Function.update_self]
      omega
    · rw [if_neg (fun e' => e e'.symm), Function.update_of_ne e]; exact this

/-- Sixteen units on a waiting tile's counter: every tile has arrived as often as it. -/
theorem Good.all_arrived (h : Good R m v S) {j : Fin 16} (hm : m j = 1) (hv : 16 ≤ v j) (k : Fin 16) : R j ≤ R k := by
  by_contra hlt
  have h1 := h.left_le k j
  have hRj : 1 ≤ R j := hm ▸ h.m_R j
  have hRk : R k + 1 = R j := by omega
  have hall : ∀ i, R i ≤ R k + 1 := fun i => by have := h.left_le k i; have := h.m_le i; omega
  have hsum : ∑ i, R i ≤ R k + 15 * (R k + 1) := by
    rw [← Finset.add_sum_erase _ _ (Finset.mem_univ k)]
    refine Nat.add_le_add_left ?_ _
    refine (Finset.sum_le_sum fun i _ => hall i).trans ?_
    rw [Finset.sum_const, Finset.card_erase_of_mem (Finset.mem_univ _), Finset.card_univ, Fintype.card_fin, smul_eq_mul]
  have h2 := h.count j
  have h3 := card_at_le h j
  have : R j - m j = R k := by omega
  rw [this] at h2
  omega

theorem Good.leave (h : Good R m v S) {j : Fin 16} (hm : m j = 1) (hv : 16 ≤ v j) :
    Good R (Function.update m j 0) (Function.update v j (v j - 16)) S where
  m_le k := by
    by_cases e : k = j
    · subst e; simp
    · simpa [e] using h.m_le k
  m_R k := by
    by_cases e : k = j
    · subst e; simp
    · simpa [e] using h.m_R k
  R_le := h.R_le
  left_le i k := by
    by_cases e : k = j
    · subst e; rw [Function.update_self]; simpa using h.all_arrived hm hv i
    · rw [Function.update_of_ne e]; exact h.left_le i k
  arrived := h.arrived
  count k := by
    have := h.count k
    by_cases e : k = j
    · subst e
      have h1 := h.m_R k
      rw [Function.update_self, Function.update_self]; rw [hm] at this h1; omega
    · rwa [Function.update_of_ne e, Function.update_of_ne e]

theorem Good.last (h : Good R m v S) {j : Fin 16} (hm : m j = 1) (hR : R j = 11) (hv : 16 ≤ v j) : v j - 16 = 0 := by
  have h1 := h.count j
  have h2 := card_at_le h j
  have h3 := sum_R_le h
  rw [hm, hR] at h1
  omega

/-! ## The invariant -/

variable (c : Fin 16 → GSem nD τ sig) (pay : Fin 11 → Fin 16 → Fin 16 → sProp (MT nD τ sig (HIx 11) (Elt F) ℕ UU ℕ))

def auths (R m : Fin 16 → ℕ) : sProp 𝕄 := bigSep Finset.univ fun i => roundAuth (EB (F := F)) (c i) (R i) ∅ (m i)
def counters (R m v : Fin 16 → ℕ) : sProp 𝕄 := bigSep Finset.univ fun j => if R j - m j < 11 then semVal (c j) (v j) else iprop(emp)
def landed (S : Finset Sig3) : sProp 𝕄 := bigSep S fun x => dutyTok (EB (F := F)) (c x.1) x.2.1.val x.2.2.val
def slot (R m : Fin 16 → ℕ) (j i : Fin 16) (r : Fin 11) : sProp 𝕄 := if R j - m j ≤ r.val ∧ r.val < R i then pay r i j else iprop(emp)
def slots (R m : Fin 16 → ℕ) : sProp 𝕄 :=
  bigSep Finset.univ fun j => bigSep Finset.univ fun i => bigSep Finset.univ fun r => slot pay R m j i r

def meetBody : sProp 𝕄 :=
  iprop(∃ R, ∃ m, ∃ v, ∃ S, ⌜Good R m v S⌝ ∗ auths c R m ∗ counters c R m v ∗ landed c S ∗ slots pay R m)

instance counters_storable (R m v : Fin 16 → ℕ) : BI.Storable (upEmb : UEmb _ 𝕄) (counters (F := F) c R m v) := by
  unfold counters
  have : ∀ j, BI.Storable (upEmb : UEmb _ 𝕄) (if R j - m j < 11 then semVal (c j) (v j) else iprop(emp) : sProp 𝕄) := fun j => by
    split <;> infer_instance
  infer_instance

instance slots_storable [∀ r i j, BI.Storable (upEmb : UEmb _ 𝕄) (pay r i j)] (R m : Fin 16 → ℕ) :
    BI.Storable (upEmb : UEmb _ 𝕄) (slots (F := F) pay R m) := by
  unfold slots
  have : ∀ j i r, BI.Storable (upEmb : UEmb _ 𝕄) (slot (F := F) pay R m j i r) := fun j i r => by
    unfold slot; split <;> infer_instance
  infer_instance

instance meetBody_storable [∀ r i j, BI.Storable (upEmb : UEmb _ 𝕄) (pay r i j)] : BI.Storable (upEmb : UEmb _ 𝕄) (meetBody (F := F) c pay) := by
  unfold meetBody auths landed
  infer_instance

/-! ## Changing one factor -/

theorem one_factor {I : Type} [DecidableEq I] [Fintype I] {Φ Ψ : I → sProp 𝕄} (i : I) {A B : sProp 𝕄} (hA : Φ i = A) (hB : Ψ i = B)
    (h : ∀ k, k ≠ i → Φ k = Ψ k) :
    bigSep Finset.univ Φ ⊢ iprop(A ∗ (B -∗ bigSep Finset.univ Ψ)) := by
  subst hA hB
  rw [SparseCore.bigSep_erase' (Finset.mem_univ i) (Φ := Φ), SparseCore.bigSep_erase' (Finset.mem_univ i) (Φ := Ψ),
    show bigSep (Finset.univ.erase i) Φ = bigSep (Finset.univ.erase i) Ψ from
      bigSep_congr fun k hk => h k (Finset.ne_of_mem_erase hk)]
  iintro ⟨H1, H2⟩
  isplitl [H1]; · iexact H1
  iintro H; isplitl [H] <;> iassumption

theorem slot_put {R m R' m' : Fin 16 → ℕ} {j i : Fin 16} (r : Fin 11)
    (h0 : ¬(R j - m j ≤ r.val ∧ r.val < R i)) (h1 : R' j - m' j ≤ r.val ∧ r.val < R' i)
    (h : ∀ k : Fin 11, k ≠ r → ((R j - m j ≤ k.val ∧ k.val < R i) ↔ (R' j - m' j ≤ k.val ∧ k.val < R' i))) :
    iprop((bigSep Finset.univ fun k => slot pay R m j i k) ∗ pay r i j) ⊢ bigSep Finset.univ fun k => slot pay R' m' j i k := by
  have e : ∀ k, k ≠ r → slot (F := F) pay R m j i k = slot pay R' m' j i k := fun k hk => by
    unfold slot; exact if_congr (h k hk) rfl rfl
  iintro ⟨H, Hp⟩
  ihave H' := (one_factor (A := iprop(emp)) (B := pay r i j) r (if_neg h0) (if_pos h1) e) $$ H
  icases H' with ⟨-, H⟩
  iapply H
  iexact Hp

theorem slot_take {R m R' m' : Fin 16 → ℕ} {j i : Fin 16} (r : Fin 11)
    (h0 : ¬(R' j - m' j ≤ r.val ∧ r.val < R' i)) (h1 : R j - m j ≤ r.val ∧ r.val < R i)
    (h : ∀ k : Fin 11, k ≠ r → ((R j - m j ≤ k.val ∧ k.val < R i) ↔ (R' j - m' j ≤ k.val ∧ k.val < R' i))) :
    (bigSep Finset.univ fun k => slot pay R m j i k) ⊢ iprop((bigSep Finset.univ fun k => slot pay R' m' j i k) ∗ pay r i j) := by
  have e : ∀ k, k ≠ r → slot (F := F) pay R m j i k = slot pay R' m' j i k := fun k hk => by
    unfold slot; exact if_congr (h k hk) rfl rfl
  iintro H
  ihave H' := (one_factor (A := pay r i j) (B := iprop(emp)) r (if_pos h1) (if_neg h0) e) $$ H
  icases H' with ⟨Hp, H⟩
  isplitl [H]
  · iapply H; iempintro
  · iexact Hp

/-! ## Arriving, landing, leaving -/

theorem slots_arrive {R m v : Fin 16 → ℕ} {S : Finset Sig3} (hG : Good R m v S) (i : Fin 16) (r : Fin 11) (hR : r.val = R i) (hm : m i = 0) :
    iprop(slots pay R m ∗ (bigSep Finset.univ fun j => pay r i j))
      ⊢ slots pay (Function.update R i (R i + 1)) (Function.update m i 1) := by
  unfold slots
  have hput : ∀ j, iprop((bigSep Finset.univ fun i => bigSep Finset.univ fun k => slot pay R m j i k) ∗ pay r i j)
      ⊢ bigSep Finset.univ fun i' => bigSep Finset.univ fun k => slot pay (Function.update R i (R i + 1)) (Function.update m i 1) j i' k := by
    intro j
    have hlj : Function.update R i (R i + 1) j - Function.update m i 1 j = R j - m j := by
      by_cases e : j = i
      · subst e; rw [Function.update_self, Function.update_self, hm]; simp
      · rw [Function.update_of_ne e, Function.update_of_ne e]
    have hlr : R j - m j ≤ r.val := by rw [hR]; exact hG.left_le i j
    iintro ⟨H, Hp⟩
    ihave H' := (one_factor (Ψ := fun i' => bigSep Finset.univ fun k => slot pay (Function.update R i (R i + 1)) (Function.update m i 1) j i' k) i rfl rfl
      (fun k hk => bigSep_congr fun r' _ => by
        unfold slot; rw [hlj, Function.update_of_ne hk])) $$ H
    icases H' with ⟨H1, H2⟩
    iapply H2
    iapply (slot_put pay r (R := R) (m := m)
      (by rw [hR]; omega) (by rw [hlj, Function.update_self]; omega)
      (fun k hk => by
        have : k.val ≠ r.val := fun e => hk (Fin.ext e)
        rw [hlj, Function.update_self]; omega))
    isplitl [H1] <;> iassumption
  rw [← bigSep_sep' Finset.univ]
  exact bigSep_mono fun j _ => hput j

theorem counters_arrive (R m v : Fin 16 → ℕ) (i : Fin 16) (hm : m i = 0) :
    counters (F := F) c R m v = counters c (Function.update R i (R i + 1)) (Function.update m i 1) v := by
  unfold counters
  refine bigSep_congr fun j _ => if_congr ?_ rfl rfl
  by_cases e : j = i
  · subst e; rw [Function.update_self, Function.update_self, hm]; simp
  · rw [Function.update_of_ne e, Function.update_of_ne e]

theorem meet_arrive (i : Fin 16) (r : Fin 11) :
    iprop(meetBody c pay ∗ atPos (EB (F := F)) (c i) r.val ∅ 0 ∗ (bigSep Finset.univ fun j => pay r i j))
      ⊢ iprop(|==> (meetBody c pay ∗ atPos (EB (F := F)) (c i) (r.val + 1) ∅ 1 ∗ reached (EB (F := F)) (c i) (r.val + 1))) := by
  unfold meetBody
  iintro ⟨⟨%R, %m, %v, %S, %hG, Ha, Hc, Hl, Hs⟩, Hat, Hp⟩
  unfold auths
  ihave Ha' := (one_factor (A := roundAuth (EB (F := F)) (c i) (R i) ∅ (m i)) (B := roundAuth (EB (F := F)) (c i) (R i + 1) ∅ 1)
    (Ψ := fun k => roundAuth (EB (F := F)) (c k) (Function.update R i (R i + 1) k) ∅ (Function.update m i 1 k)) i
    rfl (by rw [Function.update_self, Function.update_self])
    (fun k hk => by rw [Function.update_of_ne hk, Function.update_of_ne hk])) $$ Ha
  icases Ha' with ⟨Hi, Ha⟩
  ihave %hag := (roundAuth_atPos_agree (EB (F := F))) $$ [Hi Hat]
  · isplitl [Hi] <;> iassumption
  obtain ⟨hR, -, hm⟩ := hag
  ihave Hat := (Entails.of_eq (show atPos (EB (F := F)) (c i) r.val ∅ 0 = atPos (EB (F := F)) (c i) (R i) ∅ (m i) from by rw [hR, hm])) $$ Hat
  imod (roundAuth_atPos_move (EB (F := F)) (R i + 1) ∅ 1 (Nat.le_succ _)) $$ [Hi Hat] with ⟨Hi, Hat⟩
  · isplitl [Hi] <;> iassumption
  imod (roundAuth_witness (EB (F := F))) $$ Hi with ⟨Hi, Hr⟩
  imodintro
  have hlt : R i < 11 := hR ▸ r.isLt
  ihave Hat := (Entails.of_eq (show atPos (EB (F := F)) (c i) (R i + 1) ∅ 1 = atPos (EB (F := F)) (c i) (r.val + 1) ∅ 1 from by rw [hR])) $$ Hat
  ihave Hr := (Entails.of_eq (show reached (EB (F := F)) (c i) (R i + 1) = reached (EB (F := F)) (c i) (r.val + 1) from by rw [hR])) $$ Hr
  isplitr [Hat Hr]
  · iexists (Function.update R i (R i + 1)), (Function.update m i 1), v, S
    isplitr; · ipureintro; exact hG.arrive hm.symm hlt
    isplitl [Ha Hi]; · iapply Ha; iexact Hi
    isplitl [Hc]; · iapply (Entails.of_eq (counters_arrive c R m v i hm.symm)); iexact Hc
    isplitl [Hl]; · iexact Hl
    iapply (slots_arrive pay hG i r hR hm.symm)
    isplitl [Hs] <;> iassumption
  isplitl [Hat] <;> iassumption

theorem meet_land (i j : Fin 16) (r : Fin 11) :
    iprop(meetBody c pay ∗ dutyTok (EB (F := F)) (c j) r.val i.val ∗ reached (EB (F := F)) (c i) (r.val + 1))
      ⊢ iprop(∃ n, semVal (c j) n ∗ (semVal (c j) (n + 1) -∗ meetBody c pay)) := by
  unfold meetBody
  iintro ⟨⟨%R, %m, %v, %S, %hG, Ha, Hc, Hl, Hs⟩, Ht, #Hr⟩
  by_cases hx : (j, r, i) ∈ S
  · iexfalso
    ihave Hl' := (Entails.of_eq (show landed (F := F) c S = iprop(dutyTok (EB (F := F)) (c j) r.val i.val
      ∗ bigSep (S.erase (j, r, i)) fun x : Sig3 => dutyTok (EB (F := F)) (c x.1) x.2.1.val x.2.2.val) from SparseCore.bigSep_erase' hx)) $$ Hl
    icases Hl' with ⟨Ht', -⟩
    iapply (dutyTok_dutyTok_false (EB (F := F)) (g := c j) (r := r.val) (d := i.val))
    isplitl [Ht] <;> iassumption
  unfold auths
  ihave Ha' := (one_factor (Ψ := fun k => roundAuth (EB (F := F)) (c k) (R k) ∅ (m k)) i rfl rfl (fun k _ => rfl)) $$ Ha
  icases Ha' with ⟨Hi, Ha⟩
  ihave %hle := (roundAuth_reached_le (EB (F := F))) $$ [Hi]
  · isplitl [Hi]; · iexact Hi
    iexact Hr
  have hlt := hG.open_at hx
  unfold counters
  ihave Hc' := (one_factor (A := semVal (c j) (v j)) (B := semVal (c j) (v j + 1))
    (Ψ := fun k => if R k - m k < 11 then semVal (c k) (Function.update v j (v j + 1) k) else iprop(emp)) j
    (if_pos hlt) ((if_pos hlt).trans (by rw [Function.update_self]))
    (fun k hk => by rw [Function.update_of_ne hk])) $$ Hc
  icases Hc' with ⟨Hj, Hc⟩
  iexists (v j)
  isplitl [Hj]; · iexact Hj
  iintro Hj
  iexists R, m, (Function.update v j (v j + 1)), (insert (j, r, i) S)
  isplitr; · ipureintro; exact hG.land hx hle
  isplitl [Ha Hi]; · iapply Ha; iexact Hi
  isplitl [Hc Hj]; · iapply Hc; iexact Hj
  isplitl [Hl Ht]
  · iapply (Entails.of_eq (show iprop(dutyTok (EB (F := F)) (c j) r.val i.val ∗ landed (F := F) c S) = landed c (insert (j, r, i) S) from
      (BI.bigSep_insert hx (Φ := fun x : Sig3 => dutyTok (EB (F := F)) (c x.1) x.2.1.val x.2.2.val)).symm))
    isplitl [Ht] <;> iassumption
  iexact Hs

theorem slots_leave {R m v : Fin 16 → ℕ} {S : Finset Sig3} (hG : Good R m v S) (j : Fin 16) (r : Fin 11) (hR : r.val + 1 = R j) (hm : m j = 1)
    (hle : 16 ≤ v j) :
    slots pay R m ⊢ iprop(slots pay R (Function.update m j 0) ∗ (bigSep Finset.univ fun i => pay r i j)) := by
  unfold slots
  have e' : ∀ j', j' ≠ j → (bigSep Finset.univ fun i => bigSep Finset.univ fun k => slot pay R m j' i k)
      = (bigSep Finset.univ fun i => bigSep Finset.univ fun k => slot pay R (Function.update m j 0) j' i k) := fun j' e =>
    bigSep_congr fun i _ => bigSep_congr fun k _ => by unfold slot; rw [Function.update_of_ne e]
  have ht : (bigSep Finset.univ fun i => bigSep Finset.univ fun k => slot pay R m j i k)
      ⊢ iprop((bigSep Finset.univ fun i => bigSep Finset.univ fun k => slot pay R (Function.update m j 0) j i k)
          ∗ (bigSep Finset.univ fun i => pay r i j)) := by
    rw [← bigSep_sep' Finset.univ]
    refine bigSep_mono fun i _ => slot_take pay r ?_ ?_ ?_
    · rw [Function.update_self, ← hR]; omega
    · have := hG.all_arrived hm hle i
      rw [← hR] at this ⊢; rw [hm]; omega
    · intro k hk
      have : k.val ≠ r.val := fun e => hk (Fin.ext e)
      rw [Function.update_self, hm, ← hR]; omega
  iintro H
  ihave H' := (one_factor (Ψ := fun j' => bigSep Finset.univ fun i => bigSep Finset.univ fun k => slot pay R (Function.update m j 0) j' i k) j rfl rfl e') $$ H
  icases H' with ⟨H1, H2⟩
  ihave H1' := ht $$ H1
  icases H1' with ⟨H1, H3⟩
  isplitl [H1 H2]
  · iapply H2; iexact H1
  · iexact H3

theorem meet_leave (j : Fin 16) (r : Fin 11) :
    iprop(meetBody c pay ∗ atPos (EB (F := F)) (c j) (r.val + 1) ∅ 1)
      ⊢ iprop(∃ n, semVal (c j) n ∗ (⌜16 ≤ n⌝ -∗ semVal (c j) (n - 16) -∗
          |==> (meetBody c pay ∗ atPos (EB (F := F)) (c j) (r.val + 1) ∅ 0 ∗ (bigSep Finset.univ fun i => pay r i j)
            ∗ (if r.val = 10 then semVal (c j) 0 else iprop(emp))))) := by
  unfold meetBody
  iintro ⟨⟨%R, %m, %v, %S, %hG, Ha, Hc, Hl, Hs⟩, Hat⟩
  unfold auths
  ihave Ha' := (one_factor (A := roundAuth (EB (F := F)) (c j) (R j) ∅ (m j)) (B := roundAuth (EB (F := F)) (c j) (R j) ∅ 0)
    (Ψ := fun k => roundAuth (EB (F := F)) (c k) (R k) ∅ (Function.update m j 0 k)) j rfl (by rw [Function.update_self])
    (fun k hk => by rw [Function.update_of_ne hk])) $$ Ha
  icases Ha' with ⟨Hj, Ha⟩
  ihave %hag := (roundAuth_atPos_agree (EB (F := F))) $$ [Hj Hat]
  · isplitl [Hj] <;> iassumption
  obtain ⟨hR, -, hm⟩ := hag
  have hm' := hm.symm
  have hlt : R j - m j < 11 := by rw [← hR, ← hm]; have := r.isLt; omega
  unfold counters
  ihave Hc' := (one_factor (A := semVal (c j) (v j)) (B := if r.val = 10 then iprop(emp) else semVal (c j) (v j - 16))
    (Ψ := fun k => if R k - Function.update m j 0 k < 11 then semVal (c k) (Function.update v j (v j - 16) k) else iprop(emp)) j
    (if_pos hlt) (by
      rw [Function.update_self, Function.update_self, ← hR]
      have := r.isLt
      by_cases h10 : r.val = 10
      · rw [if_pos h10, if_neg (by omega)]
      · rw [if_neg h10, if_pos (by omega)])
    (fun k hk => by rw [Function.update_of_ne hk, Function.update_of_ne hk])) $$ Hc
  icases Hc' with ⟨Hv, Hc⟩
  iexists (v j)
  isplitl [Hv]; · iexact Hv
  iintro %hle Hv
  have hG' := hG.leave hm' hle
  ihave Hat := (Entails.of_eq (show atPos (EB (F := F)) (c j) (r.val + 1) ∅ 1 = atPos (EB (F := F)) (c j) (R j) ∅ (m j) from by rw [hR, hm])) $$ Hat
  imod (roundAuth_atPos_move (EB (F := F)) (R j) ∅ 0 le_rfl) $$ [Hj Hat] with ⟨Hj, Hat⟩
  · isplitl [Hj] <;> iassumption
  ihave Hat := (Entails.of_eq (show atPos (EB (F := F)) (c j) (R j) ∅ 0 = atPos (EB (F := F)) (c j) (r.val + 1) ∅ 0 from by rw [hR])) $$ Hat
  imodintro
  ihave Hs' := (slots_leave pay hG j r hR hm' hle) $$ Hs
  icases Hs' with ⟨Hs, Hp⟩
  ihave Hv' := (show (semVal (c j) (v j - 16) : sProp 𝕄) ⊢ iprop((if r.val = 10 then iprop(emp) else semVal (c j) (v j - 16))
      ∗ (if r.val = 10 then semVal (c j) 0 else iprop(emp))) from by
    by_cases h10 : r.val = 10
    · rw [if_pos h10, if_pos h10, hG.last hm' (by omega) hle]
      iintro H; isplitr; · iempintro
      iexact H
    · rw [if_neg h10, if_neg h10]
      iintro H; isplitl; · iexact H
      iempintro) $$ Hv
  icases Hv' with ⟨Hv, Hv0⟩
  isplitr [Hat Hp Hv0]
  · iexists R, (Function.update m j 0), (Function.update v j (v j - 16)), S
    isplitr; · ipureintro; exact hG'
    isplitl [Ha Hj]; · iapply Ha; iexact Hj
    isplitl [Hc Hv]; · iapply Hc; iexact Hv
    isplitl [Hl] <;> iassumption
  isplitl [Hat]; · iexact Hat
  isplitl [Hp] <;> iassumption

/-! ## The meeting -/

/-- The signals of tile `i` for meeting `r`, as its debt. -/
def debt (d : Dev nD) (s : Fin τ.nSC) (r : Fin 11) : CellTallies nD τ sig (HIx 11) := ∑ j : Fin 16, tallyAt (bcell d s j) (some r) 1

/-- What tile `i` brings to meeting `r` besides what it hands over: its sixteen signals' tokens, its position, and
    the credit for the sixteen units it waits for. -/
def ticket (d : Dev nD) (s : Fin τ.nSC) (i : Fin 16) (r : Fin 11) : sProp 𝕄 :=
  iprop((bigSep Finset.univ fun j => dutyTok (EB (F := F)) (bcell d s j) r.val i.val) ∗ cred (tallyAt (bcell d s i) (some r) 16))

theorem arrive_upd [∀ r i j, BI.Storable (upEmb : UEmb _ 𝕄) (pay r i j)] (κ : ℕ) (i : Fin 16) (r : Fin 11) :
    iprop(inv κ (meetBody c pay) ∗ atPos (EB (F := F)) (c i) r.val ∅ 0 ∗ (bigSep Finset.univ fun j => pay r i j))
      ⊢ iprop(|={Set.univ}=> (atPos (EB (F := F)) (c i) (r.val + 1) ∅ 1 ∗ reached (EB (F := F)) (c i) (r.val + 1)) : sProp 𝕄) := by
  iintro ⟨Hinv, Hat, Hp⟩
  imod (inv_acc (E := Set.univ) (Set.mem_univ κ)) $$ Hinv with ⟨Hb, Hclose⟩
  imod (meet_arrive c pay i r) $$ [Hb Hat Hp] with ⟨Hb, Hat, Hr⟩
  · isplitl [Hb]; · iexact Hb
    isplitl [Hat] <;> iassumption
  ihave Hc := Hclose $$ Hb
  imod Hc
  imodintro
  isplitl [Hat] <;> iassumption

variable {Λ : Labels} {defs : Defs nD τ sig (Elt F) Λ} (𝒱' : Variants) (bd : Option 𝒱'.V) {α : Type}

theorem wp_meet [∀ r i j, BI.Storable (upEmb : UEmb _ 𝕄) (pay r i j)] (κ : ℕ) (d : Dev nD) {s : Fin τ.nSC} (i : Fin 16) (r : Fin 11)
    (O : CellTallies nD τ sig (HIx 11)) (W : Waits sig (HIx 11)) {Q : α → sProp 𝕄}
    {k : PUnit → Prog (TpuEff nD τ sig (Elt F) Λ (.scVector s (Fin.castLE hsub16 i))) α} :
    iprop(inv κ (meetBody (bcell d s) pay) ∗ owes (V d s (Fin.castLE hsub16 i)) (O + debt d s r) W
        ∗ ticket d s i r ∗ atPos (EB (F := F)) (bcell d s i) r.val ∅ 0 ∗ (bigSep Finset.univ fun j => pay r i j)
        ∗ MayWait (V d s (Fin.castLE hsub16 i)) (.reg sc_bar0) (some r) O)
      ⊢ iprop((iprop(owes (V d s (Fin.castLE hsub16 i)) O (insert (SemLoc.reg sc_bar0, some r) W)
            ∗ atPos (EB (F := F)) (bcell d s i) (r.val + 1) ∅ 0 ∗ (bigSep Finset.univ fun j => pay r j i)
            ∗ (if r.val = 10 then semVal (bcell d s i) 0 else iprop(emp)))
          -∗ wp frame (wpE defs 𝒱' (V d s (Fin.castLE hsub16 i)) bd) Set.univ (k ⟨⟩) Q)
        -∗ wp frame (wpE defs 𝒱' (V d s (Fin.castLE hsub16 i)) bd) Set.univ (SparseCore.subcoreBarrier sc_bar0 16 hsub16 >>= k) Q) := by
  classical
  rw [SparseCore.subcoreBarrier_bind, show (wp frame (wpE defs 𝒱' (V d s (Fin.castLE hsub16 i)) bd) Set.univ (.op .deviceId _) Q : sProp 𝕄) = _ from
    wp_deviceId 𝒱' (V d s (Fin.castLE hsub16 i)) bd Set.univ]
  unfold ticket debt
  iintro ⟨#Hinv, HO, ⟨Htoks, Hcred⟩, Hat, Hp, Hmw⟩ Hk
  -- arrive
  imod (arrive_upd (bcell d s) pay κ i r) $$ [Hat Hp] with ⟨Hat, #Hr⟩
  · isplitr; · iexact Hinv
    isplitl [Hat] <;> iassumption
  -- the signals
  have hsig : ∀ l : List (Fin 16), l.Nodup →
      iprop(inv κ (meetBody (bcell d s) pay) ∗ reached (EB (F := F)) (bcell d s i) (r.val + 1)
          ∗ owes (V d s (Fin.castLE hsub16 i)) (O + ∑ j ∈ l.toFinset, tallyAt (bcell d s j) (some r) 1) W
          ∗ (bigSep l.toFinset fun j => dutyTok (EB (F := F)) (bcell d s j) r.val i.val)
          ∗ (owes (V d s (Fin.castLE hsub16 i)) O W -∗ wp frame (wpE defs 𝒱' (V d s (Fin.castLE hsub16 i)) bd) Set.univ (.op (TpuEff.semWait sc_bar0 16) k) Q))
        ⊢ wp frame (wpE defs 𝒱' (V d s (Fin.castLE hsub16 i)) bd) Set.univ
            (l.foldr (fun j r => .op (TpuEff.semSignal (d, .scVector s (j.castLE hsub16)) sc_bar0 1) fun _ => r) (.op (TpuEff.semWait sc_bar0 16) k)) Q := by
    intro l hl
    induction l with
    | nil =>
      rw [List.toFinset_nil, List.foldr_nil, Finset.sum_empty, add_zero]
      iintro ⟨-, -, HO, -, Hk⟩; iapply Hk; iexact HO
    | cons j l ih =>
      rw [List.toFinset_cons, List.foldr_cons]
      have hj : j ∉ l.toFinset := fun h => (List.nodup_cons.mp hl).1 (List.mem_toFinset.mp h)
      rw [Finset.sum_insert hj, show bigSep (insert j l.toFinset) (fun j => dutyTok (EB (F := F)) (bcell d s j) r.val i.val)
        = iprop(dutyTok (EB (F := F)) (bcell d s j) r.val i.val ∗ bigSep l.toFinset fun j => dutyTok (EB (F := F)) (bcell d s j) r.val i.val) from BI.bigSep_insert hj]
      iintro ⟨#Hinv, #Hr, HO, ⟨Htok, Htoks⟩, Hk⟩
      iapply (wp_semSignal 𝒱' (V d s (Fin.castLE hsub16 i)) bd Set.univ (dst := V d s (j.castLE hsub16)) (sem := sc_bar0) (k' := 1) (some r)
          (O₀ := O + (tallyAt (bcell d s j) (some r) 1 + ∑ j ∈ l.toFinset, tallyAt (bcell d s j) (some r) 1))
          (O + ∑ j ∈ l.toFinset, tallyAt (bcell d s j) (some r) 1)
          (by rw [add_comm (tallyAt _ _ _) _, ← add_assoc]) (W := W)) $$ HO [Htok]
      · rw [landingUpdate_def]
        iintro -
        ihave Hacc := (inv_acc (E := Set.univ) (Set.mem_univ κ)) $$ Hinv
        imod Hacc with ⟨Hb, Hclose⟩
        ihave Hl := (meet_land (bcell d s) pay i j r) $$ [Hb Htok]
        · isplitl [Hb]; · iexact Hb
          isplitl [Htok]; · iexact Htok
          iexact Hr
        icases Hl with ⟨%n, Hv, Hl⟩
        imodintro
        rw [raiseSpec_apply]
        iexists n
        isplitl [Hv]; · iexact Hv
        iintro Hv
        ihave Hb := Hl $$ Hv
        ihave Hc := Hclose $$ Hb
        imod Hc
        imodintro
        iempintro
      iintro HO
      iapply (ih (List.nodup_cons.mp hl).2)
      isplitr; · iexact Hinv
      isplitr; · iexact Hr
      isplitl [HO]; · iexact HO
      isplitl [Htoks] <;> iassumption
  have := hsig (List.finRange 16) (List.nodup_finRange 16)
  rw [List.toFinset_finRange] at this
  iapply this
  isplitr; · iexact Hinv
  isplitr; · iexact Hr
  isplitl [HO]; · iexact HO
  isplitl [Htoks]; · iexact Htoks
  iintro HO
  -- the wait
  iapply (wp_semWait_token 𝒱' (V d s (Fin.castLE hsub16 i)) bd Set.univ (sem := sc_bar0) (k' := 16) (some r) (O := O) (W := W)) $$ [Hcred HO Hmw]
  · isplitl [Hcred]; · iexact Hcred
    isplitl [HO] <;> iassumption
  ihave Hacc := (inv_acc (E := Set.univ) (Set.mem_univ κ)) $$ Hinv
  imod Hacc with ⟨Hb, Hclose⟩
  ihave Hl := (meet_leave (bcell d s) pay i r) $$ [Hb Hat]
  · isplitl [Hb] <;> iassumption
  icases Hl with ⟨%n, Hv, Hl⟩
  imodintro
  iapply lowerSpec_intro $$ Hv
  iintro %hle Hv
  ihave Hl := Hl $$ %hle Hv
  imod Hl with ⟨Hb, Hat, Hp, Hz⟩
  ihave Hc := Hclose $$ Hb
  imod Hc
  imodintro
  iintro HO
  iapply Hk
  isplitl [HO]; · iexact HO
  isplitl [Hat]; · iexact Hat
  isplitl [Hp] <;> iassumption

end Cert.Proof.K

end
-- ==== Proof.Flat.lean ====
/-
  One-dimensional buffers as sequences: what a buffer, a row of it or a vector register holds is a function of
  the position, and the steps of a tile's program (load, store, copy) rewrite that function.
-/
module

public import proofs.«01_k».proof.Proof.Meet

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ

/-! ## Sequences -/

section Seq

variable {α : Type}

/-- The contents of a buffer of `n` elements holding the sequence `g`. -/
def buf (n : ℕ) (g : ℕ → α) : (⟨1, ![n]⟩ : Shape).Idx → α := fun x => g (x 0).val

/-- The vector of the first sixteen elements of `g`. -/
def vec (g : ℕ → α) : S16.Idx → α := fun x => g (x 0).val

/-- Lane `k mod 16`. -/
def lane (k : ℕ) : S16.Idx := fun a => match a with | 0 => ⟨k % 16, Nat.mod_lt k (show 0 < 16 by decide)⟩

/-- Position `k mod n` of a buffer of `n` elements. -/
def pos (n : ℕ) [NeZero n] (k : ℕ) : (⟨1, ![n]⟩ : Shape).Idx := fun a => match a with | 0 => ⟨k % n, Nat.mod_lt _ (Nat.pos_of_ne_zero (NeZero.ne n))⟩

/-- The sequence with the vector `w` put at position `o`. -/
def put (o : ℕ) (w : S16.Idx → α) (g : ℕ → α) : ℕ → α := fun k => if o ≤ k ∧ k < o + 16 then w (lane (k - o)) else g k

/-- The sequence of sixteen-element blocks `w 0, w 1, …`. -/
def blocksOf (w : ℕ → S16.Idx → α) : ℕ → α := fun k => w (k / 16) (lane k)

theorem lane_val (x : S16.Idx) : lane (x 0).val = x := by
  funext a
  match a with
  | 0 => exact Fin.ext (Nat.mod_eq_of_lt (x 0).isLt)

theorem buf_ext {n : ℕ} {g g' : ℕ → α} (h : ∀ k < n, g k = g' k) : buf n g = buf n g' := funext fun x => h _ (x 0).isLt

theorem vec_lane (w : S16.Idx → α) : (vec fun l => w (lane l)) = w := funext fun x => by
  show w (lane (x 0).val) = w x
  rw [lane_val]

/-- The contents as the sequence of its elements. -/
theorem buf_pos {n : ℕ} [NeZero n] (f : (⟨1, ![n]⟩ : Shape).Idx → α) : buf n (fun k => f (pos n k)) = f := funext fun x => by
  show f (pos n (x 0).val) = f x
  congr 1; funext a
  match a with
  | 0 => exact Fin.ext (Nat.mod_eq_of_lt (x 0).isLt)

/-- `g` holds the blocks `w` on its first `16 * k` positions. -/
def Filled (k : ℕ) (w : ℕ → S16.Idx → α) (g : ℕ → α) : Prop := ∀ j < 16 * k, g j = blocksOf w j

theorem Filled.zero (w : ℕ → S16.Idx → α) (g : ℕ → α) : Filled 0 w g := fun _ h => absurd h (Nat.not_lt_zero _)

theorem Filled.put {k : ℕ} {w : ℕ → S16.Idx → α} {g : ℕ → α} (h : Filled k w g) {o : ℕ} (ho : o = 16 * k) : Filled (k + 1) w (put o (w k) g) := by
  subst ho
  intro j hj
  unfold K.put
  split
  · next hin =>
    unfold blocksOf
    rw [show j / 16 = k by omega]
    congr 1; funext a
    match a with
    | 0 => exact Fin.ext (show (j - 16 * k) % 16 = j % 16 by omega)
  · next hout => exact h j (by omega)

end Seq

/-! ## Iterated steps -/

/-- `k` steps of `step` from `init`, no more than `n`. -/
def iter {σ : Type} (n : ℕ) (step : Fin n → σ → σ) (init : σ) : ℕ → σ
  | 0 => init
  | k + 1 => if h : k < n then step ⟨k, h⟩ (iter n step init k) else iter n step init k

theorem iter_succ {σ : Type} {n : ℕ} (step : Fin n → σ → σ) (init : σ) (t : Fin n) :
    iter n step init (t.val + 1) = step t (iter n step init t.val) := dif_pos t.isLt

/-! ## Views of one-dimensional buffers -/

section View

variable {sg : RefSig} {κ : Kind} {sp : Space} {n : ℕ} {e : EltTy} {Val : EltTy → Type}

theorem readAt_seq (v : View sg κ sp ⟨1, ![n]⟩ e) {f : v.ty.Contents Val} {g : ℕ → Val e} (hf : v.read Val f = buf n g)
    {off : Fin 1 → ℕ} {inb : ∀ a, off a + S16.size a ≤ (⟨1, ![n]⟩ : Shape).size a} {o : ℕ} (ho : off 0 = o) :
    v.readAt Val (Rect.unit (s := ⟨1, ![n]⟩) off S16.size inb).toLoadRect f = vec fun l => g (o + l) := by
  subst ho
  funext x
  rw [View.readAt_apply, hf]
  show g (off 0 + 1 * (x 0).val) = g (off 0 + (x 0).val)
  rw [Nat.one_mul]

theorem read_write_seq (v : View sg κ sp ⟨1, ![n]⟩ e) {f : v.ty.Contents Val} {g : ℕ → Val e} (hf : v.read Val f = buf n g)
    {off : Fin 1 → ℕ} {inb : ∀ a, off a + S16.size a ≤ (⟨1, ![n]⟩ : Shape).size a} {o : ℕ} (ho : off 0 = o) (w : S16.Idx → Val e) :
    v.read Val ((v.slice (Rect.unit (s := ⟨1, ![n]⟩) off S16.size inb)).write Val f w Finset.univ) = buf n (put o w g) := by
  subst ho
  funext x
  show v.read Val _ x = put (off 0) w g (x 0).val
  by_cases hx : off 0 ≤ (x 0).val ∧ (x 0).val < off 0 + 16
  · have hy : (Rect.unit (s := ⟨1, ![n]⟩) off S16.size inb).emb (lane ((x 0).val - off 0)) = x := by
      funext a
      match a with
      | 0 =>
        apply Fin.ext
        show off 0 + 1 * (((x 0).val - off 0) % 16) = (x 0).val
        rw [Nat.mod_eq_of_lt (by omega)]; omega
    have hp : put (off 0) w g (x 0).val = w (lane ((x 0).val - off 0)) := if_pos hx
    rw [hp]
    conv_lhs => rw [← hy]
    exact congrFun (View.read_write_univ (v := v.slice (Rect.unit (s := ⟨1, ![n]⟩) off S16.size inb)) f w) (lane ((x 0).val - off 0))
  · have hp : put (off 0) w g (x 0).val = g (x 0).val := if_neg hx
    rw [hp, View.read_apply, View.write_of_not_mem _ _ _ ?_, ← View.read_apply, hf]
    · rfl
    · intro hmem
      rw [View.setOn_univ, View.set_slice, Finset.mem_map] at hmem
      obtain ⟨y, hy, hyx⟩ := hmem
      obtain rfl := v.emb.injective hyx
      have := (Rect.mem_set_unit (inb := inb)).mp hy 0
      exact hx this

end View

end Cert.Proof.K

end
-- ==== Proof.Steps.lean ====
/-
  The steps of a tile's program over the sequences that its buffers hold: a load reads a vector of the sequence, a
  store puts one into it, an indexed store rewrites it, a copy carries the whole sequence over, and a meeting at
  the barrier exchanges what the tiles hand to one another. A tile carries what it still owes and its tickets for the meetings to
  come as one resource.
-/
module

public import proofs.«01_k».proof.Proof.Flat

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ

/-! ## What a buffer holds -/

section Held

variable (thr : Thread nD τ)

/-- The memref's buffer holds the sequence `g`, at share `q`. -/
def Held {sp : Space} {n : ℕ} {e : EltTy} (m : Memref sig thr.2.kind sp ⟨1, ![n]⟩ e) (q : PosShare TreeShare) (g : ℕ → Elt F e) : sProp 𝕄 :=
  iprop(∃ f : Buf (Elt F) (m.view.loc thr), ⌜m.view.read (Elt F) f = buf n g⌝ ∗ (m.view.loc thr ↦[m.view.set]{q} f))

variable {sp : Space} {n : ℕ} {e : EltTy} {m : Memref sig thr.2.kind sp ⟨1, ![n]⟩ e} {q : PosShare TreeShare} {g g' : ℕ → Elt F e}

theorem Held.congr (h : ∀ k < n, g k = g' k) : (Held thr m q g : sProp 𝕄) ⊢ Held thr m q g' := by
  unfold Held; rw [buf_ext h]

theorem Held.of_buf [NeZero n] {f : Buf (Elt F) (m.view.loc thr)} :
    (m.view.loc thr ↦[m.view.set]{q} f : sProp 𝕄) ⊢ Held thr m q fun k => m.view.read (Elt F) f (pos n k) := by
  unfold Held
  iintro H; iexists f; isplitr
  · ipureintro; exact (buf_pos _).symm
  · iexact H

variable {α : Type} {Q : α → sProp (MT nD τ sig (HIx 11) (Elt F) ℕ UU ℕ)}

theorem wp_ld {m : Memref sig thr.2.kind .vmem ⟨1, ![n]⟩ e} {off : Fin 1 → ℕ}
    {inb : ∀ a, off a + S16.size a ≤ (⟨1, ![n]⟩ : Shape).size a} {hl : m.view.LoadsAt (Rect.unit (s := ⟨1, ![n]⟩) off S16.size inb).toLoadRect}
    {kk : (S16.Idx → Elt F e) → Prog (TpuEff nD τ sig (Elt F) Λ₀ thr.2) α} (o : ℕ) (ho : off 0 = o) :
    (Held thr m q g : sProp 𝕄)
      ⊢ iprop((Held thr m q g -∗ wp frame (wpE defs₀ 𝒱₀ thr none) Set.univ (kk (vec fun l => g (o + l))) Q)
        -∗ wp frame (wpE defs₀ 𝒱₀ thr none) Set.univ (Prog.lift (.load m (Rect.unit (s := ⟨1, ![n]⟩) off S16.size inb).toLoadRect hl) >>= kk) Q) := by
  rw [Prog.bind_lift]
  unfold Held
  iintro ⟨%f, %hf, H⟩ Hk
  iapply (wp_load 𝒱₀ thr none Set.univ (m := m) (r := (Rect.unit (s := ⟨1, ![n]⟩) off S16.size inb).toLoadRect) (hl := hl) (k := kk) (q := q) (f := f) (S := m.view.set)
    (View.setOn_subset_set _ _)) $$ H
  iintro H
  rw [readAt_seq m.view hf ho]
  iapply Hk
  iexists f; isplitr
  · ipureintro; exact hf
  · iexact H

theorem wp_st {m : Memref sig thr.2.kind .vmem ⟨1, ![n]⟩ e} {off : Fin 1 → ℕ}
    {inb : ∀ a, off a + S16.size a ≤ (⟨1, ![n]⟩ : Shape).size a} {w : S16.Idx → Elt F e}
    {hx : (m.access (Rect.unit (s := ⟨1, ![n]⟩) off S16.size inb)).Stores Finset.univ} {hm}
    {kk : PUnit → Prog (TpuEff nD τ sig (Elt F) Λ₀ thr.2) α} (o : ℕ) (ho : off 0 = o) :
    (Held thr m fullShare g : sProp 𝕄)
      ⊢ iprop((Held thr m fullShare (put o w g) -∗ wp frame (wpE defs₀ 𝒱₀ thr none) Set.univ (kk ⟨⟩) Q)
        -∗ wp frame (wpE defs₀ 𝒱₀ thr none) Set.univ (Prog.lift (.store m (Rect.unit (s := ⟨1, ![n]⟩) off S16.size inb) w Finset.univ hx hm) >>= kk) Q) := by
  rw [Prog.bind_lift]
  unfold Held
  iintro ⟨%f, %hf, H⟩ Hk
  iapply (wp_store 𝒱₀ thr none Set.univ (m := m) (r := Rect.unit (s := ⟨1, ![n]⟩) off S16.size inb) (w := w) (Mk := Finset.univ) (hx := hx) (hm := hm) (k := kk) (f := f) (S := m.view.set)
    (by rw [View.setOn_univ]; exact View.set_slice_subset _ _)) $$ H
  iintro H
  iapply Hk
  iexists _; isplitr
  swap; · iexact H
  ipureintro; exact read_write_seq m.view hf ho w

/-- The indexed store into a whole buffer, after its check. -/
theorem wp_scatter {d : Fin 1 → ℕ} [NeZero n] {m : Memref sig thr.2.kind .vmem ⟨1, ![n]⟩ e} {idxs : Fin (⟨1, ![n]⟩ : Shape).rank → IVec ⟨1, d⟩ 32} {v : Vec F ⟨1, d⟩ e}
    {mask : IVec ⟨1, d⟩ 1} {add : Bool} {h : ∀ a x, (idxs a x).toNat < (⟨1, ![n]⟩ : Shape).size a} {hs : (m.access (.whole ⟨1, ![n]⟩)).Stores Finset.univ}
    {kk : PUnit → Prog (TpuEff nD τ sig (Elt F) Λ₀ thr.2) α} :
    (Held thr m fullShare g : sProp 𝕄)
      ⊢ iprop((Held thr m fullShare (fun k => storeIdx (buf n g) idxs v mask add h (pos n k)) -∗ wp frame (wpE defs₀ 𝒱₀ thr none) Set.univ (kk ⟨⟩) Q)
        -∗ wp frame (wpE defs₀ 𝒱₀ thr none) Set.univ (SparseCore.vectorStoreIdx m idxs v mask add h hs >>= kk) Q) := by
  unfold Held
  have hset : (m.access (.whole ⟨1, ![n]⟩)).set = m.view.set := by
    show (m.view.slice (Rect.whole _)).set = _
    rw [View.set_slice, Rect.set_whole]; rfl
  iintro ⟨%f, %hf, H⟩ Hk
  ihave H := (Entails.of_eq (show (m.view.loc thr ↦[m.view.set]{fullShare} f : sProp 𝕄) = ((m.access (.whole ⟨1, ![n]⟩)).loc thr ↦[(m.access (.whole ⟨1, ![n]⟩)).set]{fullShare} f) by rw [hset])) $$ H
  iapply (SparseCore.wp_vectorStoreIdx 𝒱₀ thr none Set.univ (base := m) (f := f)) $$ H
  iintro H
  iapply Hk
  iexists _; isplitr
  swap
  · iapply (Entails.of_eq (show (_ : sProp 𝕄) = (m.view.loc thr ↦[m.view.set]{fullShare} _) by rw [← hset])) $$ H
  ipureintro
  have hr : (m.access (.whole ⟨1, ![n]⟩)).read (Elt F) f = buf n g := by
    rw [← hf]; funext x
    show m.view.read (Elt F) f ((Rect.whole (⟨1, ![n]⟩ : Shape)).emb x) = _
    rw [Rect.emb_whole_apply]
  rw [buf_pos, hr]
  funext x
  have h := congrFun (View.read_write_univ (v := m.access (.whole ⟨1, ![n]⟩)) (Val := Elt F) f (storeIdx (buf n g) idxs v mask add h)) x
  rw [← h]
  show m.view.read (Elt F) _ x = m.view.read (Elt F) _ ((Rect.whole (⟨1, ![n]⟩ : Shape)).emb x)
  rw [Rect.emb_whole_apply]

end Held

/-! ## What a tile owes -/

section Owing

/-- The tile owes `O`; since `W` it has waited for its own copies and at the meetings. -/
def OwesW (thr : Thread nD τ) (O : CellTallies nD τ sig (HIx 11)) (W : Waits sig (HIx 11)) : sProp 𝕄 :=
  iprop(∃ W', ⌜∀ p ∈ W', p ∈ W ∨ p.2 = none ∨ ∃ r, p.2 = some r⌝ ∗ owes thr O W')

variable {thr : Thread nD τ} {O : CellTallies nD τ sig (HIx 11)} {W : Waits sig (HIx 11)}

theorem OwesW.intro : (owes thr O W : sProp 𝕄) ⊢ OwesW thr O W := by
  unfold OwesW
  iintro H; iexists W; isplitr
  · ipureintro; exact fun p hp => .inl hp
  · iexact H

variable {α : Type} {Q : α → sProp (MT nD τ sig (HIx 11) (Elt F) ℕ UU ℕ)}

/-- A copy and its wait. -/
theorem wp_copy {sp sp' : Space} {n : ℕ} {e : EltTy} {ms : Memref sig thr.2.kind sp ⟨1, ![n]⟩ e} {md : Memref sig thr.2.kind sp' ⟨1, ![n]⟩ e} {q : PosShare TreeShare} {g g₀ : ℕ → Elt F e}
    {sem : DmaSem sig} {h1 h2 h3 h4 h5} {kk : PUnit → Prog (TpuEff nD τ sig (Elt F) Λ₀ thr.2) α} (hn : 0 < (⟨1, ![n]⟩ : Shape).numel) (hO : ∀ g, O g none = 0) :
    iprop(levAts (K (F := F)).L (K (F := F)).lev ∗ OwesW thr O W ∗ Held thr ms q g ∗ Held thr md fullShare g₀ ∗ semVal (thr, SemLoc.dma sem) 0)
      ⊢ iprop((iprop(OwesW thr O W ∗ Held thr ms q g ∗ Held thr md fullShare g ∗ semVal (thr, SemLoc.dma sem) 0) -∗ wp frame (wpE defs₀ 𝒱₀ thr none) Set.univ (kk ⟨⟩) Q)
        -∗ wp frame (wpE defs₀ 𝒱₀ thr none) Set.univ (Prog.lift (TpuEff.enqueueDma ms (.here md) (.dma sem) h1 h2 h3) >>= fun _ => Prog.lift (.waitDma2 sem ms md h4 h5) >>= kk) Q) := by
  rw [Prog.bind_lift]
  simp only [Prog.bind_lift]
  unfold Held OwesW
  iintro ⟨Hlev, ⟨%W', %hW, HO⟩, ⟨%fs, %hfs, Hs⟩, ⟨%fd, %hfd, Hd⟩, Hsem⟩ Hk
  iapply (Transfers.wp_dmaLocal countersEmb 𝒱₀ thr none (src := ms) (via := .same) (dst := md) (sm := .dma sem) (q := q) (fs := fs) (fd := fd) (Sd := md.view.set) none (md.view.amount (.dma sem)) rfl
    (View.amount_pos _ _ hn) (Finset.Subset.refl _)) $$ [Hs Hd Hsem]
  · isplitl [Hs]; · iexact Hs
    isplitl [Hd]; · iexact Hd
    iexact Hsem
  iintro Hfl
  iapply (Transfers.wp_waitLocalO countersEmb 𝒱₀ thr none (srcw := ms) (dstw := md) none rfl) $$ [Hfl HO Hlev]
  · isplitl [Hfl]; · iexact Hfl
    isplitl [HO]; · iexact HO
    iapply ((K (F := F)).mayWait_none (thr := thr) (SemLoc.dma sem) hO) $$ Hlev
  iintro ⟨⟨Hd, Hs⟩, Hsem, HO⟩
  iapply Hk
  isplitl [HO]
  · iexists _; isplitr
    swap; · iexact HO
    ipureintro; intro p hp
    rcases Finset.mem_insert.mp hp with hp | hp
    · exact .inr (.inl (hp ▸ rfl))
    · exact hW p hp
  isplitl [Hs]
  · iexists fs; isplitr
    · ipureintro; exact hfs
    · iexact Hs
  isplitl [Hd]
  · iexists _; isplitr
    swap; · iexact Hd
    ipureintro
    rw [View.read_write_univ]; exact hfs
  iexact Hsem

end Owing

/-! ## The meetings to come -/

section Standing

variable (pay : Fin 11 → Fin 16 → Fin 16 → sProp (MT nD τ sig (HIx 11) (Elt F) ℕ UU ℕ))

/-- The meetings from `r` on. -/
def later (r : ℕ) : Finset (Fin 11) := Finset.univ.filter fun r' => r ≤ r'.val

theorem later_eq (r : Fin 11) : later r.val = insert r (later (r.val + 1)) := by
  ext x; simp only [later, Finset.mem_filter, Finset.mem_univ, true_and, Finset.mem_insert, Fin.ext_iff]; omega
theorem not_mem_later (r : Fin 11) : r ∉ later (r.val + 1) := by
  simp [later]

/-- What is owed to the meetings from `r` on. -/
def debtFrom (d : Dev nD) (s : Fin τ.nSC) (r : ℕ) : CellTallies nD τ sig (HIx 11) := ∑ r' ∈ later r, debt d s r'

theorem debtFrom_eq (d : Dev nD) (s : Fin τ.nSC) (r : Fin 11) : debtFrom d s r.val = debtFrom d s (r.val + 1) + debt d s r := by
  unfold debtFrom; rw [later_eq r, Finset.sum_insert (not_mem_later r), add_comm]

theorem debt_pos {d : Dev nD} {s : Fin τ.nSC} {r : Fin 11} {g : GSem nD τ sig} {ι : HIx 11} (h : debt d s r g ι ≠ 0) : (∃ j, g = bcell d s j) ∧ ι = some r := by
  unfold debt at h
  rw [Finset.sum_apply, Finsupp.finsetSum_apply] at h
  obtain ⟨j, -, hj⟩ := Finset.exists_ne_zero_of_sum_ne_zero h
  rw [tallyAt_apply] at hj
  split at hj
  · next e => exact ⟨⟨j, e.1⟩, e.2⟩
  · exact absurd rfl hj

theorem debtFrom_pos {d : Dev nD} {s : Fin τ.nSC} {r : ℕ} {g : GSem nD τ sig} {ι : HIx 11} (h : debtFrom d s r g ι ≠ 0) :
    ∃ r' : Fin 11, r ≤ r'.val ∧ (∃ j, g = bcell d s j) ∧ ι = some r' := by
  unfold debtFrom at h
  rw [Finset.sum_apply, Finsupp.finsetSum_apply] at h
  obtain ⟨r', hr', hj⟩ := Finset.exists_ne_zero_of_sum_ne_zero h
  exact ⟨r', (Finset.mem_filter.mp hr').2, debt_pos hj⟩

theorem debtFrom_none (d : Dev nD) (s : Fin τ.nSC) (r : ℕ) (g : GSem nD τ sig) : debtFrom d s r g none = 0 := by
  by_contra h
  obtain ⟨_, _, _, h⟩ := debtFrom_pos h
  exact absurd h nofun

/-- Before meeting `r` tile `i` owes, besides `O`, its signals from there on; it holds its tickets for those meetings and stands
    at the `r`-th. -/
def Standing (d : Dev nD) (s : Fin τ.nSC) (i : Fin 16) (O : CellTallies nD τ sig (HIx 11)) (W : Waits sig (HIx 11)) (r : ℕ) : sProp 𝕄 :=
  iprop(OwesW (V d s (Fin.castLE hsub16 i)) (O + debtFrom d s r) W ∗ (bigSep (later r) fun r' => ticket d s i r') ∗ atPos (EB (F := F)) (bcell d s i) r ∅ 0)

/-- Levels and the meetings' invariant. -/
def Around (d : Dev nD) (s : Fin τ.nSC) (κ : ℕ) : sProp 𝕄 := iprop(levAts (K (F := F)).L (K (F := F)).lev ∗ inv κ (meetBody (bcell d s) pay))

instance (d : Dev nD) (s : Fin τ.nSC) (κ : ℕ) : Persistent (Around pay d s κ : sProp 𝕄) := by unfold Around; infer_instance

variable {pay} {d : Dev nD} {s : Fin τ.nSC} {i : Fin 16} {O : CellTallies nD τ sig (HIx 11)} {W : Waits sig (HIx 11)} {κ : ℕ}
variable {α : Type} {Q : α → sProp (MT nD τ sig (HIx 11) (Elt F) ℕ UU ℕ)}

/-- A copy and its wait, between two meetings. -/
theorem wp_copyS {r : ℕ} {sp sp' : Space} {n : ℕ} {e : EltTy} {ms : Memref sig .scVector sp ⟨1, ![n]⟩ e} {md : Memref sig .scVector sp' ⟨1, ![n]⟩ e} {q : PosShare TreeShare} {g g₀ : ℕ → Elt F e}
    {sem : DmaSem sig} {h1 h2 h3 h4 h5} {kk : PUnit → Prog (TpuEff nD τ sig (Elt F) Λ₀ (.scVector s (Fin.castLE hsub16 i))) α} (hn : 0 < (⟨1, ![n]⟩ : Shape).numel) (hO : ∀ g, O g none = 0) :
    iprop(Around pay d s κ ∗ Standing d s i O W r ∗ Held (V d s (Fin.castLE hsub16 i)) ms q g ∗ Held (V d s (Fin.castLE hsub16 i)) md fullShare g₀ ∗ semVal (V d s (Fin.castLE hsub16 i), SemLoc.dma sem) 0)
      ⊢ iprop((iprop(Standing d s i O W r ∗ Held (V d s (Fin.castLE hsub16 i)) ms q g ∗ Held (V d s (Fin.castLE hsub16 i)) md fullShare g ∗ semVal (V d s (Fin.castLE hsub16 i), SemLoc.dma sem) 0)
          -∗ wp frame (wpE defs₀ 𝒱₀ (V d s (Fin.castLE hsub16 i)) none) Set.univ (kk ⟨⟩) Q)
        -∗ wp frame (wpE defs₀ 𝒱₀ (V d s (Fin.castLE hsub16 i)) none) Set.univ (Prog.lift (TpuEff.enqueueDma ms (.here md) (.dma sem) h1 h2 h3) >>= fun _ => Prog.lift (.waitDma2 sem ms md h4 h5) >>= kk) Q) := by
  unfold Standing Around
  iintro ⟨⟨Hlev, -⟩, ⟨HO, Ht, Hat⟩, Hs, Hd, Hsem⟩ Hk
  iapply (wp_copy (thr := V d s (Fin.castLE hsub16 i)) (O := O + debtFrom d s r) (W := W) (ms := ms) (md := md) (q := q) (g := g) (g₀ := g₀) (sem := sem) (kk := kk) hn
    (fun g => by rw [Pi.add_apply, Finsupp.add_apply, hO, debtFrom_none])) $$ [Hlev HO Hs Hd Hsem]
  · isplitl [Hlev]; · iexact Hlev
    isplitl [HO]; · iexact HO
    isplitl [Hs]; · iexact Hs
    isplitl [Hd] <;> iassumption
  iintro ⟨HO, Hs, Hd, Hsem⟩
  iapply Hk
  isplitl [HO Ht Hat]
  · isplitl [HO]; · iexact HO
    isplitl [Ht] <;> iassumption
  isplitl [Hs]; · iexact Hs
  isplitl [Hd] <;> iassumption

/-- A meeting. -/
theorem wp_barrier [∀ r i j, BI.Storable (upEmb : UEmb _ (MT nD τ sig (HIx 11) (Elt F) ℕ UU ℕ)) (pay r i j)] (r : Fin 11) {kk : PUnit → Prog (TpuEff nD τ sig (Elt F) Λ₀ (.scVector s (Fin.castLE hsub16 i))) α}
    (hO : ∀ g ι, 0 < O g ι → 86 ≤ (K (F := F)).lev g ι) :
    iprop(Around pay d s κ ∗ Standing d s i O W r.val ∗ (bigSep Finset.univ fun j => pay r i j))
      ⊢ iprop((iprop(Standing d s i O W (r.val + 1) ∗ (bigSep Finset.univ fun j => pay r j i) ∗ (if r.val = 10 then semVal (bcell d s i) 0 else iprop(emp)))
          -∗ wp frame (wpE defs₀ 𝒱₀ (V d s (Fin.castLE hsub16 i)) none) Set.univ (kk ⟨⟩) Q)
        -∗ wp frame (wpE defs₀ 𝒱₀ (V d s (Fin.castLE hsub16 i)) none) Set.univ (SparseCore.subcoreBarrier sc_bar0 16 hsub16 >>= kk) Q) := by
  unfold Standing Around OwesW
  rw [later_eq r, show (bigSep (insert r (later (r.val + 1))) (fun r' => ticket d s i r') : sProp 𝕄) = iprop(ticket d s i r ∗ bigSep (later (r.val + 1)) fun r' => ticket d s i r') from
    BI.bigSep_insert (not_mem_later r), debtFrom_eq, ← add_assoc]
  iintro ⟨⟨Hlev, Hinv⟩, ⟨⟨%W', %hW, HO⟩, ⟨Ht, Hts⟩, Hat⟩, Hp⟩ Hk
  iapply (wp_meet pay 𝒱₀ none κ d (s := s) i r (O + debtFrom d s (r.val + 1)) W') $$ [Hlev Hinv HO Ht Hat Hp]
  · isplitl [Hinv]; · iexact Hinv
    isplitl [HO]; · iexact HO
    isplitl [Ht]; · iexact Ht
    isplitl [Hat]; · iexact Hat
    isplitl [Hp]; · iexact Hp
    iapply ((K (F := F)).mayOwe_of_bound (thr := V d s (Fin.castLE hsub16 i)) (8 * r.val + 3)
      (fun p hp => by
        rw [Finset.mem_singleton] at hp; subst hp
        exact le_of_eq ((K (F := F)).lev_V_reg d s (Fin.castLE hsub16 i) (show (sc_bar0 : Sem sig) ≠ (K (F := F)).go from sc_bar0_ne_go) r))
      (fun g ι h => by
        rw [Pi.add_apply, Finsupp.add_apply] at h
        by_cases h0 : 0 < O g ι
        · have := hO g ι h0; have := r.isLt; omega
        · obtain ⟨r', hr', ⟨j, rfl⟩, rfl⟩ := debtFrom_pos (show debtFrom d s (r.val + 1) g ι ≠ 0 by omega)
          rw [(K (F := F)).lev_V_reg d s (Fin.castLE hsub16 j) (show (sc_bar0 : Sem sig) ≠ (K (F := F)).go from sc_bar0_ne_go)]
          omega)) $$ Hlev
  iintro ⟨HO, Hat, Hp, Hv⟩
  iapply Hk
  isplitl [HO Hts Hat]
  · isplitl [HO]
    · iexists _; isplitr
      swap; · iexact HO
      ipureintro; intro p hp
      rcases Finset.mem_insert.mp hp with hp | hp
      · exact .inr (.inr ⟨r, hp ▸ rfl⟩)
      · exact hW p hp
    isplitl [Hts] <;> iassumption
  isplitl [Hp] <;> iassumption

end Standing

end Cert.Proof.K

end
-- ==== Proof.Spec.lean ====
/-
  What the SparseCore call computes, step by step and for any reading of the floats: each tile's chunk of the rows,
  its histogram of a byte of the sort keys, the sixteen histograms added, the byte that the search takes, and
  after four bytes the sums of the tile, which the first tile adds up.
-/
module

public import proofs.«01_k».proof.Proof.Steps

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ

/-- The lane numbers. -/
abbrev lanes : IVec S16 32 := iota .scVector S16 32 [0] iota_S16_d0_w32_scVector

/-- The last lane of a vector. -/
abbrev last (v : IVec S16 32) : BitVec 32 := extractAt ![15] v inpos_S16_p15

/-- The sixteen elements of `g` from `o` on. -/
abbrev seg {α : Type} (g : ℕ → α) (o : ℕ) : S16.Idx → α := vec fun l => g (o + l)

/-! ## A pass of the search, over any binning -/

section Pass

/-- A pass: the bin of every key, and the keys that it counts. -/
structure Byte where
  bin : IVec S16 32 → IVec S16 32
  keep : IVec S16 32 → IVec S16 1
  lt : ∀ v (a : Fin S256.rank) x, (![bin v] a x).toNat < S256.size a

variable (B : Byte)

/-- One vector of keys counted into a histogram. -/
def count1 (v : IVec S16 32) (h : ℕ → BitVec 32) : ℕ → BitVec 32 := fun k =>
  storeIdx (F := F) (s := S256) (e := .i32) (buf 256 h) ![B.bin v] k0_pay21 (B.keep v) true (B.lt v) (pos 256 k)

/-- The `t`-th vector of `u` counted. -/
abbrev countStep (u : ℕ → BitVec 32) (t : Fin 64) (h : ℕ → BitVec 32) : ℕ → BitVec 32 := count1 (F := F) B (seg u (16 * t.val)) h

/-- The histogram of the first `16 * k` keys of `u`. -/
def histTo (u : ℕ → BitVec 32) (k : ℕ) : ℕ → BitVec 32 := iter 64 (countStep (F := F) B u) (blocksOf fun _ => k0_pay22) k

/-- The histogram of a tile's keys. -/
def hist (u : ℕ → BitVec 32) : ℕ → BitVec 32 := histTo (F := F) B u 64

/-- All the tiles' histograms in a row. -/
def hists (u : ℕ → ℕ → BitVec 32) : ℕ → BitVec 32 := fun n => hist (F := F) B (u (n / 256)) (n % 256)

/-- The `t'`-th histogram of `a` added, at block `t`. -/
abbrev addStep (a : ℕ → BitVec 32) (t : ℕ) (t' : Fin 16) (acc : IVec S16 32) : IVec S16 32 := k0_pay41 (F := F) acc (seg a (256 * t'.val + 16 * t))

/-- The first `k` histograms of `a` added, at block `t`. -/
def addTo (a : ℕ → BitVec 32) (t : ℕ) (k : ℕ) : IVec S16 32 := iter 16 (addStep (F := F) a t) k0_pay40 k

/-- The sixteen histograms of `a` added. -/
def added (a : ℕ → BitVec 32) : ℕ → BitVec 32 := blocksOf fun t => addTo (F := F) a t 16

/-- A block searched: the running total, and the first bin at which the running count reaches `kp`. -/
abbrev pickStep (g : ℕ → BitVec 32) (kp : BitVec 32) (t : Fin 16) (a : BitVec 32 × BitVec 32) : BitVec 32 × BitVec 32 :=
  (Scalar.addi a.1 (last (k0_pay66 (F := F) (seg g (16 * t.val)))), Scalar.minsi a.2 (last (k0_pay65 (F := F) lanes kp t a.1 (seg g (16 * t.val)))))

/-- The running total and the first bin at which the running count reaches `kp`, after `k` blocks. -/
def pickTo (g : ℕ → BitVec 32) (kp : BitVec 32) (k : ℕ) : BitVec 32 × BitVec 32 := iter 16 (pickStep (F := F) g kp) (0#32, 1000#32) k

/-- A block counted below `b`. -/
abbrev belowStep (g : ℕ → BitVec 32) (b : BitVec 32) (t : Fin 16) (a : BitVec 32) : BitVec 32 :=
  Scalar.addi a (last (k0_pay67 (F := F) lanes b t (seg g (16 * t.val))))

/-- The count of the bins below `b`, over the first `k` blocks. -/
def belowTo (g : ℕ → BitVec 32) (b : BitVec 32) (k : ℕ) : BitVec 32 := iter 16 (belowStep (F := F) g b) 0#32 k

/-- The bin that the pass takes. -/
def picked (g : ℕ → BitVec 32) (kp : BitVec 32) : BitVec 32 := (pickTo (F := F) g kp 16).2

/-- The prefix lengthened by the bin taken. -/
def longer (p : BitVec 32) (g : ℕ → BitVec 32) (kp : BitVec 32) : BitVec 32 := Scalar.ori (Scalar.shli p 8#32) (picked (F := F) g kp)

/-- The rank left after the bins below are counted off. -/
def fewer (g : ℕ → BitVec 32) (kp : BitVec 32) : BitVec 32 := Scalar.subi kp (belowTo (F := F) g (picked (F := F) g kp) 16)

end Pass

/-! ## The four bytes -/

/-- The byte of each key from bit `sh` on. -/
def binBy (sh : BitVec 32) (v : IVec S16 32) : IVec S16 32 := andi (shrui v (broadcast S16 sh)) (broadcast S16 255#32)

theorem binBy_lt (sh : BitVec 32) (v : IVec S16 32) (a : Fin S256.rank) (x) : (![binBy sh v] a x).toNat < S256.size a := by
  match a with
  | 0 =>
    show ((shrui v (broadcast S16 sh) x) &&& 255#32).toNat < 256
    rw [BitVec.toNat_and]
    exact lt_of_le_of_lt Nat.and_le_right (by decide)

/-- The highest byte, of every key. -/
def byte0 : Byte := ⟨binBy 24#32, fun _ => broadcast S16 1#1, binBy_lt _⟩

/-- The byte from bit `sh` on, of the keys whose bits from `up` on are `p`. -/
def byteAt (sh up p : BitVec 32) : Byte := ⟨binBy sh, fun v => cmpi .eq (shrui v (broadcast S16 up)) (broadcast S16 p), binBy_lt _⟩

/-! ## The call -/

section Call

variable (D C B : ℕ → Elt F .f32) (Y : ℕ → BitVec 32)

/-- Tile `s`'s chunk of a column. -/
def chunk {α : Type} (g : ℕ → α) (s : ℕ) : ℕ → α := fun n => g (1024 * s + n)

/-- Tile `s`'s sort keys. -/
def keys (s : ℕ) : ℕ → BitVec 32 := blocksOf fun t => k0_pay5 (F := F) (seg (chunk D s) (16 * t))

/-- A block of base losses summed and of zero labels counted. -/
abbrev firstStep (s : ℕ) (t : Fin 64) (a : F .f32 × BitVec 32) : F .f32 × BitVec 32 :=
  (k0_pay17 a.1 (seg (chunk B s) (16 * t.val)) (k0_pay6 (F := F) (seg (chunk B s) (16 * t.val))), Scalar.addi a.2 (last (k0_pay18 (F := F) (seg (chunk Y s) (16 * t.val)))))

/-- Tile `s`'s sum of the base losses and count of the zero labels, after `k` blocks. -/
def firstTo (s k : ℕ) : F .f32 × BitVec 32 := iter 64 (firstStep B Y s) (Scalar.ofBits .f32 0x00000000#32, 0#32) k

/-- The tiles' counts of the zero labels, as the tiles publish them. -/
def counts : ℕ → Elt F .f32 := blocksOf fun s => k0_pay19 (firstTo B Y s 64).2

/-- A tile's count of zero labels added. -/
abbrev zerosStep (c : ℕ → Elt F .f32) (s : ℕ) (t : Fin 16) (a : BitVec 32 × BitVec 32) : BitVec 32 × BitVec 32 :=
  (Scalar.select (Scalar.cmpi .slt (Scf.iv 0#32 1#32 t) (BitVec.ofNat 32 s)) (Scalar.addi a.1 (last (k0_pay20 (F := F) lanes (seg c (16 * t.val))))) a.1,
    Scalar.addi a.2 (last (k0_pay20 (F := F) lanes (seg c (16 * t.val)))))

/-- The zero labels before tile `s` and in all the tiles, over the first `k` tiles. -/
def zerosTo (c : ℕ → Elt F .f32) (s k : ℕ) : BitVec 32 × BitVec 32 := iter 16 (zerosStep c s) (0#32, 0#32) k

def hists0 : ℕ → BitVec 32 := hists (F := F) byte0 (keys D)
def total0 : ℕ → BitVec 32 := added (F := F) (hists0 D)
def pre1 : BitVec 32 := longer (F := F) 0#32 (total0 D) 1638#32
def rank1 : BitVec 32 := fewer (F := F) (total0 D) 1638#32

def hists1 : ℕ → BitVec 32 := hists (F := F) (byteAt 16#32 24#32 (pre1 D)) (keys D)
def total1 : ℕ → BitVec 32 := added (F := F) (hists1 D)
def pre2 : BitVec 32 := longer (F := F) (pre1 D) (total1 D) (rank1 D)
def rank2 : BitVec 32 := fewer (F := F) (total1 D) (rank1 D)

def hists2 : ℕ → BitVec 32 := hists (F := F) (byteAt 8#32 16#32 (pre2 D)) (keys D)
def total2 : ℕ → BitVec 32 := added (F := F) (hists2 D)
def pre3 : BitVec 32 := longer (F := F) (pre2 D) (total2 D) (rank2 D)
def rank3 : BitVec 32 := fewer (F := F) (total2 D) (rank2 D)

def hists3 : ℕ → BitVec 32 := hists (F := F) (byteAt 0#32 8#32 (pre3 D)) (keys D)
def total3 : ℕ → BitVec 32 := added (F := F) (hists3 D)

/-- The cut: the key of the rank sought, as a signed word. -/
def cut : BitVec 32 := Scalar.xori (longer (F := F) (pre3 D) (total3 D) (rank3 D)) 2147483648#32

/-- A block of a tile summed: the keys below the cut and their values, the corrections at the taken zero labels, the zero
    labels. -/
abbrev sumsStep (s : ℕ) (t : Fin 64) (a : BitVec 32 × F .f32 × F .f32 × BitVec 32) : BitVec 32 × F .f32 × F .f32 × BitVec 32 :=
  let u := seg (keys D s) (16 * t.val)
  let dv := seg (chunk D s) (16 * t.val)
  let yv := seg (chunk Y s) (16 * t.val)
  let cv := seg (chunk C s) (16 * t.val)
  let z := zerosTo (counts B Y) s 16
  let at3 := Scalar.muli (BitVec.ofNat 32 s) 1024#32
  (Scalar.addi a.1 (last (k0_pay8 (F := F) (cut D) u)),
    k0_pay12 a.2.1 (k0_pay9 (cut D) u dv) (k0_pay10 (cut D) u dv) (k0_pay11 (cut D) u dv),
    k0_pay114 a.2.2.1 (k0_pay14 at3 lanes z.1 z.2 a.2.2.2 (Scf.iv 0#32 1#32 t) yv cv) (k0_pay15 at3 lanes z.1 z.2 a.2.2.2 (Scf.iv 0#32 1#32 t) yv cv)
      (k0_pay16 at3 lanes z.1 z.2 a.2.2.2 (Scf.iv 0#32 1#32 t) yv cv),
    Scalar.addi a.2.2.2 (last (k0_pay115 (k0_pay13 (F := F) yv))))

/-- Tile `s`'s sums after `k` blocks. -/
def sumsTo (s k : ℕ) : BitVec 32 × F .f32 × F .f32 × BitVec 32 :=
  iter 64 (sumsStep D C B Y s) (0#32, Scalar.ofBits .f32 0x00000000#32, Scalar.ofBits .f32 0x00000000#32, 0#32) k

/-- What tile `s` publishes at the end. -/
def part (s : ℕ) : FVec F S16 .f32 :=
  k0_pay1 lanes (firstTo B Y s 64).1 (sumsTo D C B Y s 64).1 (sumsTo D C B Y s 64).2.1 (sumsTo D C B Y s 64).2.2.1 (k0_pay116 lanes) k0_pay117

def parts : ℕ → Elt F .f32 := blocksOf (part D C B Y)

/-- A tile's part added. -/
abbrev sumStep (p : ℕ → Elt F .f32) (t : Fin 16) (a : FVec F S16 .f32) : FVec F S16 .f32 := k0_pay3 a (seg p (16 * t.val))

/-- The first `k` tiles' parts added. -/
def sumTo (p : ℕ → Elt F .f32) (k : ℕ) : FVec F S16 .f32 := iter 16 (sumStep p) k0_pay2 k

/-- The call's result. -/
def out : FVec F S16 .f32 := k0_pay4 (cut D) (sumTo (parts D C B Y) 16)

end Call

end Cert.Proof.K

end
-- ==== Proof.Loops.lean ====
/-
  The counted loops of a tile's program: each leaves the buffers and carries out the values that the step-by-step
  specification gives.
-/
module

public import proofs.«01_k».proof.Proof.Spec

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ

/-! ## The buffers of a tile -/

abbrev mD : Memref sig .scVector .hbm S16384 .f32 := Memref.whole main_arg0_scv
abbrev mC : Memref sig .scVector .hbm S16384 .f32 := Memref.whole main_arg1_scv
abbrev mB : Memref sig .scVector .hbm S16384 .f32 := Memref.whole main_arg2_scv
abbrev mY : Memref sig .scVector .hbm S16384 .i32 := Memref.whole main_arg3_scv
abbrev mO : Memref sig .scVector .hbm S16 .f32 := Memref.whole main_v0_scv
abbrev bD : Memref sig .scVector .vmem S1024 .f32 := Memref.whole cc0_scratch0
abbrev bC : Memref sig .scVector .vmem S1024 .f32 := Memref.whole cc0_scratch1
abbrev bB : Memref sig .scVector .vmem S1024 .f32 := Memref.whole cc0_scratch2
abbrev bY : Memref sig .scVector .vmem S1024 .i32 := Memref.whole cc0_scratch3
abbrev bU : Memref sig .scVector .vmem S1024 .i32 := Memref.whole cc0_scratch4
abbrev bH : Memref sig .scVector .vmem S256 .i32 := Memref.whole cc0_scratch5
abbrev bA : Memref sig .scVector .vmem S4096 .i32 := Memref.whole cc0_scratch6
abbrev bP : Memref sig .scVector .vmem S256 .f32 := Memref.whole cc0_scratch7
abbrev bM : Memref sig .scVector .vmem S32 .f32 := Memref.whole cc0_scratch8
abbrev sH : Memref sig .scVector .shared S4096 .i32 := Memref.whole cc0_scratch9
abbrev sP : Memref sig .scVector .shared S256 .f32 := Memref.whole cc0_scratch10

abbrev cV (L : grid0.Coords) : Fin τ.nSC := (L 0).castLE hcore0
abbrev jL (L : grid0.Coords) : Fin 16 := Fin.cast bound_one (L 1)
/-- The tile of the grid's point `L`. -/
abbrev tile (d : Dev nD) (L : grid0.Coords) : Thread nD τ := V d (cV L) (Fin.castLE hsub16 (jL L))

/-! ## Filling a buffer block by block -/

section Filling

variable (thr : Thread nD τ)

/-- The memref's buffer holds the blocks `w` on its first `16 * k` positions. -/
def FilledTo {sp : Space} {n : ℕ} {e : EltTy} (m : Memref sig thr.2.kind sp ⟨1, ![n]⟩ e) (k : ℕ) (w : ℕ → S16.Idx → Elt F e) : sProp 𝕄 :=
  iprop(∃ g, ⌜Filled k w g⌝ ∗ Held thr m fullShare g)

variable {n : ℕ} {e : EltTy} {w : ℕ → S16.Idx → Elt F e}

theorem FilledTo.start {sp : Space} {m : Memref sig thr.2.kind sp ⟨1, ![n]⟩ e} (g : ℕ → Elt F e) : (Held thr m fullShare g : sProp 𝕄) ⊢ FilledTo thr m 0 w := by
  unfold FilledTo
  iintro H; iexists g; isplitr
  · ipureintro; exact Filled.zero w g
  · iexact H

theorem FilledTo.done {sp : Space} {m : Memref sig thr.2.kind sp ⟨1, ![n]⟩ e} (k : ℕ) (h : n ≤ 16 * k) : (FilledTo thr m k w : sProp 𝕄) ⊢ Held thr m fullShare (blocksOf w) := by
  unfold FilledTo
  iintro ⟨%g, %hg, H⟩
  iapply (Held.congr thr (g := g) fun j hj => hg j (by omega)) $$ H

variable {α : Type} {Q : α → sProp (MT nD τ sig (HIx 11) (Elt F) ℕ UU ℕ)}

/-- The `k`-th block stored, after a load of what was there. -/
theorem wp_fill (k : ℕ) {m : Memref sig thr.2.kind .vmem ⟨1, ![n]⟩ e} {off off' : Fin 1 → ℕ}
    {inb : ∀ a, off a + S16.size a ≤ (⟨1, ![n]⟩ : Shape).size a} {inb' : ∀ a, off' a + S16.size a ≤ (⟨1, ![n]⟩ : Shape).size a}
    {hl : m.view.LoadsAt (Rect.unit (s := ⟨1, ![n]⟩) off S16.size inb).toLoadRect} {v : S16.Idx → Elt F e}
    {hx : (m.access (Rect.unit (s := ⟨1, ![n]⟩) off' S16.size inb')).Stores Finset.univ} {hm}
    {kk : PUnit → Prog (TpuEff nD τ sig (Elt F) Λ₀ thr.2) α} (ho : off 0 = 16 * k) (ho' : off' 0 = 16 * k) (hv : v = w k) :
    (FilledTo thr m k w : sProp 𝕄)
      ⊢ iprop((FilledTo thr m (k + 1) w -∗ wp frame (wpE defs₀ 𝒱₀ thr none) Set.univ (kk ⟨⟩) Q)
        -∗ wp frame (wpE defs₀ 𝒱₀ thr none) Set.univ (Prog.lift (.load m (Rect.unit (s := ⟨1, ![n]⟩) off S16.size inb).toLoadRect hl)
            >>= fun _ => Prog.lift (.store m (Rect.unit (s := ⟨1, ![n]⟩) off' S16.size inb') v Finset.univ hx hm) >>= kk) Q) := by
  subst hv
  unfold FilledTo
  iintro ⟨%g, %hg, H⟩ Hk
  iapply (wp_ld thr (16 * k) ho) $$ H
  iintro H
  iapply (wp_st thr (16 * k) ho') $$ H
  iintro H
  iapply Hk
  iexists _; isplitr
  swap; · iexact H
  ipureintro; exact hg.put rfl

end Filling

/-! ## A counted loop -/

section Loop

variable (thr : Thread nD τ) {α σ : Type} {Q : α → sProp (MT nD τ sig (HIx 11) (Elt F) ℕ UU ℕ)}

/-- A counted loop that carries the iterates of `step`, over the resource `R`. -/
theorem wp_loop (l : Scf.Loop 32) (n : ℕ) (hn : l.trips = n) (step : Fin n → σ → σ) (R : ℕ → sProp (MT nD τ sig (HIx 11) (Elt F) ℕ UU ℕ))
    {ok : l.OK} {init : σ} {body : Fin l.trips → σ → Prog (TpuEff nD τ sig (Elt F) Λ₀ thr.2) σ} {kk : σ → Prog (TpuEff nD τ sig (Elt F) Λ₀ thr.2) α}
    (hbody : ∀ (k : Fin l.trips) (acc : σ), acc = iter n step init k.val →
      R k.val ⊢ wp frame (wpE defs₀ 𝒱₀ thr none) Set.univ (body k acc) fun a => iprop(⌜a = step (Fin.cast hn k) acc⌝ ∗ R (k.val + 1))) :
    R 0 ⊢ iprop((R n -∗ wp frame (wpE defs₀ 𝒱₀ thr none) Set.univ (kk (iter n step init n)) Q)
      -∗ wp frame (wpE defs₀ 𝒱₀ thr none) Set.univ (Scf.Loop.for l ok init body >>= kk) Q) := by
  subst hn
  iintro H Hk
  iapply (Scf.wp_for_bind frame (wpE defs₀ 𝒱₀ thr none) Set.univ l.lb l.ub l.st ok init body
    (fun k acc => iprop(⌜acc = iter l.trips step init k⌝ ∗ R k)) (fun k acc => by
      iintro ⟨%hacc, H⟩
      ihave Hw := (hbody k acc hacc) $$ H
      iapply (wp_mono frame (wpE defs₀ 𝒱₀ thr none) Set.univ (fun a => ?_)) $$ Hw
      iintro ⟨%ha, H⟩
      isplitr
      · ipureintro; rw [ha, hacc]; exact (iter_succ step init k).symm
      · iexact H)) $$ [H]
  · isplitr
    · ipureintro; rfl
    · iexact H
  iintro %acc ⟨%hacc, H⟩
  subst hacc
  iapply Hk
  iexact H

/-- The end of a trip. -/
theorem wp_yield {a : α} : Q a ⊢ wp frame (wpE defs₀ 𝒱₀ thr none) Set.univ (.ret a) Q := le_wp_ret frame (wpE defs₀ 𝒱₀ thr none) Set.univ _ _

/-- A check that holds. -/
theorem wp_check {p : Prop} {hd : Decidable p} (h : p) {kk : PLift p → Prog (TpuEff nD τ sig (Elt F) Λ₀ thr.2) α} :
    wp frame (wpE defs₀ 𝒱₀ thr none) Set.univ (kk ⟨h⟩) Q ⊢ wp frame (wpE defs₀ 𝒱₀ thr none) Set.univ (Prog.lift (TpuEff.assume p hd) >>= kk) Q := by
  rw [Prog.bind_lift]
  iintro H
  iapply (wp_assume 𝒱₀ thr none Set.univ h) $$ H

/-- One vector of keys counted. -/
theorem wp_count (By : Byte) {g : ℕ → BitVec 32} {m : Memref sig thr.2.kind .vmem S256 .i32} {v : IVec S16 32} {idx : IVec S16 32} {mask : IVec S16 1}
    {h : ∀ (a : Fin S256.rank) x, (![idx] a x).toNat < S256.size a} {hs : (m.access (.whole S256)).Stores Finset.univ}
    {kk : PUnit → Prog (TpuEff nD τ sig (Elt F) Λ₀ thr.2) α} (hi : idx = By.bin v) (hm : mask = By.keep v) :
    (Held thr m fullShare g : sProp (MT nD τ sig (HIx 11) (Elt F) ℕ UU ℕ))
      ⊢ iprop((Held thr m fullShare (count1 (F := F) By v g) -∗ wp frame (wpE defs₀ 𝒱₀ thr none) Set.univ (kk ⟨⟩) Q)
        -∗ wp frame (wpE defs₀ 𝒱₀ thr none) Set.univ (SparseCore.vectorStoreIdx m ![idx] k0_pay21 mask true h hs >>= kk) Q) := by
  subst hi hm
  exact wp_scatter thr

theorem histTo_succ (By : Byte) (u : ℕ → BitVec 32) (k : Fin 64) : histTo (F := F) By u (k.val + 1) = count1 (F := F) By (seg u (16 * k.val)) (histTo (F := F) By u k.val) :=
  iter_succ (n := 64) (countStep (F := F) By u) _ k

end Loop

/-! ## The loops of the program -/

section Loops

variable (D C B : ℕ → Elt F .f32) (Y : ℕ → BitVec 32) (d : Dev nD) (L : grid0.Coords)
variable {α : Type} {Q : α → sProp (MT nD τ sig (HIx 11) (Elt F) ℕ UU ℕ)}

/-- The first loop: the sort keys, the sum of the base losses, the count of the zero labels. -/
theorem loop1 (h1 : k0_cond1 L = 1#1) (arg1 : BitVec 32) {kk : F .f32 × BitVec 32 → Prog (TpuEff nD τ sig (Elt F) Λ₀ (tile d L).2) α} :
    iprop(Held (tile d L) bD fullShare (chunk D (jL L).val) ∗ Held (tile d L) bB fullShare (chunk B (jL L).val) ∗ Held (tile d L) bY fullShare (chunk Y (jL L).val) ∗ FilledTo (tile d L) bU 0 (fun t => k0_pay5 (F := F) (seg (chunk D (jL L).val) (16 * t))))
      ⊢ iprop((iprop(Held (tile d L) bD fullShare (chunk D (jL L).val) ∗ Held (tile d L) bB fullShare (chunk B (jL L).val) ∗ Held (tile d L) bY fullShare (chunk Y (jL L).val) ∗ Held (tile d L) bU fullShare (keys D (jL L).val)) -∗ wp frame (wpE defs₀ 𝒱₀ (tile d L) none) Set.univ (kk (firstTo B Y (jL L).val 64)) Q)
        -∗ wp frame (wpE defs₀ 𝒱₀ (tile d L) none) Set.univ (Scf.Loop.for k0_t1_loop (k0_t1_ok L h1) (Scalar.ofBits .f32 0x00000000#32, 0#32) (k0_t1_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1) >>= kk) Q) := by
  iintro ⟨HD, HB, HY, HU⟩ Hk
  iapply (wp_loop (tile d L) k0_t1_loop 64 rfl (firstStep B Y (jL L).val)
    (fun k => iprop(Held (tile d L) bD fullShare (chunk D (jL L).val) ∗ Held (tile d L) bB fullShare (chunk B (jL L).val) ∗ Held (tile d L) bY fullShare (chunk Y (jL L).val) ∗ FilledTo (tile d L) bU k (fun t => k0_pay5 (F := F) (seg (chunk D (jL L).val) (16 * t))))) (fun k acc hacc => by
      have ho : k0_off2 k 0 = 16 * k.val := by rw [k0_off2_eq]; rfl
      unfold k0_t1_body
      rw [k0_part1_eq_skeleton]
      unfold k0_part1_skel
      iintro ⟨HD, HB, HY, HU⟩
      iapply (wp_ld (tile d L) (16 * k.val) ho) $$ HD
      iintro HD
      iapply (wp_fill (tile d L) k.val ho ho rfl) $$ HU
      iintro HU
      iapply (wp_ld (tile d L) (16 * k.val) ho) $$ HB
      iintro HB
      iapply (wp_ld (tile d L) (16 * k.val) ho) $$ HY
      iintro HY
      iapply (wp_yield (tile d L))
      isplitr
      · ipureintro; rfl
      isplitl [HD]; · iexact HD
      isplitl [HB]; · iexact HB
      isplitl [HY]; · iexact HY
      iexact HU)) $$ [HD HB HY HU]
  · isplitl [HD]; · iexact HD
    isplitl [HB]; · iexact HB
    isplitl [HY]; · iexact HY
    iexact HU
  iintro ⟨HD, HB, HY, HU⟩
  iapply Hk
  isplitl [HD]; · iexact HD
  isplitl [HB]; · iexact HB
  isplitl [HY]; · iexact HY
  iapply (FilledTo.done (tile d L) 64 (by decide)) $$ HU

/-- The second loop: the zero labels before the tile and in all the tiles. -/
theorem loop2 (h1 : k0_cond1 L = 1#1) {arg1 : BitVec 32} (ha : arg1 = BitVec.ofNat 32 (L 1).val) (c : ℕ → Elt F .f32) {kk : BitVec 32 × BitVec 32 → Prog (TpuEff nD τ sig (Elt F) Λ₀ (tile d L).2) α} :
    Held (tile d L) bP fullShare (c)
      ⊢ iprop((Held (tile d L) bP fullShare (c) -∗ wp frame (wpE defs₀ 𝒱₀ (tile d L) none) Set.univ (kk (zerosTo c (jL L).val 16)) Q)
        -∗ wp frame (wpE defs₀ 𝒱₀ (tile d L) none) Set.univ (Scf.Loop.for k0_t2_loop (k0_t2_ok L h1) (0#32, 0#32) (k0_t2_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 lanes) >>= kk) Q) := by
  iintro HP Hk
  iapply (wp_loop (tile d L) k0_t2_loop 16 rfl (zerosStep c (jL L).val)
    (fun k => Held (tile d L) bP fullShare (c)) (fun k acc hacc => by
      subst ha
      have ho : k0_off4 k 0 = 16 * k.val := by rw [k0_off4_eq]; rfl
      unfold k0_t2_body
      iintro HP
      iapply (wp_ld (tile d L) (16 * k.val) ho) $$ HP
      iintro HP
      iapply (wp_yield (tile d L))
      isplitr
      · ipureintro; rfl
      · iexact HP)) $$ [HP]
  · iexact HP
  iintro HP
  iapply Hk
  iexact HP

/-- Pass 0: the histogram. -/
theorem histLoop0 (h1 : k0_cond1 L = 1#1) (arg1 : BitVec 32) (v32 : IVec S16 32) (u : ℕ → BitVec 32) {kk : BitVec 32 → Prog (TpuEff nD τ sig (Elt F) Λ₀ (tile d L).2) α} :
    iprop(Held (tile d L) bU fullShare (u) ∗ Held (tile d L) bH fullShare (blocksOf fun _ => k0_pay22))
      ⊢ iprop((iprop(Held (tile d L) bU fullShare (u) ∗ Held (tile d L) bH fullShare (hist (F := F) (byte0) u)) -∗ wp frame (wpE defs₀ 𝒱₀ (tile d L) none) Set.univ (kk (0#32)) Q)
        -∗ wp frame (wpE defs₀ 𝒱₀ (tile d L) none) Set.univ (Scf.Loop.for k0_t3_loop (k0_t3_ok L h1) 0#32 (k0_t3_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 k0_pay21 v32) >>= kk) Q) := by
  iintro ⟨HU, HH⟩ Hk
  iapply (wp_loop (tile d L) k0_t3_loop 64 rfl (fun _ _ => 0#32)
    (fun k => iprop(Held (tile d L) bU fullShare (u) ∗ Held (tile d L) bH fullShare (histTo (F := F) (byte0) u k))) (fun k acc hacc => by
      have ho : k0_off5 k 0 = 16 * k.val := by rw [k0_off5_eq]; rfl
      have hc : k0_chk1 L ((byte0).bin (seg u (16 * k.val))) := fun _ => (byte0).lt _
      unfold k0_t3_body
      iintro ⟨HU, HH⟩
      iapply (wp_ld (tile d L) (16 * k.val) ho) $$ HU
      iintro HU
      iapply (wp_check (tile d L) hc)
      iapply (wp_count (tile d L) (byte0) rfl rfl) $$ HH
      iintro HH
      iapply (wp_yield (tile d L))
      isplitr
      · ipureintro; rfl
      isplitl [HU]; · iexact HU
      iapply (Entails.of_eq (congrArg (Held (tile d L) bH fullShare) (show _ = histTo (F := F) (byte0) u (k.val + 1) from (histTo_succ (F := F) (byte0) u ⟨k.val, k.isLt⟩).symm))) $$ HH)) $$ [HU HH]
  · isplitl [HU]; · iexact HU
    iexact HH
  iintro ⟨HU, HH⟩
  iapply Hk
  isplitl [HU]; · iexact HU
  iexact HH

/-- Pass 1: the histogram. -/
theorem histLoop1 (h1 : k0_cond1 L = 1#1) (arg1 : BitVec 32) (p : BitVec 32) (v32 : IVec S16 32) (u : ℕ → BitVec 32) {kk : BitVec 32 → Prog (TpuEff nD τ sig (Elt F) Λ₀ (tile d L).2) α} :
    iprop(Held (tile d L) bU fullShare (u) ∗ Held (tile d L) bH fullShare (blocksOf fun _ => k0_pay22))
      ⊢ iprop((iprop(Held (tile d L) bU fullShare (u) ∗ Held (tile d L) bH fullShare (hist (F := F) (byteAt 16#32 24#32 p) u)) -∗ wp frame (wpE defs₀ 𝒱₀ (tile d L) none) Set.univ (kk (0#32)) Q)
        -∗ wp frame (wpE defs₀ 𝒱₀ (tile d L) none) Set.univ (Scf.Loop.for k0_t8_loop (k0_t8_ok L h1) 0#32 (k0_t8_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 k0_pay21 p v32) >>= kk) Q) := by
  iintro ⟨HU, HH⟩ Hk
  iapply (wp_loop (tile d L) k0_t8_loop 64 rfl (fun _ _ => 0#32)
    (fun k => iprop(Held (tile d L) bU fullShare (u) ∗ Held (tile d L) bH fullShare (histTo (F := F) (byteAt 16#32 24#32 p) u k))) (fun k acc hacc => by
      have ho : k0_off11 k 0 = 16 * k.val := by rw [k0_off11_eq]; rfl
      have hc : k0_chk2 L ((byteAt 16#32 24#32 p).bin (seg u (16 * k.val))) := fun _ => (byteAt 16#32 24#32 p).lt _
      unfold k0_t8_body
      iintro ⟨HU, HH⟩
      iapply (wp_ld (tile d L) (16 * k.val) ho) $$ HU
      iintro HU
      iapply (wp_check (tile d L) hc)
      iapply (wp_count (tile d L) (byteAt 16#32 24#32 p) rfl rfl) $$ HH
      iintro HH
      iapply (wp_yield (tile d L))
      isplitr
      · ipureintro; rfl
      isplitl [HU]; · iexact HU
      iapply (Entails.of_eq (congrArg (Held (tile d L) bH fullShare) (show _ = histTo (F := F) (byteAt 16#32 24#32 p) u (k.val + 1) from (histTo_succ (F := F) (byteAt 16#32 24#32 p) u ⟨k.val, k.isLt⟩).symm))) $$ HH)) $$ [HU HH]
  · isplitl [HU]; · iexact HU
    iexact HH
  iintro ⟨HU, HH⟩
  iapply Hk
  isplitl [HU]; · iexact HU
  iexact HH

/-- Pass 2: the histogram. -/
theorem histLoop2 (h1 : k0_cond1 L = 1#1) (arg1 : BitVec 32) (p : BitVec 32) (c0 : BitVec 32) (u : ℕ → BitVec 32) {kk : BitVec 32 → Prog (TpuEff nD τ sig (Elt F) Λ₀ (tile d L).2) α} :
    iprop(Held (tile d L) bU fullShare (u) ∗ Held (tile d L) bH fullShare (blocksOf fun _ => k0_pay22))
      ⊢ iprop((iprop(Held (tile d L) bU fullShare (u) ∗ Held (tile d L) bH fullShare (hist (F := F) (byteAt 8#32 16#32 p) u)) -∗ wp frame (wpE defs₀ 𝒱₀ (tile d L) none) Set.univ (kk (0#32)) Q)
        -∗ wp frame (wpE defs₀ 𝒱₀ (tile d L) none) Set.univ (Scf.Loop.for k0_t13_loop (k0_t13_ok L h1) 0#32 (k0_t13_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 k0_pay21 p c0) >>= kk) Q) := by
  iintro ⟨HU, HH⟩ Hk
  iapply (wp_loop (tile d L) k0_t13_loop 64 rfl (fun _ _ => 0#32)
    (fun k => iprop(Held (tile d L) bU fullShare (u) ∗ Held (tile d L) bH fullShare (histTo (F := F) (byteAt 8#32 16#32 p) u k))) (fun k acc hacc => by
      have ho : k0_off16 k 0 = 16 * k.val := by rw [k0_off16_eq]; rfl
      have hc : k0_chk3 L ((byteAt 8#32 16#32 p).bin (seg u (16 * k.val))) := fun _ => (byteAt 8#32 16#32 p).lt _
      unfold k0_t13_body
      iintro ⟨HU, HH⟩
      iapply (wp_ld (tile d L) (16 * k.val) ho) $$ HU
      iintro HU
      iapply (wp_check (tile d L) hc)
      iapply (wp_count (tile d L) (byteAt 8#32 16#32 p) rfl rfl) $$ HH
      iintro HH
      iapply (wp_yield (tile d L))
      isplitr
      · ipureintro; rfl
      isplitl [HU]; · iexact HU
      iapply (Entails.of_eq (congrArg (Held (tile d L) bH fullShare) (show _ = histTo (F := F) (byteAt 8#32 16#32 p) u (k.val + 1) from (histTo_succ (F := F) (byteAt 8#32 16#32 p) u ⟨k.val, k.isLt⟩).symm))) $$ HH)) $$ [HU HH]
  · isplitl [HU]; · iexact HU
    iexact HH
  iintro ⟨HU, HH⟩
  iapply Hk
  isplitl [HU]; · iexact HU
  iexact HH

/-- Pass 3: the histogram. -/
theorem histLoop3 (h1 : k0_cond1 L = 1#1) (arg1 : BitVec 32) (v3 : BitVec 32) (z0 z1 : BitVec 32) (p kp c0 c1 : BitVec 32) (u : ℕ → BitVec 32) {kk : BitVec 32 → Prog (TpuEff nD τ sig (Elt F) Λ₀ (tile d L).2) α} :
    iprop(Held (tile d L) bU fullShare (u) ∗ Held (tile d L) bH fullShare (blocksOf fun _ => k0_pay22))
      ⊢ iprop((iprop(Held (tile d L) bU fullShare (u) ∗ Held (tile d L) bH fullShare (hist (F := F) (byteAt 0#32 8#32 p) u)) -∗ wp frame (wpE defs₀ 𝒱₀ (tile d L) none) Set.univ (kk (0#32)) Q)
        -∗ wp frame (wpE defs₀ 𝒱₀ (tile d L) none) Set.univ (Scf.Loop.for k0_t18_loop (k0_t18_ok L h1) (0#32) (k0_t18_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v3 lanes z0 z1 k0_pay21 p kp c0 c1) >>= kk) Q) := by
  iintro ⟨HU, HH⟩ Hk
  iapply (wp_loop (tile d L) k0_t18_loop 64 rfl (fun _ _ => 0#32)
    (fun k => iprop(Held (tile d L) bU fullShare (u) ∗ Held (tile d L) bH fullShare (histTo (F := F) (byteAt 0#32 8#32 p) u k))) (fun k acc hacc => by
      have ho : k0_off21 k 0 = 16 * k.val := by rw [k0_off21_eq]; rfl
      have hc : k0_chk4 L ((byteAt 0#32 8#32 p).bin (seg u (16 * k.val))) := fun _ => (byteAt 0#32 8#32 p).lt _
      unfold k0_t18_body
      iintro ⟨HU, HH⟩
      iapply (wp_ld (tile d L) (16 * k.val) ho) $$ HU
      iintro HU
      iapply (wp_check (tile d L) hc)
      iapply (wp_count (tile d L) (byteAt 0#32 8#32 p) rfl rfl) $$ HH
      iintro HH
      iapply (wp_yield (tile d L))
      isplitr
      · ipureintro; rfl
      isplitl [HU]; · iexact HU
      iapply (Entails.of_eq (congrArg (Held (tile d L) bH fullShare) (show _ = histTo (F := F) (byteAt 0#32 8#32 p) u (k.val + 1) from (histTo_succ (F := F) (byteAt 0#32 8#32 p) u ⟨k.val, k.isLt⟩).symm))) $$ HH)) $$ [HU HH]
  · isplitl [HU]; · iexact HU
    iexact HH
  iintro ⟨HU, HH⟩
  iapply Hk
  isplitl [HU]; · iexact HU
  iexact HH

/-- Pass 0: the sixteen histograms added, at one block. -/
theorem addLoop0 (h1 : k0_cond1 L = 1#1) (arg1 : BitVec 32) (v13 v32 : IVec S16 32) (a : ℕ → BitVec 32) (t : Fin k0_t4_loop.trips) {kk : IVec S16 32 → Prog (TpuEff nD τ sig (Elt F) Λ₀ (tile d L).2) α} :
    Held (tile d L) bA fullShare (a)
      ⊢ iprop((Held (tile d L) bA fullShare (a) -∗ wp frame (wpE defs₀ 𝒱₀ (tile d L) none) Set.univ (kk (addTo (F := F) a t.val 16)) Q)
        -∗ wp frame (wpE defs₀ 𝒱₀ (tile d L) none) Set.univ (Scf.Loop.for k0_t5_loop (k0_t5_ok L h1) k0_pay40 (k0_t5_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v13 v32 t) >>= kk) Q) := by
  iintro HA Hk
  iapply (wp_loop (tile d L) k0_t5_loop 16 rfl (addStep (F := F) a t.val)
    (fun k => Held (tile d L) bA fullShare (a)) (fun k acc hacc => by
      have ho : k0_off7 t k 0 = 256 * k.val + 16 * t.val := by rw [k0_off7_eq]; rfl
      unfold k0_t5_body
      iintro HA
      iapply (wp_ld (tile d L) (256 * k.val + 16 * t.val) ho) $$ HA
      iintro HA
      iapply (wp_yield (tile d L))
      isplitr
      · ipureintro; rfl
      · iexact HA)) $$ [HA]
  · iexact HA
  iintro HA
  iapply Hk
  iexact HA

/-- Pass 0: the sixteen histograms added. -/
theorem totalLoop0 (h1 : k0_cond1 L = 1#1) (arg1 : BitVec 32) (v13 v32 : IVec S16 32) (a : ℕ → BitVec 32) {kk : BitVec 32 → Prog (TpuEff nD τ sig (Elt F) Λ₀ (tile d L).2) α} :
    iprop(Held (tile d L) bA fullShare (a) ∗ FilledTo (tile d L) bH 0 (addTo (F := F) a · 16))
      ⊢ iprop((iprop(Held (tile d L) bA fullShare (a) ∗ Held (tile d L) bH fullShare (added (F := F) a)) -∗ wp frame (wpE defs₀ 𝒱₀ (tile d L) none) Set.univ (kk (0#32)) Q)
        -∗ wp frame (wpE defs₀ 𝒱₀ (tile d L) none) Set.univ (Scf.Loop.for k0_t4_loop (k0_t4_ok L h1) 0#32 (k0_t4_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v13 v32) >>= kk) Q) := by
  iintro ⟨HA, HH⟩ Hk
  iapply (wp_loop (tile d L) k0_t4_loop 16 rfl (fun _ _ => 0#32)
    (fun k => iprop(Held (tile d L) bA fullShare (a) ∗ FilledTo (tile d L) bH k (addTo (F := F) a · 16))) (fun k acc hacc => by
      have ho : k0_off8 k 0 = 16 * k.val := by rw [k0_off8_eq]; rfl
      unfold k0_t4_body
      iintro ⟨HA, HH⟩
      iapply (addLoop0 d L h1 arg1 v13 v32 a k) $$ HA
      iintro HA
      iapply (wp_fill (tile d L) k.val ho ho rfl) $$ HH
      iintro HH
      iapply (wp_yield (tile d L))
      isplitr
      · ipureintro; rfl
      isplitl [HA] <;> iassumption)) $$ [HA HH]
  · isplitl [HA]; · iexact HA
    iexact HH
  iintro ⟨HA, HH⟩
  iapply Hk
  isplitl [HA]; · iexact HA
  iapply (FilledTo.done (tile d L) 16 (by decide)) $$ HH

/-- Pass 1: the sixteen histograms added, at one block. -/
theorem addLoop1 (h1 : k0_cond1 L = 1#1) (p kp : BitVec 32) (a : ℕ → BitVec 32) (t : Fin k0_t9_loop.trips) {kk : IVec S16 32 → Prog (TpuEff nD τ sig (Elt F) Λ₀ (tile d L).2) α} :
    Held (tile d L) bA fullShare (a)
      ⊢ iprop((Held (tile d L) bA fullShare (a) -∗ wp frame (wpE defs₀ 𝒱₀ (tile d L) none) Set.univ (kk (addTo (F := F) a t.val 16)) Q)
        -∗ wp frame (wpE defs₀ 𝒱₀ (tile d L) none) Set.univ (Scf.Loop.for k0_t10_loop (k0_t10_ok L h1) k0_pay63 (k0_t10_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp t) >>= kk) Q) := by
  iintro HA Hk
  iapply (wp_loop (tile d L) k0_t10_loop 16 rfl (addStep (F := F) a t.val)
    (fun k => Held (tile d L) bA fullShare (a)) (fun k acc hacc => by
      have ho : k0_off12 t k 0 = 256 * k.val + 16 * t.val := by rw [k0_off12_eq]; rfl
      unfold k0_t10_body
      iintro HA
      iapply (wp_ld (tile d L) (256 * k.val + 16 * t.val) ho) $$ HA
      iintro HA
      iapply (wp_yield (tile d L))
      isplitr
      · ipureintro; rfl
      · iexact HA)) $$ [HA]
  · iexact HA
  iintro HA
  iapply Hk
  iexact HA

/-- Pass 1: the sixteen histograms added. -/
theorem totalLoop1 (h1 : k0_cond1 L = 1#1) (p kp : BitVec 32) (a : ℕ → BitVec 32) {kk : BitVec 32 → Prog (TpuEff nD τ sig (Elt F) Λ₀ (tile d L).2) α} :
    iprop(Held (tile d L) bA fullShare (a) ∗ FilledTo (tile d L) bH 0 (addTo (F := F) a · 16))
      ⊢ iprop((iprop(Held (tile d L) bA fullShare (a) ∗ Held (tile d L) bH fullShare (added (F := F) a)) -∗ wp frame (wpE defs₀ 𝒱₀ (tile d L) none) Set.univ (kk (0#32)) Q)
        -∗ wp frame (wpE defs₀ 𝒱₀ (tile d L) none) Set.univ (Scf.Loop.for k0_t9_loop (k0_t9_ok L h1) 0#32 (k0_t9_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp) >>= kk) Q) := by
  iintro ⟨HA, HH⟩ Hk
  iapply (wp_loop (tile d L) k0_t9_loop 16 rfl (fun _ _ => 0#32)
    (fun k => iprop(Held (tile d L) bA fullShare (a) ∗ FilledTo (tile d L) bH k (addTo (F := F) a · 16))) (fun k acc hacc => by
      have ho : k0_off13 k 0 = 16 * k.val := by rw [k0_off13_eq]; rfl
      unfold k0_t9_body
      iintro ⟨HA, HH⟩
      iapply (addLoop1 d L h1 p kp a k) $$ HA
      iintro HA
      iapply (wp_fill (tile d L) k.val ho ho rfl) $$ HH
      iintro HH
      iapply (wp_yield (tile d L))
      isplitr
      · ipureintro; rfl
      isplitl [HA] <;> iassumption)) $$ [HA HH]
  · isplitl [HA]; · iexact HA
    iexact HH
  iintro ⟨HA, HH⟩
  iapply Hk
  isplitl [HA]; · iexact HA
  iapply (FilledTo.done (tile d L) 16 (by decide)) $$ HH

/-- Pass 2: the sixteen histograms added, at one block. -/
theorem addLoop2 (h1 : k0_cond1 L = 1#1) (p kp : BitVec 32) (a : ℕ → BitVec 32) (t : Fin k0_t14_loop.trips) {kk : IVec S16 32 → Prog (TpuEff nD τ sig (Elt F) Λ₀ (tile d L).2) α} :
    Held (tile d L) bA fullShare (a)
      ⊢ iprop((Held (tile d L) bA fullShare (a) -∗ wp frame (wpE defs₀ 𝒱₀ (tile d L) none) Set.univ (kk (addTo (F := F) a t.val 16)) Q)
        -∗ wp frame (wpE defs₀ 𝒱₀ (tile d L) none) Set.univ (Scf.Loop.for k0_t15_loop (k0_t15_ok L h1) k0_pay86 (k0_t15_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp t) >>= kk) Q) := by
  iintro HA Hk
  iapply (wp_loop (tile d L) k0_t15_loop 16 rfl (addStep (F := F) a t.val)
    (fun k => Held (tile d L) bA fullShare (a)) (fun k acc hacc => by
      have ho : k0_off17 t k 0 = 256 * k.val + 16 * t.val := by rw [k0_off17_eq]; rfl
      unfold k0_t15_body
      iintro HA
      iapply (wp_ld (tile d L) (256 * k.val + 16 * t.val) ho) $$ HA
      iintro HA
      iapply (wp_yield (tile d L))
      isplitr
      · ipureintro; rfl
      · iexact HA)) $$ [HA]
  · iexact HA
  iintro HA
  iapply Hk
  iexact HA

/-- Pass 2: the sixteen histograms added. -/
theorem totalLoop2 (h1 : k0_cond1 L = 1#1) (p kp : BitVec 32) (a : ℕ → BitVec 32) {kk : BitVec 32 → Prog (TpuEff nD τ sig (Elt F) Λ₀ (tile d L).2) α} :
    iprop(Held (tile d L) bA fullShare (a) ∗ FilledTo (tile d L) bH 0 (addTo (F := F) a · 16))
      ⊢ iprop((iprop(Held (tile d L) bA fullShare (a) ∗ Held (tile d L) bH fullShare (added (F := F) a)) -∗ wp frame (wpE defs₀ 𝒱₀ (tile d L) none) Set.univ (kk (0#32)) Q)
        -∗ wp frame (wpE defs₀ 𝒱₀ (tile d L) none) Set.univ (Scf.Loop.for k0_t14_loop (k0_t14_ok L h1) 0#32 (k0_t14_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp) >>= kk) Q) := by
  iintro ⟨HA, HH⟩ Hk
  iapply (wp_loop (tile d L) k0_t14_loop 16 rfl (fun _ _ => 0#32)
    (fun k => iprop(Held (tile d L) bA fullShare (a) ∗ FilledTo (tile d L) bH k (addTo (F := F) a · 16))) (fun k acc hacc => by
      have ho : k0_off18 k 0 = 16 * k.val := by rw [k0_off18_eq]; rfl
      unfold k0_t14_body
      iintro ⟨HA, HH⟩
      iapply (addLoop2 d L h1 p kp a k) $$ HA
      iintro HA
      iapply (wp_fill (tile d L) k.val ho ho rfl) $$ HH
      iintro HH
      iapply (wp_yield (tile d L))
      isplitr
      · ipureintro; rfl
      isplitl [HA] <;> iassumption)) $$ [HA HH]
  · isplitl [HA]; · iexact HA
    iexact HH
  iintro ⟨HA, HH⟩
  iapply Hk
  isplitl [HA]; · iexact HA
  iapply (FilledTo.done (tile d L) 16 (by decide)) $$ HH

/-- Pass 3: the sixteen histograms added, at one block. -/
theorem addLoop3 (h1 : k0_cond1 L = 1#1) (arg1 v3 : BitVec 32) (z0 z1 : BitVec 32) (v13 : IVec S16 32) (p kp c0 c1 : BitVec 32) (a : ℕ → BitVec 32) (t : Fin k0_t19_loop.trips) {kk : IVec S16 32 → Prog (TpuEff nD τ sig (Elt F) Λ₀ (tile d L).2) α} :
    Held (tile d L) bA fullShare (a)
      ⊢ iprop((Held (tile d L) bA fullShare (a) -∗ wp frame (wpE defs₀ 𝒱₀ (tile d L) none) Set.univ (kk (addTo (F := F) a t.val 16)) Q)
        -∗ wp frame (wpE defs₀ 𝒱₀ (tile d L) none) Set.univ (Scf.Loop.for k0_t20_loop (k0_t20_ok L h1) k0_pay109 (k0_t20_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v3 lanes z0 z1 v13 p kp c0 c1 t) >>= kk) Q) := by
  iintro HA Hk
  iapply (wp_loop (tile d L) k0_t20_loop 16 rfl (addStep (F := F) a t.val)
    (fun k => Held (tile d L) bA fullShare (a)) (fun k acc hacc => by
      have ho : k0_off22 t k 0 = 256 * k.val + 16 * t.val := by rw [k0_off22_eq]; rfl
      unfold k0_t20_body
      iintro HA
      iapply (wp_ld (tile d L) (256 * k.val + 16 * t.val) ho) $$ HA
      iintro HA
      iapply (wp_yield (tile d L))
      isplitr
      · ipureintro; rfl
      · iexact HA)) $$ [HA]
  · iexact HA
  iintro HA
  iapply Hk
  iexact HA

/-- Pass 3: the sixteen histograms added. -/
theorem totalLoop3 (h1 : k0_cond1 L = 1#1) (arg1 v3 : BitVec 32) (z0 z1 : BitVec 32) (v13 : IVec S16 32) (p kp c0 c1 : BitVec 32) (a : ℕ → BitVec 32) {kk : BitVec 32 → Prog (TpuEff nD τ sig (Elt F) Λ₀ (tile d L).2) α} :
    iprop(Held (tile d L) bA fullShare (a) ∗ FilledTo (tile d L) bH 0 (addTo (F := F) a · 16))
      ⊢ iprop((iprop(Held (tile d L) bA fullShare (a) ∗ Held (tile d L) bH fullShare (added (F := F) a)) -∗ wp frame (wpE defs₀ 𝒱₀ (tile d L) none) Set.univ (kk (0#32)) Q)
        -∗ wp frame (wpE defs₀ 𝒱₀ (tile d L) none) Set.univ (Scf.Loop.for k0_t19_loop (k0_t19_ok L h1) 0#32 (k0_t19_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v3 lanes z0 z1 v13 p kp c0 c1) >>= kk) Q) := by
  iintro ⟨HA, HH⟩ Hk
  iapply (wp_loop (tile d L) k0_t19_loop 16 rfl (fun _ _ => 0#32)
    (fun k => iprop(Held (tile d L) bA fullShare (a) ∗ FilledTo (tile d L) bH k (addTo (F := F) a · 16))) (fun k acc hacc => by
      have ho : k0_off23 k 0 = 16 * k.val := by rw [k0_off23_eq]; rfl
      unfold k0_t19_body
      iintro ⟨HA, HH⟩
      iapply (addLoop3 d L h1 arg1 v3 z0 z1 v13 p kp c0 c1 a k) $$ HA
      iintro HA
      iapply (wp_fill (tile d L) k.val ho ho rfl) $$ HH
      iintro HH
      iapply (wp_yield (tile d L))
      isplitr
      · ipureintro; rfl
      isplitl [HA] <;> iassumption)) $$ [HA HH]
  · isplitl [HA]; · iexact HA
    iexact HH
  iintro ⟨HA, HH⟩
  iapply Hk
  isplitl [HA]; · iexact HA
  iapply (FilledTo.done (tile d L) 16 (by decide)) $$ HH

/-- Pass 0: the bin taken. -/
theorem pickLoop0 (h1 : k0_cond1 L = 1#1)  (g : ℕ → BitVec 32) {kk : BitVec 32 × BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (pickTo (F := F) g 1638#32 16)) Q)
        -∗ wp frame (wpE defs₀ 𝒱₀ (tile d L) none) Set.univ (Scf.Loop.for k0_t6_loop (k0_t6_ok L h1) (0#32, 1000#32) (k0_t6_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes) >>= kk) Q) := by
  iintro HH Hk
  iapply (wp_loop (tile d L) k0_t6_loop 16 rfl (pickStep (F := F) g 1638#32)
    (fun k => Held (tile d L) bH fullShare (g)) (fun k acc hacc => by
      have ho : k0_off9 k 0 = 16 * k.val := by rw [k0_off9_eq]; rfl
      unfold k0_t6_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- Pass 0: the keys below the bin. -/
theorem belowLoop0 (h1 : k0_cond1 L = 1#1)  (b : BitVec 32) (g : ℕ → BitVec 32) {kk : BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (belowTo (F := F) g b 16)) Q)
        -∗ wp frame (wpE defs₀ 𝒱₀ (tile d L) none) Set.univ (Scf.Loop.for k0_t7_loop (k0_t7_ok L h1) 0#32 (k0_t7_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes b) >>= kk) Q) := by
  iintro HH Hk
  iapply (wp_loop (tile d L) k0_t7_loop 16 rfl (belowStep (F := F) g b)
    (fun k => Held (tile d L) bH fullShare (g)) (fun k acc hacc => by
      have ho : k0_off10 k 0 = 16 * k.val := by rw [k0_off10_eq]; rfl
      unfold k0_t7_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- Pass 1: the bin taken. -/
theorem pickLoop1 (h1 : k0_cond1 L = 1#1) (p kp : BitVec 32) (g : ℕ → BitVec 32) {kk : BitVec 32 × BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (pickTo (F := F) g kp 16)) Q)
        -∗ wp frame (wpE defs₀ 𝒱₀ (tile d L) none) Set.univ (Scf.Loop.for k0_t11_loop (k0_t11_ok L h1) (0#32, 1000#32) (k0_t11_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp) >>= kk) Q) := by
  iintro HH Hk
  iapply (wp_loop (tile d L) k0_t11_loop 16 rfl (pickStep (F := F) g kp)
    (fun k => Held (tile d L) bH fullShare (g)) (fun k acc hacc => by
      have ho : k0_off14 k 0 = 16 * k.val := by rw [k0_off14_eq]; rfl
      unfold k0_t11_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- Pass 1: the keys below the bin. -/
theorem belowLoop1 (h1 : k0_cond1 L = 1#1) (p kp : BitVec 32) (b : BitVec 32) (g : ℕ → BitVec 32) {kk : BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (belowTo (F := F) g b 16)) Q)
        -∗ wp frame (wpE defs₀ 𝒱₀ (tile d L) none) Set.univ (Scf.Loop.for k0_t12_loop (k0_t12_ok L h1) 0#32 (k0_t12_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp b) >>= kk) Q) := by
  iintro HH Hk
  iapply (wp_loop (tile d L) k0_t12_loop 16 rfl (belowStep (F := F) g b)
    (fun k => Held (tile d L) bH fullShare (g)) (fun k acc hacc => by
      have ho : k0_off15 k 0 = 16 * k.val := by rw [k0_off15_eq]; rfl
      unfold k0_t12_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- Pass 2: the bin taken. -/
theorem pickLoop2 (h1 : k0_cond1 L = 1#1) (p kp : BitVec 32) (g : ℕ → BitVec 32) {kk : BitVec 32 × BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (pickTo (F := F) g kp 16)) Q)
        -∗ wp frame (wpE defs₀ 𝒱₀ (tile d L) none) Set.univ (Scf.Loop.for k0_t16_loop (k0_t16_ok L h1) (0#32, 1000#32) (k0_t16_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp) >>= kk) Q) := by
  iintro HH Hk
  iapply (wp_loop (tile d L) k0_t16_loop 16 rfl (pickStep (F := F) g kp)
    (fun k => Held (tile d L) bH fullShare (g)) (fun k acc hacc => by
      have ho : k0_off19 k 0 = 16 * k.val := by rw [k0_off19_eq]; rfl
      unfold k0_t16_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- Pass 2: the keys below the bin. -/
theorem belowLoop2 (h1 : k0_cond1 L = 1#1) (p kp : BitVec 32) (b : BitVec 32) (g : ℕ → BitVec 32) {kk : BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (belowTo (F := F) g b 16)) Q)
        -∗ wp frame (wpE defs₀ 𝒱₀ (tile d L) none) Set.univ (Scf.Loop.for k0_t17_loop (k0_t17_ok L h1) 0#32 (k0_t17_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes p kp b) >>= kk) Q) := by
  iintro HH Hk
  iapply (wp_loop (tile d L) k0_t17_loop 16 rfl (belowStep (F := F) g b)
    (fun k => Held (tile d L) bH fullShare (g)) (fun k acc hacc => by
      have ho : k0_off20 k 0 = 16 * k.val := by rw [k0_off20_eq]; rfl
      unfold k0_t17_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- Pass 3: the bin taken. -/
theorem pickLoop3 (h1 : k0_cond1 L = 1#1) (arg1 v3 : BitVec 32) (z0 z1 : BitVec 32) (v13 : IVec S16 32) (p kp c0 c1 : BitVec 32) (g : ℕ → BitVec 32) {kk : BitVec 32 × BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (pickTo (F := F) g kp 16)) Q)
        -∗ wp frame (wpE defs₀ 𝒱₀ (tile d L) none) Set.univ (Scf.Loop.for k0_t21_loop (k0_t21_ok L h1) (0#32, 1000#32) (k0_t21_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v3 lanes z0 z1 v13 p kp c0 c1) >>= kk) Q) := by
  iintro HH Hk
  iapply (wp_loop (tile d L) k0_t21_loop 16 rfl (pickStep (F := F) g kp)
    (fun k => Held (tile d L) bH fullShare (g)) (fun k acc hacc => by
      have ho : k0_off24 k 0 = 16 * k.val := by rw [k0_off24_eq]; rfl
      unfold k0_t21_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- Pass 3: the keys below the bin. -/
theorem belowLoop3 (h1 : k0_cond1 L = 1#1) (arg1 v3 : BitVec 32) (z0 z1 : BitVec 32) (v13 : IVec S16 32) (p kp c0 c1 : BitVec 32) (b : BitVec 32) (g : ℕ → BitVec 32) {kk : BitVec 32 → Prog (TpuEff nD τ sig (Elt F) Λ₀ (tile d L).2) α} :
    Held (tile d L) bH fullShare (g)
      ⊢ iprop((Held (tile d L) bH fullShare (g) -∗ wp frame (wpE defs₀ 𝒱₀ (tile d L) none) Set.univ (kk (belowTo (F := F) g b 16)) Q)
        -∗ wp frame (wpE defs₀ 𝒱₀ (tile d L) none) Set.univ (Scf.Loop.for k0_t22_loop (k0_t22_ok L h1) 0#32 (k0_t22_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v3 lanes z0 z1 v13 p kp c0 c1 b) >>= kk) Q) := by
  iintro HH Hk
  iapply (wp_loop (tile d L) k0_t22_loop 16 rfl (belowStep (F := F) g b)
    (fun k => Held (tile d L) bH fullShare (g)) (fun k acc hacc => by
      have ho : k0_off25 k 0 = 16 * k.val := by rw [k0_off25_eq]; rfl
      unfold k0_t22_body
      iintro HH
      iapply (wp_ld (tile d L) (16 * k.val) ho) $$ HH
      iintro HH
      iapply (wp_yield (tile d L))
      isplitr
      · ipureintro; rfl
      · iexact HH)) $$ [HH]
  · iexact HH
  iintro HH
  iapply Hk
  iexact HH

/-- The sums of the tile. -/
theorem sumsLoop (h1 : k0_cond1 L = 1#1) (arg1 : BitVec 32) {v3 z0 z1 v190 : BitVec 32} (v13 : IVec S16 32) (p kp c0 c1 : BitVec 32) (h3 : v3 = Scalar.muli (BitVec.ofNat 32 (jL L).val) 1024#32)
    (hz0 : z0 = (zerosTo (counts B Y) (jL L).val 16).1) (hz1 : z1 = (zerosTo (counts B Y) (jL L).val 16).2) (hcut : v190 = cut (F := F) D) {kk : BitVec 32 × F .f32 × F .f32 × BitVec 32 → Prog (TpuEff nD τ sig (Elt F) Λ₀ (tile d L).2) α} :
    iprop(Held (tile d L) bU fullShare (keys D (jL L).val) ∗ Held (tile d L) bD fullShare (chunk D (jL L).val) ∗ Held (tile d L) bY fullShare (chunk Y (jL L).val) ∗ Held (tile d L) bC fullShare (chunk C (jL L).val))
      ⊢ iprop((iprop(Held (tile d L) bU fullShare (keys D (jL L).val) ∗ Held (tile d L) bD fullShare (chunk D (jL L).val) ∗ Held (tile d L) bY fullShare (chunk Y (jL L).val) ∗ Held (tile d L) bC fullShare (chunk C (jL L).val)) -∗ wp frame (wpE defs₀ 𝒱₀ (tile d L) none) Set.univ (kk (sumsTo D C B Y (jL L).val 64)) Q)
        -∗ wp frame (wpE defs₀ 𝒱₀ (tile d L) none) Set.univ (Scf.Loop.for k0_t23_loop (k0_t23_ok L h1) (0#32, Scalar.ofBits .f32 0x00000000#32, Scalar.ofBits .f32 0x00000000#32, 0#32) (k0_t23_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 v3 lanes z0 z1 v13 p kp c0 c1 v190) >>= kk) Q) := by
  iintro ⟨HU, HD, HY, HC⟩ Hk
  iapply (wp_loop (tile d L) k0_t23_loop 64 rfl (sumsStep D C B Y (jL L).val)
    (fun k => iprop(Held (tile d L) bU fullShare (keys D (jL L).val) ∗ Held (tile d L) bD fullShare (chunk D (jL L).val) ∗ Held (tile d L) bY fullShare (chunk Y (jL L).val) ∗ Held (tile d L) bC fullShare (chunk C (jL L).val))) (fun k acc hacc => by
      subst h3 hz0 hz1 hcut
      have ho : k0_off26 k 0 = 16 * k.val := by rw [k0_off26_eq]; rfl
      unfold k0_t23_body
      rw [k0_part2_eq_skeleton, k0_part3_eq_skeleton]
      unfold k0_part2_skel k0_part3_skel
      iintro ⟨HU, HD, HY, HC⟩
      iapply (wp_ld (tile d L) (16 * k.val) ho) $$ HU
      iintro HU
      iapply (wp_ld (tile d L) (16 * k.val) ho) $$ HD
      iintro HD
      iapply (wp_ld (tile d L) (16 * k.val) ho) $$ HY
      iintro HY
      iapply (wp_ld (tile d L) (16 * k.val) ho) $$ HC
      iintro HC
      iapply (wp_yield (tile d L))
      isplitr
      · ipureintro; rfl
      isplitl [HU]; · iexact HU
      isplitl [HD]; · iexact HD
      isplitl [HY]; · iexact HY
      iexact HC)) $$ [HU HD HY HC]
  · isplitl [HU]; · iexact HU
    isplitl [HD]; · iexact HD
    isplitl [HY]; · iexact HY
    iexact HC
  iintro ⟨HU, HD, HY, HC⟩
  iapply Hk
  isplitl [HU]; · iexact HU
  isplitl [HD]; · iexact HD
  isplitl [HY]; · iexact HY
  iexact HC

/-- The tiles' parts added. -/
theorem sumLoop (h1 : k0_cond1 L = 1#1) (h2 : k0_cond2 L = 1#1) (p : ℕ → Elt F .f32) {kk : FVec F S16 .f32 → Prog (TpuEff nD τ sig (Elt F) Λ₀ (tile d L).2) α} :
    Held (tile d L) bP fullShare (p)
      ⊢ iprop((Held (tile d L) bP fullShare (p) -∗ wp frame (wpE defs₀ 𝒱₀ (tile d L) none) Set.univ (kk (sumTo p 16)) Q)
        -∗ wp frame (wpE defs₀ 𝒱₀ (tile d L) none) Set.univ (Scf.Loop.for k0_t24_loop (k0_t24_ok L h1 h2) (k0_pay2 (F := F)) (k0_t24_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 h2) >>= kk) Q) := by
  iintro HP Hk
  iapply (wp_loop (tile d L) k0_t24_loop 16 rfl (sumStep p)
    (fun k => Held (tile d L) bP fullShare (p)) (fun k acc hacc => by
      have ho : k0_off27 k 0 = 16 * k.val := by rw [k0_off27_eq]; rfl
      unfold k0_t24_body
      iintro HP
      iapply (wp_ld (tile d L) (16 * k.val) ho) $$ HP
      iintro HP
      iapply (wp_yield (tile d L))
      isplitr
      · ipureintro; rfl
      · iexact HP)) $$ [HP]
  · iexact HP
  iintro HP
  iapply Hk
  iexact HP

end Loops

end Cert.Proof.K

end
-- ==== Proof.Rows.lean ====
/-
  Rows of the columns and of the shared scratch: which elements a tile's row is, the shares in which rows are read,
  and the passage between a memref's sequence and its points-to.
-/
module

public import proofs.«01_k».proof.Proof.Loops
public import Idealize.ShloMosaic.Lib.ViewIndex

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ
theorem all_emp {J : Type} (s : Finset J) : (bigSep s fun _ : J => (iprop(emp) : sProp 𝕄)) = iprop(emp) := bigSep_emp_const s

/-! ## Contents and the points-to of a memref -/

section Pts

variable (thr : Thread nD τ) {sp : Space} {n : ℕ} {e : EltTy} {m : Memref sig thr.2.kind sp ⟨1, ![n]⟩ e} {q : PosShare TreeShare} {g : ℕ → Elt F e} {f : Buf (Elt F) (m.view.loc thr)}

theorem Held.toPts (h : m.view.read (Elt F) f = buf n g) : (Held thr m q g : sProp 𝕄) ⊢ (m.view.loc thr ↦[m.view.set]{q} f) := by
  unfold Held
  iintro ⟨%f', %hf', H⟩
  have e : ∀ i ∈ m.view.set, f' i = f i := fun i hi => by
    obtain ⟨x, -, rfl⟩ := Finset.mem_map.mp hi
    exact View.eq_of_read_eq (Val := Elt F) (congrFun (hf'.trans h.symm) x)
  ihave H' := (Entails.of_eq (pointsTo_congr e)) $$ H
  iexact H'

theorem Held.ofPts (h : m.view.read (Elt F) f = buf n g) : (m.view.loc thr ↦[m.view.set]{q} f : sProp 𝕄) ⊢ Held thr m q g := by
  unfold Held
  iintro H; iexists f; isplitr
  · ipureintro; exact h
  · iexact H

/-- The first elements of a memref apart, and back at whatever they hold then. -/
theorem Held.sub [NeZero n] {k : ℕ} {off : Fin 1 → ℕ} {inb : ∀ a, off a + (⟨1, ![k]⟩ : Shape).size a ≤ (⟨1, ![n]⟩ : Shape).size a} {hs} (g' : ℕ → Elt F e) :
    (Held thr m fullShare g : sProp 𝕄) ⊢ iprop(Held thr (m.slice (Rect.unit (s := ⟨1, ![n]⟩) off (⟨1, ![k]⟩ : Shape).size inb) hs) fullShare (fun x => g (off 0 + x))
      ∗ (Held thr (m.slice (Rect.unit (s := ⟨1, ![n]⟩) off (⟨1, ![k]⟩ : Shape).size inb) hs) fullShare g' -∗ ∃ g'', Held thr m fullShare g'')) := by
  have hsub : (m.slice (Rect.unit (s := ⟨1, ![n]⟩) off (⟨1, ![k]⟩ : Shape).size inb) hs).view.set ⊆ m.view.set := View.set_slice_subset _ _
  iintro H
  unfold Held
  icases H with ⟨%f, %hf, H⟩
  have hu := pointsTo_union (ℓ := m.view.loc thr) (q := fullShare) (f := f) (Ix := HIx 11) (Name := ℕ) (U := UU) (Lvl := ℕ) (Finset.disjoint_sdiff (s := (m.slice (Rect.unit (s := ⟨1, ![n]⟩) off (⟨1, ![k]⟩ : Shape).size inb) hs).view.set) (t := m.view.set))
  rw [Finset.union_sdiff_of_subset hsub] at hu
  ihave H' := hu.1 $$ H
  icases H' with ⟨H1, H2⟩
  isplitl [H1]
  · iexists f; isplitr
    · ipureintro
      funext x
      show m.view.read (Elt F) f _ = _
      rw [hf]
      show g (off 0 + 1 * (x 0).val) = g (off 0 + (x 0).val)
      rw [Nat.one_mul]
    · iexact H1
  · iintro ⟨%f', -, H1⟩
    ihave H := (pointsTo_join_subset (ℓ := m.view.loc thr) hsub) $$ [H1 H2]
    · isplitl [H1] <;> iassumption
    ihave H' := (Held.of_buf thr) $$ H
    unfold Held
    iexists _; iexact H'

end Pts

/-! ## Rows -/

theorem unit_eq_part {n k : ℕ} (hdiv : 16 ∣ (⟨1, ![n]⟩ : Shape).size 0) (hk : n / 16 = k) {off : Fin 1 → ℕ} {i : Fin 16} (ho : off 0 = k * i.val)
    (inb : ∀ a, off a + (⟨1, ![k]⟩ : Shape).size a ≤ (⟨1, ![n]⟩ : Shape).size a) :
    Rect.unit (s := ⟨1, ![n]⟩) off (⟨1, ![k]⟩ : Shape).size inb = Rect.part (s := ⟨1, ![n]⟩) (a₀ := 0) hdiv i := by
  unfold Rect.part Rect.block
  congr 1 <;> funext a
  · match a with
    | 0 => simp [Shape.partIx, Shape.partSize, hk, ho, Nat.mul_comm]
  · match a with
    | 0 => simp [Shape.partSize, hk]

section Deal

variable {ℓ : Loc nD τ sig} {S : Fin 16 → Finset (Idx ℓ)} (f : Buf (Elt F) ℓ)

/-- The shares of the sixteen readers. -/
abbrev dealt (j : Fin 16) : PosShare TreeShare := Transfers.dealOf fullShare Finset.univ j

/-- A row in shares, one for each reader. -/
theorem row_deal (i : Fin 16) : (ℓ ↦[S i]{fullShare} f : sProp 𝕄) = bigSep Finset.univ fun j => ℓ ↦[S i]{dealt j} f :=
  Transfers.pointsTo_deal Finset.univ ⟨0, Finset.mem_univ _⟩ fullShare

/-- All the rows at a share are the whole at it. -/
theorem rows_whole (hd : ∀ i j, i ≠ j → Disjoint (S i) (S j)) (hu : Finset.univ.biUnion S = Finset.univ) (q : PosShare TreeShare) :
    (bigSep Finset.univ fun i => ℓ ↦[S i]{q} f : sProp 𝕄) = ℓ ↦[Finset.univ]{q} f := by
  rw [← hu, pointsTo_biUnion Finset.univ S fun i _ j _ h => hd i j h]

end Deal

/-- The SparseCore's shared scratch: the histograms and the vectors of partial results. -/
abbrev locH (d : Dev nD) (c : Fin τ.nSC) : Loc nD τ sig := (d, ⟨.shared, ⟨0, by decide⟩, c⟩)
abbrev locP (d : Dev nD) (c : Fin τ.nSC) : Loc nD τ sig := (d, ⟨.shared, ⟨1, by decide⟩, c⟩)

/-- The columns and the result. -/
abbrev locD (d : Dev nD) : Loc nD τ sig := (d.tc : Thread nD τ).loc main_arg0
abbrev locC (d : Dev nD) : Loc nD τ sig := (d.tc : Thread nD τ).loc main_arg1
abbrev locB (d : Dev nD) : Loc nD τ sig := (d.tc : Thread nD τ).loc main_arg2
abbrev locY (d : Dev nD) : Loc nD τ sig := (d.tc : Thread nD τ).loc main_arg3
abbrev locO (d : Dev nD) : Loc nD τ sig := (d.tc : Thread nD τ).loc main_v0

theorem div_H : 16 ∣ S4096.size 0 := ⟨256, rfl⟩
theorem div_P : 16 ∣ S256.size 0 := ⟨16, rfl⟩
theorem div_X : 16 ∣ S16384.size 0 := ⟨1024, rfl⟩
/-- Row `i` of sixteen of a column, of the histograms and of the partial results. -/
abbrev setX (i : Fin 16) : Finset S16384.Idx := (Rect.part (s := S16384) (a₀ := 0) div_X i).set
abbrev setH (i : Fin 16) : Finset S4096.Idx := (Rect.part (s := S4096) (a₀ := 0) div_H i).set
abbrev setP (i : Fin 16) : Finset S256.Idx := (Rect.part (s := S256) (a₀ := 0) div_P i).set

section Rows

variable (d : Dev nD) (L : grid0.Coords) (h1 : k0_cond1 L = 1#1)

/-- The rows of the columns and of the shared scratch that a tile addresses. -/
abbrev rowD : Memref sig .scVector .hbm S1024 .f32 := mD.slice (Rect.unit (s := S16384) (k0_off1 L) S1024.size (k0_off1_inb L h1)) (fun _ => rfl)
abbrev rowC : Memref sig .scVector .hbm S1024 .f32 := mC.slice (Rect.unit (s := S16384) (k0_off1 L) S1024.size (k0_off1_inb L h1)) (fun _ => rfl)
abbrev rowB : Memref sig .scVector .hbm S1024 .f32 := mB.slice (Rect.unit (s := S16384) (k0_off1 L) S1024.size (k0_off1_inb L h1)) (fun _ => rfl)
abbrev rowY : Memref sig .scVector .hbm S1024 .i32 := mY.slice (Rect.unit (s := S16384) (k0_off1 L) S1024.size (k0_off1_inb L h1)) (fun _ => rfl)
abbrev rowH : Memref sig .scVector .shared S256 .i32 := sH.slice (Rect.unit (s := S4096) (k0_off6 L) S256.size (k0_off6_inb L h1)) (fun _ => rfl)
abbrev rowP : Memref sig .scVector .shared S16 .f32 := sP.slice (Rect.unit (s := S256) (k0_off3 L) S16.size (k0_off3_inb L h1)) (fun _ => rfl)

theorem off1_val : k0_off1 L 0 = 1024 * (jL L).val := by rw [k0_off1_eq]; rfl
theorem off3_val : k0_off3 L 0 = 16 * (jL L).val := by rw [k0_off3_eq]; rfl
theorem off6_val : k0_off6 L 0 = 256 * (jL L).val := by rw [k0_off6_eq]; rfl

theorem set_rowH : (rowH L h1).view.set = setH (jL L) := by
  show (sH.view.slice (Rect.unit (s := S4096) (k0_off6 L) S256.size (k0_off6_inb L h1))).set = _
  rw [unit_eq_part (n := 4096) (k := 256) div_H rfl (off6_val L) (k0_off6_inb L h1)]
  exact View.set_slice_whole _ _
theorem set_rowP : (rowP L h1).view.set = setP (jL L) := by
  show (sP.view.slice (Rect.unit (s := S256) (k0_off3 L) S16.size (k0_off3_inb L h1))).set = _
  rw [unit_eq_part (n := 256) (k := 16) div_P rfl (off3_val L) (k0_off3_inb L h1)]
  exact View.set_slice_whole _ _
theorem set_rowD : (rowD L h1).view.set = setX (jL L) := by
  show (mD.view.slice (Rect.unit (s := S16384) (k0_off1 L) S1024.size (k0_off1_inb L h1))).set = _
  rw [unit_eq_part (n := 16384) (k := 1024) div_X rfl (off1_val L) (k0_off1_inb L h1)]
  exact View.set_slice_whole _ _
theorem set_rowC : (rowC L h1).view.set = setX (jL L) := by
  show (mC.view.slice (Rect.unit (s := S16384) (k0_off1 L) S1024.size (k0_off1_inb L h1))).set = _
  rw [unit_eq_part (n := 16384) (k := 1024) div_X rfl (off1_val L) (k0_off1_inb L h1)]
  exact View.set_slice_whole _ _
theorem set_rowB : (rowB L h1).view.set = setX (jL L) := by
  show (mB.view.slice (Rect.unit (s := S16384) (k0_off1 L) S1024.size (k0_off1_inb L h1))).set = _
  rw [unit_eq_part (n := 16384) (k := 1024) div_X rfl (off1_val L) (k0_off1_inb L h1)]
  exact View.set_slice_whole _ _
theorem set_rowY : (rowY L h1).view.set = setX (jL L) := by
  show (mY.view.slice (Rect.unit (s := S16384) (k0_off1 L) S1024.size (k0_off1_inb L h1))).set = _
  rw [unit_eq_part (n := 16384) (k := 1024) div_X rfl (off1_val L) (k0_off1_inb L h1)]
  exact View.set_slice_whole _ _

variable {q : PosShare TreeShare}

/-- A tile's row of the histograms holds its part of `G`. -/
theorem rowH_to {g : ℕ → BitVec 32} (G : ℕ → BitVec 32) (h : ∀ k < 256, g k = G (256 * (jL L).val + k)) :
    (Held (tile d L) (rowH L h1) q g : sProp 𝕄) ⊢ (locH d (cV L) ↦[setH (jL L)]{q} (buf 4096 G : S4096.Idx → BitVec 32)) := by
  refine (Held.toPts (tile d L) (m := rowH L h1) (f := (buf 4096 G : S4096.Idx → BitVec 32)) ?_).trans (Entails.of_eq ?_)
  · funext x
    show G (k0_off6 L 0 + 1 * (x 0).val) = g (x 0).val
    rw [off6_val, h _ (x 0).isLt, Nat.one_mul]
  · exact set_rowH L h1 ▸ rfl
theorem rowP_to {g : ℕ → Elt F .f32} (G : ℕ → Elt F .f32) (h : ∀ k < 16, g k = G (16 * (jL L).val + k)) :
    (Held (tile d L) (rowP L h1) q g : sProp 𝕄) ⊢ (locP d (cV L) ↦[setP (jL L)]{q} (buf 256 G : S256.Idx → Elt F .f32)) := by
  refine (Held.toPts (tile d L) (m := rowP L h1) (f := (buf 256 G : S256.Idx → Elt F .f32)) ?_).trans (Entails.of_eq ?_)
  · funext x
    show G (k0_off3 L 0 + 1 * (x 0).val) = g (x 0).val
    rw [off3_val, h _ (x 0).isLt, Nat.one_mul]
  · exact set_rowP L h1 ▸ rfl

/-- A tile's row of the shared scratch, at whatever it holds. -/
theorem rowH_of (f : S4096.Idx → BitVec 32) :
    (locH d (cV L) ↦[setH (jL L)]{q} f : sProp 𝕄) ⊢ Held (tile d L) (rowH L h1) q (fun k => f (pos 4096 (256 * (jL L).val + k))) := by
  refine (Entails.of_eq ?_).trans (Held.ofPts (tile d L) (m := rowH L h1) (f := f) ?_)
  · exact set_rowH L h1 ▸ rfl
  · funext x
    show f _ = f _
    congr 1; funext a
    match a with
    | 0 =>
      apply Fin.ext
      show k0_off6 L 0 + 1 * (x 0).val = (256 * (jL L).val + (x 0).val) % 4096
      have h1 := (jL L).isLt
      have h2 : (x 0).val < 256 := (x 0).isLt
      rw [off6_val]; omega
theorem rowP_of (f : S256.Idx → Elt F .f32) :
    (locP d (cV L) ↦[setP (jL L)]{q} f : sProp 𝕄) ⊢ Held (tile d L) (rowP L h1) q (fun k => f (pos 256 (16 * (jL L).val + k))) := by
  refine (Entails.of_eq ?_).trans (Held.ofPts (tile d L) (m := rowP L h1) (f := f) ?_)
  · exact set_rowP L h1 ▸ rfl
  · funext x
    show f _ = f _
    congr 1; funext a
    match a with
    | 0 =>
      apply Fin.ext
      show k0_off3 L 0 + 1 * (x 0).val = (16 * (jL L).val + (x 0).val) % 256
      have h1 := (jL L).isLt
      have h2 : (x 0).val < 16 := (x 0).isLt
      rw [off3_val]; omega

theorem row_pos (x : S1024.Idx) : (Rect.unit (s := S16384) (k0_off1 L) S1024.size (k0_off1_inb L h1)).emb x = pos 16384 (1024 * (jL L).val + (x 0).val) := by
  funext a
  match a with
  | 0 =>
    apply Fin.ext
    show k0_off1 L 0 + 1 * (x 0).val = (1024 * (jL L).val + (x 0).val) % 16384
    have h1 := (jL L).isLt
    have h2 : (x 0).val < 1024 := (x 0).isLt
    rw [off1_val]; omega
/-- A tile's row of column 0. -/
theorem rowD_iff (f : S16384.Idx → Elt F .f32) :
    (locD d ↦[setX (jL L)]{q} f : sProp 𝕄) ⊣⊢ Held (tile d L) (rowD L h1) q (chunk (fun k => f (pos 16384 k)) (jL L).val) := by
  have hr : (rowD L h1).view.read (Elt F) f = buf 1024 (chunk (fun k => f (pos 16384 k)) (jL L).val) := by
    funext x
    exact congrArg f (row_pos L h1 x)
  exact ⟨(Entails.of_eq (set_rowD L h1 ▸ rfl)).trans (Held.ofPts (tile d L) hr), (Held.toPts (tile d L) hr).trans (Entails.of_eq (set_rowD L h1 ▸ rfl))⟩
/-- A tile's row of column 1. -/
theorem rowC_iff (f : S16384.Idx → Elt F .f32) :
    (locC d ↦[setX (jL L)]{q} f : sProp 𝕄) ⊣⊢ Held (tile d L) (rowC L h1) q (chunk (fun k => f (pos 16384 k)) (jL L).val) := by
  have hr : (rowC L h1).view.read (Elt F) f = buf 1024 (chunk (fun k => f (pos 16384 k)) (jL L).val) := by
    funext x
    exact congrArg f (row_pos L h1 x)
  exact ⟨(Entails.of_eq (set_rowC L h1 ▸ rfl)).trans (Held.ofPts (tile d L) hr), (Held.toPts (tile d L) hr).trans (Entails.of_eq (set_rowC L h1 ▸ rfl))⟩
/-- A tile's row of column 2. -/
theorem rowB_iff (f : S16384.Idx → Elt F .f32) :
    (locB d ↦[setX (jL L)]{q} f : sProp 𝕄) ⊣⊢ Held (tile d L) (rowB L h1) q (chunk (fun k => f (pos 16384 k)) (jL L).val) := by
  have hr : (rowB L h1).view.read (Elt F) f = buf 1024 (chunk (fun k => f (pos 16384 k)) (jL L).val) := by
    funext x
    exact congrArg f (row_pos L h1 x)
  exact ⟨(Entails.of_eq (set_rowB L h1 ▸ rfl)).trans (Held.ofPts (tile d L) hr), (Held.toPts (tile d L) hr).trans (Entails.of_eq (set_rowB L h1 ▸ rfl))⟩
/-- A tile's row of column 3. -/
theorem rowY_iff (f : S16384.Idx → Elt F .i32) :
    (locY d ↦[setX (jL L)]{q} f : sProp 𝕄) ⊣⊢ Held (tile d L) (rowY L h1) q (chunk (fun k => f (pos 16384 k)) (jL L).val) := by
  have hr : (rowY L h1).view.read (Elt F) f = buf 1024 (chunk (fun k => f (pos 16384 k)) (jL L).val) := by
    funext x
    exact congrArg f (row_pos L h1 x)
  exact ⟨(Entails.of_eq (set_rowY L h1 ▸ rfl)).trans (Held.ofPts (tile d L) hr), (Held.toPts (tile d L) hr).trans (Entails.of_eq (set_rowY L h1 ▸ rfl))⟩
/-- The whole shared scratch read by a tile. -/
theorem wholeH (G : ℕ → BitVec 32) : (locH d (cV L) ↦[Finset.univ]{q} (buf 4096 G : S4096.Idx → BitVec 32) : sProp 𝕄) ⊣⊢ Held (tile d L) sH q G :=
  ⟨(Entails.of_eq (by rw [View.set_whole]; rfl)).trans (Held.ofPts (tile d L) (m := sH) (f := (buf 4096 G : S4096.Idx → BitVec 32)) rfl),
    (Held.toPts (tile d L) (m := sH) (f := (buf 4096 G : S4096.Idx → BitVec 32)) rfl).trans (Entails.of_eq (by rw [View.set_whole]; rfl))⟩
theorem wholeP (G : ℕ → Elt F .f32) : (locP d (cV L) ↦[Finset.univ]{q} (buf 256 G : S256.Idx → Elt F .f32) : sProp 𝕄) ⊣⊢ Held (tile d L) sP q G :=
  ⟨(Entails.of_eq (by rw [View.set_whole]; rfl)).trans (Held.ofPts (tile d L) (m := sP) (f := (buf 256 G : S256.Idx → Elt F .f32)) rfl),
    (Held.toPts (tile d L) (m := sP) (f := (buf 256 G : S256.Idx → Elt F .f32)) rfl).trans (Entails.of_eq (by rw [View.set_whole]; rfl))⟩

end Rows

theorem disjH (i j : Fin 16) (h : i ≠ j) : Disjoint (setH i) (setH j) := Rect.part_disjoint div_H h
theorem coverH : Finset.univ.biUnion setH = Finset.univ := Rect.biUnion_part div_H

theorem disjP (i j : Fin 16) (h : i ≠ j) : Disjoint (setP i) (setP j) := Rect.part_disjoint div_P h
theorem coverP : Finset.univ.biUnion setP = Finset.univ := Rect.biUnion_part div_P

theorem disjX (i j : Fin 16) (h : i ≠ j) : Disjoint (setX i) (setX j) := Rect.part_disjoint div_X h
theorem coverX : Finset.univ.biUnion setX = Finset.univ := Rect.biUnion_part div_X

/-! ## What the tiles hand each other -/

section Pay

/-- Row `i` of the shared scratch in the share of reader `j`. -/
abbrev giveP (d : Dev nD) (c : Fin τ.nSC) (G : ℕ → Elt F .f32) (i j : Fin 16) : sProp 𝕄 := locP d c ↦[setP i]{dealt j} (buf 256 G : S256.Idx → Elt F .f32)
abbrev giveH (d : Dev nD) (c : Fin τ.nSC) (G : ℕ → BitVec 32) (i j : Fin 16) : sProp 𝕄 := locH d c ↦[setH i]{dealt j} (buf 4096 G : S4096.Idx → BitVec 32)

variable (D C B : ℕ → Elt F .f32) (Y : ℕ → BitVec 32)

/-- What tile `i` hands tile `j` at meeting `r`: at an even meeting the share of its row, at the odd one after it the share of `j`'s row
    back; at the last the rows of the partial results go to the first tile whole. -/
def pay (d : Dev nD) (c : Fin τ.nSC) (r : Fin 11) (i j : Fin 16) : sProp 𝕄 := match r with
  | 0 => giveP d c (counts B Y) i j
  | 1 => giveP d c (counts B Y) j i
  | 2 => giveH d c (hists0 D) i j
  | 3 => giveH d c (hists0 D) j i
  | 4 => giveH d c (hists1 D) i j
  | 5 => giveH d c (hists1 D) j i
  | 6 => giveH d c (hists2 D) i j
  | 7 => giveH d c (hists2 D) j i
  | 8 => giveH d c (hists3 D) i j
  | 9 => giveH d c (hists3 D) j i
  | 10 => if j = 0 then locP d c ↦[setP i]{fullShare} (buf 256 (parts D C B Y) : S256.Idx → Elt F .f32) else iprop(emp)

instance pay_storable (d : Dev nD) (c : Fin τ.nSC) (r : Fin 11) (i j : Fin 16) : BI.Storable (upEmb : UEmb _ 𝕄) (pay D C B Y d c r i j) := by
  match r with
  | 0 | 1 => exact (inferInstance : BI.Storable (upEmb : UEmb _ 𝕄) (giveP d c _ _ _))
  | 2 | 3 | 4 | 5 | 6 | 7 | 8 | 9 => exact (inferInstance : BI.Storable (upEmb : UEmb _ 𝕄) (giveH d c _ _ _))
  | 10 =>
    show BI.Storable (upEmb : UEmb _ 𝕄) (if j = 0 then _ else _)
    split <;> infer_instance

variable (d : Dev nD) (L : grid0.Coords) (h1 : k0_cond1 L = 1#1)
variable {O : CellTallies nD τ sig (HIx 11)} {W : Waits sig (HIx 11)} {κ : ℕ}
variable {α : Type} {Q : α → sProp (MT nD τ sig (HIx 11) (Elt F) ℕ UU ℕ)} {kk : PUnit → Prog (TpuEff nD τ sig (Elt F) Λ₀ (.scVector (cV L) (Fin.castLE hsub16 (jL L)))) α}
variable (hO : ∀ g ι, 0 < O g ι → 86 ≤ (K (F := F)).lev g ι)

/-- The levels and the meetings of the tile's SparseCore, and the tile before meeting `r`. -/
abbrev Near (κ : ℕ) : sProp 𝕄 := Around (pay D C B Y d (cV L)) d (cV L) κ
abbrev At (O : CellTallies nD τ sig (HIx 11)) (W : Waits sig (HIx 11)) (r : ℕ) : sProp 𝕄 := Standing d (cV L) (jL L) O W r

theorem last_give (c : Fin τ.nSC) (i : Fin 16) : (locP d c ↦[setP i]{fullShare} (buf 256 (parts D C B Y) : S256.Idx → Elt F .f32) : sProp 𝕄) ⊢ bigSep Finset.univ fun j => pay D C B Y d c 10 i j := by
  rw [SparseCore.bigSep_erase' (Finset.mem_univ (0 : Fin 16))]
  iintro H
  isplitl [H]
  · iapply (Entails.of_eq (show (locP d c ↦[setP i]{fullShare} (buf 256 (parts D C B Y) : S256.Idx → Elt F .f32)) = pay D C B Y d c 10 i 0 from rfl)) $$ H
  · rw [show (bigSep (Finset.univ.erase (0 : Fin 16)) (fun j => pay D C B Y d c 10 i j) : sProp 𝕄) = bigSep (Finset.univ.erase (0 : Fin 16)) fun _ => iprop(emp) from
      bigSep_congr fun j hj => if_neg (Finset.ne_of_mem_erase hj), all_emp]
    iempintro
theorem last_take : (bigSep Finset.univ fun j => pay D C B Y d (cV L) 10 j (jL L) : sProp 𝕄) ⊢ if jL L = 0 then Held (tile d L) sP fullShare (parts D C B Y) else iprop(emp) := by
  by_cases h : jL L = 0
  · rw [if_pos h, show (bigSep Finset.univ (fun j => pay D C B Y d (cV L) 10 j (jL L)) : sProp 𝕄) = bigSep Finset.univ fun j => locP d (cV L) ↦[setP j]{fullShare} (buf 256 (parts D C B Y) : S256.Idx → Elt F .f32) from
      bigSep_congr fun j _ => if_pos h, rows_whole _ disjP coverP]
    exact (wholeP d L _).1
  · rw [if_neg h, show (bigSep Finset.univ (fun j => pay D C B Y d (cV L) 10 j (jL L)) : sProp 𝕄) = bigSep Finset.univ fun _ => iprop(emp) from
      bigSep_congr fun j _ => if_neg h, all_emp]

include hO in
/-- A meeting at which each tile lets all read its row. -/
theorem meetH_out (r : Fin 11) (G : ℕ → BitVec 32) (hp : ∀ i j, pay D C B Y d (cV L) r i j = giveH d (cV L) G i j) (hr : r.val ≠ 10)
    {g : ℕ → BitVec 32} (hg : ∀ k < 256, g k = G (256 * (jL L).val + k)) :
    iprop(Near D C B Y d L κ ∗ At d L O W r.val ∗ Held (tile d L) (rowH L h1) fullShare g)
      ⊢ iprop((iprop(At d L O W (r.val + 1) ∗ Held (tile d L) sH (dealt (jL L)) G) -∗ wp frame (wpE defs₀ 𝒱₀ (tile d L) none) Set.univ (kk ⟨⟩) Q)
        -∗ wp frame (wpE defs₀ 𝒱₀ (tile d L) none) Set.univ (SparseCore.subcoreBarrier sc_bar0 16 hsub16 >>= kk) Q) := by
  iintro ⟨HA, HS, Hr⟩ Hk
  ihave Hr := (rowH_to d L h1 G hg) $$ Hr
  ihave Hr := (Entails.of_eq (row_deal _ _)) $$ Hr
  iapply (wp_barrier (pay := pay D C B Y d (cV L)) r hO) $$ [HA HS Hr]
  · isplitl [HA]; · iexact HA
    isplitl [HS]; · iexact HS
    iapply (Entails.of_eq (bigSep_congr fun j _ => (hp (jL L) j).symm)) $$ Hr
  iintro ⟨HS, Hr, -⟩
  iapply Hk
  isplitl [HS]; · iexact HS
  iapply (wholeH d L G).1
  ihave Hr := (Entails.of_eq (bigSep_congr fun j _ => hp j (jL L))) $$ Hr
  iapply (Entails.of_eq (rows_whole _ disjH coverH _)) $$ Hr
include hO in
/-- A meeting at which each tile gives the rows back. -/
theorem meetH_back (r : Fin 11) (G : ℕ → BitVec 32) (hp : ∀ i j, pay D C B Y d (cV L) r i j = giveH d (cV L) G j i) (hr : r.val ≠ 10) :
    iprop(Near D C B Y d L κ ∗ At d L O W r.val ∗ Held (tile d L) sH (dealt (jL L)) G)
      ⊢ iprop((iprop(At d L O W (r.val + 1) ∗ ∃ g, Held (tile d L) (rowH L h1) fullShare g) -∗ wp frame (wpE defs₀ 𝒱₀ (tile d L) none) Set.univ (kk ⟨⟩) Q)
        -∗ wp frame (wpE defs₀ 𝒱₀ (tile d L) none) Set.univ (SparseCore.subcoreBarrier sc_bar0 16 hsub16 >>= kk) Q) := by
  iintro ⟨HA, HS, Hr⟩ Hk
  ihave Hr := (wholeH d L G).2 $$ Hr
  ihave Hr := (Entails.of_eq (rows_whole _ disjH coverH _).symm) $$ Hr
  iapply (wp_barrier (pay := pay D C B Y d (cV L)) r hO) $$ [HA HS Hr]
  · isplitl [HA]; · iexact HA
    isplitl [HS]; · iexact HS
    iapply (Entails.of_eq (bigSep_congr fun j _ => (hp (jL L) j).symm)) $$ Hr
  iintro ⟨HS, Hr, -⟩
  iapply Hk
  isplitl [HS]; · iexact HS
  ihave Hr := (Entails.of_eq (bigSep_congr fun j _ => hp j (jL L))) $$ Hr
  ihave Hr := (Entails.of_eq (row_deal _ _).symm) $$ Hr
  ihave Hr := (rowH_of d L h1 _) $$ Hr
  iexists _; iexact Hr

include hO in
/-- A meeting at which each tile lets all read its row. -/
theorem meetP_out (r : Fin 11) (G : ℕ → Elt F .f32) (hp : ∀ i j, pay D C B Y d (cV L) r i j = giveP d (cV L) G i j) (hr : r.val ≠ 10)
    {g : ℕ → Elt F .f32} (hg : ∀ k < 16, g k = G (16 * (jL L).val + k)) :
    iprop(Near D C B Y d L κ ∗ At d L O W r.val ∗ Held (tile d L) (rowP L h1) fullShare g)
      ⊢ iprop((iprop(At d L O W (r.val + 1) ∗ Held (tile d L) sP (dealt (jL L)) G) -∗ wp frame (wpE defs₀ 𝒱₀ (tile d L) none) Set.univ (kk ⟨⟩) Q)
        -∗ wp frame (wpE defs₀ 𝒱₀ (tile d L) none) Set.univ (SparseCore.subcoreBarrier sc_bar0 16 hsub16 >>= kk) Q) := by
  iintro ⟨HA, HS, Hr⟩ Hk
  ihave Hr := (rowP_to d L h1 G hg) $$ Hr
  ihave Hr := (Entails.of_eq (row_deal _ _)) $$ Hr
  iapply (wp_barrier (pay := pay D C B Y d (cV L)) r hO) $$ [HA HS Hr]
  · isplitl [HA]; · iexact HA
    isplitl [HS]; · iexact HS
    iapply (Entails.of_eq (bigSep_congr fun j _ => (hp (jL L) j).symm)) $$ Hr
  iintro ⟨HS, Hr, -⟩
  iapply Hk
  isplitl [HS]; · iexact HS
  iapply (wholeP d L G).1
  ihave Hr := (Entails.of_eq (bigSep_congr fun j _ => hp j (jL L))) $$ Hr
  iapply (Entails.of_eq (rows_whole _ disjP coverP _)) $$ Hr
include hO in
/-- A meeting at which each tile gives the rows back. -/
theorem meetP_back (r : Fin 11) (G : ℕ → Elt F .f32) (hp : ∀ i j, pay D C B Y d (cV L) r i j = giveP d (cV L) G j i) (hr : r.val ≠ 10) :
    iprop(Near D C B Y d L κ ∗ At d L O W r.val ∗ Held (tile d L) sP (dealt (jL L)) G)
      ⊢ iprop((iprop(At d L O W (r.val + 1) ∗ ∃ g, Held (tile d L) (rowP L h1) fullShare g) -∗ wp frame (wpE defs₀ 𝒱₀ (tile d L) none) Set.univ (kk ⟨⟩) Q)
        -∗ wp frame (wpE defs₀ 𝒱₀ (tile d L) none) Set.univ (SparseCore.subcoreBarrier sc_bar0 16 hsub16 >>= kk) Q) := by
  iintro ⟨HA, HS, Hr⟩ Hk
  ihave Hr := (wholeP d L G).2 $$ Hr
  ihave Hr := (Entails.of_eq (rows_whole _ disjP coverP _).symm) $$ Hr
  iapply (wp_barrier (pay := pay D C B Y d (cV L)) r hO) $$ [HA HS Hr]
  · isplitl [HA]; · iexact HA
    isplitl [HS]; · iexact HS
    iapply (Entails.of_eq (bigSep_congr fun j _ => (hp (jL L) j).symm)) $$ Hr
  iintro ⟨HS, Hr, -⟩
  iapply Hk
  isplitl [HS]; · iexact HS
  ihave Hr := (Entails.of_eq (bigSep_congr fun j _ => hp j (jL L))) $$ Hr
  ihave Hr := (Entails.of_eq (row_deal _ _).symm) $$ Hr
  ihave Hr := (rowP_of d L h1 _) $$ Hr
  iexists _; iexact Hr

include hO in
/-- The last meeting: the first tile takes all the partial results. -/
theorem meet_last {g : ℕ → Elt F .f32} (hg : ∀ k < 16, g k = parts D C B Y (16 * (jL L).val + k)) :
    iprop(Near D C B Y d L κ ∗ At d L O W 10 ∗ Held (tile d L) (rowP L h1) fullShare g)
      ⊢ iprop((iprop(At d L O W 11 ∗ semVal (bcell d (cV L) (jL L)) 0 ∗ (if jL L = 0 then Held (tile d L) sP fullShare (parts D C B Y) else iprop(emp)))
          -∗ wp frame (wpE defs₀ 𝒱₀ (tile d L) none) Set.univ (kk ⟨⟩) Q)
        -∗ wp frame (wpE defs₀ 𝒱₀ (tile d L) none) Set.univ (SparseCore.subcoreBarrier sc_bar0 16 hsub16 >>= kk) Q) := by
  iintro ⟨HA, HS, Hr⟩ Hk
  ihave Hr := (rowP_to d L h1 (parts D C B Y) hg) $$ Hr
  iapply (wp_barrier (pay := pay D C B Y d (cV L)) 10 hO) $$ [HA HS Hr]
  · isplitl [HA]; · iexact HA
    isplitl [HS]; · iexact HS
    iapply (last_give D C B Y d (cV L) (jL L)) $$ Hr
  iintro ⟨HS, Hr, Hb⟩
  iapply Hk
  isplitl [HS]; · iexact HS
  isplitl [Hb]
  · ihave Hb := (Entails.of_eq (show (if (10 : Fin 11).val = 10 then semVal (bcell d (cV L) (jL L)) 0 else iprop(emp) : sProp 𝕄) = semVal (bcell d (cV L) (jL L)) 0 from rfl)) $$ Hb
    iexact Hb
  iapply (last_take D C B Y d L) $$ Hr

end Pay

end Cert.Proof.K

end
-- ==== Proof.Stages.lean ====
/-
  A tile's program from meeting to meeting.
-/
module

public import proofs.«01_k».proof.Proof.Rows

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ
/-- A transfer semaphore at rest. -/
abbrev Sm (d : Dev nD) (L : grid0.Coords) (s : DmaSems sig S_) : sProp 𝕄 := semVal (tile d L, SemLoc.dma s.sem) 0

/-- The first half of the small buffer. -/
abbrev bM16 : Memref sig .scVector .vmem S16 .f32 := bM.slice (Rect.unit (s := S32) ![0] S16.size inb_S32_S16_0) (fun _ => rfl)
theorem held_M (d : Dev nD) (L : grid0.Coords) (g : ℕ → Elt F .f32) :
    (Held (tile d L) bM fullShare g : sProp 𝕄) ⊢ iprop(Held (tile d L) bM16 fullShare g ∗ (Held (tile d L) bM16 fullShare g -∗ ∃ g', Held (tile d L) bM fullShare g')) := by
  have e : (fun x => g ((![0] : Fin 1 → ℕ) 0 + x)) = g := funext fun x => congrArg g (Nat.zero_add x)
  have h := Held.sub (F := F) (tile d L) (m := bM) (k := 16) (off := ![0]) (inb := inb_S32_S16_0) (hs := fun _ => rfl) (g := g) g
  rw [e] at h
  exact h

theorem lane_row (s k : ℕ) : lane (16 * s + k) = lane k := by
  funext a
  match a with
  | 0 => exact Fin.ext (show (16 * s + k) % 16 = k % 16 by omega)
/-- Row `s` of the counts, and of the histograms. -/
theorem counts_row (B : ℕ → Elt F .f32) (Y : ℕ → BitVec 32) (s : Fin 16) {g : ℕ → Elt F .f32} (hg : Filled 1 (fun _ => k0_pay19 (firstTo B Y s.val 64).2) g) (k : ℕ) (hk : k < 16) :
    g k = counts B Y (16 * s.val + k) := by
  rw [hg k (by omega)]
  show k0_pay19 (firstTo B Y s.val 64).2 (lane k) = k0_pay19 (firstTo B Y ((16 * s.val + k) / 16) 64).2 (lane (16 * s.val + k))
  rw [show (16 * s.val + k) / 16 = s.val by omega, lane_row s.val k]
theorem hists_row (By : Byte) (u : ℕ → ℕ → BitVec 32) (s : Fin 16) (k : ℕ) (hk : k < 256) : hist (F := F) By (u s.val) k = hists (F := F) By u (256 * s.val + k) := by
  unfold hists
  rw [show (256 * s.val + k) / 256 = s.val by omega, show (256 * s.val + k) % 256 = k by omega]

section Stages

set_option maxHeartbeats 1000000

variable (D C B : ℕ → Elt F .f32) (Y : ℕ → BitVec 32)
variable (d : Dev nD) (L : grid0.Coords) (h1 : k0_cond1 L = 1#1)
variable {O : CellTallies nD τ sig (HIx 11)} {W : Waits sig (HIx 11)} {κ : ℕ}
variable {α : Type} {Q : α → sProp (MT nD τ sig (HIx 11) (Elt F) ℕ UU ℕ)}
variable (hO0 : ∀ g, O g none = 0) (hO : ∀ g ι, 0 < O g ι → 86 ≤ (K (F := F)).lev g ι)

include hO0 hO in
/-- The histograms: each tile's into its row, all of them into every tile. -/
theorem exchange (r : ℕ) (hr : r + 1 < 10) (G : ℕ → BitVec 32) (hp : ∀ i j, pay D C B Y d (cV L) ⟨r, by omega⟩ i j = giveH d (cV L) G i j)
    (hp' : ∀ i j, pay D C B Y d (cV L) ⟨r + 1, by omega⟩ i j = giveH d (cV L) G j i) {g : ℕ → BitVec 32} (hg : ∀ k < 256, g k = G (256 * (jL L).val + k))
    {s s' : DmaSems sig S_} {a1 a2 a3 a4 a5 b1 b2 b3 b4 b5} {kk : PUnit → Prog (TpuEff nD τ sig (Elt F) Λ₀ (tile d L).2) α} :
    iprop(Near D C B Y d L κ ∗ At d L O W r ∗ Held (tile d L) bH fullShare (g) ∗ (∃ g, Held (tile d L) (rowH L h1) fullShare g) ∗ (∃ g, Held (tile d L) bA fullShare g) ∗ Sm d L s ∗ Sm d L s')
      ⊢ iprop((iprop(At d L O W (r + 1 + 1) ∗ Held (tile d L) bH fullShare (g) ∗ (∃ g, Held (tile d L) (rowH L h1) fullShare g) ∗ Held (tile d L) bA fullShare (G) ∗ Sm d L s ∗ Sm d L s') -∗ wp frame (wpE defs₀ 𝒱₀ (tile d L) none) Set.univ (kk ⟨⟩) Q)
        -∗ wp frame (wpE defs₀ 𝒱₀ (tile d L) none) Set.univ (Prog.lift (TpuEff.enqueueDma bH (.here (rowH L h1)) (.dma s.sem) a1 a2 a3) >>= fun _ => Prog.lift (.waitDma2 s.sem bH (rowH L h1) a4 a5) >>= fun _ => SparseCore.subcoreBarrier sc_bar0 16 hsub16 >>= fun _ => Prog.lift (TpuEff.enqueueDma sH (.here bA) (.dma s'.sem) b1 b2 b3) >>= fun _ => Prog.lift (.waitDma2 s'.sem sH bA b4 b5) >>= fun _ => SparseCore.subcoreBarrier sc_bar0 16 hsub16 >>= kk) Q) := by
  iintro ⟨#HN, HS, HH, ⟨%g₀, HR⟩, ⟨%g₁, HA⟩, Hs, Hs'⟩ Hk
  iapply (wp_copyS (i := jL L) (pay := pay D C B Y d (cV L)) (O := O) (W := W) (r := r) (by decide) hO0) $$ [HS HH HR Hs]
  · isplitr; · iexact HN
    isplitl [HS]; · iexact HS
    isplitl [HH]; · iexact HH
    isplitl [HR] <;> iassumption
  iintro ⟨HS, HH, HR, Hs⟩
  iapply (meetH_out D C B Y d L h1 hO ⟨r, by omega⟩ G hp (show r ≠ 10 by omega) hg) $$ [HS HR]
  · isplitr; · iexact HN
    isplitl [HS] <;> iassumption
  iintro ⟨HS, HR⟩
  iapply (wp_copyS (i := jL L) (pay := pay D C B Y d (cV L)) (O := O) (W := W) (r := r + 1) (by decide) hO0) $$ [HS HR HA Hs']
  · isplitr; · iexact HN
    isplitl [HS]; · iexact HS
    isplitl [HR]; · iexact HR
    isplitl [HA] <;> iassumption
  iintro ⟨HS, HR, HA, Hs'⟩
  iapply (meetH_back D C B Y d L h1 hO ⟨r + 1, by omega⟩ G hp' (show r + 1 ≠ 10 by omega)) $$ [HS HR]
  · isplitr; · iexact HN
    isplitl [HS] <;> iassumption
  iintro ⟨HS, HR⟩
  iapply Hk
  isplitl [HS]; · iexact HS
  isplitl [HH]; · iexact HH
  isplitl [HR]; · iexact HR
  isplitl [HA]; · iexact HA
  isplitl [Hs] <;> iassumption

include hO0 hO in
/-- The columns in; the keys; the zeros of each chunk counted and the counts into every tile. -/
theorem stage4 (arg1 : BitVec 32) {kk : (Σ' (_ : BitVec 32) (_ : IVec S16 32), F .f32) → Prog (TpuEff nD τ sig (Elt F) Λ₀ (tile d L).2) α} :
    iprop(Near D C B Y d L κ ∗ At d L O W 0 ∗ Held (tile d L) (rowD L h1) fullShare (chunk D (jL L).val) ∗ Held (tile d L) (rowC L h1) fullShare (chunk C (jL L).val) ∗ Held (tile d L) (rowB L h1) fullShare (chunk B (jL L).val) ∗ Held (tile d L) (rowY L h1) fullShare (chunk Y (jL L).val) ∗ (∃ g, Held (tile d L) bD fullShare g) ∗ (∃ g, Held (tile d L) bC fullShare g) ∗ (∃ g, Held (tile d L) bB fullShare g) ∗ (∃ g, Held (tile d L) bY fullShare g) ∗ (∃ g, Held (tile d L) bU fullShare g) ∗ (∃ g, Held (tile d L) bM fullShare g) ∗ (∃ g, Held (tile d L) bP fullShare g) ∗ (∃ g, Held (tile d L) (rowP L h1) fullShare g) ∗ Sm d L cc0_scoped0 ∗ Sm d L cc0_scoped1 ∗ Sm d L cc0_scoped2 ∗ Sm d L cc0_scoped3 ∗ Sm d L cc0_scoped4 ∗ Sm d L cc0_scoped5)
      ⊢ iprop((iprop(At d L O W 1 ∗ Held (tile d L) (rowD L h1) fullShare (chunk D (jL L).val) ∗ Held (tile d L) (rowC L h1) fullShare (chunk C (jL L).val) ∗ Held (tile d L) (rowB L h1) fullShare (chunk B (jL L).val) ∗ Held (tile d L) (rowY L h1) fullShare (chunk Y (jL L).val) ∗ Held (tile d L) bD fullShare (chunk D (jL L).val) ∗ Held (tile d L) bC fullShare (chunk C (jL L).val) ∗ Held (tile d L) bB fullShare (chunk B (jL L).val) ∗ Held (tile d L) bY fullShare (chunk Y (jL L).val) ∗ Held (tile d L) bU fullShare (keys D (jL L).val) ∗ (∃ g, Held (tile d L) bM fullShare g) ∗ Held (tile d L) bP fullShare (counts B Y) ∗ Held (tile d L) sP (dealt (jL L)) (counts B Y) ∗ Sm d L cc0_scoped0 ∗ Sm d L cc0_scoped1 ∗ Sm d L cc0_scoped2 ∗ Sm d L cc0_scoped3 ∗ Sm d L cc0_scoped4 ∗ Sm d L cc0_scoped5) -∗ wp frame (wpE defs₀ 𝒱₀ (tile d L) none) Set.univ (kk ⟨Scalar.muli arg1 1024#32, lanes, (firstTo B Y (jL L).val 64).1⟩) Q)
        -∗ wp frame (wpE defs₀ 𝒱₀ (tile d L) none) Set.univ (k0_part4 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h1 >>= kk) Q) := by
  rw [k0_part4_eq_skeleton]
  unfold k0_part4_skel
  simp only [bind_assoc, pure_bind]
  iintro ⟨#HN, HS, HrD, HrC, HrB, HrY, ⟨%fD, HD⟩, ⟨%fC, HC⟩, ⟨%fB, HB⟩, ⟨%fY, HY⟩, ⟨%fU, HU⟩, ⟨%fM, HM⟩, ⟨%fP, HP⟩, ⟨%fR, HR⟩, H0, H1, H2, H3, H4, H5⟩ Hk
  iapply (wp_copyS (i := jL L) (pay := pay D C B Y d (cV L)) (O := O) (W := W) (r := 0) (by decide) hO0) $$ [HS HrD HD H0]
  · isplitr; · iexact HN
    isplitl [HS]; · iexact HS
    isplitl [HrD]; · iexact HrD
    isplitl [HD] <;> iassumption
  iintro ⟨HS, HrD, HD, H0⟩
  iapply (wp_copyS (i := jL L) (pay := pay D C B Y d (cV L)) (O := O) (W := W) (r := 0) (by decide) hO0) $$ [HS HrC HC H1]
  · isplitr; · iexact HN
    isplitl [HS]; · iexact HS
    isplitl [HrC]; · iexact HrC
    isplitl [HC] <;> iassumption
  iintro ⟨HS, HrC, HC, H1⟩
  iapply (wp_copyS (i := jL L) (pay := pay D C B Y d (cV L)) (O := O) (W := W) (r := 0) (by decide) hO0) $$ [HS HrB HB H2]
  · isplitr; · iexact HN
    isplitl [HS]; · iexact HS
    isplitl [HrB]; · iexact HrB
    isplitl [HB] <;> iassumption
  iintro ⟨HS, HrB, HB, H2⟩
  iapply (wp_copyS (i := jL L) (pay := pay D C B Y d (cV L)) (O := O) (W := W) (r := 0) (by decide) hO0) $$ [HS HrY HY H3]
  · isplitr; · iexact HN
    isplitl [HS]; · iexact HS
    isplitl [HrY]; · iexact HrY
    isplitl [HY] <;> iassumption
  iintro ⟨HS, HrY, HY, H3⟩
  ihave HU := (FilledTo.start (tile d L) (w := fun t => k0_pay5 (F := F) (seg (chunk D (jL L).val) (16 * t))) fU) $$ HU
  iapply (loop1 D B Y d L h1 arg1) $$ [HD HB HY HU]
  · isplitl [HD]; · iexact HD
    isplitl [HB]; · iexact HB
    isplitl [HY] <;> iassumption
  iintro ⟨HD, HB, HY, HU⟩
  ihave HM := (FilledTo.start (tile d L) (w := fun _ => k0_pay19 (firstTo B Y (jL L).val 64).2) fM) $$ HM
  iapply (wp_fill (tile d L) 0 rfl rfl rfl) $$ HM; iintro HM
  unfold FilledTo
  icases HM with ⟨%gM, %hM, HM⟩
  ihave HM := (held_M d L gM) $$ HM
  icases HM with ⟨HM, Hback⟩
  iapply (wp_copyS (i := jL L) (pay := pay D C B Y d (cV L)) (O := O) (W := W) (r := 0) (ms := bM16) (g := gM) (by decide) hO0) $$ [HS HM HR H4]
  · isplitr; · iexact HN
    isplitl [HS]; · iexact HS
    isplitl [HM]; · iexact HM
    isplitl [HR] <;> iassumption
  iintro ⟨HS, HM, HR, H4⟩
  ihave HM := Hback $$ HM
  iapply (meetP_out D C B Y d L h1 hO ⟨0, by decide⟩ (counts B Y) (fun _ _ => rfl) (by decide) (fun k hk => counts_row B Y (jL L) hM k hk)) $$ [HS HR]
  · isplitr; · iexact HN
    isplitl [HS] <;> iassumption
  iintro ⟨HS, HR⟩
  iapply (wp_copyS (i := jL L) (pay := pay D C B Y d (cV L)) (O := O) (W := W) (r := 1) (by decide) hO0) $$ [HS HR HP H5]
  · isplitr; · iexact HN
    isplitl [HS]; · iexact HS
    isplitl [HR]; · iexact HR
    isplitl [HP] <;> iassumption
  iintro ⟨HS, HR, HP, H5⟩
  iapply Hk
  isplitl [HS]; · iexact HS
  isplitl [HrD]; · iexact HrD
  isplitl [HrC]; · iexact HrC
  isplitl [HrB]; · iexact HrB
  isplitl [HrY]; · iexact HrY
  isplitl [HD]; · iexact HD
  isplitl [HC]; · iexact HC
  isplitl [HB]; · iexact HB
  isplitl [HY]; · iexact HY
  isplitl [HU]; · iexact HU
  isplitl [HM]; · iexact HM
  isplitl [HP]; · iexact HP
  isplitl [HR]; · iexact HR
  isplitl [H0]; · iexact H0
  isplitl [H1]; · iexact H1
  isplitl [H2]; · iexact H2
  isplitl [H3]; · iexact H3
  isplitl [H4]; · iexact H4
  iexact H5

include hO0 hO in
/-- The zeros before the tile's chunk and in all. -/
theorem stage5  {kk : (Σ' (_ : BitVec 32) (_ : BitVec 32) (_ : IVec S16 32), IVec S16 32) → Prog (TpuEff nD τ sig (Elt F) Λ₀ (tile d L).2) α} :
    iprop(Near D C B Y d L κ ∗ At d L O W 1 ∗ Held (tile d L) bP fullShare (counts B Y) ∗ Held (tile d L) sP (dealt (jL L)) (counts B Y) ∗ (∃ g, Held (tile d L) bH fullShare g))
      ⊢ iprop((iprop(At d L O W 2 ∗ Held (tile d L) bP fullShare (counts B Y) ∗ (∃ g, Held (tile d L) (rowP L h1) fullShare g) ∗ FilledTo (tile d L) bH 9 (fun _ => k0_pay22)) -∗ wp frame (wpE defs₀ 𝒱₀ (tile d L) none) Set.univ (kk ⟨(zerosTo (counts B Y) (jL L).val 16).1, (zerosTo (counts B Y) (jL L).val 16).2, k0_pay21, k0_pay31⟩) Q)
        -∗ wp frame (wpE defs₀ 𝒱₀ (tile d L) none) Set.univ (k0_part5 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 (BitVec.ofNat 32 (L 1).val) h1 lanes >>= kk) Q) := by
  rw [k0_part5_eq_skeleton]
  unfold k0_part5_skel
  simp only [bind_assoc, pure_bind]
  iintro ⟨#HN, HS, HP, HR, ⟨%fH, HF⟩⟩ Hk
  iapply (meetP_back D C B Y d L h1 hO ⟨1, by decide⟩ (counts B Y) (fun _ _ => rfl) (by decide)) $$ [HS HR]
  · isplitr; · iexact HN
    isplitl [HS] <;> iassumption
  iintro ⟨HS, HR⟩
  iapply (loop2 d L h1 rfl (counts B Y)) $$ HP
  iintro HP
  ihave HF := (FilledTo.start (tile d L) (w := (fun _ => k0_pay22)) fH) $$ HF
  iapply (wp_fill (tile d L) 0 rfl rfl rfl) $$ HF; iintro HF
  iapply (wp_fill (tile d L) 1 rfl rfl rfl) $$ HF; iintro HF
  iapply (wp_fill (tile d L) 2 rfl rfl rfl) $$ HF; iintro HF
  iapply (wp_fill (tile d L) 3 rfl rfl rfl) $$ HF; iintro HF
  iapply (wp_fill (tile d L) 4 rfl rfl rfl) $$ HF; iintro HF
  iapply (wp_fill (tile d L) 5 rfl rfl rfl) $$ HF; iintro HF
  iapply (wp_fill (tile d L) 6 rfl rfl rfl) $$ HF; iintro HF
  iapply (wp_fill (tile d L) 7 rfl rfl rfl) $$ HF; iintro HF
  iapply (wp_fill (tile d L) 8 rfl rfl rfl) $$ HF; iintro HF
  iapply Hk
  isplitl [HS]; · iexact HS
  isplitl [HP]; · iexact HP
  isplitl [HR]; · iexact HR
  iexact HF

include hO0 hO in
/-- The highest byte's histogram of all the keys. -/
theorem stage6  {kk : PUnit → Prog (TpuEff nD τ sig (Elt F) Λ₀ (tile d L).2) α} :
    iprop(Near D C B Y d L κ ∗ At d L O W 2 ∗ FilledTo (tile d L) bH 9 (fun _ => k0_pay22) ∗ Held (tile d L) bU fullShare (keys D (jL L).val) ∗ (∃ g, Held (tile d L) (rowH L h1) fullShare g) ∗ (∃ g, Held (tile d L) bA fullShare g) ∗ Sm d L cc0_scoped6 ∗ Sm d L cc0_scoped7)
      ⊢ iprop((iprop(At d L O W 4 ∗ Held (tile d L) bH fullShare (total0 D) ∗ Held (tile d L) bU fullShare (keys D (jL L).val) ∗ (∃ g, Held (tile d L) (rowH L h1) fullShare g) ∗ (∃ g, Held (tile d L) bA fullShare g) ∗ Sm d L cc0_scoped6 ∗ Sm d L cc0_scoped7) -∗ wp frame (wpE defs₀ 𝒱₀ (tile d L) none) Set.univ (kk ⟨⟩) Q)
        -∗ wp frame (wpE defs₀ 𝒱₀ (tile d L) none) Set.univ (k0_part6 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 (BitVec.ofNat 32 (L 1).val) h1 k0_pay21 k0_pay31 >>= kk) Q) := by
  rw [k0_part6_eq_skeleton]
  unfold k0_part6_skel
  simp only [bind_assoc, pure_bind]
  iintro ⟨#HN, HS, HF, HU, HR, HA, H6, H7⟩ Hk
  iapply (wp_fill (tile d L) 9 rfl rfl rfl) $$ HF; iintro HF
  iapply (wp_fill (tile d L) 10 rfl rfl rfl) $$ HF; iintro HF
  iapply (wp_fill (tile d L) 11 rfl rfl rfl) $$ HF; iintro HF
  iapply (wp_fill (tile d L) 12 rfl rfl rfl) $$ HF; iintro HF
  iapply (wp_fill (tile d L) 13 rfl rfl rfl) $$ HF; iintro HF
  iapply (wp_fill (tile d L) 14 rfl rfl rfl) $$ HF; iintro HF
  iapply (wp_fill (tile d L) 15 rfl rfl rfl) $$ HF; iintro HF
  ihave HF := (FilledTo.done (tile d L) 16 (by decide)) $$ HF
  iapply (histLoop0 d L h1 _ _ (keys D (jL L).val)) $$ [HU HF]
  · isplitl [HU] <;> iassumption
  iintro ⟨HU, HH⟩
  iapply (exchange D C B Y d L h1 hO0 hO 2 (by decide) (hists0 D) (fun _ _ => rfl) (fun _ _ => rfl) (hists_row _ _ (jL L))) $$ [HS HH HR HA H6 H7]
  · isplitr; · iexact HN
    isplitl [HS]; · iexact HS
    isplitl [HH]; · iexact HH
    isplitl [HR]; · iexact HR
    isplitl [HA]; · iexact HA
    isplitl [H6] <;> iassumption
  iintro ⟨HS, HH, HR, HA, H6, H7⟩
  ihave HH := (FilledTo.start (tile d L) (w := (addTo (F := F) (hists0 D) · 16)) _) $$ HH
  iapply (totalLoop0 d L h1 _ _ _ (hists0 D)) $$ [HA HH]
  · isplitl [HA] <;> iassumption
  iintro ⟨HA, HH⟩
  iapply Hk
  isplitl [HS]; · iexact HS
  isplitl [HH]; · iexact HH
  isplitl [HU]; · iexact HU
  isplitl [HR]; · iexact HR
  isplitl [HA]; · iexists _; iexact HA
  isplitl [H6] <;> iassumption

include hO0 hO in
/-- The bin of the highest byte. -/
theorem stage7  {kk : (Σ' (_ : BitVec 32) (_ : BitVec 32), IVec S16 32) → Prog (TpuEff nD τ sig (Elt F) Λ₀ (tile d L).2) α} :
    iprop(Held (tile d L) bH fullShare (total0 D))
      ⊢ iprop((iprop(FilledTo (tile d L) bH 7 (fun _ => k0_pay22)) -∗ wp frame (wpE defs₀ 𝒱₀ (tile d L) none) Set.univ (kk ⟨pre1 D, rank1 D, k0_pay52⟩) Q)
        -∗ wp frame (wpE defs₀ 𝒱₀ (tile d L) none) Set.univ (k0_part7 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes >>= kk) Q) := by
  rw [k0_part7_eq_skeleton]
  unfold k0_part7_skel
  simp only [bind_assoc, pure_bind]
  iintro HH Hk
  iapply (pickLoop0 d L h1 (total0 D)) $$ HH; iintro HH
  iapply (belowLoop0 d L h1 _ (total0 D)) $$ HH; iintro HH
  ihave HF := (FilledTo.start (tile d L) (w := (fun _ => k0_pay22)) _) $$ HH
  iapply (wp_fill (tile d L) 0 rfl rfl rfl) $$ HF; iintro HF
  iapply (wp_fill (tile d L) 1 rfl rfl rfl) $$ HF; iintro HF
  iapply (wp_fill (tile d L) 2 rfl rfl rfl) $$ HF; iintro HF
  iapply (wp_fill (tile d L) 3 rfl rfl rfl) $$ HF; iintro HF
  iapply (wp_fill (tile d L) 4 rfl rfl rfl) $$ HF; iintro HF
  iapply (wp_fill (tile d L) 5 rfl rfl rfl) $$ HF; iintro HF
  iapply (wp_fill (tile d L) 6 rfl rfl rfl) $$ HF; iintro HF
  iapply Hk $$ HF

include hO0 hO in
/-- The second byte. -/
theorem stage8  {kk : (Σ' (_ : BitVec 32) (_ : BitVec 32), BitVec 32) → Prog (TpuEff nD τ sig (Elt F) Λ₀ (tile d L).2) α} :
    iprop(Near D C B Y d L κ ∗ At d L O W 4 ∗ FilledTo (tile d L) bH 7 (fun _ => k0_pay22) ∗ Held (tile d L) bU fullShare (keys D (jL L).val) ∗ (∃ g, Held (tile d L) (rowH L h1) fullShare g) ∗ (∃ g, Held (tile d L) bA fullShare g) ∗ Sm d L cc0_scoped8 ∗ Sm d L cc0_scoped9)
      ⊢ iprop((iprop(At d L O W 6 ∗ FilledTo (tile d L) bH 6 (fun _ => k0_pay22) ∗ Held (tile d L) bU fullShare (keys D (jL L).val) ∗ (∃ g, Held (tile d L) (rowH L h1) fullShare g) ∗ (∃ g, Held (tile d L) bA fullShare g) ∗ Sm d L cc0_scoped8 ∗ Sm d L cc0_scoped9) -∗ wp frame (wpE defs₀ 𝒱₀ (tile d L) none) Set.univ (kk ⟨pre2 D, rank2 D, 0#32⟩) Q)
        -∗ wp frame (wpE defs₀ 𝒱₀ (tile d L) none) Set.univ (k0_part8 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 (BitVec.ofNat 32 (L 1).val) h1 k0_pay21 (pre1 D) k0_pay52 >>= fun _ => k0_part9 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes (pre1 D) (rank1 D) >>= kk) Q) := by
  rw [k0_part8_eq_skeleton, k0_part9_eq_skeleton]
  unfold k0_part8_skel k0_part9_skel
  simp only [bind_assoc, pure_bind]
  iintro ⟨#HN, HS, HF, HU, HR, HA, H8, H9⟩ Hk
  iapply (wp_fill (tile d L) 7 rfl rfl rfl) $$ HF; iintro HF
  iapply (wp_fill (tile d L) 8 rfl rfl rfl) $$ HF; iintro HF
  iapply (wp_fill (tile d L) 9 rfl rfl rfl) $$ HF; iintro HF
  iapply (wp_fill (tile d L) 10 rfl rfl rfl) $$ HF; iintro HF
  iapply (wp_fill (tile d L) 11 rfl rfl rfl) $$ HF; iintro HF
  iapply (wp_fill (tile d L) 12 rfl rfl rfl) $$ HF; iintro HF
  iapply (wp_fill (tile d L) 13 rfl rfl rfl) $$ HF; iintro HF
  iapply (wp_fill (tile d L) 14 rfl rfl rfl) $$ HF; iintro HF
  iapply (wp_fill (tile d L) 15 rfl rfl rfl) $$ HF; iintro HF
  ihave HF := (FilledTo.done (tile d L) 16 (by decide)) $$ HF
  iapply (histLoop1 d L h1 _ _ _ (keys D (jL L).val)) $$ [HU HF]
  · isplitl [HU] <;> iassumption
  iintro ⟨HU, HH⟩
  iapply (exchange D C B Y d L h1 hO0 hO 4 (by decide) (hists1 D) (fun _ _ => rfl) (fun _ _ => rfl) (hists_row _ _ (jL L))) $$ [HS HH HR HA H8 H9]
  · isplitr; · iexact HN
    isplitl [HS]; · iexact HS
    isplitl [HH]; · iexact HH
    isplitl [HR]; · iexact HR
    isplitl [HA]; · iexact HA
    isplitl [H8] <;> iassumption
  iintro ⟨HS, HH, HR, HA, H8, H9⟩
  ihave HH := (FilledTo.start (tile d L) (w := (addTo (F := F) (hists1 D) · 16)) _) $$ HH
  iapply (totalLoop1 d L h1 _ _ (hists1 D)) $$ [HA HH]
  · isplitl [HA] <;> iassumption
  iintro ⟨HA, HH⟩
  iapply (pickLoop1 d L h1 _ (rank1 D) (added (hists1 D))) $$ HH; iintro HH
  iapply (belowLoop1 d L h1 _ _ _ (added (hists1 D))) $$ HH; iintro HH
  ihave HF := (FilledTo.start (tile d L) (w := (fun _ => k0_pay22)) _) $$ HH
  iapply (wp_fill (tile d L) 0 rfl rfl rfl) $$ HF; iintro HF
  iapply (wp_fill (tile d L) 1 rfl rfl rfl) $$ HF; iintro HF
  iapply (wp_fill (tile d L) 2 rfl rfl rfl) $$ HF; iintro HF
  iapply (wp_fill (tile d L) 3 rfl rfl rfl) $$ HF; iintro HF
  iapply (wp_fill (tile d L) 4 rfl rfl rfl) $$ HF; iintro HF
  iapply (wp_fill (tile d L) 5 rfl rfl rfl) $$ HF; iintro HF
  iapply Hk
  isplitl [HS]; · iexact HS
  isplitl [HF]; · iexact HF
  isplitl [HU]; · iexact HU
  isplitl [HR]; · iexact HR
  isplitl [HA]; · iexists _; iexact HA
  isplitl [H8] <;> iassumption

include hO0 hO in
/-- The third byte. -/
theorem stage10  {kk : (Σ' (_ : BitVec 32) (_ : BitVec 32), IVec S16 32) → (Σ' (_ : BitVec 32), BitVec 32) → Prog (TpuEff nD τ sig (Elt F) Λ₀ (tile d L).2) α} :
    iprop(Near D C B Y d L κ ∗ At d L O W 6 ∗ FilledTo (tile d L) bH 6 (fun _ => k0_pay22) ∗ Held (tile d L) bU fullShare (keys D (jL L).val) ∗ (∃ g, Held (tile d L) (rowH L h1) fullShare g) ∗ (∃ g, Held (tile d L) bA fullShare g) ∗ Sm d L cc0_scoped10 ∗ Sm d L cc0_scoped11)
      ⊢ iprop((iprop(At d L O W 8 ∗ FilledTo (tile d L) bH 16 (fun _ => k0_pay22) ∗ Held (tile d L) bU fullShare (keys D (jL L).val) ∗ (∃ g, Held (tile d L) (rowH L h1) fullShare g) ∗ (∃ g, Held (tile d L) bA fullShare g) ∗ Sm d L cc0_scoped10 ∗ Sm d L cc0_scoped11) -∗ wp frame (wpE defs₀ 𝒱₀ (tile d L) none) Set.univ (kk ⟨pre3 D, rank3 D, k0_pay95⟩ ⟨0#32, 0#32⟩) Q)
        -∗ wp frame (wpE defs₀ 𝒱₀ (tile d L) none) Set.univ (k0_part10 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 (BitVec.ofNat 32 (L 1).val) h1 k0_pay21 (pre2 D) 0#32 >>= fun _ => k0_part11 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 h1 lanes (pre2 D) (rank2 D) >>= fun x => k0_part12 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 x.2.2 >>= kk x) Q) := by
  rw [k0_part10_eq_skeleton, k0_part11_eq_skeleton, k0_part12_eq_skeleton]
  unfold k0_part10_skel k0_part11_skel k0_part12_skel
  simp only [bind_assoc, pure_bind]
  iintro ⟨#HN, HS, HF, HU, HR, HA, H10, H11⟩ Hk
  iapply (wp_fill (tile d L) 6 rfl rfl rfl) $$ HF; iintro HF
  iapply (wp_fill (tile d L) 7 rfl rfl rfl) $$ HF; iintro HF
  iapply (wp_fill (tile d L) 8 rfl rfl rfl) $$ HF; iintro HF
  iapply (wp_fill (tile d L) 9 rfl rfl rfl) $$ HF; iintro HF
  iapply (wp_fill (tile d L) 10 rfl rfl rfl) $$ HF; iintro HF
  iapply (wp_fill (tile d L) 11 rfl rfl rfl) $$ HF; iintro HF
  iapply (wp_fill (tile d L) 12 rfl rfl rfl) $$ HF; iintro HF
  iapply (wp_fill (tile d L) 13 rfl rfl rfl) $$ HF; iintro HF
  iapply (wp_fill (tile d L) 14 rfl rfl rfl) $$ HF; iintro HF
  iapply (wp_fill (tile d L) 15 rfl rfl rfl) $$ HF; iintro HF
  ihave HF := (FilledTo.done (tile d L) 16 (by decide)) $$ HF
  iapply (histLoop2 d L h1 _ _ _ (keys D (jL L).val)) $$ [HU HF]
  · isplitl [HU] <;> iassumption
  iintro ⟨HU, HH⟩
  iapply (exchange D C B Y d L h1 hO0 hO 6 (by decide) (hists2 D) (fun _ _ => rfl) (fun _ _ => rfl) (hists_row _ _ (jL L))) $$ [HS HH HR HA H10 H11]
  · isplitr; · iexact HN
    isplitl [HS]; · iexact HS
    isplitl [HH]; · iexact HH
    isplitl [HR]; · iexact HR
    isplitl [HA]; · iexact HA
    isplitl [H10] <;> iassumption
  iintro ⟨HS, HH, HR, HA, H10, H11⟩
  ihave HH := (FilledTo.start (tile d L) (w := (addTo (F := F) (hists2 D) · 16)) _) $$ HH
  iapply (totalLoop2 d L h1 _ _ (hists2 D)) $$ [HA HH]
  · isplitl [HA] <;> iassumption
  iintro ⟨HA, HH⟩
  iapply (pickLoop2 d L h1 _ (rank2 D) (added (hists2 D))) $$ HH; iintro HH
  iapply (belowLoop2 d L h1 _ _ _ (added (hists2 D))) $$ HH; iintro HH
  ihave HF := (FilledTo.start (tile d L) (w := (fun _ => k0_pay22)) _) $$ HH
  iapply (wp_fill (tile d L) 0 rfl rfl rfl) $$ HF; iintro HF
  iapply (wp_fill (tile d L) 1 rfl rfl rfl) $$ HF; iintro HF
  iapply (wp_fill (tile d L) 2 rfl rfl rfl) $$ HF; iintro HF
  iapply (wp_fill (tile d L) 3 rfl rfl rfl) $$ HF; iintro HF
  iapply (wp_fill (tile d L) 4 rfl rfl rfl) $$ HF; iintro HF
  iapply (wp_fill (tile d L) 5 rfl rfl rfl) $$ HF; iintro HF
  iapply (wp_fill (tile d L) 6 rfl rfl rfl) $$ HF; iintro HF
  iapply (wp_fill (tile d L) 7 rfl rfl rfl) $$ HF; iintro HF
  iapply (wp_fill (tile d L) 8 rfl rfl rfl) $$ HF; iintro HF
  iapply (wp_fill (tile d L) 9 rfl rfl rfl) $$ HF; iintro HF
  iapply (wp_fill (tile d L) 10 rfl rfl rfl) $$ HF; iintro HF
  iapply (wp_fill (tile d L) 11 rfl rfl rfl) $$ HF; iintro HF
  iapply (wp_fill (tile d L) 12 rfl rfl rfl) $$ HF; iintro HF
  iapply (wp_fill (tile d L) 13 rfl rfl rfl) $$ HF; iintro HF
  iapply (wp_fill (tile d L) 14 rfl rfl rfl) $$ HF; iintro HF
  iapply (wp_fill (tile d L) 15 rfl rfl rfl) $$ HF; iintro HF
  iapply Hk
  isplitl [HS]; · iexact HS
  isplitl [HF]; · iexact HF
  isplitl [HU]; · iexact HU
  isplitl [HR]; · iexact HR
  isplitl [HA]; · iexists _; iexact HA
  isplitl [H10] <;> iassumption

include hO0 hO in
/-- The lowest byte, and the tile's sums. -/
theorem stage13  {kk : (Σ' (_ : BitVec 32) (_ : BitVec 32) (_ : F .f32) (_ : F .f32) (_ : IVec S16 1), IVec S16 32) → Prog (TpuEff nD τ sig (Elt F) Λ₀ (tile d L).2) α} :
    iprop(Near D C B Y d L κ ∗ At d L O W 8 ∗ FilledTo (tile d L) bH 16 (fun _ => k0_pay22) ∗ Held (tile d L) bU fullShare (keys D (jL L).val) ∗ Held (tile d L) bD fullShare (chunk D (jL L).val) ∗ Held (tile d L) bY fullShare (chunk Y (jL L).val) ∗ Held (tile d L) bC fullShare (chunk C (jL L).val) ∗ (∃ g, Held (tile d L) (rowH L h1) fullShare g) ∗ (∃ g, Held (tile d L) bA fullShare g) ∗ Sm d L cc0_scoped12 ∗ Sm d L cc0_scoped13)
      ⊢ iprop((iprop(At d L O W 10 ∗ (∃ g, Held (tile d L) bH fullShare g) ∗ Held (tile d L) bU fullShare (keys D (jL L).val) ∗ Held (tile d L) bD fullShare (chunk D (jL L).val) ∗ Held (tile d L) bY fullShare (chunk Y (jL L).val) ∗ Held (tile d L) bC fullShare (chunk C (jL L).val) ∗ (∃ g, Held (tile d L) (rowH L h1) fullShare g) ∗ (∃ g, Held (tile d L) bA fullShare g) ∗ Sm d L cc0_scoped12 ∗ Sm d L cc0_scoped13) -∗ wp frame (wpE defs₀ 𝒱₀ (tile d L) none) Set.univ (kk ⟨cut D, (sumsTo D C B Y (jL L).val 64).1, (sumsTo D C B Y (jL L).val 64).2.1, (sumsTo D C B Y (jL L).val 64).2.2.1, k0_pay116 lanes, k0_pay117⟩) Q)
        -∗ wp frame (wpE defs₀ 𝒱₀ (tile d L) none) Set.univ (k0_part13 L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 (BitVec.ofNat 32 (L 1).val) h1 (Scalar.muli (BitVec.ofNat 32 (L 1).val) 1024#32) lanes (zerosTo (counts B Y) (jL L).val 16).1 (zerosTo (counts B Y) (jL L).val 16).2 k0_pay21 (pre3 D) (rank3 D) 0#32 0#32 >>= kk) Q) := by
  rw [k0_part13_eq_skeleton]
  unfold k0_part13_skel
  simp only [bind_assoc, pure_bind]
  iintro ⟨#HN, HS, HF, HU, HD, HY, HC, HR, HA, H12, H13⟩ Hk
  ihave HF := (FilledTo.done (tile d L) 16 (by decide)) $$ HF
  iapply (histLoop3 d L h1 _ _ _ _ _ _ _ _ (keys D (jL L).val)) $$ [HU HF]
  · isplitl [HU] <;> iassumption
  iintro ⟨HU, HH⟩
  iapply (exchange D C B Y d L h1 hO0 hO 8 (by decide) (hists3 D) (fun _ _ => rfl) (fun _ _ => rfl) (hists_row _ _ (jL L))) $$ [HS HH HR HA H12 H13]
  · isplitr; · iexact HN
    isplitl [HS]; · iexact HS
    isplitl [HH]; · iexact HH
    isplitl [HR]; · iexact HR
    isplitl [HA]; · iexact HA
    isplitl [H12] <;> iassumption
  iintro ⟨HS, HH, HR, HA, H12, H13⟩
  ihave HH := (FilledTo.start (tile d L) (w := (addTo (F := F) (hists3 D) · 16)) _) $$ HH
  iapply (totalLoop3 d L h1 _ _ _ _ _ _ _ _ _ (hists3 D)) $$ [HA HH]
  · isplitl [HA] <;> iassumption
  iintro ⟨HA, HH⟩
  iapply (pickLoop3 d L h1 _ _ _ _ _ _ (rank3 D) _ _ (added (hists3 D))) $$ HH; iintro HH
  iapply (belowLoop3 d L h1 _ _ _ _ _ _ _ _ _ _ (added (hists3 D))) $$ HH; iintro HH
  iapply (sumsLoop D C B Y d L h1 _ _ _ _ _ _ rfl rfl rfl rfl) $$ [HU HD HY HC]
  · isplitl [HU]; · iexact HU
    isplitl [HD]; · iexact HD
    isplitl [HY] <;> iassumption
  iintro ⟨HU, HD, HY, HC⟩
  iapply Hk
  isplitl [HS]; · iexact HS
  isplitl [HH]; · iexists _; iexact HH
  isplitl [HU]; · iexact HU
  isplitl [HD]; · iexact HD
  isplitl [HY]; · iexact HY
  isplitl [HC]; · iexact HC
  isplitl [HR]; · iexact HR
  isplitl [HA]; · iexists _; iexact HA
  isplitl [H12] <;> iassumption

end Stages

end Cert.Proof.K

end
-- ==== Proof.Tile.lean ====
/-
  A tile's whole run.
-/
module

public import proofs.«01_k».proof.Proof.Stages

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ
theorem cond1_iff (L : grid0.Coords) : k0_cond1 L = 1#1 ↔ (L 0).val = 0 := by
  unfold k0_cond1
  generalize L 0 = a
  revert a; decide
theorem cond2_iff (L : grid0.Coords) : k0_cond2 L = 1#1 ↔ jL L = 0 := by
  unfold k0_cond2 jL
  generalize L 1 = a
  revert a; decide

theorem parts_row (D C B : ℕ → Elt F .f32) (Y : ℕ → BitVec 32) (s : Fin 16) {g : ℕ → Elt F .f32} (hg : Filled 1 (fun _ => part D C B Y s.val) g) (k : ℕ) (hk : k < 16) :
    g k = parts D C B Y (16 * s.val + k) := by
  rw [hg k (by omega)]
  show part D C B Y s.val (lane k) = part D C B Y ((16 * s.val + k) / 16) (lane (16 * s.val + k))
  rw [show (16 * s.val + k) / 16 = s.val by omega, lane_row s.val k]

section Tile

set_option maxHeartbeats 1000000

variable (D C B : ℕ → Elt F .f32) (Y : ℕ → BitVec 32)
variable (d : Dev nD) (L : grid0.Coords) (h1 : k0_cond1 L = 1#1)
variable {O : CellTallies nD τ sig (HIx 11)} {W : Waits sig (HIx 11)} {κ : ℕ}
variable {α : Type} {Q : α → sProp (MT nD τ sig (HIx 11) (Elt F) ℕ UU ℕ)}
variable (hO0 : ∀ g, O g none = 0) (hO : ∀ g ι, 0 < O g ι → 86 ≤ (K (F := F)).lev g ι)

include hO0 hO in
/-- A tile's run on the working SparseCore. -/
theorem body_run  {kk : PUnit → Prog (TpuEff nD τ sig (Elt F) Λ₀ (tile d L).2) α} :
    iprop(Near D C B Y d L κ ∗ At d L O W 0 ∗ Held (tile d L) (rowD L h1) fullShare (chunk D (jL L).val) ∗ Held (tile d L) (rowC L h1) fullShare (chunk C (jL L).val) ∗ Held (tile d L) (rowB L h1) fullShare (chunk B (jL L).val) ∗ Held (tile d L) (rowY L h1) fullShare (chunk Y (jL L).val) ∗ (∃ g, Held (tile d L) bD fullShare g) ∗ (∃ g, Held (tile d L) bC fullShare g) ∗ (∃ g, Held (tile d L) bB fullShare g) ∗ (∃ g, Held (tile d L) bY fullShare g) ∗ (∃ g, Held (tile d L) bU fullShare g) ∗ (∃ g, Held (tile d L) bH fullShare g) ∗ (∃ g, Held (tile d L) bA fullShare g) ∗ (∃ g, Held (tile d L) bP fullShare g) ∗ (∃ g, Held (tile d L) bM fullShare g) ∗ (∃ g, Held (tile d L) (rowP L h1) fullShare g) ∗ (∃ g, Held (tile d L) (rowH L h1) fullShare g) ∗ Sm d L cc0_scoped0 ∗ Sm d L cc0_scoped1 ∗ Sm d L cc0_scoped2 ∗ Sm d L cc0_scoped3 ∗ Sm d L cc0_scoped4 ∗ Sm d L cc0_scoped5 ∗ Sm d L cc0_scoped6 ∗ Sm d L cc0_scoped7 ∗ Sm d L cc0_scoped8 ∗ Sm d L cc0_scoped9 ∗ Sm d L cc0_scoped10 ∗ Sm d L cc0_scoped11 ∗ Sm d L cc0_scoped12 ∗ Sm d L cc0_scoped13 ∗ Sm d L cc0_scoped14 ∗ Sm d L cc0_scoped15 ∗ Sm d L cc0_scoped16 ∗ (if jL L = 0 then (∃ g, Held (tile d L) mO fullShare g) else iprop(emp)))
      ⊢ iprop((iprop(At d L O W 11 ∗ semVal (bcell d (cV L) (jL L)) 0 ∗ Held (tile d L) (rowD L h1) fullShare (chunk D (jL L).val) ∗ Held (tile d L) (rowC L h1) fullShare (chunk C (jL L).val) ∗ Held (tile d L) (rowB L h1) fullShare (chunk B (jL L).val) ∗ Held (tile d L) (rowY L h1) fullShare (chunk Y (jL L).val) ∗ (∃ g, Held (tile d L) bD fullShare g) ∗ (∃ g, Held (tile d L) bC fullShare g) ∗ (∃ g, Held (tile d L) bB fullShare g) ∗ (∃ g, Held (tile d L) bY fullShare g) ∗ (∃ g, Held (tile d L) bU fullShare g) ∗ (∃ g, Held (tile d L) bH fullShare g) ∗ (∃ g, Held (tile d L) bA fullShare g) ∗ (∃ g, Held (tile d L) bP fullShare g) ∗ (∃ g, Held (tile d L) bM fullShare g) ∗ (∃ g, Held (tile d L) (rowH L h1) fullShare g) ∗ Sm d L cc0_scoped0 ∗ Sm d L cc0_scoped1 ∗ Sm d L cc0_scoped2 ∗ Sm d L cc0_scoped3 ∗ Sm d L cc0_scoped4 ∗ Sm d L cc0_scoped5 ∗ Sm d L cc0_scoped6 ∗ Sm d L cc0_scoped7 ∗ Sm d L cc0_scoped8 ∗ Sm d L cc0_scoped9 ∗ Sm d L cc0_scoped10 ∗ Sm d L cc0_scoped11 ∗ Sm d L cc0_scoped12 ∗ Sm d L cc0_scoped13 ∗ Sm d L cc0_scoped14 ∗ Sm d L cc0_scoped15 ∗ Sm d L cc0_scoped16 ∗ (if jL L = 0 then iprop((∃ g, Held (tile d L) sP fullShare g) ∗ Held (tile d L) mO fullShare (fun k => out D C B Y (lane k))) else iprop(emp))) -∗ wp frame (wpE defs₀ 𝒱₀ (tile d L) none) Set.univ (kk ⟨⟩) Q)
        -∗ wp frame (wpE defs₀ 𝒱₀ (tile d L) none) Set.univ (cc0__sc_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 >>= kk) Q) := by
  rw [cc0__sc_body_eq_skeleton]
  unfold cc0__sc_body_skel
  simp only [dif_pos h1, bind_assoc, pure_bind]
  iintro ⟨#HN, HS, HrD, HrC, HrB, HrY, HD, HC, HB, HY, HU, HH, HA, HP, HM, HR, HRH, H0, H1, H2, H3, H4, H5, H6, H7, H8, H9, H10, H11, H12, H13, H14, H15, H16, HO⟩ Hk
  iapply (stage4 D C B Y d L h1 hO0 hO _) $$ [HS HrD HrC HrB HrY HD HC HB HY HU HM HP HR H0 H1 H2 H3 H4 H5]
  · isplitr; · iexact HN
    isplitl [HS]; · iexact HS
    isplitl [HrD]; · iexact HrD
    isplitl [HrC]; · iexact HrC
    isplitl [HrB]; · iexact HrB
    isplitl [HrY]; · iexact HrY
    isplitl [HD]; · iexact HD
    isplitl [HC]; · iexact HC
    isplitl [HB]; · iexact HB
    isplitl [HY]; · iexact HY
    isplitl [HU]; · iexact HU
    isplitl [HM]; · iexact HM
    isplitl [HP]; · iexact HP
    isplitl [HR]; · iexact HR
    isplitl [H0]; · iexact H0
    isplitl [H1]; · iexact H1
    isplitl [H2]; · iexact H2
    isplitl [H3]; · iexact H3
    isplitl [H4]; · iexact H4
    iexact H5
  iintro ⟨HS, HrD, HrC, HrB, HrY, HD, HC, HB, HY, HU, HM, HP, HR, H0, H1, H2, H3, H4, H5⟩
  iapply (stage5 D C B Y d L h1 hO0 hO) $$ [HS HP HR HH]
  · isplitr; · iexact HN
    isplitl [HS]; · iexact HS
    isplitl [HP]; · iexact HP
    isplitl [HR]; · iexact HR
    iexact HH
  iintro ⟨HS, HP, HR, HF⟩
  iapply (stage6 D C B Y d L h1 hO0 hO) $$ [HS HF HU HRH HA H6 H7]
  · isplitr; · iexact HN
    isplitl [HS]; · iexact HS
    isplitl [HF]; · iexact HF
    isplitl [HU]; · iexact HU
    isplitl [HRH]; · iexact HRH
    isplitl [HA]; · iexact HA
    isplitl [H6]; · iexact H6
    iexact H7
  iintro ⟨HS, HH, HU, HRH, HA, H6, H7⟩
  iapply (stage7 D d L h1 hO0 hO) $$ HH; iintro HF
  iapply (stage8 D C B Y d L h1 hO0 hO) $$ [HS HF HU HRH HA H8 H9]
  · isplitr; · iexact HN
    isplitl [HS]; · iexact HS
    isplitl [HF]; · iexact HF
    isplitl [HU]; · iexact HU
    isplitl [HRH]; · iexact HRH
    isplitl [HA]; · iexact HA
    isplitl [H8]; · iexact H8
    iexact H9
  iintro ⟨HS, HF, HU, HRH, HA, H8, H9⟩
  iapply (stage10 D C B Y d L h1 hO0 hO) $$ [HS HF HU HRH HA H10 H11]
  · isplitr; · iexact HN
    isplitl [HS]; · iexact HS
    isplitl [HF]; · iexact HF
    isplitl [HU]; · iexact HU
    isplitl [HRH]; · iexact HRH
    isplitl [HA]; · iexact HA
    isplitl [H10]; · iexact H10
    iexact H11
  iintro ⟨HS, HF, HU, HRH, HA, H10, H11⟩
  iapply (stage13 D C B Y d L h1 hO0 hO) $$ [HS HF HU HD HY HC HRH HA H12 H13]
  · isplitr; · iexact HN
    isplitl [HS]; · iexact HS
    isplitl [HF]; · iexact HF
    isplitl [HU]; · iexact HU
    isplitl [HD]; · iexact HD
    isplitl [HY]; · iexact HY
    isplitl [HC]; · iexact HC
    isplitl [HRH]; · iexact HRH
    isplitl [HA]; · iexact HA
    isplitl [H12]; · iexact H12
    iexact H13
  iintro ⟨HS, HH, HU, HD, HY, HC, HRH, HA, H12, H13⟩
  icases HM with ⟨%fM, HM⟩
  ihave HM := (FilledTo.start (tile d L) (w := fun _ => part D C B Y (jL L).val) fM) $$ HM
  iapply (wp_fill (tile d L) 0 rfl rfl rfl) $$ HM; iintro HM
  unfold FilledTo
  icases HM with ⟨%gM, %hM, HM⟩
  ihave HM := (held_M d L gM) $$ HM
  icases HM with ⟨HM, Hback⟩
  icases HR with ⟨%fR, HR⟩
  iapply (wp_copyS (i := jL L) (pay := pay D C B Y d (cV L)) (O := O) (W := W) (r := 10) (ms := bM16) (g := gM) (by decide) hO0) $$ [HS HM HR H14]
  · isplitr; · iexact HN
    isplitl [HS]; · iexact HS
    isplitl [HM]; · iexact HM
    isplitl [HR] <;> iassumption
  iintro ⟨HS, HM, HR, H14⟩
  ihave HM := Hback $$ HM
  iapply (meet_last D C B Y d L h1 hO (fun k hk => parts_row D C B Y (jL L) hM k hk)) $$ [HS HR]
  · isplitr; · iexact HN
    isplitl [HS] <;> iassumption
  iintro ⟨HS, Hb, HSP⟩
  by_cases h2 : k0_cond2 L = 1#1
  · have hj : jL L = 0 := (cond2_iff L).mp h2
    simp only [dif_pos h2, if_pos hj, bind_assoc, pure_bind]
    icases HO with ⟨%fO, HO⟩
    iapply (wp_copyS (i := jL L) (pay := pay D C B Y d (cV L)) (O := O) (W := W) (r := 11) (by decide) hO0) $$ [HS HSP HP H15]
    · isplitr; · iexact HN
      isplitl [HS]; · iexact HS
      isplitl [HSP]; · iexact HSP
      isplitl [HP] <;> iassumption
    iintro ⟨HS, HSP, HP, H15⟩
    iapply (sumLoop d L h1 h2 (parts D C B Y)) $$ HP; iintro HP
    icases HM with ⟨%fM', HM⟩
    ihave HM := (FilledTo.start (tile d L) (w := fun _ => out D C B Y) fM') $$ HM
    iapply (wp_fill (tile d L) 0 rfl rfl rfl) $$ HM; iintro HM
    unfold FilledTo
    icases HM with ⟨%gM', %hM', HM⟩
    ihave HM := (held_M d L gM') $$ HM
    icases HM with ⟨HM, Hback⟩
    iapply (wp_copyS (i := jL L) (pay := pay D C B Y d (cV L)) (O := O) (W := W) (r := 11) (ms := bM16) (g := gM') (by decide) hO0) $$ [HS HM HO H16]
    · isplitr; · iexact HN
      isplitl [HS]; · iexact HS
      isplitl [HM]; · iexact HM
      isplitl [HO] <;> iassumption
    iintro ⟨HS, HM, HO, H16⟩
    ihave HM := Hback $$ HM
    ihave HO := (Held.congr (tile d L) (g' := fun k => out D C B Y (lane k)) (fun k hk => hM' k (by omega))) $$ HO
    iapply Hk
    isplitl [HS]; · iexact HS
    isplitl [Hb]; · iexact Hb
    isplitl [HrD]; · iexact HrD
    isplitl [HrC]; · iexact HrC
    isplitl [HrB]; · iexact HrB
    isplitl [HrY]; · iexact HrY
    isplitl [HD]; · iexists _; iexact HD
    isplitl [HC]; · iexists _; iexact HC
    isplitl [HB]; · iexists _; iexact HB
    isplitl [HY]; · iexists _; iexact HY
    isplitl [HU]; · iexists _; iexact HU
    isplitl [HH]; · iexact HH
    isplitl [HA]; · iexact HA
    isplitl [HP]; · iexists _; iexact HP
    isplitl [HM]; · iexact HM
    isplitl [HRH]; · iexact HRH
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HSP]; · iexists _; iexact HSP
    iexact HO
  · have hj : ¬ jL L = 0 := fun h => h2 ((cond2_iff L).mpr h)
    simp only [dif_neg h2, if_neg hj, bind_assoc, pure_bind]
    iapply Hk
    isplitl [HS]; · iexact HS
    isplitl [Hb]; · iexact Hb
    isplitl [HrD]; · iexact HrD
    isplitl [HrC]; · iexact HrC
    isplitl [HrB]; · iexact HrB
    isplitl [HrY]; · iexact HrY
    isplitl [HD]; · iexists _; iexact HD
    isplitl [HC]; · iexists _; iexact HC
    isplitl [HB]; · iexists _; iexact HB
    isplitl [HY]; · iexists _; iexact HY
    isplitl [HU]; · iexists _; iexact HU
    isplitl [HH]; · iexact HH
    isplitl [HA]; · iexact HA
    isplitl [HP]; · iexists _; iexact HP
    isplitl [HM]; · iexact HM
    isplitl [HRH]; · iexact HRH
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact HO

end Tile

end Cert.Proof.K

end
-- ==== Proof.Launch.lean ====
module

public import proofs.«01_k».proof.Proof.Tile

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ

/-! ## What the launch hands over -/

section Launch

variable (m : (ℓ : Loc nD τ sig) → Buf (Elt F) ℓ) (ρ : Dev nD → PrngReg)

/-- The columns, as sequences. -/
abbrev seqD (d : Dev nD) : ℕ → Elt F .f32 := fun k => m (locD d) (pos 16384 k)
abbrev seqC (d : Dev nD) : ℕ → Elt F .f32 := fun k => m (locC d) (pos 16384 k)
abbrev seqB (d : Dev nD) : ℕ → Elt F .f32 := fun k => m (locB d) (pos 16384 k)
abbrev seqY (d : Dev nD) : ℕ → BitVec 32 := fun k => m (locY d) (pos 16384 k)
/-- What the call leaves in its result. -/
def made (d : Dev nD) : Buf (Elt F) (locO d) := (out (seqD m d) (seqC m d) (seqB m d) (seqY m d) : FVec F S16 .f32)

/-- What a tile of the working SparseCore is handed at the launch for its meetings. -/
def kit (d : Dev nD) (c : Fin τ.nSC) (i : Fin 16) : sProp 𝕄 :=
  iprop((∃ κ : ℕ, inv κ (meetBody (bcell d c) (pay (seqD m d) (seqC m d) (seqB m d) (seqY m d) d c)))
    ∗ (bigSep Finset.univ fun r => ticket d c i r) ∗ atPos (EB (F := F)) (bcell d c i) 0 ∅ 0)

/-- Row `i` of the four columns. -/
def rows4 (d : Dev nD) (i : Fin 16) : sProp 𝕄 :=
  iprop((locD d ↦[setX i]{fullShare} m (locD d)) ∗ (locC d ↦[setX i]{fullShare} m (locC d)) ∗ (locB d ↦[setX i]{fullShare} m (locB d)) ∗ (locY d ↦[setX i]{fullShare} m (locY d)))
/-- What the sequencer hands tile `i`, and what the tile hands back. -/
def handed (d : Dev nD) (c : Fin τ.nSC) (i : Fin 16) : sProp 𝕄 :=
  iprop(rows4 m d i ∗ (∃ f, locH d c ↦[setH i]{fullShare} f) ∗ (∃ f, locP d c ↦[setP i]{fullShare} f)
    ∗ (if i = 0 then iprop(locO d ↦{fullShare} m (locO d)) else iprop(emp)))
def returned (d : Dev nD) (c : Fin τ.nSC) (i : Fin 16) : sProp 𝕄 :=
  iprop(rows4 m d i ∗ (∃ f, locH d c ↦[setH i]{fullShare} f)
    ∗ (if i = 0 then iprop((∃ f, locP d c ↦{fullShare} f) ∗ (locO d ↦{fullShare} made m d)) else iprop(emp)) ∗ semVal (bcell d c i) 0)
/-- The columns whole. -/
def cols4 (d : Dev nD) : sProp 𝕄 :=
  iprop((locD d ↦{fullShare} m (locD d)) ∗ (locC d ↦{fullShare} m (locC d)) ∗ (locB d ↦{fullShare} m (locB d)) ∗ (locY d ↦{fullShare} m (locY d)))
def opening (d : Dev nD) : sProp 𝕄 := iprop(cols4 m d ∗ (locO d ↦{fullShare} m (locO d)))
def closing (d : Dev nD) (c : Fin τ.nSC) : sProp 𝕄 :=
  iprop(cols4 m d ∗ (locO d ↦{fullShare} made m d) ∗ bigSep Finset.univ fun i : Fin 16 => semVal (bcell d c i) 0)

instance rows4_storable (d : Dev nD) (i : Fin 16) : BI.Storable (upEmb : UEmb _ 𝕄) (rows4 m d i) := by unfold rows4; infer_instance
instance cols4_storable (d : Dev nD) : BI.Storable (upEmb : UEmb _ 𝕄) (cols4 m d) := by unfold cols4; infer_instance
instance opening_storable (d : Dev nD) : BI.Storable (upEmb : UEmb _ 𝕄) (opening m d) := by unfold opening; infer_instance
instance closing_storable (d : Dev nD) (c : Fin τ.nSC) : BI.Storable (upEmb : UEmb _ 𝕄) (closing m d c) := by unfold closing; infer_instance
instance handed_storable (d : Dev nD) (c : Fin τ.nSC) (i : Fin 16) : BI.Storable (upEmb : UEmb _ 𝕄) (handed m d c i) := by
  unfold handed
  by_cases h : i = 0
  · simp only [if_pos h]; infer_instance
  · simp only [if_neg h]; infer_instance
instance returned_storable (d : Dev nD) (c : Fin τ.nSC) (i : Fin 16) : BI.Storable (upEmb : UEmb _ 𝕄) (returned m d c i) := by
  unfold returned
  by_cases h : i = 0
  · simp only [if_pos h]; infer_instance
  · simp only [if_neg h]; infer_instance

/-- Something of the working SparseCore only. -/
def onlyFirst (c : Fin τ.nSC) (A : sProp 𝕄) : sProp 𝕄 := if c.val < 1 then A else iprop(emp)
instance onlyFirst_storable (c : Fin τ.nSC) (A : sProp 𝕄) [BI.Storable (upEmb : UEmb _ 𝕄) A] : BI.Storable (upEmb : UEmb _ 𝕄) (onlyFirst c A) := by
  unfold onlyFirst; split <;> infer_instance

/-- The call takes the columns and the result's buffer whole, on the working SparseCore; each tile its rows. -/
def P : (K (F := F)).Pay (N := 11) (nD := nD) (Val := Elt F) (Name := ℕ) (U := UU) where
  st := fun q d c => match q with | 0 => onlyFirst (coreOf (F := F) c) (opening m d)
  dn := fun q d c => match q with | 0 => onlyFirst (coreOf (F := F) c) (closing m d (coreOf (F := F) c))
  go := fun q d c i => match q with | 0 => onlyFirst (coreOf (F := F) c) (handed m d (coreOf (F := F) c) (Fin.cast nSub_zero i))
  td := fun q d c i => match q with | 0 => onlyFirst (coreOf (F := F) c) (returned m d (coreOf (F := F) c) (Fin.cast nSub_zero i))
  x := fun _ thr => match thr with
    | (d, .scVector c i) => onlyFirst c (kit m d c (Fin.cast nSub_eq i))
    | _ => iprop(emp)
  ox := fun _ thr => match thr with
    | (d, .scVector c _) => if c.val < 1 then debtFrom d c 0 else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨r, -, ⟨j, rfl⟩, rfl⟩ := debtFrom_pos (Nat.pos_iff_ne_zero.mp h)
        rw [(K (F := F)).lev_V_reg d c (Fin.castLE hsub16 j) (show (sc_bar0 : Sem sig) ≠ (K (F := F)).go from sc_bar0_ne_go)]
        have := r.isLt
        constructor
        · show 8 * 0 + 3 ≤ 8 * r.val + 3; omega
        · show 8 * r.val + 3 ≤ 8 * 10 + 5; omega
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, Nat.lt_of_lt_of_le hc (show 1 ≤ 2 by decide), i.isLt⟩
    · exact absurd rfl h

instance P_storable : (P (F := F) m).IsStorable where
  st q d c := match q with
    | 0 => (inferInstance : BI.Storable (upEmb : UEmb _ 𝕄) (onlyFirst (coreOf (F := F) c) (opening m d)))
  dn q d c := match q with
    | 0 => (inferInstance : BI.Storable (upEmb : UEmb _ 𝕄) (onlyFirst (coreOf (F := F) c) (closing m d (coreOf (F := F) c))))
  go q d c i := match q with
    | 0 => (inferInstance : BI.Storable (upEmb : UEmb _ 𝕄) (onlyFirst (coreOf (F := F) c) (handed m d (coreOf (F := F) c) (Fin.cast nSub_zero i))))
  td q d c i := match q with
    | 0 => (inferInstance : BI.Storable (upEmb : UEmb _ 𝕄) (onlyFirst (coreOf (F := F) c) (returned m d (coreOf (F := F) c) (Fin.cast nSub_zero i))))

/-! ## A tile's own storage -/

variable (d : Dev nD) (L : grid0.Coords)

/-- A tile's own buffers and semaphores, by number. -/
def ownBuf (i : Fin 9) : DevRef τ sig := (tile d L).2.devRef (⟨.vmem, Fin.castLE (show 9 ≤ _ from by decide) i, rfl⟩ : Ref sig .scVector)
def ownSem (i : Fin 17) : GSem nD τ sig := (tile d L, SemLoc.dma i)

theorem ownBuf_injective : Function.Injective (ownBuf d L) := fun i j e =>
  Fin.ext (congrArg Fin.val (eq_of_heq (DevRef.mk.inj e).2.1))
theorem ownSem_injective : Function.Injective (ownSem d L) := fun i j e => by
  exact SemLoc.dma.inj (Prod.mk.inj e).2

section Whole

variable {sp : Space} {n : ℕ} [NeZero n] {e : EltTy} {M : Memref sig .scVector sp ⟨1, ![n]⟩ e} (hM : M.view.set = Finset.univ) (thr : Thread nD τ)

/-- A whole buffer, at whatever it holds. -/
theorem any_held {M : Memref sig thr.2.kind sp ⟨1, ![n]⟩ e} (hM : M.view.set = Finset.univ) :
    iprop(∃ f, M.view.loc thr ↦{fullShare} f) ⊢ (iprop(∃ g, Held thr M fullShare g) : sProp 𝕄) := by
  iintro ⟨%f, H⟩
  ihave H' := (Entails.of_eq (show (M.view.loc thr ↦{fullShare} f : sProp 𝕄) = (M.view.loc thr ↦[M.view.set]{fullShare} f) by rw [hM])) $$ H
  ihave H'' := (Held.of_buf thr) $$ H'
  iexists _; iexact H''
theorem held_any {M : Memref sig thr.2.kind sp ⟨1, ![n]⟩ e} (hM : M.view.set = Finset.univ) :
    (iprop(∃ g, Held thr M fullShare g) : sProp 𝕄) ⊢ iprop(∃ f, M.view.loc thr ↦{fullShare} f) := by
  unfold Held
  iintro ⟨%g, %f, -, H⟩
  iexists f
  iapply (Entails.of_eq (show (M.view.loc thr ↦[M.view.set]{fullShare} f : sProp 𝕄) = (M.view.loc thr ↦{fullShare} f) by rw [hM])) $$ H

end Whole

/-- Its nine buffers, each at whatever it holds, and its semaphores at zero. -/
abbrev tileBufs : sProp 𝕄 := iprop((∃ g, Held (tile d L) bD fullShare g) ∗ (∃ g, Held (tile d L) bC fullShare g) ∗ (∃ g, Held (tile d L) bB fullShare g) ∗ (∃ g, Held (tile d L) bY fullShare g) ∗ (∃ g, Held (tile d L) bU fullShare g) ∗ (∃ g, Held (tile d L) bH fullShare g) ∗ (∃ g, Held (tile d L) bA fullShare g) ∗ (∃ g, Held (tile d L) bP fullShare g) ∗ (∃ g, Held (tile d L) bM fullShare g))
abbrev tileSems : sProp 𝕄 := iprop(Sm d L cc0_scoped0 ∗ Sm d L cc0_scoped1 ∗ Sm d L cc0_scoped2 ∗ Sm d L cc0_scoped3 ∗ Sm d L cc0_scoped4 ∗ Sm d L cc0_scoped5 ∗ Sm d L cc0_scoped6 ∗ Sm d L cc0_scoped7 ∗ Sm d L cc0_scoped8 ∗ Sm d L cc0_scoped9 ∗ Sm d L cc0_scoped10 ∗ Sm d L cc0_scoped11 ∗ Sm d L cc0_scoped12 ∗ Sm d L cc0_scoped13 ∗ Sm d L cc0_scoped14 ∗ Sm d L cc0_scoped15 ∗ Sm d L cc0_scoped16)

theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem own_bufs : (scopedBufs (tile d L) : sProp 𝕄) ⊢ iprop(tileBufs d L ∗ (tileBufs d L -∗ scopedBufs (tile d L))) := by
  rw [(K (F := F)).scopedBufs_V facts d (cV L) (Fin.castLE hsub16 (jL L))]
  unfold SparseCore.Cfg.ownBufs
  have hs : Finset.univ.image (ownBuf d L) ⊆ ownRefs (τ := τ) (sig := sig) (.scVector (cV L) (Fin.castLE hsub16 (jL L))) := fun b hb => by
    obtain ⟨i, -, rfl⟩ := Finset.mem_image.mp hb
    exact SparseCore.Cfg.mem_ownRefs_of_owner rfl
  rw [SparseCore.bigSep_sdiff_split' hs, SparseCore.bigSep_image_of_injOn (fun a _ b _ e => ownBuf_injective d L e), fin9]
  show iprop(iprop((∃ f, View.loc (tile d L) bD.view ↦{fullShare} f) ∗ (∃ f, View.loc (tile d L) bC.view ↦{fullShare} f) ∗ (∃ f, View.loc (tile d L) bB.view ↦{fullShare} f) ∗ (∃ f, View.loc (tile d L) bY.view ↦{fullShare} f) ∗ (∃ f, View.loc (tile d L) bU.view ↦{fullShare} f) ∗ (∃ f, View.loc (tile d L) bH.view ↦{fullShare} f) ∗ (∃ f, View.loc (tile d L) bA.view ↦{fullShare} f) ∗ (∃ f, View.loc (tile d L) bP.view ↦{fullShare} f) ∗ (∃ f, View.loc (tile d L) bM.view ↦{fullShare} f)) ∗ _) ⊢ iprop(_ ∗ (_ -∗ iprop(iprop((∃ f, View.loc (tile d L) bD.view ↦{fullShare} f) ∗ (∃ f, View.loc (tile d L) bC.view ↦{fullShare} f) ∗ (∃ f, View.loc (tile d L) bB.view ↦{fullShare} f) ∗ (∃ f, View.loc (tile d L) bY.view ↦{fullShare} f) ∗ (∃ f, View.loc (tile d L) bU.view ↦{fullShare} f) ∗ (∃ f, View.loc (tile d L) bH.view ↦{fullShare} f) ∗ (∃ f, View.loc (tile d L) bA.view ↦{fullShare} f) ∗ (∃ f, View.loc (tile d L) bP.view ↦{fullShare} f) ∗ (∃ f, View.loc (tile d L) bM.view ↦{fullShare} f)) ∗ _)))
  iintro ⟨⟨HbD, HbC, HbB, HbY, HbU, HbH, HbA, HbP, HbM⟩, Hrest⟩
  isplitr [Hrest]
  · isplitl [HbD]; · iapply (any_held (tile d L) (M := bD) (View.set_whole _)) $$ HbD
    isplitl [HbC]; · iapply (any_held (tile d L) (M := bC) (View.set_whole _)) $$ HbC
    isplitl [HbB]; · iapply (any_held (tile d L) (M := bB) (View.set_whole _)) $$ HbB
    isplitl [HbY]; · iapply (any_held (tile d L) (M := bY) (View.set_whole _)) $$ HbY
    isplitl [HbU]; · iapply (any_held (tile d L) (M := bU) (View.set_whole _)) $$ HbU
    isplitl [HbH]; · iapply (any_held (tile d L) (M := bH) (View.set_whole _)) $$ HbH
    isplitl [HbA]; · iapply (any_held (tile d L) (M := bA) (View.set_whole _)) $$ HbA
    isplitl [HbP]; · iapply (any_held (tile d L) (M := bP) (View.set_whole _)) $$ HbP
    iapply (any_held (tile d L) (M := bM) (View.set_whole _)) $$ HbM
  · iintro ⟨HbD, HbC, HbB, HbY, HbU, HbH, HbA, HbP, HbM⟩
    isplitr [Hrest]
    · isplitl [HbD]; · iapply (held_any (tile d L) (M := bD) (View.set_whole _)) $$ HbD
      isplitl [HbC]; · iapply (held_any (tile d L) (M := bC) (View.set_whole _)) $$ HbC
      isplitl [HbB]; · iapply (held_any (tile d L) (M := bB) (View.set_whole _)) $$ HbB
      isplitl [HbY]; · iapply (held_any (tile d L) (M := bY) (View.set_whole _)) $$ HbY
      isplitl [HbU]; · iapply (held_any (tile d L) (M := bU) (View.set_whole _)) $$ HbU
      isplitl [HbH]; · iapply (held_any (tile d L) (M := bH) (View.set_whole _)) $$ HbH
      isplitl [HbA]; · iapply (held_any (tile d L) (M := bA) (View.set_whole _)) $$ HbA
      isplitl [HbP]; · iapply (held_any (tile d L) (M := bP) (View.set_whole _)) $$ HbP
      iapply (held_any (tile d L) (M := bM) (View.set_whole _)) $$ HbM
    · iexact Hrest

theorem own_sems : (scopedSems0 (tile d L) : sProp 𝕄) = iprop(tileSems d L
    ∗ bigSep (ownCells (tile d L) \ Finset.univ.image (ownSem d L)) fun g => semVal g 0) := by
  rw [SparseCore.Cfg.scopedSems0_V (Val := Elt F) d (cV L) (Fin.castLE hsub16 (jL L))]
  unfold SparseCore.Cfg.ownSems0
  have hs : Finset.univ.image (ownSem d L) ⊆ ownCells (tile d L) := fun g hg => by
    obtain ⟨i, -, rfl⟩ := Finset.mem_image.mp hg
    refine mem_ownCells.mpr ⟨rfl, ?_⟩
    show (SemLoc.dma i : SemLoc sig).isScoped .scVector = true
    clear hg; revert i; decide
  rw [SparseCore.bigSep_sdiff_split' hs, SparseCore.bigSep_image_of_injOn (fun a _ b _ e => ownSem_injective d L e), fin17]
  rfl

end Launch

end Cert.Proof.K

end
-- ==== Proof.Task.lean ====
module

public import proofs.«01_k».proof.Proof.Launch

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ

section Task

variable (m : (ℓ : Loc nD τ sig) → Buf (Elt F) ℓ)
variable (d : Dev nD) (L : grid0.Coords)

theorem later_zero : later 0 = Finset.univ := by simp [later]
theorem later_end : later 11 = ∅ := by decide
theorem debt_end (s : Fin τ.nSC) : debtFrom d s 11 = 0 := by unfold debtFrom; rw [later_end, Finset.sum_empty]

/-- The result's buffer, at whatever it holds and at what the run leaves there. -/
theorem result_any : (locO d ↦{fullShare} m (locO d) : sProp 𝕄) ⊢ iprop(∃ g, Held (tile d L) mO fullShare g) := by
  iintro H
  iapply (any_held (tile d L) (M := mO) (View.set_whole _))
  iapply (show (locO d ↦{fullShare} m (locO d) : sProp 𝕄) ⊢ iprop(∃ f, View.loc (tile d L) mO.view ↦{fullShare} f) from
    BI.BIClass.exists_intro (Φ := fun f : Buf (Elt F) (locO d) => (locO d ↦{fullShare} f : sProp 𝕄)) (m (locO d))) $$ H
theorem result_made : (Held (tile d L) mO fullShare (fun k => out (seqD m d) (seqC m d) (seqB m d) (seqY m d) (lane k)) : sProp 𝕄) ⊢ (locO d ↦{fullShare} made m d) := by
  refine (Held.toPts (tile d L) (m := mO) (f := (made m d : FVec F S16 .f32)) ?_).trans (Entails.of_eq (by rw [View.set_whole]))
  funext x
  show out (seqD m d) (seqC m d) (seqB m d) (seqY m d) x = out (seqD m d) (seqC m d) (seqB m d) (seqY m d) (lane (x 0).val)
  congr 1; funext a
  match a with
  | 0 => exact Fin.ext (Nat.mod_eq_of_lt (x 0).isLt).symm

/-- The partial results' vectors whole, at whatever they hold. -/
theorem parts_any : (iprop(∃ g, Held (tile d L) sP fullShare g) : sProp 𝕄) ⊢ iprop(∃ f, locP d (cV L) ↦{fullShare} f) :=
  held_any (tile d L) (M := sP) (View.set_whole _)
theorem rowP_any (h1 : k0_cond1 L = 1#1) : (iprop(∃ f, locP d (cV L) ↦[setP (jL L)]{fullShare} f) : sProp 𝕄) ⊢ iprop(∃ g, Held (tile d L) (rowP L h1) fullShare g) := by
  iintro ⟨%f, H⟩
  iexists _; iapply (rowP_of d L h1 f) $$ H
theorem rowH_any (h1 : k0_cond1 L = 1#1) : (iprop(∃ f, locH d (cV L) ↦[setH (jL L)]{fullShare} f) : sProp 𝕄) ⊢ iprop(∃ g, Held (tile d L) (rowH L h1) fullShare g) := by
  iintro ⟨%f, H⟩
  iexists _; iapply (rowH_of d L h1 f) $$ H
theorem rowH_back (h1 : k0_cond1 L = 1#1) : (iprop(∃ g, Held (tile d L) (rowH L h1) fullShare g) : sProp 𝕄) ⊢ iprop(∃ f, locH d (cV L) ↦[setH (jL L)]{fullShare} f) := by
  iintro ⟨%g, H⟩
  iexists (buf 4096 (fun k => g (k - 256 * (jL L).val)) : S4096.Idx → BitVec 32)
  iapply (rowH_to d L h1 (g := g) (fun k => g (k - 256 * (jL L).val)) (fun k _ => by rw [Nat.add_sub_cancel_left])) $$ H

set_option maxHeartbeats 1000000 in
/-- A tile's task on the working SparseCore. -/
theorem task_run (h1 : k0_cond1 L = 1#1) (O : CellTallies nD τ sig (HIx 11)) (W : Waits sig (HIx 11)) (hO0 : ∀ g, O g none = 0) (hO : ∀ g ι, 0 < O g ι → 86 ≤ (K (F := F)).lev g ι) :
    iprop(levAts (K (F := F)).L (K (F := F)).lev ∗ kit m d (cV L) (jL L) ∗ handed m d (cV L) (jL L) ∗ scopedBufs (tile d L) ∗ scopedSems0 (tile d L)
        ∗ owes (tile d L) (O + debtFrom d (cV L) 0) W)
      ⊢ wp frame (wpE (defs₀ (F := F)) 𝒱₀ (tile d L) none) Set.univ (cc0__sc_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(returned m d (cV L) (jL L) ∗ scopedBufs (tile d L) ∗ scopedSems0 (tile d L)
            ∗ ∃ W', ⌜∀ p ∈ W', p ∈ W ∨ p.2 = none ∨ ∃ r, p.2 = some r⌝ ∗ owes (tile d L) O W') := by
  rw [own_sems]
  rw [← bind_pure (cc0__sc_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)]
  unfold kit handed rows4
  iintro ⟨#Hlv, ⟨⟨%κ, #Hinv⟩, Htk, Hat⟩, ⟨⟨HrD, HrC, HrB, HrY⟩, HrH, HrP, HO⟩, Hbufs, ⟨⟨H0, H1, H2, H3, H4, H5, H6, H7, H8, H9, H10, H11, H12, H13, H14, H15, H16⟩, Hsems⟩, Howes⟩
  ihave Hb := (own_bufs d L) $$ Hbufs
  icases Hb with ⟨⟨HD, HC, HB, HY, HU, HH, HA, HP, HM⟩, Hback⟩
  ihave HrP' := (rowP_any d L h1) $$ HrP
  ihave HrH' := (rowH_any d L h1) $$ HrH
  ihave HrD' := (rowD_iff d L h1 _).1 $$ HrD
  ihave HrC' := (rowC_iff d L h1 _).1 $$ HrC
  ihave HrB' := (rowB_iff d L h1 _).1 $$ HrB
  ihave HrY' := (rowY_iff d L h1 _).1 $$ HrY
  iapply (body_run (seqD m d) (seqC m d) (seqB m d) (seqY m d) d L h1 hO0 hO (W := W) (κ := κ)) $$ [Htk Hat Howes HrD' HrC' HrB' HrY' HD HC HB HY HU HH HA HP HM HrP' HrH' H0 H1 H2 H3 H4 H5 H6 H7 H8 H9 H10 H11 H12 H13 H14 H15 H16 HO]
  · isplitr
    · unfold Near Around
      isplitl; · iexact Hlv
      iexact Hinv
    isplitl [Htk Hat Howes]
    · unfold At Standing
      isplitl [Howes]; · iapply OwesW.intro; iexact Howes
      isplitl [Htk]
      · rw [later_zero]; iexact Htk
      iexact Hat
    isplitl [HrD']; · iexact HrD'
    isplitl [HrC']; · iexact HrC'
    isplitl [HrB']; · iexact HrB'
    isplitl [HrY']; · iexact HrY'
    isplitl [HD]; · iexact HD
    isplitl [HC]; · iexact HC
    isplitl [HB]; · iexact HB
    isplitl [HY]; · iexact HY
    isplitl [HU]; · iexact HU
    isplitl [HH]; · iexact HH
    isplitl [HA]; · iexact HA
    isplitl [HP]; · iexact HP
    isplitl [HM]; · iexact HM
    isplitl [HrP']; · iexact HrP'
    isplitl [HrH']; · iexact HrH'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    by_cases hj : jL L = 0
    · simp only [if_pos hj]
      iapply (result_any m d L); iexact HO
    · simp only [if_neg hj]
      iexact HO
  iintro ⟨Hat, Hbar, HrD, HrC, HrB, HrY, HD, HC, HB, HY, HU, HH, HA, HP, HM, HrH, H0, H1, H2, H3, H4, H5, H6, H7, H8, H9, H10, H11, H12, H13, H14, H15, H16, HO⟩
  rw [wp_pure]
  imodintro
  unfold At Standing
  icases Hat with ⟨Howes, -, -⟩
  unfold returned rows4
  isplitl [Hbar HrD HrC HrB HrY HrH HO]
  · isplitl [HrD HrC HrB HrY]
    · isplitl [HrD]; · iapply (rowD_iff d L h1 _).2; iexact HrD
      isplitl [HrC]; · iapply (rowC_iff d L h1 _).2; iexact HrC
      isplitl [HrB]; · iapply (rowB_iff d L h1 _).2; iexact HrB
      iapply (rowY_iff d L h1 _).2; iexact HrY
    isplitl [HrH]; · iapply (rowH_back d L h1); iexact HrH
    isplitl [HO]
    · by_cases hj : jL L = 0
      · simp only [if_pos hj]
        icases HO with ⟨HP, HO⟩
        isplitl [HP]; · iapply (parts_any d L); iexact HP
        iapply (result_made m d L); iexact HO
      · simp only [if_neg hj]
        iexact HO
    iexact Hbar
  isplitl [Hback HD HC HB HY HU HH HA HP HM]
  · iapply Hback
    isplitl [HD]; · iexact HD
    isplitl [HC]; · iexact HC
    isplitl [HB]; · iexact HB
    isplitl [HY]; · iexact HY
    isplitl [HU]; · iexact HU
    isplitl [HH]; · iexact HH
    isplitl [HA]; · iexact HA
    isplitl [HP]; · iexact HP
    iexact HM
  isplitl [Hsems H0 H1 H2 H3 H4 H5 H6 H7 H8 H9 H10 H11 H12 H13 H14 H15 H16]
  · isplitr [Hsems]; swap; · iexact Hsems
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  ihave Howes' := (Entails.of_eq (show (OwesW (tile d L) (O + debtFrom d (cV L) 11) W : sProp 𝕄) = iprop(∃ W', ⌜∀ p ∈ W', p ∈ W ∨ p.2 = none ∨ ∃ r, p.2 = some r⌝ ∗ owes (tile d L) O W') by
    rw [debt_end, add_zero]; rfl)) $$ Howes
  iexact Howes'

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0__sc_body (coordsV c s) mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

/-- On the other SparseCore a task does nothing. -/
theorem body_idle (h1 : ¬ k0_cond1 L = 1#1) : cc0__sc_body (F := F) L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 = pure ⟨⟩ := by
  rw [cc0__sc_body_eq_skeleton]
  unfold cc0__sc_body_skel
  simp only [dif_neg h1, pure_bind]

theorem task_idle (h1 : ¬ k0_cond1 L = 1#1) (O : CellTallies nD τ sig (HIx 11)) (W : Waits sig (HIx 11)) :
    iprop(levAts (K (F := F)).L (K (F := F)).lev ∗ emp ∗ emp ∗ scopedBufs (tile d L) ∗ scopedSems0 (tile d L) ∗ owes (tile d L) (O + 0) W)
      ⊢ wp frame (wpE (defs₀ (F := F)) 𝒱₀ (tile d L) none) Set.univ (cc0__sc_body L mD (Memref.isWhole_whole _) mC (Memref.isWhole_whole _) mB (Memref.isWhole_whole _) mY (Memref.isWhole_whole _) mO (Memref.isWhole_whole _) bD (Memref.isWhole_whole _) bC (Memref.isWhole_whole _) bB (Memref.isWhole_whole _) bY (Memref.isWhole_whole _) bU (Memref.isWhole_whole _) bH (Memref.isWhole_whole _) bA (Memref.isWhole_whole _) bP (Memref.isWhole_whole _) bM (Memref.isWhole_whole _) sH (Memref.isWhole_whole _) sP (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => (iprop(emp ∗ scopedBufs (tile d L) ∗ scopedSems0 (tile d L)
            ∗ ∃ W', ⌜∀ p ∈ W', p ∈ W ∨ p.2 = none ∨ ∃ r, p.2 = some r⌝ ∗ owes (tile d L) O W') : sProp 𝕄) := by
  rw [body_idle L h1, wp_pure, add_zero]
  iintro ⟨-, -, -, Hb, Hs, HO⟩
  imodintro
  isplitr; · iempintro
  isplitl [Hb]; · iexact Hb
  isplitl [Hs]; · iexact Hs
  iexists W; isplitr
  · ipureintro; exact fun p hp => .inl hp
  · iexact HO

set_option maxRecDepth 16384 in
theorem tileObl : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  have hlev : ∀ g ι, 0 < O g ι → 86 ≤ (K (F := F)).lev g ι := hOlev
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h1 : k0_cond1 (coordsV ⟨_, hci.1⟩ ⟨_, hci.2⟩) = 1#1
  · have hc : ((K (F := F)).core 0 c).val < 1 := by
      have := (cond1_iff _).mp h1
      exact Nat.lt_one_iff.mpr this
    rw [show (P m).ox 0 (V d ((K (F := F)).core 0 c) ((K (F := F)).sub 0 i)) = debtFrom d ((K (F := F)).core 0 c) 0 from if_pos hc,
      show (P m).x 0 (V d ((K (F := F)).core 0 c) ((K (F := F)).sub 0 i)) = kit m d ((K (F := F)).core 0 c) (Fin.cast nSub_eq ((K (F := F)).sub 0 i)) from if_pos hc,
      show (P m).go 0 d c i = handed m d (coreOf (F := F) c) (Fin.cast nSub_zero i) from if_pos hc,
      show (P m).td 0 d c i = returned m d (coreOf (F := F) c) (Fin.cast nSub_zero i) from if_pos hc]
    exact task_run m d (coordsV ⟨_, hci.1⟩ ⟨_, hci.2⟩) h1 O W hO hlev
  · have hc : ¬ ((K (F := F)).core 0 c).val < 1 := fun h => h1 ((cond1_iff _).mpr (Nat.lt_one_iff.mp h))
    rw [show (P m).ox 0 (V d ((K (F := F)).core 0 c) ((K (F := F)).sub 0 i)) = 0 from if_neg hc,
      show (P m).x 0 (V d ((K (F := F)).core 0 c) ((K (F := F)).sub 0 i)) = iprop(emp) from if_neg hc,
      show (P m).go 0 d c i = iprop(emp) from if_neg hc,
      show (P m).td 0 d c i = iprop(emp) from if_neg hc]
    exact task_idle d (coordsV ⟨_, hci.1⟩ ⟨_, hci.2⟩) h1 O W

end Task

end Cert.Proof.K

end
-- ==== Proof.Deal.lean ====
module

public import proofs.«01_k».proof.Proof.Task

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

attribute [local instance] blocks

local notation "𝕄" => MT nD τ sig (HIx 11) (Elt F) ℕ UU ℕ

section Deal

variable (m : (ℓ : Loc nD τ sig) → Buf (Elt F) ℓ)

/-! ## The rows split and join -/

theorem cols_rows (d : Dev nD) : (cols4 m d : sProp 𝕄) = bigSep Finset.univ fun i => rows4 m d i := by
  unfold cols4 rows4
  rw [BI.bigSep_sep', BI.bigSep_sep', BI.bigSep_sep',
    rows_whole (ℓ := locD d) (m (locD d)) disjX coverX fullShare, rows_whole (ℓ := locC d) (m (locC d)) disjX coverX fullShare,
    rows_whole (ℓ := locB d) (m (locB d)) disjX coverX fullShare, rows_whole (ℓ := locY d) (m (locY d)) disjX coverX fullShare]

theorem first_only (A : sProp 𝕄) : (bigSep Finset.univ fun i : Fin 16 => if i = 0 then A else iprop(emp)) = A := by
  rw [SparseCore.bigSep_erase' (Finset.mem_univ (0 : Fin 16)), if_pos rfl,
    show (bigSep (Finset.univ.erase (0 : Fin 16)) (fun i : Fin 16 => if i = 0 then A else iprop(emp))) = bigSep (Finset.univ.erase (0 : Fin 16)) fun _ => iprop(emp) from
      bigSep_congr fun j hj => if_neg (Finset.ne_of_mem_erase hj), all_emp]; exact equiv_iff.mp BI.sep_emp

/-- A buffer cut in rows, each at whatever it holds, and back. -/
theorem rows_out {ℓ : Loc nD τ sig} {S : Fin 16 → Finset (Idx ℓ)} (hd : ∀ i j, i ≠ j → Disjoint (S i) (S j)) (hu : Finset.univ.biUnion S = Finset.univ) :
    (iprop(∃ f, ℓ ↦{fullShare} f) : sProp 𝕄) ⊢ bigSep Finset.univ fun i => iprop(∃ f, ℓ ↦[S i]{fullShare} f) := by
  iintro ⟨%f, H⟩
  ihave H' := (Entails.of_eq (rows_whole f hd hu fullShare).symm) $$ H
  iapply (SparseCore.ent (bigSep_mono (s := Finset.univ) (Φ := fun i => (ℓ ↦[S i]{fullShare} f : sProp 𝕄)) (Ψ := fun i => iprop(∃ f, ℓ ↦[S i]{fullShare} f))
    fun i _ => BI.BIClass.exists_intro (Φ := fun f : Buf (Elt F) ℓ => (ℓ ↦[S i]{fullShare} f : sProp 𝕄)) f)) $$ H'
theorem rows_in {ℓ : Loc nD τ sig} {S : Fin 16 → Finset (Idx ℓ)} (hd : ∀ i j, i ≠ j → Disjoint (S i) (S j)) (hu : Finset.univ.biUnion S = Finset.univ) :
    (bigSep Finset.univ fun i => iprop(∃ f, ℓ ↦[S i]{fullShare} f)) ⊢ (iprop(∃ f, ℓ ↦{fullShare} f) : sProp 𝕄) := by
  refine (bigSep_exists_pi Finset.univ (fun i (f : Buf (Elt F) ℓ) => (ℓ ↦[S i]{fullShare} f : sProp 𝕄))).trans ?_
  iintro ⟨%fs, H⟩
  ihave H' := (pointsTo_biUnion_join Finset.univ S fs (fs 0) (fun i _ j _ h => hd i j h)) $$ H
  icases H' with ⟨%g, -, Hg⟩
  rw [hu]
  iexists g; iexact Hg

theorem bigSep_four (A B C D : Fin 16 → sProp (MT nD τ sig (HIx 11) (Elt F) ℕ UU ℕ)) :
    (bigSep Finset.univ fun i => iprop(A i ∗ B i ∗ C i ∗ D i)) = iprop(bigSep Finset.univ A ∗ bigSep Finset.univ B ∗ bigSep Finset.univ C ∗ bigSep Finset.univ D) := by
  rw [BI.bigSep_sep', BI.bigSep_sep', BI.bigSep_sep']

theorem handed_eq (d : Dev nD) (c : Fin τ.nSC) : (bigSep Finset.univ fun i => handed m d c i : sProp 𝕄)
    = iprop(cols4 m d ∗ (bigSep Finset.univ fun i => iprop(∃ f, locH d c ↦[setH i]{fullShare} f)) ∗ (bigSep Finset.univ fun i => iprop(∃ f, locP d c ↦[setP i]{fullShare} f))
        ∗ (locO d ↦{fullShare} m (locO d))) :=
  (bigSep_four (fun i => rows4 m d i) (fun i => iprop(∃ f, locH d c ↦[setH i]{fullShare} f)) (fun i => iprop(∃ f, locP d c ↦[setP i]{fullShare} f))
    (fun i => if i = 0 then iprop(locO d ↦{fullShare} m (locO d)) else iprop(emp))).trans
    (congrArg₂ (fun a b : sProp 𝕄 => iprop(a ∗ _ ∗ _ ∗ b)) (cols_rows m d).symm (first_only _))
theorem returned_eq (d : Dev nD) (c : Fin τ.nSC) : (bigSep Finset.univ fun i => returned m d c i : sProp 𝕄)
    = iprop(cols4 m d ∗ (bigSep Finset.univ fun i => iprop(∃ f, locH d c ↦[setH i]{fullShare} f))
        ∗ ((∃ f, locP d c ↦{fullShare} f) ∗ (locO d ↦{fullShare} made m d)) ∗ (bigSep Finset.univ fun i : Fin 16 => semVal (bcell d c i) 0)) :=
  (bigSep_four (fun i => rows4 m d i) (fun i => iprop(∃ f, locH d c ↦[setH i]{fullShare} f))
    (fun i => if i = 0 then iprop((∃ f, locP d c ↦{fullShare} f) ∗ (locO d ↦{fullShare} made m d)) else iprop(emp)) (fun i => iprop(semVal (bcell d c i) 0))).trans
    (congrArg₂ (fun a b : sProp 𝕄 => iprop(a ∗ _ ∗ b ∗ _)) (cols_rows m d).symm (first_only _))

theorem hand_out (d : Dev nD) (c : Fin τ.nSC) :
    iprop(opening m d ∗ (∃ f, locH d c ↦{fullShare} f) ∗ (∃ f, locP d c ↦{fullShare} f)) ⊢ (bigSep Finset.univ fun i => handed m d c i : sProp 𝕄) := by
  refine BIBase.Entails.trans ?_ (Entails.of_eq (handed_eq m d c).symm)
  unfold opening
  iintro ⟨⟨Hc, HO⟩, HH, HP⟩
  isplitl [Hc]; · iexact Hc
  isplitl [HH]; · iapply (rows_out (F := F) (ℓ := locH d c) (S := setH) disjH coverH) $$ HH
  isplitl [HP]; · iapply (rows_out (F := F) (ℓ := locP d c) (S := setP) disjP coverP) $$ HP
  iexact HO
theorem take_back (d : Dev nD) (c : Fin τ.nSC) :
    (bigSep Finset.univ fun i => returned m d c i : sProp 𝕄) ⊢ iprop(closing m d c ∗ (∃ f, locH d c ↦{fullShare} f) ∗ (∃ f, locP d c ↦{fullShare} f)) := by
  refine (Entails.of_eq (returned_eq m d c)).trans ?_
  unfold closing
  iintro ⟨Hc, HH, ⟨HP, HO⟩, Hb⟩
  isplitl [Hc HO Hb]
  · isplitl [Hc]; · iexact Hc
    isplitl [HO]; · iexact HO
    iexact Hb
  isplitl [HH]; · iapply (rows_in disjH coverH); iexact HH
  iexact HP

/-- The shared scratch is the sequencer's own. -/
theorem ownBufs_S (d : Dev nD) (c : Fin τ.nSC) : ∃ R : sProp 𝕄, (ownBufs (S d c) : sProp 𝕄)
    = iprop((∃ f, locH d c ↦{fullShare} f) ∗ (∃ f, locP d c ↦{fullShare} f) ∗ R) := by
  unfold SparseCore.Cfg.ownBufs
  refine ⟨bigSep (((ownRefs (τ := τ) (sig := sig) (.scScalar c)).erase ⟨.shared, ⟨0, by decide⟩, c⟩).erase ⟨.shared, ⟨1, by decide⟩, c⟩) fun b => iprop(∃ f, (d, b) ↦{fullShare} f), ?_⟩
  rw [SparseCore.bigSep_erase' (show (⟨.shared, ⟨0, by decide⟩, c⟩ : DevRef τ sig) ∈ ownRefs (τ := τ) (sig := sig) (.scScalar c) from mem_ownRefs.mpr rfl),
    SparseCore.bigSep_erase' (show (⟨.shared, ⟨1, by decide⟩, c⟩ : DevRef τ sig) ∈ (ownRefs (τ := τ) (sig := sig) (.scScalar c)).erase ⟨.shared, ⟨0, by decide⟩, c⟩ from
      Finset.mem_erase.mpr ⟨fun e => absurd (congrArg Fin.val (eq_of_heq (DevRef.mk.inj e).2.1)) (by decide), mem_ownRefs.mpr rfl⟩)]

theorem bigSep_tasks (Φ : Fin 16 → sProp (MT nD τ sig (HIx 11) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit (P m) 0 := by
  intro d c
  show iprop(onlyFirst (coreOf (F := F) c) (opening m d) ∗ ownBufs (S d (coreOf (F := F) c))) ⊢ |={Set.univ}=> iprop(
      (bigSep Finset.univ fun i : Fin ((K (F := F)).nSub 0) => onlyFirst (coreOf (F := F) c) (handed m d (coreOf (F := F) c) (Fin.cast nSub_zero i)))
      ∗ ((bigSep Finset.univ fun i : Fin ((K (F := F)).nSub 0) => onlyFirst (coreOf (F := F) c) (returned m d (coreOf (F := F) c) (Fin.cast nSub_zero i)))
          -∗ iprop(onlyFirst (coreOf (F := F) c) (closing m d (coreOf (F := F) c)) ∗ ownBufs (S d (coreOf (F := F) c)))))
  rw [bigSep_tasks (F := F) (fun i => onlyFirst (coreOf (F := F) c) (handed m d (coreOf (F := F) c) i)),
    bigSep_tasks (F := F) (fun i => onlyFirst (coreOf (F := F) c) (returned m d (coreOf (F := F) c) i))]
  unfold onlyFirst
  by_cases hc : (coreOf (F := F) c).val < 1
  · simp only [if_pos hc]
    obtain ⟨R, hR⟩ := ownBufs_S (F := F) d (coreOf (F := F) c)
    rw [hR]
    iintro ⟨Hst, HH, HP, HR⟩; imodintro
    isplitr [HR]
    · iapply (hand_out m d (coreOf (F := F) c))
      isplitl [Hst]; · iexact Hst
      isplitl [HH]; · iexact HH
      iexact HP
    iintro Hb
    ihave Hb' := (take_back m d (coreOf (F := F) c)) $$ Hb
    icases Hb' with ⟨Hc, HH, HP⟩
    isplitl [Hc]; · iexact Hc
    isplitl [HH]; · iexact HH
    isplitl [HP]; · iexact HP
    iexact HR
  · simp only [if_neg hc, all_emp]
    iintro ⟨-, HR⟩; imodintro
    isplitr; · iempintro
    iintro -
    isplitr; · iempintro
    iexact HR

/-! ## The launch element, and what the launch hands over -/

/-- The working SparseCore, its tiles and their barrier cells. -/
abbrev C0 : Fin τ.nSC := ⟨0, by decide⟩
abbrev DT : Type := Dev nD × Fin 16
abbrev cellOf (x : DT) : GSem nD τ sig := bcell x.1 C0 x.2
abbrev thrOf (x : DT) : Thread nD τ := V x.1 C0 (Fin.castLE hsub16 x.2)
abbrev tokOf (x : DT × Fin 11 × Fin 16) : GSem nD τ sig × ℕ × ℕ := (bcell x.1.1 C0 x.2.2, x.2.1.val, x.1.2.val)
def bCells : Finset (GSem nD τ sig) := Finset.univ.image cellOf
/-- Tile `i`'s token for meeting `r` in tile `j`'s cell. -/
def bToks : Finset (GSem nD τ sig × ℕ × ℕ) := Finset.univ.image tokOf
def u₀ : UU := (initOf (K (F := F)).hsCells (K (F := F)).hsToks, (initOf bCells bToks, 1))

theorem thrOf_injective : Function.Injective thrOf := fun a b e => by
  obtain ⟨h1, h2⟩ := Prod.mk.inj e
  obtain ⟨-, h3⟩ := Proc.scVector.inj h2
  exact Prod.ext h1 (Fin.ext (congrArg Fin.val h3))
theorem cellOf_injective : Function.Injective cellOf := fun _ _ e => thrOf_injective (Prod.mk.inj e).1
theorem tokOf_injective : Function.Injective tokOf := fun ⟨⟨d, i⟩, r, j⟩ ⟨⟨d', i'⟩, r', j'⟩ e => by
  obtain ⟨h1, h2⟩ := Prod.mk.inj e
  obtain ⟨h2, h3⟩ := Prod.mk.inj h2
  obtain ⟨rfl, rfl⟩ := Prod.mk.inj (cellOf_injective (a₁ := (d, j)) (a₂ := (d', j')) h1)
  obtain rfl := Fin.ext h2
  obtain rfl := Fin.ext h3
  rfl

theorem ownU_split (a : UH) (b : UB) : (ownU ((a, (b, 1)) : UU) : sProp 𝕄) ⊢ iprop(BI.own (EH a) ∗ BI.own (EB (F := F) b)) :=
  BI.own_op_elim ((uEmb (nD := nD) (sig := sig) (Ix := HIx 11) (Val := Elt F) (Name := ℕ) (U := UU) (Lvl := ℕ)).toEmb.op_of_mem
    (Prod.mk_mem_op (URA.mem_op_one a) (URA.mem_one_op (b, (1 : Counters)))))

theorem sems_b : ((K (F := F)).freeOn (· ∈ bCells) : sProp 𝕄) ⊢ bigSep Finset.univ fun x : DT => semVal (cellOf x) 0 := by
  unfold SparseCore.Cfg.freeOn
  refine sep_elim_right.trans ?_
  have hinj : Set.InjOn (fun x : DT => ((x.1, C0, Fin.castLE hsub16 x.2) : Dev nD × Fin τ.nSC × Fin τ.nSub)) (Finset.univ : Finset DT) := fun a _ b _ e =>
    Prod.ext (Prod.mk.inj e).1 (Fin.ext (congrArg Fin.val (Prod.mk.inj (Prod.mk.inj e).2).2))
  refine (BI.bigSep_subset (Finset.subset_univ (Finset.univ.image fun x : DT => ((x.1, C0, Fin.castLE hsub16 x.2) : Dev nD × Fin τ.nSC × Fin τ.nSub)))).trans ?_
  rw [SparseCore.bigSep_image_of_injOn hinj]
  refine bigSep_mono fun x _ => ?_
  exact bigSep_elim (Φ := fun sm : SemLoc sig => (semVal (V x.1 C0 (Fin.castLE hsub16 x.2), sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem cellOf (Finset.mem_univ x)⟩)

theorem tally_sixteen (g : GSem nD τ sig) (ι : HIx 11) : (∑ _ : Fin 16, tallyAt g ι 1) = (tallyAt g ι 16 : CellTallies nD τ sig (HIx 11)) := by
  funext g'
  ext ι'
  rw [Finset.sum_apply, Finsupp.finsetSum_apply, tallyAt_apply]
  simp only [tallyAt_apply]
  split <;> simp

theorem debt_split (d : Dev nD) : (cred (debtFrom d C0 0) : sProp 𝕄)
    = bigSep Finset.univ fun r : Fin 11 => bigSep Finset.univ fun j : Fin 16 => cred (tallyAt (bcell d C0 j) (some r) 1) := by
  unfold debtFrom
  rw [later_zero, SparseCore.Cfg.cred_finsum]
  refine bigSep_congr fun r _ => ?_
  unfold debt
  rw [SparseCore.Cfg.cred_finsum]

/-- The credit for the meetings' debts, regrouped: each tile the sixteen units of its own cell for each meeting. -/
theorem creds_b : ((P (F := F) m).oxCred : sProp 𝕄)
    ⊢ bigSep Finset.univ fun x : DT => bigSep Finset.univ fun r : Fin 11 => cred (tallyAt (cellOf x) (some r) 16) := by
  unfold SparseCore.Cfg.Pay.oxCred
  refine (BI.bigSep_subset (Finset.subset_univ (Finset.univ.image thrOf))).trans ?_
  rw [SparseCore.bigSep_image_of_injOn (fun a _ b _ e => thrOf_injective e)]
  have hox : ∀ x : DT, (P (F := F) m).oxFrom 0 (thrOf x) = debtFrom x.1 C0 0 := fun x => by
    refine ((P m).oxFrom_step 0 (thrOf x)).trans ?_
    have h1 : (P (F := F) m).oxFrom ((0 : Fin 1).val + 1) (thrOf x) = 0 := (P m).oxFrom_end _ le_rfl
    have h0 : (P (F := F) m).ox 0 (thrOf x) = debtFrom x.1 C0 0 := by
      show (if (C0 : Fin τ.nSC).val < 1 then debtFrom x.1 C0 0 else 0) = _
      exact if_pos (by decide)
    rw [h0, h1]; exact add_zero (debtFrom x.1 C0 0)
  simp only [hox, debt_split]
  rw [bigSep_univ_prod, bigSep_univ_prod]
  refine bigSep_mono fun d _ => ?_
  dsimp only
  rw [Pipeline.bigSep_univ_comm (fun (_ : Fin 16) (r : Fin 11) => bigSep Finset.univ fun j : Fin 16 => (cred (tallyAt (bcell d C0 j) (some r) 1) : sProp 𝕄)),
    Pipeline.bigSep_univ_comm (fun (j : Fin 16) (r : Fin 11) => (cred (tallyAt (bcell d C0 j) (some r) 16) : sProp 𝕄))]
  refine bigSep_mono fun r _ => ?_
  rw [Pipeline.bigSep_univ_comm (fun (_ : Fin 16) (j : Fin 16) => (cred (tallyAt (bcell d C0 j) (some r) 1) : sProp 𝕄))]
  refine bigSep_mono fun j _ => ?_
  exact Entails.of_eq ((SparseCore.Cfg.cred_finsum _ _).symm.trans (congrArg cred (tally_sixteen _ _)))

theorem toks_eq : (bigSep bToks fun x => (dutyTok (EB (F := F)) x.1 x.2.1 x.2.2 : sProp 𝕄))
    = bigSep Finset.univ fun x : DT => bigSep Finset.univ fun r : Fin 11 => bigSep Finset.univ fun j : Fin 16 => dutyTok (EB (F := F)) (bcell x.1 C0 j) r.val x.2.val := by
  unfold bToks
  rw [SparseCore.bigSep_image_of_injOn (fun a _ b _ e => tokOf_injective e), bigSep_univ_prod]
  refine bigSep_congr fun x _ => ?_
  rw [bigSep_univ_prod]
theorem cells_eq (Φ : GSem nD τ sig → sProp 𝕄) : bigSep bCells Φ = bigSep Finset.univ fun x : DT => Φ (cellOf x) := by
  unfold bCells; exact SparseCore.bigSep_image_of_injOn (fun a _ b _ e => cellOf_injective e) Φ

/-- The meetings' invariant at the start: nobody has arrived. -/
theorem meet_start (d : Dev nD) (pay : Fin 11 → Fin 16 → Fin 16 → sProp 𝕄) :
    iprop((bigSep Finset.univ fun i : Fin 16 => roundAuth (EB (F := F)) (bcell d C0 i) 0 ∅ 0) ∗ (bigSep Finset.univ fun i : Fin 16 => semVal (bcell d C0 i) 0))
      ⊢ meetBody (bcell d C0) pay := by
  unfold meetBody
  iintro ⟨Ha, Hs⟩
  iexists fun _ => 0, fun _ => 0, fun _ => 0, ∅
  isplitr; · ipureintro; exact good_zero
  isplitl [Ha]; · unfold auths; iexact Ha
  isplitl [Hs]; · unfold counters; iapply (Entails.of_eq (bigSep_congr fun i _ => (if_pos (show 0 - 0 < 11 by decide)).symm)); iexact Hs
  isplitr; · unfold landed; rw [bigSep_empty]; iempintro
  unfold slots
  iapply (Entails.of_eq (show (iprop(emp) : sProp 𝕄) = bigSep Finset.univ fun j => bigSep Finset.univ fun i => bigSep Finset.univ fun r => slot pay (fun _ => 0) (fun _ => 0) j i r from by
    rw [show (fun j : Fin 16 => bigSep Finset.univ fun i : Fin 16 => bigSep Finset.univ fun r => slot pay (fun _ => 0) (fun _ => 0) j i r) = fun _ => (iprop(emp) : sProp 𝕄) from funext fun j => by
      rw [show (fun i : Fin 16 => bigSep Finset.univ fun r => slot pay (fun _ => 0) (fun _ => 0) j i r) = fun _ => (iprop(emp) : sProp 𝕄) from funext fun i => by
        rw [show (fun r => slot pay (fun _ => 0) (fun _ => 0) j i r) = fun _ => (iprop(emp) : sProp 𝕄) from funext fun r => if_neg (fun h => absurd h.2 (Nat.not_lt_zero _)), all_emp], all_emp], all_emp]))
  iempintro

/-- What every meeting of device `d` keeps. -/
abbrev meeting (d : Dev nD) : sProp 𝕄 := meetBody (bcell d C0) (pay (seqD m d) (seqC m d) (seqB m d) (seqY m d) d C0)
/-- The kit of a tile but the invariant. -/
def own3 (x : DT) : sProp 𝕄 :=
  iprop(atPos (EB (F := F)) (cellOf x) 0 ∅ 0
    ∗ (bigSep Finset.univ fun r : Fin 11 => bigSep Finset.univ fun j : Fin 16 => dutyTok (EB (F := F)) (bcell x.1 C0 j) r.val x.2.val)
    ∗ (bigSep Finset.univ fun r : Fin 11 => cred (tallyAt (cellOf x) (some r) 16)))

/-- What is known once and for all goes to each of many. -/
theorem share_known {I : Type} [DecidableEq I] {Q : sProp (MT nD τ sig (HIx 11) (Elt F) ℕ UU ℕ)} [BI.Persistent Q] {A B : I → sProp (MT nD τ sig (HIx 11) (Elt F) ℕ UU ℕ)}
    (h : ∀ i, iprop(Q ∗ A i) ⊢ B i) (s : Finset I) : iprop(Q ∗ bigSep s A) ⊢ bigSep s B := by
  induction s using Finset.induction_on with
  | empty => rw [bigSep_empty, bigSep_empty]; iintro ⟨-, H⟩; iexact H
  | insert a s ha ih =>
    rw [SparseCore.bigSep_insert' ha, SparseCore.bigSep_insert' ha]
    iintro ⟨#HQ, Ha, Hs⟩
    isplitl [Ha]
    · iapply (h a)
      isplitr; · iexact HQ
      iexact Ha
    iapply ih
    isplitr; · iexact HQ
    iexact Hs

theorem kit_made (κ : Dev nD → ℕ) (x : DT) :
    iprop((bigSep Finset.univ fun d : Dev nD => inv (κ d) (meeting m d)) ∗ own3 x) ⊢ (kit m x.1 C0 x.2 : sProp 𝕄) := by
  unfold kit own3 ticket
  rw [BI.bigSep_sep']
  iintro ⟨HI, Hat, Htok, Hcred⟩
  isplitl [HI]
  · iexists κ x.1
    iapply (SparseCore.ent (bigSep_elim (Φ := fun d : Dev nD => (inv (κ d) (meeting m d) : sProp 𝕄)) (Finset.mem_univ x.1))) $$ HI
  isplitl [Htok Hcred]
  · isplitl [Htok]; · iexact Htok
    iexact Hcred
  iexact Hat

/-- The tiles of the working SparseCore have their kits, every other processor nothing. -/
theorem kits_threads : (bigSep Finset.univ fun x : DT => kit m x.1 C0 x.2 : sProp 𝕄)
    ⊢ bigSep Finset.univ fun thr : Thread nD τ => bigSep Finset.univ fun q : Fin 1 => (P (F := F) m).x q thr := by
  rw [SparseCore.bigSep_sdiff_split' (Finset.subset_univ (Finset.univ.image thrOf)), SparseCore.bigSep_image_of_injOn (fun a _ b _ e => thrOf_injective e),
    show (bigSep (Finset.univ \ Finset.univ.image thrOf) fun thr : Thread nD τ => bigSep Finset.univ fun q : Fin 1 => (P (F := F) m).x q thr)
      = bigSep (Finset.univ \ Finset.univ.image thrOf) fun _ => (iprop(emp) : sProp 𝕄) from bigSep_congr fun thr h => by
        rw [bigSep_univ_of_subsingleton (0 : Fin 1)]
        rcases thr with ⟨d, _ | c | ⟨c, i⟩⟩
        · rfl
        · rfl
        · show onlyFirst c (kit m d c (Fin.cast nSub_eq i)) = _
          refine if_neg fun hc => (Finset.mem_sdiff.mp h).2 (Finset.mem_image.mpr ⟨(d, Fin.cast nSub_eq i), Finset.mem_univ _, ?_⟩)
          obtain rfl : c = C0 := Fin.ext (Nat.lt_one_iff.mp hc)
          rfl, all_emp]
  iintro H
  isplitl [H]
  · iapply (Entails.of_eq (bigSep_congr (s := Finset.univ) (Φ := fun x : DT => (kit m x.1 C0 x.2 : sProp 𝕄))
      (Ψ := fun x : DT => bigSep Finset.univ fun q : Fin 1 => (P (F := F) m).x q (thrOf x)) fun x _ => by
        rw [bigSep_univ_of_subsingleton (0 : Fin 1)]
        show _ = onlyFirst C0 (kit m x.1 C0 (Fin.cast nSub_eq (Fin.castLE hsub16 x.2)))
        exact (if_pos Nat.one_pos).symm)) $$ H
  iempintro

theorem meetings_start : iprop((bigSep Finset.univ fun x : DT => roundAuth (EB (F := F)) (cellOf x) 0 ∅ 0) ∗ (bigSep Finset.univ fun x : DT => semVal (cellOf x) 0))
    ⊢ (bigSep Finset.univ fun d : Dev nD => meeting m d : sProp 𝕄) := by
  rw [bigSep_univ_prod, bigSep_univ_prod, ← BI.bigSep_sep']
  exact bigSep_mono fun d _ => meet_start d _

theorem init_auth (g : GSem nD τ sig) : (Rounds.initState (EB (F := F)) g : sProp 𝕄) ⊢ roundAuth (EB (F := F)) g 0 ∅ 0 := by
  unfold Rounds.initState
  exact sep_elim_left

/-- The meetings' part of the launch element, tile by tile. -/
theorem ghost_deal : (BI.own ((EB (F := F)) (initOf bCells bToks)) : sProp 𝕄)
    ⊢ iprop((bigSep Finset.univ fun x : DT => roundAuth (EB (F := F)) (cellOf x) 0 ∅ 0) ∗ (bigSep Finset.univ fun x : DT => atPos (EB (F := F)) (cellOf x) 0 ∅ 0)
      ∗ (bigSep Finset.univ fun x : DT => bigSep Finset.univ fun r : Fin 11 => bigSep Finset.univ fun j : Fin 16 => dutyTok (EB (F := F)) (bcell x.1 C0 j) r.val x.2.val)) := by
  refine (Rounds.own_initOf (EB (F := F)) bCells bToks).trans ?_
  rw [toks_eq, cells_eq (F := F) fun g => Rounds.initState (EB (F := F)) g, cells_eq (F := F) fun g => atPos (EB (F := F)) g 0 ∅ 0]
  exact sep_mono_left (bigSep_mono fun x _ => init_auth (cellOf x))

/-- The kits, from the meetings' ghosts, their semaphores and the credit. -/
theorem kits_alloc : iprop((bigSep Finset.univ fun d : Dev nD => meeting m d) ∗ (bigSep Finset.univ fun x : DT => own3 (F := F) x))
    ⊢ |={Set.univ}=> (bigSep Finset.univ fun x : DT => kit m x.1 C0 x.2 : sProp 𝕄) := by
  iintro ⟨Hms, H3⟩
  imod (inv_alloc_family (E := Set.univ) Finset.univ (meeting m) ∅) $$ Hms with ⟨%κ, -, #Hinv⟩
  imodintro
  iapply (share_known (A := fun x : DT => own3 (F := F) x) (B := fun x : DT => kit m x.1 C0 x.2) (kit_made m κ) Finset.univ)
  isplitr; · iexact Hinv
  iexact H3

theorem own3_all : iprop((bigSep Finset.univ fun x : DT => atPos (EB (F := F)) (cellOf x) 0 ∅ 0)
      ∗ (bigSep Finset.univ fun x : DT => bigSep Finset.univ fun r : Fin 11 => bigSep Finset.univ fun j : Fin 16 => dutyTok (EB (F := F)) (bcell x.1 C0 j) r.val x.2.val)
      ∗ (bigSep Finset.univ fun x : DT => bigSep Finset.univ fun r : Fin 11 => cred (tallyAt (cellOf x) (some r) 16)))
    ⊢ (bigSep Finset.univ fun x : DT => own3 (F := F) x : sProp 𝕄) := by
  unfold own3
  rw [BI.bigSep_sep', BI.bigSep_sep']

theorem hu₀ : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  ihave HB' := (ghost_deal (F := F)) $$ HB
  icases HB' with ⟨Hau, Hat, Htok⟩
  ihave Hsems := (sems_b (F := F)) $$ Hfree
  ihave Hms := (meetings_start m) $$ [Hau Hsems]
  · isplitl [Hau]; · iexact Hau
    iexact Hsems
  ihave Hcred' := (creds_b m) $$ Hcred
  ihave H3 := (own3_all (F := F)) $$ [Hat Htok Hcred']
  · isplitl [Hat]; · iexact Hat
    isplitl [Htok]; · iexact Htok
    iexact Hcred'
  imod (kits_alloc m) $$ [Hms H3] with Hk
  · isplitl [Hms]; · iexact Hms
    iexact H3
  imodintro
  isplitl [HH]; · iexact HH
  isplitr; · rw [all_emp]; iempintro
  iapply (kits_threads m); iexact Hk

end Deal

end Cert.Proof.K

end
-- ==== Proof.Run.lean ====
module

public import proofs.«01_k».proof.Proof.Deal

@[expose] public section

noncomputable section

namespace Cert.Proof.K

open Cert.Kernel Cert.Kernel.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [BitOps F]

attribute [local instance] blocks

local notation "𝕄" => MT nD τ sig (HIx 11) (Elt F) ℕ UU ℕ

section Run

variable (m : (ℓ : Loc nD τ sig) → Buf (Elt F) ℓ) (ρ : Dev nD → PrngReg)

/-! ## @main on the TensorCore -/

abbrev d' (b : Ref sig .tc) : DevRef τ sig := Proc.devRef .tc b
abbrev loc1 (d : Dev nD) : Loc nD τ sig := (SparseCore.T d).loc main_v1
abbrev loc2 (d : Dev nD) : Loc nD τ sig := (SparseCore.T d).loc main_v2
abbrev opSlice : HloOp τ sig (Elt F) := StableHlo.unary main_v0 main_v1 ((extractStridedSlice S1 ![0] · slices_S16_S1_0))
abbrev opShape : HloOp τ sig (Elt F) := StableHlo.reshape main_v1 main_v2 rfl shapeCasts_S1_S_

/-- The TensorCore's arrays. -/
abbrev S7 : Finset (DevRef τ sig) := {d' main_arg0, d' main_arg1, d' main_arg2, d' main_arg3, d' main_v0, d' main_v1, d' main_v2}

theorem held_S7 (d : Dev nD) (W : Valuation τ sig (Elt F)) :
    (held (SparseCore.T d) S7 W : sProp 𝕄) = iprop((locD d ↦{fullShare} W (d' main_arg0)) ∗ (locC d ↦{fullShare} W (d' main_arg1)) ∗ (locB d ↦{fullShare} W (d' main_arg2))
      ∗ (locY d ↦{fullShare} W (d' main_arg3)) ∗ (locO d ↦{fullShare} W (d' main_v0)) ∗ (loc1 d ↦{fullShare} W (d' main_v1)) ∗ (loc2 d ↦{fullShare} W (d' main_v2))) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((locD d ↦{fullShare} W main_arg0) ∗ (locC d ↦{fullShare} W main_arg1) ∗ (locB d ↦{fullShare} W main_arg2)
      ∗ (locY d ↦{fullShare} W main_arg3) ∗ (locO d ↦{fullShare} W main_v0) ∗ (loc1 d ↦{fullShare} W main_v1) ∗ (loc2 d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What the arrays hold once the call has returned, and after each of the two operations behind it. -/
def V1 (d : Dev nD) : Valuation τ sig (Elt F) := Function.update (fun b => m (d, b)) (d' main_v0) (made m d)
def V2 (d : Dev nD) : Valuation τ sig (Elt F) := (opSlice (F := F)).result (V1 m d)
def V3 (d : Dev nD) : Valuation τ sig (Elt F) := (opShape (F := F)).result (V2 m d)
/-- The program's result. -/
def result (d : Dev nD) : Buf (Elt F) (loc2 d) := V3 m d (d' main_v2)

theorem V1_v0 (d : Dev nD) : V1 m d (d' main_v0) = made m d := Function.update_self _ _ _
theorem V1_of (d : Dev nD) {b : Ref sig .tc} (h : b ≠ main_v0) : V1 m d (d' b) = m ((SparseCore.T d).loc b) := Function.update_of_ne (StableHlo.devRef_ne_of_ne h) _ _
theorem V3_of (d : Dev nD) {b : Ref sig .tc} (h0 : b ≠ main_v0) (h1 : b ≠ main_v1) (h2 : b ≠ main_v2) : V3 m d (d' b) = m ((SparseCore.T d).loc b) := by
  unfold V3 V2
  rw [StableHlo.reshape_result_ne (h := h2), StableHlo.unary_result_ne (h := h1), V1_of m d h0]
theorem result_eq (d : Dev nD) : result m d = fun _ => (made m d : FVec F S16 .f32) (pos 16 0) := by
  unfold result V3
  rw [StableHlo.reshape_result]
  unfold V2
  rw [StableHlo.unary_result, V1_v0]
  funext i
  rfl

theorem held_end (d : Dev nD) : (held (SparseCore.T d) S7 ((opShape (F := F)).result (V2 m d)) : sProp 𝕄)
    = iprop((locD d ↦{fullShare} m (locD d)) ∗ (locC d ↦{fullShare} m (locC d)) ∗ (locB d ↦{fullShare} m (locB d)) ∗ (locY d ↦{fullShare} m (locY d))
      ∗ (locO d ↦{fullShare} V3 m d (d' main_v0)) ∗ (loc1 d ↦{fullShare} V3 m d (d' main_v1)) ∗ (loc2 d ↦{fullShare} result m d)) := by
  rw [show (opShape (F := F)).result (V2 m d) = V3 m d from rfl, held_S7, V3_of m d (b := main_arg0) (by decide) (by decide) (by decide),
    V3_of m d (b := main_arg1) (by decide) (by decide) (by decide), V3_of m d (b := main_arg2) (by decide) (by decide) (by decide),
    V3_of m d (b := main_arg3) (by decide) (by decide) (by decide)]
  rfl

theorem st0_eq (d : Dev nD) : (bigSep Finset.univ fun c : Fin ((K (F := F)).nCore 0) => (P m).st 0 d c) = iprop(opening m d ∗ emp) := by
  show (bigSep (Finset.univ : Finset (Fin 2)) fun c => onlyFirst c (opening m d)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = iprop(closing m d C0 ∗ emp) := by
  show (bigSep (Finset.univ : Finset (Fin 2)) fun c => onlyFirst c (closing m d c)) = _
  rw [show (Finset.univ : Finset (Fin 2)) = {0, 1} by decide, SparseCore.bigSep_insert' (by decide), bigSep_singleton]
  rfl

/-- What @main leaves: the columns as they were, the result, the barrier semaphores at zero. -/
abbrev FIN (d : Dev nD) : sProp 𝕄 :=
  iprop(cols4 m d ∗ (loc2 d ↦{fullShare} result m d) ∗ bigSep Finset.univ fun i : Fin 16 => semVal (bcell d C0 i) 0)

theorem hSlice : (opSlice (F := F)).bufs ⊆ S7 := show ({d' main_v0, d' main_v1} : Finset (DevRef τ sig)) ⊆ S7 by decide
theorem hShape : (opShape (F := F)).bufs ⊆ S7 := show ({d' main_v1, d' main_v2} : Finset (DevRef τ sig)) ⊆ S7 by decide

/-- @main on device `d`'s TensorCore: the call, then the slice and the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨HD, HC, HB, HY, HO, H1, H2⟩, Hts, -⟩, -⟩
  iapply ((K (F := F)).wp_run (D (F := F)) 𝒱 (EH := EH) (P := P m) κ d 0) $$ [Hst HD HC HB HY HO H1 H2 Hb Hts]
  isplitr; · iexact Hctx
  isplitl [Hst]; · iexact Hst
  isplitl [HD HC HB HY HO]
  · rw [st0_eq]
    unfold opening cols4
    isplitl
    · isplitr [HO]
      · isplitl [HD]; · iexact HD
        isplitl [HC]; · iexact HC
        isplitl [HB]; · iexact HB
        iexact HY
      iexact HO
    iempintro
  iintro ⟨Hst, Hdn⟩
  ihave Hdn' := (Entails.of_eq (dn0_eq m d)) $$ Hdn
  unfold closing FIN cols4
  icases Hdn' with ⟨⟨⟨HD, HC, HB, HY⟩, HO, Hbars⟩, -⟩
  iapply (wp_hlo_within 𝒱 (SparseCore.T d) none Set.univ (op := opSlice) (S := S7) hSlice (V := V1 m d)) $$ [Hb HD HC HB HY HO H1 H2]
  · isplitl [Hb]; · iexact Hb
    rw [held_S7, V1_v0, V1_of m d (show main_arg0 ≠ main_v0 by decide), V1_of m d (show main_arg1 ≠ main_v0 by decide), V1_of m d (show main_arg2 ≠ main_v0 by decide),
      V1_of m d (show main_arg3 ≠ main_v0 by decide), V1_of m d (show main_v1 ≠ main_v0 by decide), V1_of m d (show main_v2 ≠ main_v0 by decide)]
    isplitl [HD]; · iexact HD
    isplitl [HC]; · iexact HC
    isplitl [HB]; · iexact HB
    isplitl [HY]; · iexact HY
    isplitl [HO]; · iexact HO
    isplitl [H1]; · iexact H1
    iexact H2
  iintro ⟨Hb, Hheld⟩
  rw [wp_ret]; imodintro
  iapply (wp_hlo_within 𝒱 (SparseCore.T d) none Set.univ (op := opShape) (S := S7) hShape (V := V2 m d)) $$ [Hb Hheld]
  · isplitl [Hb]; · iexact Hb
    iexact Hheld
  iintro ⟨Hb, Hheld⟩
  ihave Hh := (Entails.of_eq (held_end m d)) $$ Hheld
  icases Hh with ⟨HD, HC, HB, HY, -, -, H2⟩
  rw [wp_ret]; imodintro; imodintro
  isplitl [Hst]; · iexact Hst
  isplitr [Hb Hts]
  · isplitl [HD HC HB HY]
    · isplitl [HD]; · iexact HD
      isplitl [HC]; · iexact HC
      isplitl [HB]; · iexact HB
      iexact HY
    isplitl [H2]; · iexact H2
    iexact Hbars
  isplitl [Hb]; · iexact Hb
  iexact Hts

/-- What is read off a device at the end. -/
def fq (d : Dev nD) (s' : Phys nD τ sig (Elt F)) : Prop :=
  (s'.mem.mem (locD d) = m (locD d) ∧ s'.mem.mem (locC d) = m (locC d) ∧ s'.mem.mem (locB d) = m (locB d) ∧ s'.mem.mem (locY d) = m (locY d))
    ∧ s'.mem.mem (loc2 d) = result m d ∧ ∀ i : Fin 16, s'.mem.sem (bcell d C0 i) = 0

theorem read_whole (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have keep {A : sProp 𝕄} {φ : Prop} (hA : A ⊢ (⌜φ⌝ : sProp 𝕄)) : ∀ x, A x → φ := fun x hx => hA x hx
  unfold FIN cols4
  intro x hx
  refine ⟨⟨?_, ?_, ?_, ?_⟩, ?_, fun i => ?_⟩
  · exact ((sep_mono_left (sep_elim_left.trans sep_elim_left)).trans (read_whole _ _ s')) x hx
  · exact ((sep_mono_left (sep_elim_left.trans (sep_elim_right.trans sep_elim_left))).trans (read_whole _ _ s')) x hx
  · exact ((sep_mono_left (sep_elim_left.trans (sep_elim_right.trans (sep_elim_right.trans sep_elim_left)))).trans (read_whole _ _ s')) x hx
  · exact ((sep_mono_left (sep_elim_left.trans (sep_elim_right.trans (sep_elim_right.trans sep_elim_right)))).trans (read_whole _ _ s')) x hx
  · exact ((sep_mono_left (sep_elim_right.trans sep_elim_left)).trans (read_whole _ _ s')) x hx
  · exact ((sep_mono_left ((sep_elim_right.trans sep_elim_right).trans (SparseCore.ent (bigSep_elim (Finset.mem_univ i))))).trans (SparseCore.Cfg.semVal_zero_read _ s')) x hx

/-- The meetings' cells end at zero. -/
theorem hA (s' : Phys nD τ sig (Elt F)) (h : ∀ d, fq m d s') (g : GSem nD τ sig) (hg : g ∈ bCells) : s'.mem.sem g = 0 := by
  obtain ⟨⟨d, i⟩, -, rfl⟩ := Finset.mem_image.mp hg
  exact (h d).2.2 i

/-! ## The program's run -/

/-- Where the program ends: the arguments as they were, the result, every semaphore at zero. -/
def QC : PUnit × MemSt nD τ sig (Elt F) → Prop := fun r => (∀ c : Dev nD,
    (r.2.mem (locD c) = m (locD c) ∧ r.2.mem (locC c) = m (locC c) ∧ r.2.mem (locB c) = m (locB c) ∧ r.2.mem (locY c) = m (locY c)) ∧ r.2.mem (loc2 c) = result m c)
  ∧ r.2.sem = fun _ => 0

theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m)
    (fun q _ => match q with | 0 => vecSplit m)
    m ρ main (fun _ => iprop(emp)) (FIN m) (u₀ (F := F)) (hu₀ m) (hmain m ρ) (fq m) (hfin m) (QC m) (fun _ h hz => ⟨fun c => ⟨(h c).1, (h c).2.1⟩, hz⟩)

end Run

/-- `Cert.quiescent_Kernel` (Defs.lean). -/
theorem frame : Cert.quiescent_Kernel := fun m ρ _ =>
  (θ_run Cert.Kernel.defs _ _).mono (fun _ h => ⟨fun c => (h.1 c).1, h.2⟩) (run_main (F := Bits) m ρ)

end Cert.Proof.K

end
-- ==== Proof.RefRun.lean ====
module

public import proofs.«01_k».proof.Defs
public import proofs.«01_k».proof.Proof.Gen.Reference
public import proofs.«01_k».proof.Proof.Gen.Reference.Run
public import Idealize.ShloMosaic.Lib.Quiescent

@[expose] public section

noncomputable section

namespace Cert.Proof.Ref

open Cert.Reference Cert.Reference.Gen Cert.Reference.Value

open Idealize.ShloMosaic Idealize.ShloMosaic.TcCoe Idealize.ShloMosaic.StableHlo Idealize.SL.Sem

variable {F : FTy → Type} [BitOps F]
variable (m : (ℓ : Loc nD τ sig) → Buf (Elt F) ℓ)

/-! ## What the reference's loop and its other operations leave alone -/

/-- A buffer the loop does not write holds at every trip what it held before the loop. -/
theorem loop_keep (c : Dev nD) (r : Ref sig .tc) (h : r ∉ condOps_W ++ while0Ops0_W ++ while0Ops0_1_W ++ while0Ops0_2_W) :
    ∀ k, atK m k c (Proc.devRef .tc r) = entryContents preI m c (Proc.devRef .tc r)
  | 0 => rfl
  | k + 1 => by
    simp only [List.mem_append, not_or] at h
    obtain ⟨⟨⟨h0, h1⟩, h2⟩, h3⟩ := h
    rw [show atK m (k + 1) c = afterL bodyI (after condOps (atK m k c)) from rfl]
    simp only [afterL_cons, afterL_nil]
    rw [after_of_writes_sub while0Ops0_2 _ while0Ops0_2_writes h3, after_of_writes_sub while0Ops0_1 _ while0Ops0_1_writes h2,
      after_of_writes_sub while0Ops0 _ while0Ops0_writes h1, after_of_writes_sub condOps _ condOps_writes h0]
    exact loop_keep c r (by simp only [List.mem_append, not_or]; exact ⟨⟨⟨h0, h1⟩, h2⟩, h3⟩) k

set_option maxRecDepth 100000 in
set_option maxHeartbeats 4000000 in
theorem end_keep (V : Valuation τ sig (Elt F)) :
    after hostOps0_10 V (Proc.devRef .tc main_arg0) = V (Proc.devRef .tc main_arg0) ∧ after hostOps0_10 V (Proc.devRef .tc main_arg1) = V (Proc.devRef .tc main_arg1)
      ∧ after hostOps0_10 V (Proc.devRef .tc main_arg2) = V (Proc.devRef .tc main_arg2) ∧ after hostOps0_10 V (Proc.devRef .tc main_arg3) = V (Proc.devRef .tc main_arg3) := by
  refine ⟨?_, ?_, ?_, ?_⟩ <;> after_reads_simp

set_option maxRecDepth 100000 in
theorem start_keep (c : Dev nD) (r : Ref sig .tc)
    (h : r ∉ hostOps0_W ++ hostOps0_1_W ++ hostOps0_2_W ++ hostOps0_3_W ++ hostOps0_4_W ++ hostOps0_5_W ++ hostOps0_6_W ++ hostOps0_7_W ++ hostOps0_8_W ++ hostOps0_9_W) :
    entryContents preI m c (Proc.devRef .tc r) = launchContents m c (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  simp only [entryContents, afterL_cons, afterL_nil]
  rw [after_of_writes_sub hostOps0_9 _ hostOps0_9_writes h9, after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2, after_of_writes_sub hostOps0_1 _ hostOps0_1_writes h1,
    after_of_writes_sub hostOps0 _ hostOps0_writes h0]

/-- Every buffer's contents at the end. -/
abbrev last (c : Dev nD) : Valuation τ sig (Elt F) := finalContents condOps preI bodyI postI 64 m c

theorem last_arg (c : Dev nD) (r : Ref sig .tc) (hr : r = main_arg0 ∨ r = main_arg1 ∨ r = main_arg2 ∨ r = main_arg3) :
    last m c (Proc.devRef .tc r) = m ((c.tc : Thread nD τ).loc r) := by
  have e : last m c (Proc.devRef .tc r) = after condOps (atK m 64 c) (Proc.devRef .tc r) := by
    simp only [last, finalContents, afterL_cons, afterL_nil]
    rcases hr with rfl | rfl | rfl | rfl
    · exact (end_keep _).1
    · exact (end_keep _).2.1
    · exact (end_keep _).2.2.1
    · exact (end_keep _).2.2.2
  rw [e]
  rcases hr with rfl | rfl | rfl | rfl
  all_goals
    rw [after_of_writes_sub condOps _ condOps_writes (by decide), loop_keep m c _ (by decide +kernel), start_keep m c _ (by decide +kernel)]

/-- The reference's run: its result's buffer at `last`, its arguments as they were. -/
theorem run (ρ : Dev nD → PrngReg) : θ_run (defs (F := F)) (onTc (τ := τ) (main (F := F))) ⟨m, fun _ => 0, ρ⟩ (fun r => ∀ c : Dev nD,
    r.2.mem ((c.tc : Thread nD τ).loc main_v99) = last m c (Proc.devRef .tc main_v99)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run _ _ _).mono (fun _ h c => ⟨h c main_v99 rfl, (h c main_arg0 rfl).trans (last_arg m c _ (.inl rfl)), (h c main_arg1 rfl).trans (last_arg m c _ (.inr (.inl rfl))),
    (h c main_arg2 rfl).trans (last_arg m c _ (.inr (.inr (.inl rfl)))), (h c main_arg3 rfl).trans (last_arg m c _ (.inr (.inr (.inr rfl))))⟩) (run_fold m ρ)

/-- `Cert.quiescent_Reference` (Defs.lean); the reference has no semaphore. -/
theorem frame : Cert.quiescent_Reference := fun m ρ _ =>
  (θ_run Cert.Reference.defs _ _).mono (fun r h => ⟨fun c => (h c).2, sem_eq_zero_of_no_sems (by decide) r.2⟩) (run (F := Bits) m ρ)

end Cert.Proof.Ref

end
-- ==== Proof.RefTable.lean ====
/-
  The values that the reference computes before its loop and after it, in its arguments.
-/
module

public import proofs.«01_k».proof.Proof.RefRun

@[expose] public section

noncomputable section

namespace Cert.Proof.Ref

open Cert.Reference Cert.Reference.Gen Cert.Reference.Value

open Idealize.ShloMosaic Idealize.ShloMosaic.TcCoe Idealize.ShloMosaic.StableHlo Idealize.SL.Sem

variable {F : FTy → Type} [BitOps F]

/-! ## The values, in the arguments -/

/-- The signed words that order like the floats. -/
def keysV (a : FVec F S16384 .f32) : IVec S16384 32 :=
  select (cmpi .slt (bitcastToInt a) (broadcastInDim S16384 ![] bcast_S_S16384 (constantI S_ 32 0#32)))
    (xori (bitcastToInt a) (broadcastInDim S16384 ![] bcast_S_S16384 (constantI S_ 32 2147483647#32))) (bitcastToInt a)

/-- The key of rank 1638. -/
def kthV (a : FVec F S16384 .f32) : IVec S_ 32 :=
  shapeCast S_ (extractStridedSlice S1 ![1637] (Host.sort S16384 0 comparator_i32_d0 (keysV a)) slices_S16384_S1_1637) shapeCasts_S1_S_

/-- The float of that key. -/
def cutV (a : FVec F S16384 .f32) : FVec F S_ .f32 :=
  bitcastToFloat .f32 (select (cmpi .slt (kthV a) (constantI S_ 32 0#32)) (xori (kthV a) (constantI S_ 32 2147483647#32)) (kthV a))

/-- Which keys are below it. -/
def lowV (a : FVec F S16384 .f32) : IVec S16384 1 := cmpi .slt (keysV a) (broadcastInDim S16384 ![] bcast_S_S16384 (kthV a))

/-- The rows of the first 1638 labels, the zero labels first. -/
def rowsV (y : IVec S16384 32) : IVec S1638 32 :=
  (Host.topK S1638 0 (IntOp.cmpi .sgt) (extui 32 (cmpi .eq y (broadcastInDim S16384 ![] bcast_S_S16384 (constantI S_ 32 0#32))) natLt_1_32) sliceFits_S16384_S1638).2

/-- The same rows, a negative one counted from the end. -/
def spotsV (y : IVec S16384 32) : IVec S1638x1 32 :=
  broadcastInDim S1638x1 ![0] bcast_S1638_S1638x1_0 (select (cmpi .slt (rowsV y) (broadcastInDim S1638 ![] bcast_S_S1638 (constantI S_ 32 0#32)))
    (addi (rowsV y) (broadcastInDim S1638 ![] bcast_S_S1638 (constantI S_ 32 16384#32))) (rowsV y))

/-- Which rows these are. -/
def takenV (y : IVec S16384 32) : IVec S16384 1 :=
  Host.scatter scatter_S16384_S1638x1_S1638_n_0_0_1 (fun _ b => b) (broadcastInDim S16384 ![] bcast_S_S16384 (constantI S_ 1 0#1)) (spotsV y)
    (broadcastInDim S1638 ![] bcast_S_S1638 (constantI S_ 1 1#1))

/-- The elements where `k` is set, and zero elsewhere. -/
def maskV (k : IVec S16384 1) (a : FVec F S16384 .f32) : FVec F S16384 .f32 := select k a (broadcastInDim S16384 ![] bcast_S_S16384 (constant S_ .f32 0x00000000#32))

/-- The three rows to sum. -/
def tableV (a c b : FVec F S16384 .f32) (y : IVec S16384 32) : FVec F S3x16x64x16 .f32 :=
  shapeCast S3x16x64x16 (concatenate S3x16384 0 [⟨S1x16384, broadcastInDim S1x16384 ![1] bcast_S16384_S1x16384_1 b⟩,
    ⟨S1x16384, broadcastInDim S1x16384 ![1] bcast_S16384_S1x16384_1 (maskV (takenV y) c)⟩,
    ⟨S1x16384, broadcastInDim S1x16384 ![1] bcast_S16384_S1x16384_1 (maskV (lowV a) a)⟩] concatenates_S1x16384_S1x16384_S1x16384_S3x16384_d0) shapeCasts_S3x16384_S3x16x64x16

variable (m : (ℓ : Loc nD τ sig) → Buf (Elt F) ℓ)

set_option maxRecDepth 100000 in
set_option maxHeartbeats 1000000 in
theorem entry_low (c : Dev nD) : entryContents preI m c (Proc.devRef .tc main_v14) = lowV (m ((c.tc : Thread nD τ).loc main_arg0)) := by
  simp only [entryContents, afterL_cons, afterL_nil]
  after_reads_simp
  rfl

set_option maxRecDepth 100000 in
set_option maxHeartbeats 1000000 in
theorem entry_cut (c : Dev nD) : entryContents preI m c (Proc.devRef .tc main_v12) = cutV (m ((c.tc : Thread nD τ).loc main_arg0)) := by
  simp only [entryContents, afterL_cons, afterL_nil]
  after_reads_simp
  rfl

set_option maxRecDepth 100000 in
set_option maxHeartbeats 400000 in
/-- The last operations before the loop join the three rows. -/
theorem join_rows (V : Valuation τ sig (Elt F)) : after hostOps0_9 V (Proc.devRef .tc main_v35_0)
    = shapeCast S3x16x64x16 (concatenate S3x16384 0 [⟨S1x16384, broadcastInDim S1x16384 ![1] bcast_S16384_S1x16384_1 (V (Proc.devRef .tc main_arg2) : FVec F S16384 .f32)⟩,
    ⟨S1x16384, broadcastInDim S1x16384 ![1] bcast_S16384_S1x16384_1 (V (Proc.devRef .tc main_v27) : FVec F S16384 .f32)⟩,
    ⟨S1x16384, broadcastInDim S1x16384 ![1] bcast_S16384_S1x16384_1 (V (Proc.devRef .tc main_v28) : FVec F S16384 .f32)⟩] concatenates_S1x16384_S1x16384_S1x16384_S3x16384_d0) shapeCasts_S3x16384_S3x16x64x16 := by
  after_reads_simp
  rfl

set_option maxRecDepth 100000 in
set_option maxHeartbeats 400000 in
theorem mask_taken (c : Dev nD) (V : Valuation τ sig (Elt F)) (hV : V (Proc.devRef .tc main_cst) = fun _ => Scalar.ofBits .f32 0x00000000#32) :
    after hostOps0_8 (after hostOps0_7 (after hostOps0_6 V)) (Proc.devRef .tc main_v27) = maskV (V (Proc.devRef .tc main_v26)) (V (Proc.devRef .tc main_arg1)) := by
  after_reads_simp
  rw [hV]
  rfl

set_option maxRecDepth 100000 in
set_option maxHeartbeats 400000 in
theorem entry_taken (c : Dev nD) (V : Valuation τ sig (Elt F))
    (hV : V = after hostOps0_5 (after hostOps0_4 (after hostOps0_3 (after hostOps0_2 (after hostOps0_1 (after hostOps0 (launchContents m c)))))))  :
    V (Proc.devRef .tc main_v26) = takenV (m ((c.tc : Thread nD τ).loc main_arg3))
      ∧ V (Proc.devRef .tc main_arg1) = m ((c.tc : Thread nD τ).loc main_arg1)
      ∧ V (Proc.devRef .tc main_cst) = (fun _ => Scalar.ofBits .f32 0x00000000#32 : FVec F S_ .f32) := by
  subst hV
  refine ⟨?_, ?_, ?_⟩
  · after_reads_simp
    rfl
  · after_reads_simp
  · after_reads_simp
    rfl

set_option maxRecDepth 100000 in
set_option maxHeartbeats 1000000 in
theorem entry_rows (c : Dev nD) (V : Valuation τ sig (Elt F))
    (hV : V = after hostOps0_8 (after hostOps0_7 (after hostOps0_6 (after hostOps0_5 (after hostOps0_4 (after hostOps0_3 (after hostOps0_2 (after hostOps0_1 (after hostOps0 (launchContents m c)))))))))) :
    V (Proc.devRef .tc main_arg2) = (m ((c.tc : Thread nD τ).loc main_arg2))
      ∧ V (Proc.devRef .tc main_v27) = maskV (takenV (m ((c.tc : Thread nD τ).loc main_arg3))) (m ((c.tc : Thread nD τ).loc main_arg1))
      ∧ V (Proc.devRef .tc main_v28) = maskV (lowV (m ((c.tc : Thread nD τ).loc main_arg0))) (m ((c.tc : Thread nD τ).loc main_arg0)) := by
  subst hV
  refine ⟨?_, ?_, ?_⟩
  · after_reads_simp
  · obtain ⟨e1, e2, e3⟩ := entry_taken m c _ rfl
    rw [mask_taken c _ e3, e1, e2]
  · after_reads_simp
    rfl

theorem entry_table (c : Dev nD) : entryContents preI m c (Proc.devRef .tc main_v35_0)
    = tableV (m ((c.tc : Thread nD τ).loc main_arg0)) (m ((c.tc : Thread nD τ).loc main_arg1)) (m ((c.tc : Thread nD τ).loc main_arg2)) (m ((c.tc : Thread nD τ).loc main_arg3)) := by
  simp only [entryContents, afterL_cons, afterL_nil]
  obtain ⟨e1, e2, e3⟩ := entry_rows m c _ rfl
  rw [join_rows, e1, e2, e3]
  rfl

set_option maxRecDepth 100000 in
set_option maxHeartbeats 1000000 in
theorem entry_sums (c : Dev nD) : entryContents preI m c (Proc.devRef .tc main_v35_3) = (fun _ => Scalar.ofBits .f32 0x00000000#32 : FVec F S3x16 .f32)
    ∧ entryContents preI m c (Proc.devRef .tc main_v35_2) = (fun _ => 0#32 : IVec S_ 32) := by
  simp only [entryContents, afterL_cons, afterL_nil]
  constructor
  · after_reads_simp; rfl
  · after_reads_simp; rfl

end Cert.Proof.Ref

end
-- ==== Proof.Count.lean ====
/-
  Counts of positions and sums of small numbers, as 32-bit words: the scans of a vector, and folds and iterated steps.
-/
module

public import proofs.«01_k».proof.Proof.Spec
public import Idealize.ShloMosaic.Lib.WordCmp
public import Idealize.ShloMosaic.Lib.NatWordsOrder
public import Idealize.ShloMosaic.Lib.SortNet.Words

@[expose] public section

noncomputable section

namespace Cert.Proof.K

open Cert.Kernel Cert.Kernel.Gen
open Idealize.ShloMosaic

/-! ## Iterated steps -/

/-- What holds at the start and is kept by every step holds after any number of steps. -/
theorem iter_ind {σ : Type} {n : ℕ} {step : Fin n → σ → σ} {init : σ} (P : ℕ → σ → Prop) (h0 : P 0 init)
    (hs : ∀ (t : Fin n) a, P t.val a → P (t.val + 1) (step t a)) : ∀ k, k ≤ n → P k (iter n step init k)
  | 0, _ => h0
  | k + 1, h => by
    have := hs ⟨k, h⟩ _ (iter_ind P h0 hs k (by omega))
    rw [← iter_succ step init ⟨k, h⟩] at this
    exact this

/-- What holds at the start and is kept by every step holds at the end of a fold over all the positions. -/
theorem foldl_finRange_ind {β : Type} {n : ℕ} {g : β → Fin n → β} {a : β} (P : ℕ → β → Prop) (h0 : P 0 a)
    (hs : ∀ (k : Fin n) b, P k.val b → P (k.val + 1) (g b k)) : P n ((List.finRange n).foldl g a) := by
  have key : ∀ k, k ≤ n → P k (((List.finRange n).take k).foldl g a) := by
    intro k
    induction k with
    | zero => intro _; simpa using h0
    | succ k ih =>
      intro hk
      have hl : k < (List.finRange n).length := by rw [List.length_finRange]; omega
      rw [List.take_succ_eq_append_getElem hl, List.foldl_append]
      have := hs ⟨k, hk⟩ _ (ih (by omega))
      simpa using this
  have := key n le_rfl
  rwa [List.take_of_length_le (by rw [List.length_finRange])] at this

/-! ## Sums and counts -/

/-- The sum of the first `n` terms of `f`. -/
def tot (f : ℕ → ℕ) : ℕ → ℕ
  | 0 => 0
  | n + 1 => tot f n + f n

/-- How many of the first `n` positions `p` holds of. -/
def cnt (p : ℕ → Bool) (n : ℕ) : ℕ := tot (fun k => (p k).toNat) n

theorem tot_add (f : ℕ → ℕ) (m : ℕ) : ∀ n, tot f (m + n) = tot f m + tot (fun k => f (m + k)) n
  | 0 => rfl
  | n + 1 => by rw [← Nat.add_assoc, tot, tot_add f m n, tot, Nat.add_assoc]

theorem tot_congr {f g : ℕ → ℕ} : ∀ {n : ℕ}, (∀ k < n, f k = g k) → tot f n = tot g n
  | 0, _ => rfl
  | n + 1, h => by rw [tot, tot, tot_congr fun k hk => h k (by omega), h n (by omega)]

theorem tot_split {f g h : ℕ → ℕ} : ∀ {n : ℕ}, (∀ k < n, h k = f k + g k) → tot h n = tot f n + tot g n
  | 0, _ => rfl
  | n + 1, e => by rw [tot, tot, tot, tot_split fun k hk => e k (by omega), e n (by omega)]; omega

theorem tot_le {f g : ℕ → ℕ} : ∀ {n : ℕ}, (∀ k < n, f k ≤ g k) → tot f n ≤ tot g n
  | 0, _ => le_rfl
  | n + 1, h => Nat.add_le_add (tot_le fun k hk => h k (by omega)) (h n (by omega))

/-- A sum of `b` blocks of `m` terms. -/
theorem tot_blocks (f : ℕ → ℕ) (m : ℕ) : ∀ b, tot (fun t => tot (fun k => f (m * t + k)) m) b = tot f (m * b)
  | 0 => rfl
  | b + 1 => by rw [tot, tot_blocks f m b, Nat.mul_succ, tot_add]

theorem cnt_add (p : ℕ → Bool) (m n : ℕ) : cnt p (m + n) = cnt p m + cnt (fun k => p (m + k)) n := tot_add _ m n

theorem cnt_succ (p : ℕ → Bool) (n : ℕ) : cnt p (n + 1) = cnt p n + (p n).toNat := rfl

theorem cnt_congr {p q : ℕ → Bool} {n : ℕ} (h : ∀ k < n, p k = q k) : cnt p n = cnt q n :=
  tot_congr fun k hk => by rw [h k hk]

theorem cnt_le (p : ℕ → Bool) : ∀ n, cnt p n ≤ n
  | 0 => le_rfl
  | n + 1 => by have := cnt_le p n; have := Bool.toNat_le (p n); rw [cnt_succ]; omega

theorem cnt_imp {p q : ℕ → Bool} {n : ℕ} (h : ∀ k < n, p k = true → q k = true) : cnt p n ≤ cnt q n :=
  tot_le fun k hk => by
    have := h k hk
    cases hp : p k
    · exact Nat.zero_le _
    · rw [this hp]

theorem cnt_mono (p : ℕ → Bool) {m n : ℕ} (h : m ≤ n) : cnt p m ≤ cnt p n := by
  obtain ⟨k, rfl⟩ := Nat.exists_eq_add_of_le h
  rw [cnt_add]; omega

/-- A count of one of two exclusive cases. -/
theorem cnt_split {p q r : ℕ → Bool} {n : ℕ} (h : ∀ k < n, (r k).toNat = (p k).toNat + (q k).toNat) :
    cnt r n = cnt p n + cnt q n := tot_split h

theorem cnt_not (p : ℕ → Bool) (n : ℕ) : cnt (fun k => !p k) n = n - cnt p n := by
  have h : cnt (fun _ => true) n = cnt p n + cnt (fun k => !p k) n := cnt_split fun k _ => by cases p k <;> rfl
  have h1 : ∀ n, cnt (fun _ => true) n = n := fun n => by
    induction n with
    | zero => rfl
    | succ n ih => rw [cnt_succ, ih]; rfl
  rw [h1] at h; omega

/-- A count over the positions is the number of positions. -/
theorem cnt_eq_card (p : ℕ → Bool) (n : ℕ) : cnt p n = ((Finset.univ : Finset (Fin n)).filter fun k => p k.val = true).card := by
  rw [Finset.card_filter, Fin.sum_univ_eq_sum_range (fun k => if p k = true then 1 else 0) n]
  induction n with
  | zero => rfl
  | succ n ih => rw [cnt_succ, Finset.sum_range_succ, ih]; cases p n <;> rfl

/-! ## Words -/

abbrev w32 (n : ℕ) : BitVec 32 := BitVec.ofNat 32 n

theorem w32_add (a b : ℕ) : w32 a + w32 b = w32 (a + b) := (BitVec.ofNat_add a b).symm

theorem w32_sub {a b : ℕ} (h : b ≤ a) : w32 a - w32 b = w32 (a - b) := by
  rw [show a = (a - b) + b by omega, ← w32_add, BitVec.add_sub_cancel, Nat.add_sub_cancel]

theorem w32_toNat {a : ℕ} (h : a < 2 ^ 32) : (w32 a).toNat = a := by rw [BitVec.toNat_ofNat, Nat.mod_eq_of_lt h]

theorem w32_of_toNat (x : BitVec 32) : x = w32 x.toNat := BitVec.eq_of_toNat_eq (by rw [BitVec.toNat_ofNat, Nat.mod_eq_of_lt x.isLt])

/-- A one-bit word as a truth value. -/
abbrev bit (b : Bool) : BitVec 1 := BitVec.ofBool b

theorem bit_eq_one {b : Bool} : bit b = 1#1 ↔ b = true := by cases b <;> decide

theorem setWidth_bit (b : Bool) : (bit b).setWidth 32 = w32 b.toNat := by cases b <;> decide

/-- The signed order of small numbers. -/
theorem slt_w32 {a b : ℕ} (ha : a < 2 ^ 31) (hb : b < 2 ^ 31) : (w32 a).slt (w32 b) = decide (a < b) := by
  show decide ((w32 a).toInt < (w32 b).toInt) = _
  rw [BitVec.toInt_eq_toNat_cond, BitVec.toInt_eq_toNat_cond, w32_toNat (by omega), w32_toNat (by omega), if_pos (by omega), if_pos (by omega)]
  exact decide_eq_decide.mpr Int.ofNat_lt

theorem cmpi_slt_w32 {a b : ℕ} (ha : a < 2 ^ 31) (hb : b < 2 ^ 31) : IntOp.cmpi .slt (w32 a) (w32 b) = bit (decide (a < b)) :=
  congrArg BitVec.ofBool (slt_w32 ha hb)

theorem cmpi_sge_w32 {a b : ℕ} (ha : a < 2 ^ 31) (hb : b < 2 ^ 31) : IntOp.cmpi .sge (w32 a) (w32 b) = bit (decide (b ≤ a)) := by
  show BitVec.ofBool (decide ((w32 b).toInt ≤ (w32 a).toInt)) = _
  rw [BitVec.toInt_eq_toNat_cond, BitVec.toInt_eq_toNat_cond, w32_toNat (by omega), w32_toNat (by omega), if_pos (by omega), if_pos (by omega)]
  exact congrArg BitVec.ofBool (decide_eq_decide.mpr Int.ofNat_le)

theorem ofBool_eq_one_iff {b : Bool} : BitVec.ofBool b = 1#1 ↔ b = true := bit_eq_one

/-! ## A scan of a vector -/

/-- The scan as a recursion over the lanes. -/
def run (f : BitVec 32 → BitVec 32 → BitVec 32) (v : ℕ → BitVec 32) : ℕ → BitVec 32
  | 0 => v 0
  | j + 1 => f (run f v j) (v (j + 1))

theorem run_congr {f : BitVec 32 → BitVec 32 → BitVec 32} {v v' : ℕ → BitVec 32} : ∀ {j : ℕ}, (∀ k ≤ j, v k = v' k) → run f v j = run f v' j
  | 0, h => h 0 le_rfl
  | j + 1, h => by rw [run, run, run_congr fun k hk => h k (by omega), h (j + 1) le_rfl]

theorem fold_eq_run (step : BitVec 32 → BitVec 32 → BitVec 32) (g : Fin 16 → BitVec 32) (i : Fin 16) :
    ((List.finRange 16).filter fun k => decide (0 < k.val ∧ k.val ≤ i.val)).foldl (fun r k => step r (g k)) (g 0)
      = run step (fun k => g (Fin.ofNat 16 k)) i.val := by
  have hf : ∀ j : Fin 16, ((List.finRange 16).filter fun k => decide (0 < k.val ∧ k.val ≤ j.val)) = ((List.finRange 16).drop 1).take j.val := by decide
  have key : ∀ j, j < 16 → (((List.finRange 16).drop 1).take j).foldl (fun r k => step r (g k)) (g 0) = run step (fun k => g (Fin.ofNat 16 k)) j := by
    intro j
    induction j with
    | zero => intro _; rfl
    | succ j ih =>
      intro hj
      have hl : j < ((List.finRange 16).drop 1).length := by rw [List.length_drop, List.length_finRange]; omega
      rw [List.take_succ_eq_append_getElem hl, List.foldl_append, ih (by omega)]
      have hg : ((List.finRange 16).drop 1)[j] = Fin.ofNat 16 (j + 1) := by
        rw [List.getElem_drop, List.getElem_finRange]
        refine Fin.ext ?_
        rw [Fin.val_ofNat, Nat.mod_eq_of_lt hj]
        simp; omega
      rw [hg]; rfl
  rw [hf]
  exact key _ i.isLt

theorem scan_eq_run (kind : ScanKind) (v : IVec S16 32) (x : S16.Idx) :
    scan kind v x = run kind.step (fun k => v (lane k)) (x 0).val := by
  refine (fold_eq_run kind.step (fun k => v (Shape.ofLane k)) (x 0)).trans (run_congr fun k hk => ?_)
  have hk' : k < 16 := lt_of_le_of_lt hk (x 0).isLt
  show v (Shape.ofLane (Fin.ofNat 16 k)) = v (lane k)
  congr 1; funext a
  match a with
  | 0 => rfl

/-- The running sums of small numbers. -/
theorem scan_sum {v : IVec S16 32} {f : ℕ → ℕ} (h : ∀ k < 16, v (lane k) = w32 (f k)) (x : S16.Idx) :
    scan .sum v x = w32 (tot f ((x 0).val + 1)) := by
  rw [scan_eq_run]
  have key : ∀ j, j < 16 → run (ScanKind.sum.step) (fun k => v (lane k)) j = w32 (tot f (j + 1)) := by
    intro j
    induction j with
    | zero => intro _; show v (lane 0) = _; rw [h 0 (by decide)]; simp [tot]
    | succ j ih =>
      intro hj
      show run (ScanKind.sum.step) (fun k => v (lane k)) j + v (lane (j + 1)) = _
      rw [ih (by omega), h _ hj, w32_add]; rfl
  exact key _ (x 0).isLt

/-- The sum of a vector of small numbers: the last running sum. -/
theorem last_scan_sum {v : IVec S16 32} {f : ℕ → ℕ} (h : ∀ k < 16, v (lane k) = w32 (f k)) :
    last (scan .sum v) = w32 (tot f 16) := scan_sum h _

/-- The word with its top bit flipped. -/
abbrev flip (x : BitVec 32) : BitVec 32 := x ^^^ 2147483648#32

theorem flip_flip (x : BitVec 32) : flip (flip x) = x := by
  rw [flip, flip, BitVec.xor_assoc, BitVec.xor_self, BitVec.xor_zero]

theorem flip_toNat (x : BitVec 32) : (flip x).toNat = if x.toNat < 2 ^ 31 then x.toNat + 2 ^ 31 else x.toNat - 2 ^ 31 := by
  rw [flip, BitVec.toNat_xor]
  exact SortNet.xor_two_pow_top (q := 31) _ x.isLt

/-- With the top bits flipped, the signed order is the unsigned one. -/
theorem flip_slt (x y : BitVec 32) : IntOp.cmpi .slt (flip x) (flip y) = bit (decide (x.toNat < y.toNat)) := by
  rw [show IntOp.cmpi .slt (flip x) (flip y) = BitVec.ofBool (decide ((flip x).toInt < (flip y).toInt)) from rfl]
  congr 1
  rw [BitVec.toInt_eq_toNat_cond, BitVec.toInt_eq_toNat_cond, flip_toNat, flip_toNat]
  have := x.isLt; have := y.isLt
  refine decide_eq_decide.mpr ?_
  constructor <;> intro h <;> split_ifs at * <;> omega

/-- The least of a vector of small numbers, found with the top bits flipped. -/
theorem last_scan_min {v : IVec S16 32} {f : ℕ → ℕ} (h : ∀ k < 16, v (lane k) = flip (w32 (f k))) (hf : ∀ k < 16, f k < 2 ^ 31) :
    ∃ m, flip (last (scan .min v)) = w32 m ∧ (∃ k < 16, m = f k) ∧ ∀ k < 16, m ≤ f k := by
  have key : ∀ j, j < 16 → ∃ m, run (ScanKind.min.step) (fun k => v (lane k)) j = flip (w32 m) ∧ (∃ k < 16, m = f k) ∧ ∀ k ≤ j, m ≤ f k := by
    intro j
    induction j with
    | zero => intro _; exact ⟨f 0, h 0 (by decide), ⟨0, by decide, rfl⟩, fun k hk => by rw [Nat.le_zero.mp hk]⟩
    | succ j ih =>
      intro hj
      obtain ⟨m, e, ⟨k, hk, hm⟩, hle⟩ := ih (by omega)
      have e' : run (ScanKind.min.step) (fun k => v (lane k)) (j + 1) = IntOp.minui (flip (w32 m)) (flip (w32 (f (j + 1)))) := by
        show IntOp.minui (run (ScanKind.min.step) (fun k => v (lane k)) j) (v (lane (j + 1))) = _
        rw [e, h _ hj]
      have hm' : m < 2 ^ 31 := hm ▸ hf k hk
      have t1 : (flip (w32 m)).toNat = m + 2 ^ 31 := by rw [flip_toNat, w32_toNat (by omega), if_pos hm']
      have t2 : (flip (w32 (f (j + 1)))).toNat = f (j + 1) + 2 ^ 31 := by
        have := hf _ hj
        rw [flip_toNat, w32_toNat (by omega), if_pos this]
      rw [e']
      by_cases hc : m ≤ f (j + 1)
      · refine ⟨m, ?_, ⟨k, hk, hm⟩, fun i hi => ?_⟩
        · have hn : ¬ (flip (w32 (f (j + 1)))).toNat < (flip (w32 m)).toNat := by omega
          show (if (flip (w32 m)).ult (flip (w32 (f (j + 1)))) then _ else _) = _
          split
          · rfl
          · next h => exact BitVec.eq_of_toNat_eq (by rw [BitVec.ult, decide_eq_true_eq] at h; omega)
        · rcases Nat.lt_or_ge i (j + 1) with hi' | hi'
          · exact hle i (by omega)
          · rw [show i = j + 1 by omega]; exact hc
      · refine ⟨f (j + 1), ?_, ⟨j + 1, hj, rfl⟩, fun i hi => ?_⟩
        · show (if (flip (w32 m)).ult (flip (w32 (f (j + 1)))) then _ else _) = _
          rw [if_neg (by rw [BitVec.ult, decide_eq_true_eq]; omega)]
        · rcases Nat.lt_or_ge i (j + 1) with hi' | hi'
          · exact le_trans (by omega) (hle i (by omega))
          · rw [show i = j + 1 by omega]
  obtain ⟨m, e, hk, hle⟩ := key 15 (by decide)
  refine ⟨m, ?_, hk, fun k hk => hle k (by omega)⟩
  rw [show last (scan .min v) = run (ScanKind.min.step) (fun k => v (lane k)) 15 from scan_eq_run .min v _, e, flip_flip]

end Cert.Proof.K

end
-- ==== Proof.Search.lean ====
/-
  The search for the key of a given rank: the histograms count the keys exactly, so each pass takes the byte that the
  key sought has.
-/
module

public import proofs.«01_k».proof.Proof.Count

@[expose] public section

noncomputable section

namespace Cert.Proof.K

open Cert.Kernel Cert.Kernel.Gen
open Idealize.ShloMosaic

variable {F : FTy → Type} [BitOps F]

theorem seg_lane {α : Type} (g : ℕ → α) (o : ℕ) {l : ℕ} (hl : l < 16) : seg g o (lane l) = g (o + l) := by
  show g (o + l % 16) = _
  rw [Nat.mod_eq_of_lt hl]

theorem blocksOf_at {α : Type} (w : ℕ → S16.Idx → α) (t : ℕ) {l : ℕ} (hl : l < 16) : blocksOf w (16 * t + l) = w t (lane l) := by
  unfold blocksOf
  rw [show (16 * t + l) / 16 = t by omega]
  congr 1; funext a
  match a with
  | 0 => exact Fin.ext (show (16 * t + l) % 16 = l % 16 by omega)

theorem lanes_lane {l : ℕ} (hl : l < 16) : lanes (lane l) = w32 l := by
  show BitVec.ofNat 32 (0 * 16 + l % 16) = _
  rw [Nat.mod_eq_of_lt hl, Nat.zero_mul, Nat.zero_add]

theorem iv_at (t : ℕ) : Scf.iv 0#32 1#32 t = w32 t := by
  show 0#32 + BitVec.ofNat 32 t * 1#32 = _
  rw [BitVec.mul_one, BitVec.zero_add]

theorem w32_mul (a b : ℕ) : w32 a * w32 b = w32 (a * b) := (BitVec.ofNat_mul a b).symm

/-! ## The histograms -/

section Hist

variable {B : Byte} {q : BitVec 32 → ℕ → Bool}

/-- What a binning counts: at each bin `j`, the keys that `q` says belong to it. -/
def Counts (B : Byte) (q : BitVec 32 → ℕ → Bool) : Prop :=
  ∀ (v : IVec S16 32) (l j : ℕ), j < 256 → ((B.keep v (lane l) = 1 ∧ (B.bin v (lane l)).toNat = j) ↔ q (v (lane l)) j = true)

theorem count1_eq (hB : Counts B q) (v : IVec S16 32) {h : ℕ → BitVec 32} {c : ℕ → ℕ} (hh : ∀ j < 256, h j = w32 (c j)) :
    ∀ j < 256, count1 (F := F) B v h j = w32 (c j + cnt (fun l => q (v (lane l)) j) 16) := by
  unfold count1 storeIdx
  refine foldl_finRange_ind (n := 16) (P := fun k (g : Vec F S256 .i32) => ∀ j < 256, g (pos 256 j) = w32 (c j + cnt (fun l => q (v (lane l)) j) k)) ?_ ?_
  · intro j hj
    show h (j % 256) = _
    rw [Nat.mod_eq_of_lt hj, hh j hj]; rfl
  · intro k g hg j hj
    have hL : (Shape.ofLane k : S16.Idx) = lane k.val := by
      funext a
      match a with
      | 0 => exact Fin.ext (Nat.mod_eq_of_lt k.isLt).symm
    have hq := hB v k.val j hj
    rw [cnt_succ]
    show (if B.keep v (Shape.ofLane k) = 1 then _ else g) (pos 256 j) = _
    rw [hL]
    by_cases hk : B.keep v (lane k.val) = 1
    · rw [if_pos hk]
      by_cases hb : (B.bin v (lane k.val)).toNat = j
      · have hi : idxAt ![B.bin v] (B.lt v) (lane k.val) = pos 256 j := by
          funext a
          match a with
          | 0 => exact Fin.ext (show (B.bin v (lane k.val)).toNat = j % 256 by rw [hb, Nat.mod_eq_of_lt hj])
        have e1 : ∀ (dec : Decidable (∀ a, (pos 256 j a).val = (idxAt ![B.bin v] (B.lt v) (lane k.val) a).val)),
            @ite _ _ dec (g (idxAt ![B.bin v] (B.lt v) (lane k.val)) + (1#32 : BitVec 32)) (g (pos 256 j)) = g (pos 256 j) + (1#32 : BitVec 32) := fun _ => by
          rw [if_pos fun a => by rw [hi], hi]
        refine (e1 _).trans ?_
        rw [hg j hj, hq.mp ⟨hk, hb⟩, ← Nat.add_assoc, ← w32_add _ (Bool.toNat true)]; rfl
      · rw [if_neg fun h => hb (by
          have e : j % 256 = (B.bin v (lane k.val)).toNat := h 0
          rw [Nat.mod_eq_of_lt hj] at e
          exact e.symm)]
        have : q (v (lane k.val)) j = false := by
          cases hc : q (v (lane k.val)) j
          · rfl
          · exact absurd (hq.mpr hc).2 hb
        rw [hg j hj, this]; rfl
    · rw [if_neg hk]
      have : q (v (lane k.val)) j = false := by
        cases hc : q (v (lane k.val)) j
        · rfl
        · exact absurd (hq.mpr hc).1 hk
      rw [hg j hj, this]; rfl

theorem histTo_eq (hB : Counts B q) (u : ℕ → BitVec 32) : ∀ k, k ≤ 64 → ∀ j < 256, histTo (F := F) B u k j = w32 (cnt (fun n => q (u n) j) (16 * k)) := by
  refine iter_ind (P := fun k (h : ℕ → BitVec 32) => ∀ j < 256, h j = w32 (cnt (fun n => q (u n) j) (16 * k))) ?_ ?_
  · intro j _; rfl
  · intro t h hh j hj
    show count1 (F := F) B (seg u (16 * t.val)) h j = _
    rw [count1_eq hB _ hh j hj, Nat.mul_succ, cnt_add]
    rw [cnt_congr (p := fun l => q (seg u (16 * t.val) (lane l)) j) (q := fun l => q (u (16 * t.val + l)) j) fun l hl => by rw [seg_lane _ _ hl]]

theorem addTo_eq {a : ℕ → BitVec 32} {c : ℕ → ℕ → ℕ} (ha : ∀ t' < 16, ∀ i < 256, a (256 * t' + i) = w32 (c t' i)) {t : ℕ} (ht : t < 16) :
    ∀ k, k ≤ 16 → ∀ l < 16, addTo (F := F) a t k (lane l) = w32 (tot (fun t' => c t' (16 * t + l)) k) := by
  refine iter_ind (P := fun k (h : IVec S16 32) => ∀ l < 16, h (lane l) = w32 (tot (fun t' => c t' (16 * t + l)) k)) ?_ ?_
  · intro l _; rfl
  · intro t' h hh l hl
    show h (lane l) + seg a (256 * t'.val + 16 * t) (lane l) = _
    rw [hh l hl, seg_lane _ _ hl, Nat.add_assoc, ha _ t'.isLt _ (by omega), w32_add]; rfl

/-- The sixteen histograms added count all the keys. -/
theorem added_hists (hB : Counts B q) {u : ℕ → ℕ → BitVec 32} {x : ℕ → BitVec 32} (hu : ∀ s, ∀ i < 1024, u s i = x (1024 * s + i)) :
    ∀ j < 256, added (F := F) (hists (F := F) B u) j = w32 (cnt (fun n => q (x n) j) 16384) := by
  intro j hj
  have ha : ∀ t' < 16, ∀ i < 256, hists (F := F) B u (256 * t' + i) = w32 (cnt (fun n => q (x (1024 * t' + n)) i) 1024) := by
    intro t' _ i hi
    unfold hists
    rw [show (256 * t' + i) / 256 = t' by omega, show (256 * t' + i) % 256 = i by omega]
    exact (histTo_eq hB (u t') 64 le_rfl i hi).trans (congrArg w32 (cnt_congr fun n hn => by rw [hu _ n (by omega)]))
  have h := addTo_eq (F := F) ha (t := j / 16) (by omega) 16 le_rfl (j % 16) (by omega)
  rw [show j = 16 * (j / 16) + j % 16 by omega]
  unfold added
  rw [blocksOf_at _ _ (by omega), h]
  congr 1
  exact tot_blocks (fun n => (q (x n) (16 * (j / 16) + j % 16)).toNat) 1024 16

end Hist

/-! ## The bins of a byte -/

theorem binBy_at {s : ℕ} (hs : s < 32) (v : IVec S16 32) (x : S16.Idx) : (binBy (w32 s) v x).toNat = (v x).toNat / 2 ^ s % 256 := by
  show ((IntOp.shrui .vector (v x) (w32 s)) &&& 255#32).toNat = _
  unfold IntOp.shrui
  rw [w32_toNat (by omega), if_pos hs, BitVec.toNat_and]
  rw [show (v x) >>> (w32 s) = (v x) >>> (w32 s).toNat from rfl, w32_toNat (by omega), BitVec.toNat_ushiftRight, Nat.shiftRight_eq_div_pow]
  exact Nat.and_two_pow_sub_one_eq_mod _ 8

theorem byte0_counts : Counts byte0 fun u j => decide (u.toNat / 2 ^ 24 = 256 * 0 + j) := by
  intro v l j hj
  have hb : (byte0.bin v (lane l)).toNat = (v (lane l)).toNat / 2 ^ 24 % 256 := binBy_at (s := 24) (by decide) v (lane l)
  have := (v (lane l)).isLt
  rw [hb, decide_eq_true_eq]
  constructor
  · rintro ⟨-, h⟩; omega
  · intro h; exact ⟨rfl, by omega⟩

theorem byteAt_counts {s p : ℕ} (hs : s + 8 < 32) (hp : p < 2 ^ 32) :
    Counts (byteAt (w32 s) (w32 (s + 8)) (w32 p)) fun u j => decide (u.toNat / 2 ^ s = 256 * p + j) := by
  intro v l j hj
  have hb : ((byteAt (w32 s) (w32 (s + 8)) (w32 p)).bin v (lane l)).toNat = (v (lane l)).toNat / 2 ^ s % 256 := binBy_at (s := s) (by omega) v (lane l)
  have hk : (byteAt (w32 s) (w32 (s + 8)) (w32 p)).keep v (lane l) = 1 ↔ (v (lane l)).toNat / 2 ^ (s + 8) = p := by
    show IntOp.cmpi .eq (IntOp.shrui .vector (v (lane l)) (w32 (s + 8))) (w32 p) = 1#1 ↔ _
    unfold IntOp.shrui
    rw [w32_toNat (by omega), if_pos hs, show (v (lane l)) >>> (w32 (s + 8)) = (v (lane l)) >>> (w32 (s + 8)).toNat from rfl, w32_toNat (by omega)]
    unfold IntOp.cmpi
    rw [ofBool_eq_one_iff]
    show (_ == _) = true ↔ _
    rw [beq_iff_eq, ← BitVec.toNat_inj, BitVec.toNat_ushiftRight, Nat.shiftRight_eq_div_pow, w32_toNat hp]
  rw [hb, hk, decide_eq_true_eq, Nat.pow_add, ← Nat.div_div_eq_div_mul]
  omega

/-! ## A pass of the search -/

section Pick

variable (x : ℕ → BitVec 32)

/-- How many keys are below `y` from bit `s` on. -/
def under (s y : ℕ) : ℕ := cnt (fun n => decide ((x n).toNat / 2 ^ s < y)) 16384

theorem under_le (s y : ℕ) : under x s y ≤ 16384 := cnt_le _ _

theorem under_mono (s : ℕ) {y z : ℕ} (h : y ≤ z) : under x s y ≤ under x s z :=
  cnt_imp fun k _ e => by rw [decide_eq_true_eq] at e ⊢; omega

theorem under_succ (s y : ℕ) : under x s (y + 1) = under x s y + cnt (fun n => decide ((x n).toNat / 2 ^ s = y)) 16384 :=
  cnt_split fun k _ => by
    rcases Nat.lt_trichotomy ((x k).toNat / 2 ^ s) y with h | h | h
    · rw [decide_eq_true (by omega), decide_eq_true h, decide_eq_false (by omega)]; rfl
    · rw [decide_eq_true (by omega), decide_eq_false (by omega), decide_eq_true h]; rfl
    · rw [decide_eq_false (by omega), decide_eq_false (by omega), decide_eq_false (by omega)]; rfl

theorem under_add (s y : ℕ) : ∀ m, under x s (y + m) = under x s y + tot (fun l => cnt (fun n => decide ((x n).toNat / 2 ^ s = y + l)) 16384) m
  | 0 => by rw [tot, Nat.add_zero, Nat.add_zero]
  | m + 1 => by rw [← Nat.add_assoc, under_succ, under_add s y m, tot, Nat.add_assoc]

/-- Eight bits less: the same keys are below. -/
theorem under_shift (s p : ℕ) : under x s (256 * p) = under x (s + 8) p :=
  cnt_congr fun k _ => by
    rw [Nat.pow_add, ← Nat.div_div_eq_div_mul]
    refine decide_eq_decide.mpr ?_
    omega

variable {x} {g : ℕ → BitVec 32} {s y : ℕ} (hg : ∀ j < 256, g j = w32 (cnt (fun n => decide ((x n).toNat / 2 ^ s = y + j)) 16384))
include hg

theorem scan_block {t : ℕ} (ht : t < 16) (i : S16.Idx) :
    scan .sum (seg g (16 * t)) i = w32 (under x s (y + 16 * t + ((i 0).val + 1)) - under x s (y + 16 * t)) := by
  rw [scan_sum (f := fun l => cnt (fun n => decide ((x n).toNat / 2 ^ s = y + 16 * t + l)) 16384) fun l hl => by
    rw [seg_lane _ _ hl, hg _ (by omega), Nat.add_assoc], under_add x s (y + 16 * t), Nat.add_sub_cancel_left]

variable {b : ℕ} (hlo : under x s (y + b) < 1638) (hhi : 1638 ≤ under x s (y + b + 1))
include hlo hhi

theorem pickTo_eq (hb : b < 256) : ∀ k, k ≤ 16 → pickTo (F := F) g (w32 (1638 - under x s y)) k
    = (w32 (under x s (y + 16 * k) - under x s y), w32 (if b < 16 * k then b else 1000)) := by
  have hy : under x s y < 1638 := lt_of_le_of_lt (under_mono x s (by omega)) hlo
  refine iter_ind (P := fun k (a : BitVec 32 × BitVec 32) => a = (w32 (under x s (y + 16 * k) - under x s y), w32 (if b < 16 * k then b else 1000))) ?_ ?_
  · rw [Nat.mul_zero, Nat.add_zero, Nat.sub_self, if_neg (Nat.not_lt_zero b)]
  · rintro t a rfl
    have m1 := under_mono x s (show y ≤ y + 16 * t.val by omega)
    have m2 := under_mono x s (show y + 16 * t.val ≤ y + 16 * t.val + 16 by omega)
    refine Prod.ext ?_ ?_
    · show w32 _ + last (scan .sum (seg g (16 * t.val))) = _
      rw [show last (scan .sum (seg g (16 * t.val))) = w32 (under x s (y + 16 * t.val + 16) - under x s (y + 16 * t.val)) from scan_block hg t.isLt _, w32_add]
      congr 1
      rw [Nat.mul_succ, ← Nat.add_assoc]; omega
    · have hpt : ∀ l < 16, (xori (select (cmpi .sge (addi (broadcast S16 (w32 (under x s (y + 16 * t.val) - under x s y))) (scan .sum (seg g (16 * t.val))))
            (broadcast S16 (w32 (1638 - under x s y)))) (addi (broadcast S16 (Scalar.muli (Scf.iv 0#32 1#32 t.val) 16#32)) lanes) (broadcast S16 1000#32))
            (broadcast S16 2147483648#32)) (lane l) = flip (w32 (if b ≤ 16 * t.val + l then 16 * t.val + l else 1000)) := by
        intro l hl
        show flip (Scalar.select (IntOp.cmpi .sge (w32 _ + scan .sum (seg g (16 * t.val)) (lane l)) (w32 _)) (Scf.iv 0#32 1#32 t.val * w32 16 + lanes (lane l)) (w32 1000)) = _
        congr 1
        have hl' : ((lane l) 0).val = l := Nat.mod_eq_of_lt hl
        rw [iv_at, w32_mul, lanes_lane hl, w32_add, scan_block hg t.isLt, hl', w32_add]
        have m3 := under_mono x s (show y + 16 * t.val ≤ y + 16 * t.val + (l + 1) by omega)
        have m4 := under_le x s (y + 16 * t.val + (l + 1))
        rw [cmpi_sge_w32 (by omega) (by omega)]
        by_cases hc : b ≤ 16 * t.val + l
        · have := under_mono x s (show y + b + 1 ≤ y + 16 * t.val + (l + 1) by omega)
          rw [if_pos hc, decide_eq_true (by omega), Nat.mul_comm]; rfl
        · have := under_mono x s (show y + 16 * t.val + (l + 1) ≤ y + b by omega)
          rw [if_neg hc, decide_eq_false (by omega)]; rfl
      obtain ⟨m, e, ⟨k, hk, hm⟩, hle⟩ := last_scan_min hpt (fun k _ => by split <;> omega)
      show IntOp.minsi (w32 _) (flip (last (scan .min _))) = _
      rw [e]
      have hsl : ∀ c d : ℕ, c < 2 ^ 31 → d < 2 ^ 31 → IntOp.minsi (w32 c) (w32 d) = w32 (min c d) := by
        intro c d hc hd
        unfold IntOp.minsi
        have h := slt_w32 hc hd
        by_cases hcd : c < d
        · rw [if_pos (by rw [h, decide_eq_true hcd]), min_eq_left (by omega)]
        · rw [if_neg (by rw [h, decide_eq_false hcd]; decide), min_eq_right (by omega)]
      have hm' : m < 2 ^ 31 := by rw [hm]; split <;> omega
      rw [hsl _ _ (by split <;> omega) hm']
      congr 1
      by_cases h1 : b < 16 * t.val
      · rw [if_pos h1, if_pos (by omega)]
        split at hm <;> omega
      · rw [if_neg h1]
        by_cases h2 : b < 16 * (t.val + 1)
        · rw [if_pos h2]
          have := hle (b - 16 * t.val) (by omega)
          rw [if_pos (by omega)] at this
          split at hm <;> omega
        · rw [if_neg h2]
          rw [if_neg (by omega)] at hm
          omega

theorem picked_eq (hb : b < 256) : picked (F := F) g (w32 (1638 - under x s y)) = w32 b := by
  have h := pickTo_eq (F := F) hg hlo hhi hb 16 le_rfl
  unfold picked
  rw [h, if_pos (by omega)]

omit hlo hhi in
theorem belowTo_eq (hb : b < 256) : ∀ k, k ≤ 16 → belowTo (F := F) g (w32 b) k = w32 (under x s (y + min b (16 * k)) - under x s y) := by
  refine iter_ind (P := fun k a => a = w32 (under x s (y + min b (16 * k)) - under x s y)) ?_ ?_
  · rw [Nat.mul_zero, Nat.min_zero, Nat.add_zero, Nat.sub_self]
  · rintro t a rfl
    have hv : ∀ l < 16, (select (cmpi .slt (addi (broadcast S16 (Scalar.muli (Scf.iv 0#32 1#32 t.val) 16#32)) lanes) (broadcast S16 (w32 b))) (seg g (16 * t.val)) (broadcast S16 0#32)) (lane l)
        = w32 (if 16 * t.val + l < b then cnt (fun n => decide ((x n).toNat / 2 ^ s = y + (16 * t.val + l))) 16384 else 0) := by
      intro l hl
      show Scalar.select (IntOp.cmpi .slt (Scf.iv 0#32 1#32 t.val * w32 16 + lanes (lane l)) (w32 b)) (seg g (16 * t.val) (lane l)) 0#32 = _
      rw [iv_at, w32_mul, lanes_lane hl, w32_add, seg_lane _ _ hl, hg _ (by omega), cmpi_slt_w32 (by omega) (by omega), Nat.mul_comm t.val 16]
      by_cases hc : 16 * t.val + l < b
      · rw [if_pos hc, decide_eq_true hc]; rfl
      · rw [if_neg hc, decide_eq_false hc]; rfl
    have hl := last_scan_sum hv
    show w32 _ + last (scan .sum _) = _
    rw [hl, w32_add]
    congr 1
    have key : ∀ m, tot (fun l => if 16 * t.val + l < b then cnt (fun n => decide ((x n).toNat / 2 ^ s = y + (16 * t.val + l))) 16384 else 0) m
        = under x s (y + min b (16 * t.val + m)) - under x s (y + min b (16 * t.val)) := by
      intro m
      induction m with
      | zero => rw [Nat.add_zero, Nat.sub_self]; rfl
      | succ m ih =>
        rw [tot, ih]
        have m1 := under_mono x s (show y + min b (16 * t.val) ≤ y + min b (16 * t.val + m) by omega)
        by_cases hc : 16 * t.val + m < b
        · rw [if_pos hc, show y + min b (16 * t.val + (m + 1)) = y + (16 * t.val + m) + 1 by omega, under_succ, show min b (16 * t.val + m) = 16 * t.val + m by omega]
          rw [show min b (16 * t.val + m) = 16 * t.val + m by omega] at m1
          omega
        · rw [if_neg hc, show min b (16 * t.val + (m + 1)) = b by omega, show min b (16 * t.val + m) = b by omega]; omega
    rw [key 16, Nat.mul_succ]
    have m1 := under_mono x s (show y ≤ y + min b (16 * t.val) by omega)
    have m2 := under_mono x s (show y + min b (16 * t.val) ≤ y + min b (16 * t.val + 16) by omega)
    omega

theorem fewer_eq (hb : b < 256) : fewer (F := F) g (w32 (1638 - under x s y)) = w32 (1638 - under x s (y + b)) := by
  unfold fewer
  rw [picked_eq (F := F) hg hlo hhi hb, belowTo_eq (F := F) hg hb 16 le_rfl, show min b (16 * 16) = b by omega]
  have m1 := under_mono x s (show y ≤ y + b by omega)
  show w32 _ - w32 _ = _
  rw [w32_sub (by omega)]
  congr 1; omega

end Pick

/-- The byte that a pass takes: the prefix it makes is that of the key sought. -/
theorem pass {x : ℕ → BitVec 32} {g : ℕ → BitVec 32} {s p : ℕ} (hp : p < 2 ^ 24)
    (hg : ∀ j < 256, g j = w32 (cnt (fun n => decide ((x n).toNat / 2 ^ s = 256 * p + j)) 16384))
    (hlo : under x (s + 8) p < 1638) (hhi : 1638 ≤ under x (s + 8) (p + 1)) :
    ∃ p', p' < 256 * (p + 1) ∧ under x s p' < 1638 ∧ 1638 ≤ under x s (p' + 1)
      ∧ longer (F := F) (w32 p) g (w32 (1638 - under x (s + 8) p)) = w32 p' ∧ fewer (F := F) g (w32 (1638 - under x (s + 8) p)) = w32 (1638 - under x s p') := by
  rw [← under_shift] at hlo hhi ⊢
  have hex : ∃ b, 1638 ≤ under x s (256 * p + b + 1) := ⟨255, by rw [show 256 * p + 255 + 1 = 256 * (p + 1) by omega]; exact hhi⟩
  have hb := Nat.find_spec hex
  have hmin := fun m hm => Nat.find_min hex (m := m) hm
  have hb255 : Nat.find hex ≤ 255 := Nat.find_min' hex (by rw [show 256 * p + 255 + 1 = 256 * (p + 1) by omega]; exact hhi)
  generalize Nat.find hex = b at hb hmin hb255
  have hlo' : under x s (256 * p + b) < 1638 := by
    rcases Nat.eq_zero_or_pos b with rfl | hpos
    · exact hlo
    · have := hmin (b - 1) (by omega)
      rw [show 256 * p + (b - 1) + 1 = 256 * p + b by omega] at this
      omega
  refine ⟨256 * p + b, by omega, hlo', hb, ?_, fewer_eq (F := F) hg hlo' hb (by omega)⟩
  unfold longer
  rw [picked_eq (F := F) hg hlo' hb (by omega)]
  refine BitVec.eq_of_toNat_eq ?_
  show ((IntOp.shli .scalar (w32 p) 8#32) ||| w32 b).toNat = _
  unfold IntOp.shli
  rw [if_pos (by decide), BitVec.toNat_or, show (w32 p) <<< (8#32 : BitVec 32) = (w32 p) <<< 8 from rfl, BitVec.toNat_shiftLeft, w32_toNat (by omega), w32_toNat (by omega),
    w32_toNat (by omega), Nat.shiftLeft_eq, Nat.mod_eq_of_lt (by omega), Nat.mul_comm p, ← Nat.two_pow_add_eq_or_of_lt (i := 8) (by omega)]

end Cert.Proof.K

end
-- ==== Proof.Cut.lean ====
/-
  The cut that the four passes of the search find: the key with fewer than 1638 keys below it and at least 1638 not
  above it.
-/
module

public import proofs.«01_k».proof.Proof.Search

@[expose] public section

noncomputable section

namespace Cert.Proof.K

open Cert.Kernel Cert.Kernel.Gen
open Idealize.ShloMosaic

variable {F : FTy → Type} [BitOps F]

/-- The signed word that orders like the float whose bits are `w`. -/
def keyWord (w : BitVec 32) : BitVec 32 := Scalar.select (IntOp.cmpi .slt w 0#32) (w ^^^ 2147483647#32) w

/-- The signed key of element `n`. -/
def keyOf (D : ℕ → Elt F .f32) (n : ℕ) : BitVec 32 := keyWord (BitOps.toBits (D n : F .f32))

/-- The same key, ordered without a sign. -/
def flatKey (D : ℕ → Elt F .f32) (n : ℕ) : BitVec 32 := flip (keyOf D n)

theorem keys_at (D : ℕ → Elt F .f32) (s : ℕ) : ∀ i < 1024, keys D s i = flatKey D (1024 * s + i) := by
  intro i _
  have hl : i % 16 < 16 := Nat.mod_lt _ (by decide)
  conv_lhs => rw [← Nat.div_add_mod i 16]
  unfold keys
  rw [blocksOf_at _ _ hl]
  show flip (keyWord (BitOps.toBits (seg (chunk D s) (16 * (i / 16)) (lane (i % 16)) : F .f32))) = _
  rw [seg_lane _ _ hl, Nat.div_add_mod]
  rfl

/-- The cut is the key of the rank sought: fewer than 1638 keys are below it, and at least 1638 are not above it. -/
theorem cut_spec (D : ℕ → Elt F .f32) :
    ∃ c, cut D = flip (w32 c) ∧ c < 2 ^ 32 ∧ under (flatKey D) 0 c < 1638 ∧ 1638 ≤ under (flatKey D) 0 (c + 1) := by
  have h32lo : under (flatKey D) (24 + 8) 0 = 0 := by
    have : ∀ n, cnt (fun n => decide ((flatKey D n).toNat / 2 ^ (24 + 8) < 0)) n = 0 := fun n => by
      induction n with
      | zero => rfl
      | succ n ih => rw [cnt_succ, ih]; simp
    exact this 16384
  have h32hi : under (flatKey D) (24 + 8) (0 + 1) = 16384 := by
    have : ∀ n, cnt (fun n => decide ((flatKey D n).toNat / 2 ^ (24 + 8) < 0 + 1)) n = n := fun n => by
      induction n with
      | zero => rfl
      | succ n ih =>
        have := (flatKey D n).isLt
        rw [cnt_succ, ih, decide_eq_true (by rw [Nat.div_eq_of_lt (by omega)]; decide)]; rfl
    exact this 16384
  have e0 : (1638#32 : BitVec 32) = w32 (1638 - under (flatKey D) (24 + 8) 0) := by rw [h32lo]
  obtain ⟨p1, hb1, hlo1, hhi1, hp1, hr1⟩ := pass (F := F) (x := flatKey D) (g := total0 D) (s := 24) (p := 0) (by decide)
    (added_hists (F := F) byte0_counts (keys_at D)) (by rw [h32lo]; decide) (by rw [h32hi]; decide)
  rw [← e0] at hp1 hr1
  have hpre1 : pre1 D = w32 p1 := hp1
  have hrank1 : rank1 D = w32 (1638 - under (flatKey D) (16 + 8) p1) := hr1
  have hg1 : ∀ j < 256, total1 D j = w32 (cnt (fun n => decide ((flatKey D n).toNat / 2 ^ 16 = 256 * p1 + j)) 16384) := by
    unfold total1 hists1
    rw [hpre1]
    exact added_hists (F := F) (byteAt_counts (s := 16) (by decide) (by omega)) (keys_at D)
  obtain ⟨p2, hb2, hlo2, hhi2, hp2, hr2⟩ := pass (F := F) (s := 16) (by omega) hg1 hlo1 hhi1
  rw [← hpre1, ← hrank1] at hp2
  rw [← hrank1] at hr2
  have hpre2 : pre2 D = w32 p2 := hp2
  have hrank2 : rank2 D = w32 (1638 - under (flatKey D) (8 + 8) p2) := hr2
  have hg2 : ∀ j < 256, total2 D j = w32 (cnt (fun n => decide ((flatKey D n).toNat / 2 ^ 8 = 256 * p2 + j)) 16384) := by
    unfold total2 hists2
    rw [hpre2]
    exact added_hists (F := F) (byteAt_counts (s := 8) (by decide) (by omega)) (keys_at D)
  obtain ⟨p3, hb3, hlo3, hhi3, hp3, hr3⟩ := pass (F := F) (s := 8) (by omega) hg2 hlo2 hhi2
  rw [← hpre2, ← hrank2] at hp3
  rw [← hrank2] at hr3
  have hpre3 : pre3 D = w32 p3 := hp3
  have hrank3 : rank3 D = w32 (1638 - under (flatKey D) (0 + 8) p3) := hr3
  have hg3 : ∀ j < 256, total3 D j = w32 (cnt (fun n => decide ((flatKey D n).toNat / 2 ^ 0 = 256 * p3 + j)) 16384) := by
    unfold total3 hists3
    rw [hpre3]
    exact added_hists (F := F) (byteAt_counts (s := 0) (by decide) (by omega)) (keys_at D)
  obtain ⟨p4, hb4, hlo4, hhi4, hp4, hr4⟩ := pass (F := F) (s := 0) (by omega) hg3 hlo3 hhi3
  rw [← hpre3, ← hrank3] at hp4
  refine ⟨p4, ?_, by omega, hlo4, hhi4⟩
  unfold cut
  rw [hp4]
  rfl

/-- Two cuts with the same counts around them are one. -/
theorem cut_unique {x : ℕ → BitVec 32} {c d : ℕ} (hc : under x 0 c < 1638) (hc' : 1638 ≤ under x 0 (c + 1)) (hd : under x 0 d < 1638)
    (hd' : 1638 ≤ under x 0 (d + 1)) : c = d := by
  rcases Nat.lt_trichotomy c d with h | h | h
  · have := under_mono (x := x) 0 (show c + 1 ≤ d from h); omega
  · exact h
  · have := under_mono (x := x) 0 (show d + 1 ≤ c from h); omega

/-- Being below the cut, as the signed comparison has it. -/
theorem below_iff (D : ℕ → Elt F .f32) {c : ℕ} (hc : c < 2 ^ 32) (n : ℕ) :
    IntOp.cmpi .slt (keyOf D n) (flip (w32 c)) = bit (decide ((flatKey D n).toNat / 2 ^ 0 < c)) := by
  rw [← flip_flip (keyOf D n), flip_slt, w32_toNat hc, Nat.pow_zero, Nat.div_one]
  rfl

end Cert.Proof.K
-- ==== Proof.Order.lean ====
/-
  Sorting: the element of a given rank by the counts around it, and the place of each position in a stable sort by a
  truth value.
-/
module

public import proofs.«01_k».proof.Proof.Count
public import Idealize.ShloMosaic.Lib.SortPrefix

@[expose] public section

noncomputable section

namespace Cert.Proof.K

open Cert.Kernel Cert.Kernel.Gen
open Idealize.ShloMosaic

/-! ## A sort's element of a given rank -/

/-- The element of rank `r` in a sort: at most `r` are less, and at least `r + 1` are not greater. -/
theorem rank_counts {N : ℕ} (f : ℕ → ℕ) (r : Fin N) :
    cnt (fun n => decide (f n < f (sortedFrom (fun a b : Fin N => decide (f a.val < f b.val)) r).val)) N ≤ r.val
      ∧ r.val + 1 ≤ cnt (fun n => decide (f n < f (sortedFrom (fun a b : Fin N => decide (f a.val < f b.val)) r).val + 1)) N := by
  have hinj := sortedFrom_injective (fun a b : Fin N => decide (f a.val < f b.val))
  have hsur := sortedFrom_surjective (fun a b : Fin N => decide (f a.val < f b.val))
  have hmono : ∀ i j : Fin N, i < j → f (sortedFrom (fun a b : Fin N => decide (f a.val < f b.val)) i).val
      ≤ f (sortedFrom (fun a b : Fin N => decide (f a.val < f b.val)) j).val := fun i j hij => by
    have := sortedFrom_noInversion (fun a b : Fin N => decide (f a.val < f b.val)) (fun a b : Fin N => decide (f a.val < f b.val))
      (fun a b h => by simp only [decide_eq_true_eq, decide_eq_false_iff_not] at h ⊢; omega) (fun _ _ h => h)
      (fun a b c h h' => by simp only [decide_eq_false_iff_not] at h h' ⊢; omega) i j hij
    simp only [decide_eq_false_iff_not] at this
    omega
  generalize sortedFrom (fun a b : Fin N => decide (f a.val < f b.val)) = σ at hinj hsur hmono ⊢
  have hcard : ∀ m, m ≤ N → ((Finset.univ : Finset (Fin N)).filter fun i => i.val < m).card = m := fun m hm => by
    have e := cnt_eq_card (fun n => decide (n < m)) N
    simp only [decide_eq_true_eq] at e
    rw [← e]
    have : ∀ n, cnt (fun n => decide (n < m)) n = min n m := fun n => by
      induction n with
      | zero => simp [cnt, tot]
      | succ n ih =>
        rw [cnt_succ, ih]
        by_cases h : n < m
        · rw [decide_eq_true h, Bool.toNat_true]; omega
        · rw [decide_eq_false h, Bool.toNat_false]; omega
    rw [this]; omega
  rw [cnt_eq_card, cnt_eq_card]
  constructor
  · refine le_trans (Finset.card_le_card (t := ((Finset.univ.filter fun i : Fin N => i.val < r.val).image σ)) fun n hn => ?_)
      (le_trans Finset.card_image_le (hcard r.val r.isLt.le).le)
    obtain ⟨i, rfl⟩ := hsur n
    have hlt := of_decide_eq_true (Finset.mem_filter.1 hn).2
    refine Finset.mem_image.2 ⟨i, Finset.mem_filter.2 ⟨Finset.mem_univ _, ?_⟩, rfl⟩
    by_contra hge
    rcases Nat.lt_or_eq_of_le (Nat.le_of_not_lt hge) with h | h
    · have := hmono r i h; omega
    · rw [Fin.ext h] at hlt; omega
  · refine le_trans (hcard (r.val + 1) r.isLt).ge (le_trans (Finset.card_image_of_injective _ hinj).ge (Finset.card_le_card fun n hn => ?_))
    obtain ⟨i, hi, rfl⟩ := Finset.mem_image.1 hn
    have hi := (Finset.mem_filter.1 hi).2
    refine Finset.mem_filter.2 ⟨Finset.mem_univ _, decide_eq_true ?_⟩
    rcases Nat.lt_or_eq_of_le (Nat.le_of_lt_succ hi) with h | h
    · have := hmono i r h; omega
    · rw [show i = r from Fin.ext h]; omega

/-! ## The stable order by a truth value -/

theorem insertBefore_congr {ι : Type} (R S : ι → ι → Bool) (a : ι) : ∀ l : List ι, (∀ b ∈ l, R b a = S b a) → insertBefore R a l = insertBefore S a l
  | [], _ => rfl
  | b :: l, h => by
    unfold insertBefore
    rw [h b List.mem_cons_self, insertBefore_congr R S a l fun c hc => h c (List.mem_cons_of_mem _ hc)]

/-- Two orders that agree on whether a later element goes before an earlier one sort alike. -/
theorem stableSort_congr {ι : Type} (R S : ι → ι → Bool) : ∀ l : List ι, l.Pairwise (fun a b => R b a = S b a) → stableSort R l = stableSort S l
  | [], _ => rfl
  | a :: l, h => by
    rw [List.pairwise_cons] at h
    unfold stableSort
    rw [stableSort_congr R S l h.2]
    exact insertBefore_congr R S a _ fun b hb => h.1 b ((perm_stableSort S l).mem_iff.1 hb)

/-- The place of position `n` among `N`, the positions with `z` first and otherwise in order. -/
def place (z : ℕ → Bool) (N n : ℕ) : ℕ := if z n = true then cnt z n else cnt z N + (n - cnt z n)

theorem place_lt {z : ℕ → Bool} {N n : ℕ} (h : n < N) : place z N n < N := by
  unfold place
  have h1 := cnt_mono z (show n + 1 ≤ N from h)
  have h2 := cnt_le z N
  have h3 := cnt_mono (fun k => !z k) (show n + 1 ≤ N from h)
  have h4 := cnt_le (fun k => !z k) N
  have h5 := cnt_not z N
  have h6 := cnt_not z n
  have h7 := cnt_le z n
  rw [cnt_succ] at h1 h3
  cases hz : z n
  · rw [hz, Bool.not_false, Bool.toNat_true] at h3
    rw [if_neg (by decide)]; omega
  · rw [hz, Bool.toNat_true] at h1
    rw [if_pos rfl]; omega

theorem place_mono {z : ℕ → Bool} {N a b : ℕ} (ha : a < N) (h : (z a = true ∧ z b = false) ∨ (z a = z b ∧ a < b)) : place z N a < place z N b := by
  unfold place
  rcases h with ⟨h1, h2⟩ | ⟨h1, h2⟩
  · rw [h1, h2, if_pos rfl, if_neg (by decide)]
    have h3 := cnt_mono z (show a + 1 ≤ N from ha)
    rw [cnt_succ, h1, Bool.toNat_true] at h3; omega
  · rw [h1]
    have h3 := cnt_mono z (show a + 1 ≤ b from h2)
    have h4 := cnt_mono (fun k => !z k) (show a + 1 ≤ b from h2)
    have h5 := cnt_not z a
    have h6 := cnt_not z b
    have h7 := cnt_le z a
    have h8 := cnt_le z b
    rw [cnt_succ, h1] at h3 h4
    cases hz : z b
    · rw [hz, Bool.not_false, Bool.toNat_true] at h4
      rw [if_neg (by decide), if_neg (by decide)]; omega
    · rw [hz, Bool.toNat_true] at h3
      rw [if_pos rfl, if_pos rfl]; omega

/-- The stable sort by `z` puts each position at its place. -/
theorem place_sorted (z : ℕ → Bool) (N : ℕ) (i : Fin N) : place z N (sortedFrom (fun a b : Fin N => z a.val && !z b.val) i).val = i.val := by
  have hB := StrictTotalBefore.of_key_then_position (n := N) (κ := Bool) (fun a b => a && !b) (fun a => z a.val)
    (fun a => by cases a <;> rfl) (fun a b c => by cases a <;> cases b <;> cases c <;> decide) (fun a b => by cases a <;> cases b <;> decide)
  have hs : sortPositions N (fun a b : Fin N => z a.val && !z b.val)
      = sortPositions N (fun a b : Fin N => (z a.val && !z b.val) || (decide (z a.val = z b.val) && decide (a < b))) := by
    refine stableSort_congr _ _ _ ((List.pairwise_lt_finRange N).imp fun {a b} hab => ?_)
    rw [decide_eq_false (p := b < a) (by omega), Bool.and_false, Bool.or_false]
  have hσ : sortedFrom (fun a b : Fin N => z a.val && !z b.val)
      = sortedFrom (fun a b : Fin N => (z a.val && !z b.val) || (decide (z a.val = z b.val) && decide (a < b))) := by
    funext k
    unfold sortedFrom
    simp only [List.get_eq_getElem, Fin.val_cast, hs]
  rw [hσ]
  have hinj := sortedFrom_injective (fun a b : Fin N => (z a.val && !z b.val) || (decide (z a.val = z b.val) && decide (a < b)))
  have hno := sortedFrom_noInversion _ _ (fun a b h => hB.asymm a b h) (fun _ _ h => h) hB.negTrans
  generalize sortedFrom (fun a b : Fin N => (z a.val && !z b.val) || (decide (z a.val = z b.val) && decide (a < b))) = σ at hinj hno ⊢
  have hmono : ∀ i j : Fin N, i < j → place z N (σ i).val < place z N (σ j).val := fun i j hij => by
    have hne : σ i ≠ σ j := fun e => absurd (hinj e) (ne_of_lt hij)
    have h1 := hno i j hij
    rcases hB.total (σ i) (σ j) hne with h | h
    · refine place_mono (σ i).isLt ?_
      simp only [Bool.or_eq_true, Bool.and_eq_true, decide_eq_true_eq, Bool.not_eq_true'] at h
      exact h.imp id fun h => ⟨h.1, h.2⟩
    · exact absurd (h1.symm.trans h) (by decide)
  have up : ∀ k (hk : k < N), k ≤ place z N (σ ⟨k, hk⟩).val := fun k => by
    induction k with
    | zero => intro _; omega
    | succ k ih =>
      intro hk
      have := ih (by omega)
      have := hmono ⟨k, by omega⟩ ⟨k + 1, hk⟩ (show k < k + 1 by omega)
      omega
  have down : ∀ d k (hk : k < N), k + d + 1 = N → place z N (σ ⟨k, hk⟩).val ≤ k := fun d => by
    induction d with
    | zero => intro k hk e; have := place_lt (z := z) (σ ⟨k, hk⟩).isLt; omega
    | succ d ih =>
      intro k hk e
      have := ih (k + 1) (by omega) (by omega)
      have := hmono ⟨k, hk⟩ ⟨k + 1, by omega⟩ (show k < k + 1 by omega)
      omega
  exact le_antisymm (down (N - i.val - 1) i.val i.isLt (by omega)) (up i.val i.isLt)

/-- The positions that a sort by `z` puts first. -/
theorem place_first (z : ℕ → Bool) (N m n : ℕ) (hn : n < N) (hm : m ≤ N) :
    place z N n < m ↔ ∃ i : Fin N, i.val < m ∧ (sortedFrom (fun a b : Fin N => z a.val && !z b.val) i).val = n := by
  constructor
  · intro h
    obtain ⟨i, hi⟩ := sortedFrom_surjective (fun a b : Fin N => z a.val && !z b.val) ⟨n, hn⟩
    have := place_sorted z N i
    rw [hi] at this
    exact ⟨i, by rw [← this]; exact h, by rw [hi]⟩
  · rintro ⟨i, hi, rfl⟩
    rw [place_sorted]; exact hi

end Cert.Proof.K
-- ==== Proof.Sums.lean ====
/-
  The sums that the tiles make: the base losses, the values below the cut and the corrections taken, and the counts of
  the zero labels that the tiles exchange.
-/
module

public import proofs.«01_k».proof.Proof.Cut
public import proofs.«01_k».proof.Proof.Order
public import Idealize.ShloMosaic.Lib.NatWordsOrder

@[expose] public section

noncomputable section

namespace Cert.Proof.K

open Cert.Kernel Cert.Kernel.Gen
open Idealize.ShloMosaic

open Idealize.ShloMosaic.Bits

variable {F : FTy → Type} [BitOps F]

/-! ## Sums of floats, in order -/

/-- The sum of `g 0`, …, `g n`, from the left. -/
def fsum (g : ℕ → F .f32) : ℕ → F .f32
  | 0 => g 0
  | n + 1 => Scalar.addf (fsum g n) (g (n + 1))

/-- A sum from zero over `k` blocks of sixteen, each block summed first; under `e` a zero is added after every block. -/
def accTo (e : Bool) (g : ℕ → F .f32) : ℕ → F .f32
  | 0 => Scalar.ofBits .f32 0x00000000#32
  | k + 1 => bif e then Scalar.addf (Scalar.addf (accTo e g k) (fsum (fun l => g (16 * k + l)) 15)) (Scalar.ofBits .f32 0x00000000#32)
      else Scalar.addf (accTo e g k) (fsum (fun l => g (16 * k + l)) 15)

/-- The sum from zero of `p 0`, …, `p (k - 1)`. -/
def colTo (p : ℕ → F .f32) : ℕ → F .f32
  | 0 => Scalar.ofBits .f32 0x00000000#32
  | k + 1 => Scalar.addf (colTo p k) (p k)

/-- The sum of the 16384 elements, a sum for each run of 1024 and then over these. -/
def total (e : Bool) (g : ℕ → F .f32) : F .f32 := colTo (fun s => accTo e (chunk g s) 64) 16

theorem fsum_congr {g h : ℕ → F .f32} : ∀ {n : ℕ}, (∀ k ≤ n, g k = h k) → fsum g n = fsum h n
  | 0, e => e 0 le_rfl
  | n + 1, e => by rw [fsum, fsum, fsum_congr fun k hk => e k (by omega), e (n + 1) le_rfl]

theorem accTo_congr {e : Bool} {g h : ℕ → F .f32} : ∀ {k : ℕ}, (∀ n < 16 * k, g n = h n) → accTo e g k = accTo e h k
  | 0, _ => rfl
  | k + 1, q => by
    rw [accTo, accTo, accTo_congr fun n hn => q n (by omega), fsum_congr (g := fun l => g (16 * k + l)) fun l hl => q (16 * k + l) (by omega)]

theorem colTo_congr {p q : ℕ → F .f32} : ∀ {k : ℕ}, (∀ s < k, p s = q s) → colTo p k = colTo q k
  | 0, _ => rfl
  | k + 1, e => by rw [colTo, colTo, colTo_congr fun s hs => e s (by omega), e k (by omega)]

theorem total_congr {e : Bool} {g h : ℕ → F .f32} (q : ∀ n < 16384, g n = h n) : total e g = total e h :=
  colTo_congr fun s hs => accTo_congr fun n hn => q (1024 * s + n) (by omega)

theorem lane_of_slice {α : Type} (v : S16.Idx → α) (o : ℕ) (h : S16.Slices ![o] S1) (h' : ∀ a, (![0] : Fin 1 → ℕ) a < S1.size a) :
    extractAt ![0] (extractStridedSlice S1 ![o] v h) h' = v (lane o) := by
  refine congrArg v (funext fun a => ?_)
  match a with
  | 0 =>
    refine Fin.ext ?_
    have h1 := h.2 0
    have h2 : o + 1 ≤ 16 := h1
    show o + 0 = o % 16
    omega

theorem sum17 (a : F .f32) (v : Vec F S16 .f32) : k0_pay17 a v (k0_pay6 v)
    = Scalar.addf (Scalar.addf a (fsum (fun l => v (lane l)) 15)) (Scalar.ofBits .f32 0x00000000#32) := by
  unfold k0_pay17 k0_pay6
  simp only [lane_of_slice]
  rfl

theorem sum12 (cut : BitVec 32) (u : Vec F S16 .i32) (dv : Vec F S16 .f32) (a : F .f32) :
    k0_pay12 a (k0_pay9 cut u dv) (k0_pay10 cut u dv) (k0_pay11 cut u dv) = Scalar.addf a (fsum (fun l => k0_pay9 cut u dv (lane l)) 15) := by
  unfold k0_pay12 k0_pay10 k0_pay11
  simp only [lane_of_slice]
  rfl

theorem sum114 (a3 : BitVec 32) (ls : IVec S16 32) (z1 z2 c iv : BitVec 32) (yv : Vec F S16 .i32) (cv : Vec F S16 .f32) (a : F .f32) :
    k0_pay114 a (k0_pay14 a3 ls z1 z2 c iv yv cv) (k0_pay15 a3 ls z1 z2 c iv yv cv) (k0_pay16 a3 ls z1 z2 c iv yv cv)
      = Scalar.addf a (fsum (fun l => k0_pay14 a3 ls z1 z2 c iv yv cv (lane l)) 15) := by
  unfold k0_pay114 k0_pay15 k0_pay16
  simp only [lane_of_slice]
  rfl

/-! ## The labels -/

/-- Whether label `n` is zero. -/
def zeroAt (Y : ℕ → BitVec 32) (n : ℕ) : Bool := Y n == 0#32

theorem zero_lane (Y : ℕ → BitVec 32) (o : ℕ) {l : ℕ} (hl : l < 16) :
    k0_pay13 (F := F) (seg Y o) (lane l) = w32 (zeroAt Y (o + l)).toNat := by
  show (IntOp.cmpi .eq (seg Y o (lane l)) 0#32).setWidth 32 = _
  rw [seg_lane _ _ hl]
  exact setWidth_bit _

theorem zeros_block (Y : ℕ → BitVec 32) (o : ℕ) : last (scan .sum (k0_pay13 (F := F) (seg Y o))) = w32 (cnt (fun l => zeroAt Y (o + l)) 16) :=
  last_scan_sum fun _ hk => zero_lane Y o hk

theorem firstTo_eq (B : ℕ → Elt F .f32) (Y : ℕ → BitVec 32) (s : ℕ) : ∀ k, k ≤ 64 →
    firstTo B Y s k = (accTo true (chunk B s) k, w32 (cnt (zeroAt (chunk Y s)) (16 * k))) := by
  refine iter_ind (P := fun k a => a = (accTo true (chunk B s) k, w32 (cnt (zeroAt (chunk Y s)) (16 * k)))) rfl ?_
  rintro t a rfl
  refine Prod.ext ?_ ?_
  · refine (sum17 _ _).trans ?_
    rw [accTo, fsum_congr (g := fun l => seg (chunk B s) (16 * t.val) (lane l)) fun l hl => seg_lane _ _ (by omega)]
    rfl
  · show w32 _ + last (scan .sum (k0_pay13 (F := F) (seg (chunk Y s) (16 * t.val)))) = _
    rw [zeros_block, w32_add, Nat.mul_succ, cnt_add]

theorem cnt_zero_chunk (Y : ℕ → BitVec 32) (s k : ℕ) : cnt (zeroAt Y) (1024 * s) + cnt (zeroAt (chunk Y s)) k = cnt (zeroAt Y) (1024 * s + k) :=
  (cnt_add _ _ _).symm

/-! ## The counts that the tiles exchange -/

theorem counts_lane (B : ℕ → Elt Bits .f32) (Y : ℕ → BitVec 32) (t : ℕ) {l : ℕ} (hl : l < 16) :
    counts B Y (16 * t + l) = f32OfNat (cnt (zeroAt (chunk Y t)) 1024) := by
  unfold counts
  rw [blocksOf_at _ _ hl]
  have := cnt_le (zeroAt (chunk Y t)) 1024
  show sitofp32 (firstTo B Y t 64).2 = _
  rw [firstTo_eq B Y t 64 le_rfl, show 16 * 64 = 1024 by decide]
  exact sitofp32_ofNat (by omega)

theorem count_read (B : ℕ → Elt Bits .f32) (Y : ℕ → BitVec 32) (t : ℕ) :
    last (k0_pay20 (F := Bits) lanes (seg (counts B Y) (16 * t))) = w32 (cnt (zeroAt (chunk Y t)) 1024) := by
  have h : ∀ k < 16, (select (cmpi .eq lanes (broadcast S16 0#32)) (fptosi 32 (seg (counts B Y) (16 * t) : FVec Bits S16 .f32)) (broadcast S16 0#32)) (lane k)
      = w32 (if k = 0 then cnt (zeroAt (chunk Y t)) 1024 else 0) := fun k hk => by
    show Scalar.select (IntOp.cmpi .eq (lanes (lane k)) 0#32) (fptosi32 32 (seg (counts B Y) (16 * t) (lane k))) 0#32 = _
    rw [lanes_lane hk, seg_lane _ _ hk, counts_lane _ _ _ hk]
    have := cnt_le (zeroAt (chunk Y t)) 1024
    rw [fptosi32_nat _ (by omega)]
    by_cases h0 : k = 0
    · rw [if_pos h0, h0]; rfl
    · rw [if_neg h0]
      have : IntOp.cmpi .eq (w32 k) 0#32 = bit false := by
        show BitVec.ofBool (w32 k == 0#32) = _
        refine congrArg BitVec.ofBool (beq_eq_false_iff_ne.2 fun e => h0 ?_)
        have := congrArg BitVec.toNat e
        rwa [w32_toNat (by omega)] at this
      rw [this]; rfl
  refine (last_scan_sum h).trans (congrArg w32 ?_)
  show tot _ (1 + 15) = _
  rw [tot_add]
  have hz : tot (fun k => if 1 + k = 0 then cnt (zeroAt (chunk Y t)) 1024 else 0) 15 = tot (fun _ => 0) 15 := tot_congr fun k _ => if_neg (by omega)
  rw [hz]
  show 0 + (if 0 = 0 then _ else 0) + 0 = _
  rw [if_pos rfl, Nat.zero_add, Nat.add_zero]

theorem zerosTo_eq (B : ℕ → Elt Bits .f32) (Y : ℕ → BitVec 32) {s : ℕ} (hs : s < 16) : ∀ k, k ≤ 16 →
    zerosTo (counts B Y) s k = (w32 (cnt (zeroAt Y) (1024 * min k s)), w32 (cnt (zeroAt Y) (1024 * k))) := by
  refine iter_ind (P := fun k a => a = (w32 (cnt (zeroAt Y) (1024 * min k s)), w32 (cnt (zeroAt Y) (1024 * k)))) ?_ ?_
  · rw [Nat.zero_min]; rfl
  · rintro t a rfl
    refine Prod.ext ?_ ?_
    · show Scalar.select (IntOp.cmpi .slt (Scf.iv 0#32 1#32 t.val) (w32 s)) (w32 _ + last (k0_pay20 (F := Bits) lanes (seg (counts B Y) (16 * t.val)))) (w32 _) = _
      have := t.isLt
      rw [iv_at, cmpi_slt_w32 (by omega) (by omega), count_read, w32_add]
      by_cases h : t.val < s
      · rw [decide_eq_true h, show min t.val s = t.val by omega, show min (t.val + 1) s = t.val + 1 by omega, cnt_zero_chunk]
        rfl
      · rw [decide_eq_false h, show min t.val s = s by omega, show min (t.val + 1) s = s by omega]
        rfl
    · show w32 _ + last (k0_pay20 (F := Bits) lanes (seg (counts B Y) (16 * t.val))) = _
      rw [count_read, w32_add, cnt_zero_chunk]
      rfl

/-! ## The corrections taken -/

/-- The correction at row `n` if it is taken: the row's label is one of the first 1638 in the stable order with the zero labels first. -/
def taken (C : ℕ → Elt F .f32) (Y : ℕ → BitVec 32) (n : ℕ) : F .f32 :=
  Scalar.select (bit (decide (place (zeroAt Y) 16384 n < 1638))) (C n : F .f32) (Scalar.ofBits .f32 0x00000000#32)

theorem taken_lane (C : ℕ → Elt F .f32) (Y : ℕ → BitVec 32) {s t l : ℕ} (hs : s < 16) (ht : t < 64) (hl : l < 16) :
    k0_pay14 (Scalar.muli (BitVec.ofNat 32 s) 1024#32) lanes (w32 (cnt (zeroAt Y) (1024 * s))) (w32 (cnt (zeroAt Y) 16384))
      (w32 (cnt (zeroAt (chunk Y s)) (16 * t))) (Scf.iv 0#32 1#32 t) (seg (chunk Y s) (16 * t)) (seg (chunk C s) (16 * t)) (lane l)
      = taken C Y (1024 * s + (16 * t + l)) := by
  have hscan : scan .sum (k0_pay13 (F := F) (seg (chunk Y s) (16 * t))) (lane l) = w32 (cnt (fun l => zeroAt (chunk Y s) (16 * t + l)) (l + 1)) := by
    rw [scan_sum (fun k hk => zero_lane (F := F) (chunk Y s) (16 * t) hk) (lane l)]
    show w32 (tot _ (l % 16 + 1)) = _
    rw [Nat.mod_eq_of_lt hl]; rfl
  show Scalar.select (IntOp.cmpi .slt (Scalar.select (IntOp.cmpi .eq (k0_pay13 (F := F) (seg (chunk Y s) (16 * t)) (lane l)) 1#32)
      ((w32 (cnt (zeroAt Y) (1024 * s)) + w32 (cnt (zeroAt (chunk Y s)) (16 * t))) + (scan .sum (k0_pay13 (F := F) (seg (chunk Y s) (16 * t))) (lane l) - k0_pay13 (F := F) (seg (chunk Y s) (16 * t)) (lane l)))
      (w32 (cnt (zeroAt Y) 16384) + (((w32 s * w32 1024 + Scf.iv 0#32 1#32 t * w32 16) + lanes (lane l))
        - ((w32 (cnt (zeroAt Y) (1024 * s)) + w32 (cnt (zeroAt (chunk Y s)) (16 * t))) + (scan .sum (k0_pay13 (F := F) (seg (chunk Y s) (16 * t))) (lane l) - k0_pay13 (F := F) (seg (chunk Y s) (16 * t)) (lane l)))))) (w32 1638))
      (seg (chunk C s) (16 * t) (lane l)) (Scalar.ofBits .f32 0x00000000#32) = _
  rw [hscan, zero_lane (F := F) _ _ hl, iv_at, lanes_lane hl, seg_lane _ _ hl, w32_mul, w32_mul, w32_add, w32_add, w32_add,
    cnt_succ, w32_sub (Nat.le_add_left _ _), Nat.add_sub_cancel, w32_add, cnt_zero_chunk]
  have hn : 1024 * s + 16 * t + l = 1024 * s + (16 * t + l) := Nat.add_assoc _ _ _
  have e1 : cnt (zeroAt Y) (1024 * s + 16 * t) + cnt (fun l => zeroAt (chunk Y s) (16 * t + l)) l = cnt (zeroAt Y) (1024 * s + (16 * t + l)) := by
    rw [← hn, cnt_add (zeroAt Y) (1024 * s + 16 * t) l]
    refine congrArg _ (cnt_congr fun k _ => ?_)
    rw [Nat.add_assoc]; rfl
  rw [e1, show s * 1024 + t * 16 + l = 1024 * s + (16 * t + l) by omega, show zeroAt (chunk Y s) (16 * t + l) = zeroAt Y (1024 * s + (16 * t + l)) from rfl,
    show chunk C s (16 * t + l) = C (1024 * s + (16 * t + l)) from rfl]
  generalize hN : 1024 * s + (16 * t + l) = n
  have hlt : n < 16384 := by omega
  rw [w32_sub (cnt_le _ n), w32_add]
  have hp := place_lt (z := zeroAt Y) hlt
  have e2 : Scalar.select (IntOp.cmpi .eq (w32 (zeroAt Y n).toNat) 1#32) (w32 (cnt (zeroAt Y) n)) (w32 (cnt (zeroAt Y) 16384 + (n - cnt (zeroAt Y) n)))
      = w32 (place (zeroAt Y) 16384 n) := by
    unfold place
    cases zeroAt Y n <;> rfl
  rw [e2, cmpi_slt_w32 (by omega) (by omega)]
  rfl

/-! ## A tile's sums -/

/-- The value of element `n` if its key is below the cut. -/
def below (D : ℕ → Elt F .f32) (c : BitVec 32) (n : ℕ) : F .f32 :=
  Scalar.select (IntOp.cmpi .slt (keyOf D n) c) (D n : F .f32) (Scalar.ofBits .f32 0x00000000#32)

/-- Whether the key of element `n` is below the cut. -/
def isBelow (D : ℕ → Elt F .f32) (c : BitVec 32) (n : ℕ) : Bool := (keyOf D n).slt c

theorem low_lane (D : ℕ → Elt F .f32) (c : BitVec 32) {s t l : ℕ} (ht : t < 64) (hl : l < 16) :
    k0_pay7 (F := F) c (seg (keys D s) (16 * t)) (lane l) = bit (isBelow D c (1024 * s + (16 * t + l))) := by
  show IntOp.cmpi .slt (flip (seg (keys D s) (16 * t) (lane l))) c = _
  rw [seg_lane _ _ hl, keys_at D s _ (by omega), flatKey, flip_flip]
  rfl

theorem below_lane (D : ℕ → Elt F .f32) (c : BitVec 32) {s t l : ℕ} (ht : t < 64) (hl : l < 16) :
    k0_pay9 c (seg (keys D s) (16 * t)) (seg (chunk D s) (16 * t)) (lane l) = below D c (1024 * s + (16 * t + l)) := by
  show Scalar.select (k0_pay7 (F := F) c (seg (keys D s) (16 * t)) (lane l)) (seg (chunk D s) (16 * t) (lane l)) (Scalar.ofBits .f32 0x00000000#32) = _
  rw [low_lane D c ht hl, seg_lane _ _ hl]
  rfl

/-- Tile `s`'s sums after `k` blocks: the keys below the cut counted, their values summed, the corrections taken summed, the zero labels counted. -/
theorem sumsTo_eq (D C B : ℕ → Elt F .f32) (Y : ℕ → BitVec 32) {s : ℕ} (hs : s < 16)
    (hz : zerosTo (counts B Y) s 16 = (w32 (cnt (zeroAt Y) (1024 * s)), w32 (cnt (zeroAt Y) 16384))) : ∀ k, k ≤ 64 →
    sumsTo D C B Y s k = (w32 (cnt (fun n => isBelow D (cut D) (1024 * s + n)) (16 * k)), accTo false (chunk (below D (cut D)) s) k,
      accTo false (chunk (taken C Y) s) k, w32 (cnt (zeroAt (chunk Y s)) (16 * k))) := by
  refine iter_ind (P := fun k a => a = (w32 (cnt (fun n => isBelow D (cut D) (1024 * s + n)) (16 * k)), accTo false (chunk (below D (cut D)) s) k,
      accTo false (chunk (taken C Y) s) k, w32 (cnt (zeroAt (chunk Y s)) (16 * k)))) rfl ?_
  rintro t a rfl
  refine Prod.ext ?_ (Prod.ext ?_ (Prod.ext ?_ ?_))
  · show w32 _ + last (scan .sum (extui 32 (k0_pay7 (F := F) (cut D) (seg (keys D s) (16 * t.val))) natLt_1_32)) = w32 _
    rw [last_scan_sum (f := fun l => (isBelow D (cut D) (1024 * s + (16 * t.val + l))).toNat) fun l hl => by
      show (k0_pay7 (F := F) (cut D) (seg (keys D s) (16 * t.val)) (lane l)).setWidth 32 = _
      rw [low_lane D _ t.isLt hl, setWidth_bit]]
    rw [w32_add, Nat.mul_succ, cnt_add]
    rfl
  · refine (sum12 _ _ _ _).trans ?_
    rw [fsum_congr fun l hl => below_lane D (cut D) (s := s) t.isLt (show l < 16 by omega)]
    rfl
  · show k0_pay114 _ (k0_pay14 _ _ (zerosTo (counts B Y) s 16).1 (zerosTo (counts B Y) s 16).2 _ _ _ _) (k0_pay15 _ _ (zerosTo (counts B Y) s 16).1 (zerosTo (counts B Y) s 16).2 _ _ _ _)
      (k0_pay16 _ _ (zerosTo (counts B Y) s 16).1 (zerosTo (counts B Y) s 16).2 _ _ _ _) = _
    rw [hz]
    refine (sum114 _ _ _ _ _ _ _ _ _).trans ?_
    rw [fsum_congr fun l hl => taken_lane C Y hs t.isLt (show l < 16 by omega)]
    rfl
  · show w32 _ + last (scan .sum (k0_pay13 (F := F) (seg (chunk Y s) (16 * t.val)))) = w32 _
    rw [zeros_block, w32_add, Nat.mul_succ, cnt_add]

/-! ## The parts and the result -/

section Result

variable (D C B : ℕ → Elt Bits .f32) (Y : ℕ → BitVec 32)

theorem sums_end {s : ℕ} (hs : s < 16) :
    sumsTo D C B Y s 64 = (w32 (cnt (fun n => isBelow D (cut D) (1024 * s + n)) 1024), accTo false (chunk (below D (cut D)) s) 64,
      accTo false (chunk (taken C Y) s) 64, w32 (cnt (zeroAt (chunk Y s)) 1024)) := by
  refine (sumsTo_eq D C B Y hs ?_ 64 le_rfl).trans rfl
  rw [zerosTo_eq B Y hs 16 le_rfl, show min 16 s = s by omega]

theorem part_lanes {s : ℕ} (hs : s < 16) :
    part D C B Y s (lane 0) = accTo true (chunk B s) 64 ∧ part D C B Y s (lane 1) = accTo false (chunk (taken C Y) s) 64
      ∧ part D C B Y s (lane 2) = accTo false (chunk (below D (cut D)) s) 64
      ∧ part D C B Y s (lane 3) = f32OfNat (cnt (fun n => isBelow D (cut D) (1024 * s + n)) 1024) := by
  unfold part
  rw [sums_end D C B Y hs, firstTo_eq B Y s 64 le_rfl]
  have := cnt_le (fun n => isBelow D (cut D) (1024 * s + n)) 1024
  refine ⟨rfl, rfl, rfl, ?_⟩
  exact (show _ = sitofp32 (w32 _) from rfl).trans (sitofp32_ofNat (by omega))

theorem sumTo_lane (l : ℕ) (hl : l < 16) : ∀ k, k ≤ 16 → sumTo (parts D C B Y) k (lane l) = colTo (fun s => part D C B Y s (lane l)) k := by
  refine iter_ind (P := fun k (a : FVec Bits S16 .f32) => a (lane l) = colTo (fun s => part D C B Y s (lane l)) k) rfl ?_
  intro t a h
  show Scalar.addf (a (lane l)) (seg (parts D C B Y) (16 * t.val) (lane l)) = _
  rw [h, seg_lane _ _ hl, parts, blocksOf_at _ _ hl]
  rfl

theorem colTo_nat (f : ℕ → ℕ) : ∀ {k : ℕ}, tot f k < 2 ^ 24 → colTo (F := Bits) (fun s => f32OfNat (f s)) k = f32OfNat (tot f k)
  | 0, _ => f32OfNat_zero.symm
  | k + 1, h => by
    have h' : tot f k + f k < 2 ^ 24 := h
    rw [colTo, colTo_nat f (by omega)]
    exact addf32_nat _ _ h'

/-- The number of keys below the cut. -/
abbrev lows : ℕ := cnt (isBelow D (cut D)) 16384

/-- The result as sums over the rows. -/
theorem out_eq (x : S16.Idx) : out D C B Y x
    = Scalar.mulf (Scalar.subf (Scalar.addf (Scalar.addf (total true B) (total false (below D (cut D))))
        (Scalar.mulf (Scalar.subf (Scalar.ofBits .f32 0x44CCC000#32) (f32OfNat (lows D) : Bits .f32)) (Scalar.ofBits .f32 (keyWord (cut D)))))
        (total false (taken C Y))) (Scalar.ofBits .f32 0x38800000#32) := by
  unfold out k0_pay4
  simp only [lane_of_slice]
  have h := fun l hl => sumTo_lane D C B Y l hl 16 le_rfl
  have e0 : colTo (fun s => part D C B Y s (lane 0)) 16 = total true B := colTo_congr fun s hs => (part_lanes D C B Y hs).1
  have e1 : colTo (fun s => part D C B Y s (lane 1)) 16 = total false (taken C Y) := colTo_congr fun s hs => (part_lanes D C B Y hs).2.1
  have e2 : colTo (fun s => part D C B Y s (lane 2)) 16 = total false (below D (cut D)) := colTo_congr fun s hs => (part_lanes D C B Y hs).2.2.1
  have e3 : colTo (fun s => part D C B Y s (lane 3)) 16 = f32OfNat (lows D) := by
    refine (colTo_congr fun s hs => (part_lanes D C B Y hs).2.2.2).trans ?_
    have hb : tot (fun s => cnt (fun n => isBelow D (cut D) (1024 * s + n)) 1024) 16 = lows D :=
      (tot_blocks (fun n => (isBelow D (cut D) n).toNat) 1024 16).trans (congrArg (cnt (isBelow D (cut D))) (show 1024 * 16 = 16384 by decide))
    have : lows D ≤ 16384 := cnt_le _ _
    exact (colTo_nat _ (by rw [hb]; omega)).trans (congrArg f32OfNat hb)
  rw [h 0 (by decide), h 1 (by decide), h 2 (by decide), h 3 (by decide), e0, e1, e2, e3]
  rfl

end Result

end Cert.Proof.K
-- ==== Proof.RefLoop.lean ====
/-
  The reference's loop: three rows of sums, sixteen to a row, a block of sixteen elements added to each at every trip.
-/
module

public import proofs.«01_k».proof.Proof.RefTable
public import proofs.«01_k».proof.Proof.Sums
public import Idealize.ShloMosaic.Lib.DynamicIndex
public import Idealize.ShloMosaic.Lib.Pipeline.Value
public import Idealize.ShloMosaic.Lib.Pointwise.Index

@[expose] public section

noncomputable section

namespace Cert.Proof.Ref

open Cert.Reference Cert.Reference.Gen Cert.Reference.Value
open Cert.Proof.K (fsum accTo colTo total chunk pos w32)

open Idealize.ShloMosaic Idealize.ShloMosaic.TcCoe Idealize.ShloMosaic.StableHlo Idealize.SL.Sem

/-! ## The table's elements -/

/-- A vector's elements in order. -/
def seqOf {α : Type} (x : S16384.Idx → α) : ℕ → α := fun n => x (pos 16384 n)

/-- Row `r` of the table, in the arguments. -/
def rowOf (a c b : FVec Bits S16384 .f32) (y : IVec S16384 32) : ℕ → FVec Bits S16384 .f32
  | 0 => b
  | 1 => maskV (takenV y) c
  | _ => maskV (lowV a) a

theorem row_at {α : Type} (x : S16384.Idx → α) (n : ℕ) (p : Fin 16384) (hp : p.val = n) :
    broadcastInDim S1x16384 ![1] bcast_S16384_S1x16384_1 x (ix2 0 p) = seqOf x n := by
  refine congrArg x (funext fun i => ?_)
  match i with
  | 0 =>
    refine Fin.ext ?_
    show p.val = n % 16384
    have := p.isLt
    omega

/-- The three rows joined, read in each. -/
theorem join_at {α : Type} (x0 x1 x2 : S1x16384.Idx → α) (h : Shape.Concatenates [S1x16384, S1x16384, S1x16384] S3x16384 0) (p : Fin 16384) :
    concatenate S3x16384 0 [⟨S1x16384, x0⟩, ⟨S1x16384, x1⟩, ⟨S1x16384, x2⟩] h (ix2 0 p) = x0 (ix2 0 p)
      ∧ concatenate S3x16384 0 [⟨S1x16384, x0⟩, ⟨S1x16384, x1⟩, ⟨S1x16384, x2⟩] h (ix2 1 p) = x1 (ix2 0 p)
      ∧ concatenate S3x16384 0 [⟨S1x16384, x0⟩, ⟨S1x16384, x1⟩, ⟨S1x16384, x2⟩] h (ix2 2 p) = x2 (ix2 0 p) := by
  refine ⟨?_, ?_, ?_⟩
  · refine concatenate_apply_piece (t := S3x16384) 0 [⟨S1x16384, x0⟩, ⟨S1x16384, x1⟩, ⟨S1x16384, x2⟩] h _ 0 (Nat.zero_lt_succ _) S1x16384 x0 rfl rfl 0 rfl (ix2 0 p) ?_ rfl
    exact fun b hb => match b, hb with | 0, hb => absurd rfl hb | 1, _ => rfl
  · refine concatenate_apply_piece (t := S3x16384) 0 [⟨S1x16384, x0⟩, ⟨S1x16384, x1⟩, ⟨S1x16384, x2⟩] h _ 1 (Nat.lt_of_sub_eq_succ rfl) S1x16384 x1 rfl rfl 1 rfl (ix2 0 p) ?_ rfl
    exact fun b hb => match b, hb with | 0, hb => absurd rfl hb | 1, _ => rfl
  · refine concatenate_apply_piece (t := S3x16384) 0 [⟨S1x16384, x0⟩, ⟨S1x16384, x1⟩, ⟨S1x16384, x2⟩] h _ 2 (Nat.lt_of_sub_eq_succ rfl) S1x16384 x2 rfl rfl 2 rfl (ix2 0 p) ?_ rfl
    exact fun b hb => match b, hb with | 0, hb => absurd rfl hb | 1, _ => rfl

theorem table_at (a c b : FVec Bits S16384 .f32) (y : IVec S16384 32) (r : Fin 3) (s : Fin 16) (t : Fin 64) (l : Fin 16) :
    tableV a c b y (ix4 r s t l) = seqOf (rowOf a c b y r.val) (1024 * s.val + (16 * t.val + l.val)) := by
  have hp : 1024 * s.val + (16 * t.val + l.val) < 16384 := by omega
  unfold tableV
  refine (shapeCast_apply _ _ _ (ix2 r ⟨_, hp⟩) ?_).trans ?_
  · rw [Shape.rowMajor_val_two, Shape.rowMajor_val_four]
    show r.val * 16384 + (1024 * s.val + (16 * t.val + l.val)) = ((r.val * 16 + s.val) * 64 + t.val) * 16 + l.val
    omega
  · match r with
    | 0 => exact (join_at _ _ _ _ _).1.trans (row_at _ _ _ rfl)
    | 1 => exact (join_at _ _ _ _ _).2.1.trans (row_at _ _ _ rfl)
    | 2 => exact (join_at _ _ _ _ _).2.2.trans (row_at _ _ _ rfl)

/-! ## A trip -/

theorem slot_at (V : Valuation τ sig (Elt Bits)) (k : Fin 64) (hi : V (Proc.devRef .tc main_v35_2) = (fun _ => w32 k.val : IVec S_ 32)) (r : Fin 3) (s l : Fin 16) :
    (res_main_while0b_v106 V : FVec Bits S3x16x16 .f32) (ix3 r s l) = (V (Proc.devRef .tc main_v35_0) : FVec Bits S3x16x64x16 .f32) (ix4 r s k l) := by
  unfold res_main_while0b_v106
  rw [hi]
  have hs : S3x16x64x16.Slices ![0, 0, k.val, 0] S3x16x1x16 := by
    refine ⟨rfl, fun a => ?_⟩
    match a with
    | 0 => exact le_refl 3
    | 1 => exact le_refl 16
    | 2 => exact k.isLt
    | 3 => exact le_refl 16
  refine (shapeCast_apply _ _ _ (ix4 r s 0 l) ?_).trans ?_
  · rw [Shape.rowMajor_val_three, Shape.rowMajor_val_four]
    show ((r.val * 16 + s.val) * 1 + 0) * 16 + l.val = (r.val * 16 + s.val) * 16 + l.val
    omega
  · rw [Host.dynamicSlice_eq_extractStridedSlice S3x16x1x16 _ _ ![0, 0, k.val, 0] _ hs]
    · refine congrArg (V (Proc.devRef .tc main_v35_0) : FVec Bits S3x16x64x16 .f32) (funext fun a => ?_)
      match a with
      | 0 => exact Fin.ext (Nat.zero_add _)
      | 1 => exact Fin.ext (Nat.zero_add _)
      | 2 => exact Fin.ext (Nat.add_zero _)
      | 3 => exact Fin.ext (Nat.zero_add _)
    · intro a
      match a with
      | 0 => rfl
      | 1 => rfl
      | 2 => exact toInt_wrap_ofNat k.val (by omega)
      | 3 => rfl

theorem col_at (x : FVec Bits S3x16x16 .f32) (l : Fin 16) (h : S3x16x16.Slices ![0, 0, l.val] S3x16x1) (h' : S3x16x1.ShapeCasts S3x16) (r : Fin 3) (s : Fin 16) :
    shapeCast S3x16 (extractStridedSlice S3x16x1 ![0, 0, l.val] x h) h' (ix2 r s) = x (ix3 r s l) := by
  refine (shapeCast_apply _ _ _ (ix3 r s 0) ?_).trans ?_
  · rw [Shape.rowMajor_val_three, Shape.rowMajor_val_two]
    show (r.val * 16 + s.val) * 1 + 0 = r.val * 16 + s.val
    omega
  · refine congrArg x (funext fun a => ?_)
    match a with
    | 0 => exact Fin.ext (Nat.zero_add _)
    | 1 => exact Fin.ext (Nat.zero_add _)
    | 2 => exact Fin.ext (Nat.add_zero _)

theorem scalar_addf (a b : Bits .f32) : Scalar.addf a b = FloatOps.addf a b := rfl
theorem scalar_subf (a b : Bits .f32) : Scalar.subf a b = FloatOps.subf a b := rfl
theorem scalar_mulf (a b : Bits .f32) : Scalar.mulf a b = FloatOps.mulf a b := rfl
theorem scalar_ofBits (a : BitVec 32) : (Scalar.ofBits .f32 a : Bits .f32) = FloatOps.ofBits .f32 a := rfl

/-- The sums of one trip: what was there and the sum of the sixteen elements. -/
theorem trip_at (V : Valuation τ sig (Elt Bits)) (r : Fin 3) (s : Fin 16) (f : Fin 16 → Bits .f32)
    (hf : ∀ l, (res_main_while0b_v106 V : FVec Bits S3x16x16 .f32) (ix3 r s l) = f l) (g : ℕ → Bits .f32) (hg : ∀ l : Fin 16, f l = g l.val) :
    (res_main_while0b_v154 V : FVec Bits S3x16 .f32) (ix2 r s)
      = Scalar.addf ((V (Proc.devRef .tc main_v35_3) : FVec Bits S3x16 .f32) (ix2 r s)) (fsum g 15) := by
  have e : ∀ (l : ℕ) (h : S3x16x16.Slices ![0, 0, l] S3x16x1) (h' : S3x16x1.ShapeCasts S3x16), l < 16 →
      shapeCast S3x16 (extractStridedSlice S3x16x1 ![0, 0, l] (res_main_while0b_v106 V : FVec Bits S3x16x16 .f32) h) h' (ix2 r s) = g l :=
    fun l h h' hl => (col_at _ ⟨l, hl⟩ h h' r s).trans ((hf ⟨l, hl⟩).trans (hg ⟨l, hl⟩))
  unfold res_main_while0b_v154
  simp (disch := decide) only [addf, fsum, e, scalar_addf]

/-! ## Every trip -/

/-- What the loop carries after `k` trips. -/
structure Sums (rows : ℕ → ℕ → Bits .f32) (k : ℕ) (V : Valuation τ sig (Elt Bits)) : Prop where
  table : ∀ (r : Fin 3) (s : Fin 16) (t : Fin 64) (l : Fin 16),
    (V (Proc.devRef .tc main_v35_0) : FVec Bits S3x16x64x16 .f32) (ix4 r s t l) = rows r.val (1024 * s.val + (16 * t.val + l.val))
  count : V (Proc.devRef .tc main_v35_2) = (fun _ => w32 k : IVec S_ 32)
  sum : ∀ (r : Fin 3) (s : Fin 16), (V (Proc.devRef .tc main_v35_3) : FVec Bits S3x16 .f32) (ix2 r s) = accTo (r.val == 0) (chunk (rows r.val) s.val) k

theorem step_at (V : Valuation τ sig (Elt Bits)) (x : FVec Bits S3x16 .f32) (hx : x = res_main_while0b_v154 V) (r : Fin 3) (s : Fin 16) :
    (step_main_v35_3 V : FVec Bits S3x16 .f32) (ix2 r s)
      = (bif r.val == 0 then Scalar.addf (x (ix2 r s)) (Scalar.ofBits .f32 0x00000000#32) else x (ix2 r s) : Bits .f32) := by
  subst hx
  match r with
  | 0 => rfl
  | 1 => rfl
  | 2 => rfl

theorem Sums.step {rows : ℕ → ℕ → Bits .f32} {k : ℕ} {V : Valuation τ sig (Elt Bits)} (h : Sums rows k V) (hk : k < 64) : Sums rows (k + 1) (STEP V) where
  table r s t l := (congrFun (STEP_main_v35_0 V) _).trans (h.table r s t l)
  count := (STEP_main_v35_2 V).trans (by
    unfold step_main_v35_2
    rw [h.count]
    exact funext fun _ => K.w32_add k 1)
  sum r s := by
    refine (congrFun (STEP_main_v35_3 V) _).trans ((step_at V _ rfl r s).trans ?_)
    have e := trip_at V r s _ (fun l => (slot_at V ⟨k, hk⟩ h.count r s l).trans (h.table r s ⟨k, hk⟩ l)) (fun l => chunk (rows r.val) s.val (16 * k + l)) (fun _ => rfl)
    rw [e, h.sum]
    rfl

theorem Sums.iter {rows : ℕ → ℕ → Bits .f32} {V : Valuation τ sig (Elt Bits)} (h : Sums rows 0 V) : ∀ k ≤ 64, Sums rows k (STEP^[k] V)
  | 0, _ => h
  | k + 1, hk => by
    rw [Function.iterate_succ_apply']
    exact (Sums.iter h k (by omega)).step (by omega)

variable (m : (ℓ : Loc nD τ sig) → Buf (Elt Bits) ℓ)

/-- The sums at the loop's end. -/
theorem loop_sums (c : Dev nD) (r : Fin 3) (s : Fin 16) : (atK m 64 c (Proc.devRef .tc main_v35_3) : FVec Bits S3x16 .f32) (ix2 r s)
    = accTo (r.val == 0) (chunk (seqOf (rowOf (m ((c.tc : Thread nD τ).loc main_arg0)) (m ((c.tc : Thread nD τ).loc main_arg1)) (m ((c.tc : Thread nD τ).loc main_arg2))
      (m ((c.tc : Thread nD τ).loc main_arg3)) r.val)) s.val) 64 := by
  have h : Sums (fun i => seqOf (rowOf (m ((c.tc : Thread nD τ).loc main_arg0)) (m ((c.tc : Thread nD τ).loc main_arg1)) (m ((c.tc : Thread nD τ).loc main_arg2))
      (m ((c.tc : Thread nD τ).loc main_arg3)) i)) 0 (entryContents preI m c) :=
    ⟨fun r s t l => (congrFun (entry_table m c) _).trans (table_at _ _ _ _ r s t l), (entry_sums m c).2, fun r s => congrFun (entry_sums m c).1 _⟩
  exact (congrFun (atK_agree m c 64 main_v35_3 (by decide)) _).trans ((h.iter 64 le_rfl).sum r s)

end Cert.Proof.Ref

end
-- ==== Proof.RefEnd.lean ====
/-
  The reference's result, in its sums, the float of its cut and the count of the keys below it.
-/
module

public import proofs.«01_k».proof.Proof.RefLoop

@[expose] public section

noncomputable section

namespace Cert.Proof.Ref

open Cert.Reference Cert.Reference.Gen Cert.Reference.Value
open Cert.Proof.K (fsum accTo colTo total chunk pos w32)

open Idealize.ShloMosaic Idealize.ShloMosaic.TcCoe Idealize.ShloMosaic.StableHlo Idealize.SL.Sem

theorem one_at {α : Type} (v : S3.Idx → α) (r : ℕ) (hr : r < 3) (h : S3.Slices ![r] S1) (h' : S1.ShapeCasts S_) (i : S_.Idx) :
    shapeCast S_ (extractStridedSlice S1 ![r] v h) h' i = v (ix1 ⟨r, hr⟩) := by
  refine (shapeCast_apply _ _ _ (ix1 0) ?_).trans ?_
  · rw [Shape.rowMajor_val_one]
    exact (Nat.lt_one_iff.mp (lt_of_lt_of_eq (S_.rowMajor i).isLt rfl)).symm
  · refine congrArg v (funext fun a => ?_)
    match a with
    | 0 => exact Fin.ext (Nat.add_zero _)

theorem part_at {α : Type} (x : S3x16.Idx → α) (j : ℕ) (hj : j < 16) (h : S3x16.Slices ![0, j] S3x1) (h' : S3x1.ShapeCasts S3) (r : Fin 3) :
    shapeCast S3 (extractStridedSlice S3x1 ![0, j] x h) h' (ix1 r) = x (ix2 r ⟨j, hj⟩) := by
  refine (shapeCast_apply _ _ _ (ix2 r 0) ?_).trans ?_
  · rw [Shape.rowMajor_val_one, Shape.rowMajor_val_two]
    show r.val * 1 + 0 = r.val
    omega
  · refine congrArg x (funext fun a => ?_)
    match a with
    | 0 => exact Fin.ext (Nat.zero_add _)
    | 1 => exact Fin.ext (Nat.add_zero _)

/-- A row's sum over its sixteen runs. -/
def rowSum (x : FVec Bits S3x16 .f32) (r : Fin 3) : Bits .f32 := colTo (fun s => x (ix2 r ⟨s % 16, Nat.mod_lt _ (by decide)⟩)) 16

/-- The three rows' sums. -/
def rowsSum (x : FVec Bits S3x16 .f32) : FVec Bits S3 .f32 := addf (addf (addf (addf (addf (addf (addf (addf (addf (addf (addf (addf (addf (addf (addf (addf (broadcastInDim S3 ![] bcast_S_S3 (constant S_ .f32 0x00000000#32))
    (shapeCast S3 (extractStridedSlice S3x1 ![0, 0] x slices_S3x16_S3x1_0_0) shapeCasts_S3x1_S3))
    (shapeCast S3 (extractStridedSlice S3x1 ![0, 1] x slices_S3x16_S3x1_0_1) shapeCasts_S3x1_S3))
    (shapeCast S3 (extractStridedSlice S3x1 ![0, 2] x slices_S3x16_S3x1_0_2) shapeCasts_S3x1_S3))
    (shapeCast S3 (extractStridedSlice S3x1 ![0, 3] x slices_S3x16_S3x1_0_3) shapeCasts_S3x1_S3))
    (shapeCast S3 (extractStridedSlice S3x1 ![0, 4] x slices_S3x16_S3x1_0_4) shapeCasts_S3x1_S3))
    (shapeCast S3 (extractStridedSlice S3x1 ![0, 5] x slices_S3x16_S3x1_0_5) shapeCasts_S3x1_S3))
    (shapeCast S3 (extractStridedSlice S3x1 ![0, 6] x slices_S3x16_S3x1_0_6) shapeCasts_S3x1_S3))
    (shapeCast S3 (extractStridedSlice S3x1 ![0, 7] x slices_S3x16_S3x1_0_7) shapeCasts_S3x1_S3))
    (shapeCast S3 (extractStridedSlice S3x1 ![0, 8] x slices_S3x16_S3x1_0_8) shapeCasts_S3x1_S3))
    (shapeCast S3 (extractStridedSlice S3x1 ![0, 9] x slices_S3x16_S3x1_0_9) shapeCasts_S3x1_S3))
    (shapeCast S3 (extractStridedSlice S3x1 ![0, 10] x slices_S3x16_S3x1_0_10) shapeCasts_S3x1_S3))
    (shapeCast S3 (extractStridedSlice S3x1 ![0, 11] x slices_S3x16_S3x1_0_11) shapeCasts_S3x1_S3))
    (shapeCast S3 (extractStridedSlice S3x1 ![0, 12] x slices_S3x16_S3x1_0_12) shapeCasts_S3x1_S3))
    (shapeCast S3 (extractStridedSlice S3x1 ![0, 13] x slices_S3x16_S3x1_0_13) shapeCasts_S3x1_S3))
    (shapeCast S3 (extractStridedSlice S3x1 ![0, 14] x slices_S3x16_S3x1_0_14) shapeCasts_S3x1_S3))
    (shapeCast S3 (extractStridedSlice S3x1 ![0, 15] x slices_S3x16_S3x1_0_15) shapeCasts_S3x1_S3)

theorem rowsSum_at (x : FVec Bits S3x16 .f32) (r : Fin 3) : rowsSum x (ix1 r) = rowSum x r := by
  unfold rowsSum rowSum
  simp (disch := decide) only [addf, part_at, colTo, scalar_addf]
  rfl

/-- How many of the words are set. -/
def setV (k : IVec S16384 1) : IVec S_ 32 :=
  Host.reduce IntOp.addi (extui 32 k natLt_1_32) (constantI S_ 32 0#32) reducesTo_S16384_S_d0 h_S_

set_option maxRecDepth 100000 in
set_option maxHeartbeats 200000 in
theorem end_value (V : Valuation τ sig (Elt Bits)) (x : FVec Bits S3x16 .f32) (hx : x = V (Proc.devRef .tc main_v35_3)) :
    (after hostOps0_10 V (Proc.devRef .tc main_v99) : FVec Bits S_ .f32)
      = fun i => Scalar.mulf (Scalar.subf (Scalar.addf (Scalar.addf (rowSum x 0) (rowSum x 2))
          (Scalar.mulf (sitofp .f32 (subi (constantI S_ 32 1638#32) (setV (V (Proc.devRef .tc main_v14)))) i) ((V (Proc.devRef .tc main_v12) : FVec Bits S_ .f32) i)))
          (rowSum x 1)) (Scalar.ofBits .f32 0x38800000#32) := by
  after_reads_simp
  rw [← hx]
  refine Eq.trans (b := mulf (subf (addf (addf (shapeCast S_ (extractStridedSlice S1 ![0] (rowsSum x) slices_S3_S1_0) shapeCasts_S1_S_)
      (shapeCast S_ (extractStridedSlice S1 ![2] (rowsSum x) slices_S3_S1_2) shapeCasts_S1_S_))
      (mulf (sitofp .f32 (subi (constantI S_ 32 1638#32) (setV (V (Proc.devRef .tc main_v14))))) (V (Proc.devRef .tc main_v12) : FVec Bits S_ .f32)))
      (shapeCast S_ (extractStridedSlice S1 ![1] (rowsSum x) slices_S3_S1_1) shapeCasts_S1_S_)) (constant S_ .f32 0x38800000#32)) ?_ ?_
  · refine congrArg₂ mulf (congrArg₂ subf (congrArg₂ addf (congrArg₂ addf ?_ ?_) (congrArg₂ mulf ?_ ?_)) ?_) ?_
    · rfl
    · rfl
    · rfl
    · rfl
    · rfl
    · rfl
  funext i
  simp (disch := decide) only [mulf, subf, addf, one_at, rowsSum_at, scalar_addf, scalar_subf, scalar_mulf]
  rfl

end Cert.Proof.Ref

end
-- ==== Proof.RefSort.lean ====
/-
  The reference's cut, which it finds by a sort, and the keys below it.
-/
module

public import proofs.«01_k».proof.Proof.RefEnd
public import Idealize.ShloMosaic.Lib.SortFacts

@[expose] public section

noncomputable section

namespace Cert.Proof.Ref

open Cert.Reference Cert.Reference.Gen Cert.Reference.Value
open Cert.Proof.K (fsum accTo colTo total chunk pos w32 cnt under bit flip_slt keyWord keyOf flatKey cut cut_spec cut_unique below_iff isBelow lows)

open Idealize.ShloMosaic Idealize.ShloMosaic.TcCoe Idealize.ShloMosaic.StableHlo Idealize.SL.Sem

/-! ## The cut -/

theorem key_at (a : FVec Bits S16384 .f32) (n : ℕ) : keysV a (pos 16384 n) = keyOf (F := Bits) (seqOf a) n := rfl

theorem ofFin_pos (p : Fin 16384) : Shape.Idx.ofFin p = pos 16384 p.val := by
  funext i
  match i with
  | 0 => exact Fin.ext (Nat.mod_eq_of_lt p.isLt).symm

theorem before_at (a : FVec Bits S16384 .f32) (p q : Fin 16384) :
    (comparator_i32_d0 (keysV a (Shape.Idx.ofFin p)) (keysV a (Shape.Idx.ofFin q)) == 1#1)
      = decide ((flatKey (F := Bits) (seqOf a) p.val).toNat < (flatKey (F := Bits) (seqOf a) q.val).toNat) := by
  rw [ofFin_pos, ofFin_pos, key_at, key_at, ← K.flip_flip (keyOf (F := Bits) (seqOf a) p.val), ← K.flip_flip (keyOf (F := Bits) (seqOf a) q.val)]
  show (IntOp.cmpi .slt _ _ == 1#1) = _
  rw [flip_slt]
  unfold flatKey
  cases decide ((K.flip (keyOf (F := Bits) (seqOf a) p.val)).toNat < (K.flip (keyOf (F := Bits) (seqOf a) q.val)).toNat) <;> rfl

theorem pick_at {α : Type} (v : S16384.Idx → α) (h : S16384.Slices ![1637] S1) (h' : S1.ShapeCasts S_) (i : S_.Idx) :
    shapeCast S_ (extractStridedSlice S1 ![1637] v h) h' i = v (ix1 ⟨1637, by decide⟩) := by
  refine (shapeCast_apply _ _ _ (ix1 0) ?_).trans ?_
  · rw [Shape.rowMajor_val_one]
    exact (Nat.lt_one_iff.mp (lt_of_lt_of_eq (S_.rowMajor i).isLt rfl)).symm
  · refine congrArg v (funext fun a => ?_)
    match a with
    | 0 => exact Fin.ext (Nat.add_zero _)

theorem kth_at (a : FVec Bits S16384 .f32) (i : S_.Idx) : kthV a i = Host.sort S16384 0 comparator_i32_d0 (keysV a) (ix1 ⟨1637, by decide⟩) := by
  unfold kthV
  exact pick_at _ _ _ i

theorem kth_eq (a : FVec Bits S16384 .f32) : kthV a = fun _ => cut (F := Bits) (seqOf a) := by
  funext i
  rw [kth_at]
  refine (Host.sort_rank1 (n := 16384) comparator_i32_d0 (keysV a) _).trans ?_
  have hb := funext fun p => funext fun q => before_at a p q
  rw [hb, ofFin_pos, key_at, ix1_0]
  obtain ⟨h1, h2⟩ := K.rank_counts (N := 16384) (fun n => (flatKey (F := Bits) (seqOf a) n).toNat) ⟨1637, by decide⟩
  obtain ⟨c, e, _, h3, h4⟩ := cut_spec (F := Bits) (seqOf a)
  generalize sortedFrom (fun p q : Fin 16384 => decide ((flatKey (F := Bits) (seqOf a) p.val).toNat < (flatKey (F := Bits) (seqOf a) q.val).toNat)) ⟨1637, by decide⟩ = p at h1 h2 ⊢
  have h1' : under (flatKey (F := Bits) (seqOf a)) 0 (flatKey (F := Bits) (seqOf a) p.val).toNat < 1638 := by
    unfold under
    simp only [Nat.pow_zero, Nat.div_one]
    exact Nat.lt_succ_of_le h1
  have h2' : 1638 ≤ under (flatKey (F := Bits) (seqOf a)) 0 ((flatKey (F := Bits) (seqOf a) p.val).toNat + 1) := by
    unfold under
    simp only [Nat.pow_zero, Nat.div_one]
    exact h2
  rw [e, cut_unique h3 h4 h1' h2', ← K.w32_of_toNat, flatKey, K.flip_flip]

theorem low_at (a : FVec Bits S16384 .f32) (n : ℕ) : lowV a (pos 16384 n) = bit (isBelow (F := Bits) (seqOf a) (cut (F := Bits) (seqOf a)) n) := by
  unfold lowV
  rw [kth_eq]
  rfl

theorem cutV_eq (a : FVec Bits S16384 .f32) : cutV a = fun _ => (Scalar.ofBits .f32 (keyWord (cut (F := Bits) (seqOf a))) : Bits .f32) := by
  unfold cutV
  rw [kth_eq]
  rfl

/-- Fewer than 1638 keys are below the cut. -/
theorem lows_lt (D : ℕ → Elt Bits .f32) : lows D < 1638 := by
  obtain ⟨c, e, hc, h, _⟩ := cut_spec (F := Bits) D
  refine lt_of_eq_of_lt (K.cnt_congr fun n _ => ?_) h
  have := below_iff (F := Bits) D hc n
  rw [← e] at this
  revert this
  show bit (isBelow D (cut D) n) = bit _ → _
  cases isBelow D (cut D) n <;> cases decide ((flatKey D n).toNat / 2 ^ 0 < c) <;> decide

/-! ## The count of the set words -/

theorem fold_count (p : ℕ → Bool) : ∀ n, (List.range n).foldl (fun (r : BitVec 32) k => r + (bit (p k)).setWidth 32) 0#32 = w32 (cnt p n)
  | 0 => rfl
  | n + 1 => by
    rw [List.range_succ, List.foldl_append, fold_count p n]
    show w32 (cnt p n) + (bit (p n)).setWidth 32 = _
    rw [K.setWidth_bit, K.w32_add]
    rfl

theorem set_eq (k : IVec S16384 1) (p : ℕ → Bool) (hk : ∀ n, k (pos 16384 n) = bit (p n)) : setV k = fun _ => w32 (cnt p 16384) := by
  funext i
  unfold setV Host.reduce
  rw [List.filter_eq_self.mpr fun n _ => decide_eq_true (Subsingleton.elim _ _)]
  have hpos : ∀ n : Fin S16384.numel, S16384.rowMajor.symm n = pos 16384 n.val := fun n => by
    have e : (S16384.rowMajor (S16384.rowMajor.symm n)).val = n.val := by rw [Equiv.apply_symm_apply]
    rw [Shape.rowMajor_val_one] at e
    funext a
    match a with
    | 0 => exact Fin.ext (e.trans (Nat.mod_eq_of_lt (lt_of_eq_of_lt e.symm ((S16384.rowMajor.symm n) 0).isLt)).symm)
  have e : ∀ n : Fin S16384.numel, extui 32 k natLt_1_32 (S16384.rowMajor.symm n) = (bit (p n.val)).setWidth 32 := fun n => by
    rw [hpos n, ← hk]
    rfl
  simp only [e]
  have hn : S16384.numel = 16384 := by rfl
  rw [← fold_count, ← hn, ← List.map_coe_finRange_eq_range, List.foldl_map]
  rfl

end Cert.Proof.Ref

end
-- ==== Proof.RefTaken.lean ====
/-
  The rows that the reference takes: the first 1638 of the labels, the zero labels first.
-/
module

public import proofs.«01_k».proof.Proof.RefSort
public import Idealize.ShloMosaic.Lib.Routing.OpsSet
public import Idealize.ShloMosaic.Lib.Routing.OpsPair

@[expose] public section

noncomputable section

namespace Cert.Proof.Ref

open Cert.Reference Cert.Reference.Gen Cert.Reference.Value
open Cert.Proof.K (pos w32 bit zeroAt place)

open Idealize.ShloMosaic Idealize.ShloMosaic.TcCoe Idealize.ShloMosaic.StableHlo Idealize.SL.Sem

/-- Whether one label is before another: a zero before one that is not zero. -/
def before (y : IVec S16384 32) (p q : Fin 16384) : Bool := zeroAt (seqOf y) p.val && !zeroAt (seqOf y) q.val

/-- The label at rank `i`. -/
def ranked (y : IVec S16384 32) (i : Fin 1638) : Fin 16384 := sortedFrom (before y) ⟨i.val, by omega⟩

theorem mark_at (y : IVec S16384 32) (n : ℕ) :
    extui 32 (cmpi .eq y (broadcastInDim S16384 ![] bcast_S_S16384 (constantI S_ 32 0#32))) natLt_1_32 (pos 16384 n) = (bit (zeroAt (seqOf y) n)).setWidth 32 := rfl

theorem mark_before (a b : Bool) : (IntOp.cmpi .sgt ((bit a).setWidth 32) ((bit b).setWidth 32) == 1#1) = (a && !b) := by
  cases a <;> cases b <;> decide

/-- A sort of pairs on a vector, its second components. -/
theorem sort2_rank1 {N : ℕ} {α β : Type} (cmp : α × β → α × β → BitVec 1) (x : (⟨1, ![N]⟩ : Shape).Idx → α) (y : (⟨1, ![N]⟩ : Shape).Idx → β) (j : (⟨1, ![N]⟩ : Shape).Idx) :
    (Host.sort2 ⟨1, ![N]⟩ 0 cmp x y).2 j = y (Shape.Idx.ofFin (sortedFrom (fun p q : Fin N =>
      cmp (x (Shape.Idx.ofFin p), y (Shape.Idx.ofFin p)) (x (Shape.Idx.ofFin q), y (Shape.Idx.ofFin q)) == 1#1) (j 0))) := by
  unfold Host.sort2
  simp

/-- The positions that a selection of the greatest gives, on a vector: where a stable sort reads them. -/
theorem topK_rank1 {N k : ℕ} (gt : BitVec 32 → BitVec 32 → BitVec 1) (x : IVec ⟨1, ![N]⟩ 32) (h : (⟨1, ![N]⟩ : Shape).Slices (fun _ => 0) ⟨1, ![k]⟩)
    (i : Fin k) (hi : i.val < N) : (Host.topK ⟨1, ![k]⟩ 0 gt x h).2 (ix1 i)
      = BitVec.ofNat 32 (sortedFrom (fun p q : Fin N => gt (x (Shape.Idx.ofFin p)) (x (Shape.Idx.ofFin q)) == 1#1) ⟨i.val, hi⟩).val := by
  unfold Host.topK extractStridedSlice
  dsimp only
  rw [sort2_rank1]
  rw [dif_pos (Nat.zero_lt_one : 0 < (⟨1, ![N]⟩ : Shape).rank)]
  exact congrArg (fun q => BitVec.ofNat 32 (sortedFrom (fun p q : Fin N => gt (x (Shape.Idx.ofFin p)) (x (Shape.Idx.ofFin q)) == 1#1) q).val) (Fin.ext (Nat.zero_add _))

theorem rows_at (y : IVec S16384 32) (i : Fin 1638) : rowsV y (ix1 i) = w32 (ranked y i).val := by
  have hb : (fun p q : Fin 16384 => IntOp.cmpi .sgt
      (extui 32 (cmpi .eq y (broadcastInDim S16384 ![] bcast_S_S16384 (constantI S_ 32 0#32))) natLt_1_32 (Shape.Idx.ofFin p))
      (extui 32 (cmpi .eq y (broadcastInDim S16384 ![] bcast_S_S16384 (constantI S_ 32 0#32))) natLt_1_32 (Shape.Idx.ofFin q)) == 1#1) = before y := by
    funext p q
    rw [ofFin_pos, ofFin_pos, mark_at, mark_at, mark_before]
    rfl
  unfold rowsV
  rw [topK_rank1 _ _ _ i (by omega), hb]
  rfl

theorem stand_at {α : Type} {N : ℕ} (v : (⟨1, ![N]⟩ : Shape).Idx → α) (h : (⟨1, ![N]⟩ : Shape).BroadcastsInDim ⟨2, ![N, 1]⟩ ![0]) (i : Fin N) :
    broadcastInDim ⟨2, ![N, 1]⟩ ![0] h v (ix2 i 0) = v (ix1 i) := by
  refine congrArg v (funext fun a => ?_)
  match a with
  | 0 =>
    refine Fin.ext ?_
    split
    · next h1 =>
      have hN : N = 1 := h1
      have := i.isLt
      show 0 = i.val
      omega
    · rfl

theorem spot_at (y : IVec S16384 32) (i : Fin 1638) : (spotsV y (ix2 i 0)).toInt = (ranked y i).val := by
  have h := rows_at y i
  have hp := (ranked y i).isLt
  have hn : (rowsV y (ix1 i)).toInt = (ranked y i).val := by rw [h]; exact toInt_ofNat_of_lt (by omega)
  have e := select_slt_zero_of_nonneg (rowsV y) (addi (rowsV y) (broadcastInDim S1638 ![] bcast_S_S1638 (constantI S_ 32 16384#32))) (rowsV y) (ix1 i) (by omega)
  unfold spotsV
  rw [stand_at]
  exact (congrArg BitVec.toInt e).trans hn

theorem lands_at (y : IVec S16384 32) (i : Fin 1638) (n : Fin 16384) :
    (scatter_S16384_S1638x1_S1638_n_0_0_1).resultIdx? (ix1 i) (spotsV y) = some (ix1 n) ↔ (ranked y i).val = n.val := by
  have hw : (scatter_S16384_S1638x1_S1638_n_0_0_1).window (ix1 i) 0 = 0 := rfl
  have hs : (scatter_S16384_S1638x1_S1638_n_0_0_1).start (ix1 i) (spotsV y) 0 = (spotsV y (ix2 i 0)).toInt := by
    unfold ScatterDims.start
    have h0 : (0 : Fin S16384.rank) ∈ (scatter_S16384_S1638x1_S1638_n_0_0_1).scatterDimsToOperandDims := List.mem_singleton.mpr rfl
    refine (dif_pos h0).trans ?_
    refine congrArg (fun k => (spotsV y k).toInt) (funext fun a => ?_)
    match a with
    | 0 => rfl
    | 1 => rfl
  rw [Routing.resultIdx?_eq_some]
  constructor
  · intro h
    have := h 0
    rw [hw, hs, spot_at] at this
    have e : ((ix1 n : S16384.Idx) 0).val = n.val := rfl
    omega
  · intro h a
    match a with
    | 0 =>
      rw [hw, hs, spot_at, h]
      rfl

theorem taken_at (y : IVec S16384 32) (n : ℕ) (hn : n < 16384) : takenV y (pos 16384 n) = bit (decide (place (zeroAt (seqOf y)) 16384 n < 1638)) := by
  have hp : pos 16384 n = ix1 ⟨n, hn⟩ := by
    funext a
    match a with
    | 0 => exact Fin.ext (Nat.mod_eq_of_lt hn)
  have hpl := K.place_first (zeroAt (seqOf y)) 16384 1638 n hn (by decide)
  rw [hp]
  unfold takenV
  by_cases h : place (zeroAt (seqOf y)) 16384 n < 1638
  · rw [decide_eq_true h]
    obtain ⟨i, hi, e⟩ := hpl.mp h
    exact Routing.scatter_set_hit _ _ _ _ _ 1#1 (fun _ _ => rfl) (ix1 ⟨i.val, hi⟩) ((lands_at y ⟨i.val, hi⟩ ⟨n, hn⟩).mpr e)
  · rw [decide_eq_false h]
    refine Routing.scatter_set_miss _ _ _ _ _ fun k hk => h (hpl.mpr ?_)
    rw [eq_ix1 k] at hk
    exact ⟨⟨(k 0).val, Nat.lt_trans (k 0).isLt (by decide)⟩, (k 0).isLt, (lands_at y (k 0) ⟨n, hn⟩).mp hk⟩

end Cert.Proof.Ref

end
-- ==== Proof.RefOut.lean ====
/-
  The reference's result is the kernel's.
-/
module

public import proofs.«01_k».proof.Proof.RefTaken

@[expose] public section

noncomputable section

namespace Cert.Proof.Ref

open Cert.Reference Cert.Reference.Gen Cert.Reference.Value
open Cert.Proof.K (accTo colTo total chunk pos bit place zeroAt isBelow lows cut keyWord)

open Idealize.ShloMosaic Idealize.ShloMosaic.TcCoe Idealize.ShloMosaic.StableHlo Idealize.ShloMosaic.Bits Idealize.SL.Sem

theorem low_row (a : FVec Bits S16384 .f32) (n : ℕ) : seqOf (maskV (lowV a) a) n = K.below (F := Bits) (seqOf a) (cut (F := Bits) (seqOf a)) n := by
  show Scalar.select (lowV a (pos 16384 n)) (seqOf a n) (Scalar.ofBits .f32 0x00000000#32 : Bits .f32) = _
  rw [low_at]
  rfl

theorem taken_row (y : IVec S16384 32) (c : FVec Bits S16384 .f32) (n : ℕ) (hn : n < 16384) :
    seqOf (maskV (takenV y) c) n = K.taken (F := Bits) (seqOf c) (seqOf y) n := by
  show Scalar.select (takenV y (pos 16384 n)) (seqOf c n) (Scalar.ofBits .f32 0x00000000#32 : Bits .f32) = _
  rw [taken_at y n hn]
  rfl

theorem rest_at (n : ℕ) (hn : n < 1638) (i : S_.Idx) :
    (sitofp .f32 (subi (constantI S_ 32 1638#32) (fun _ => K.w32 n)) : FVec Bits S_ .f32) i = Scalar.subf (Scalar.ofBits .f32 0x44CCC000#32) (f32OfNat n : Bits .f32) := by
  have e : (1638#32 : BitVec 32) - K.w32 n = BitVec.ofNat 32 (1638 - n) := by
    apply BitVec.eq_of_toNat_eq
    have h1 : (K.w32 n).toNat = n := K.w32_toNat (by omega)
    rw [BitVec.toNat_sub, h1, BitVec.toNat_ofNat, BitVec.toNat_ofNat]
    omega
  have h0 : (Scalar.ofBits .f32 0x44CCC000#32 : Bits .f32) = f32OfNat 1638 := by rw [f32OfNat_eq 1638 (by decide)]; decide
  rw [h0]
  refine Eq.trans ?_ (subf32_nat 1638 n (by omega) (by decide)).symm
  show sitofp32 ((1638#32 : BitVec 32) - K.w32 n) = _
  rw [e]
  exact sitofp32_ofNat (by omega)

variable (m : (ℓ : Loc nD τ sig) → Buf (Elt Bits) ℓ)

theorem end_keeps (c : Dev nD) (r : Ref sig .tc) (h : r ∉ condOps_W) : after condOps (atK m 64 c) (Proc.devRef .tc r) = atK m 64 c (Proc.devRef .tc r) :=
  after_of_writes_sub condOps _ condOps_writes h

theorem result_eq (c : Dev nD) (x : Cert.Kernel.S16.Idx) : (last m c (Proc.devRef .tc main_v99) : FVec Bits S_ .f32)
    = fun _ => K.out (F := Bits) (seqOf (m ((c.tc : Thread nD τ).loc main_arg0) : FVec Bits S16384 .f32)) (seqOf (m ((c.tc : Thread nD τ).loc main_arg1) : FVec Bits S16384 .f32))
        (seqOf (m ((c.tc : Thread nD τ).loc main_arg2) : FVec Bits S16384 .f32)) (seqOf (m ((c.tc : Thread nD τ).loc main_arg3) : IVec S16384 32)) x := by
  have e : last m c (Proc.devRef .tc main_v99) = after hostOps0_10 (after condOps (atK m 64 c)) (Proc.devRef .tc main_v99) := by
    simp only [last, finalContents, afterL_cons, afterL_nil]
  have e3 : after condOps (atK m 64 c) (Proc.devRef .tc main_v35_3) = atK m 64 c (Proc.devRef .tc main_v35_3) := end_keeps m c _ (by decide)
  have e14 : after condOps (atK m 64 c) (Proc.devRef .tc main_v14) = lowV (F := Bits) (m ((c.tc : Thread nD τ).loc main_arg0)) := by
    rw [end_keeps m c main_v14 (by decide), loop_keep m c main_v14 (by decide +kernel) 64, entry_low m c]
  have e12 : after condOps (atK m 64 c) (Proc.devRef .tc main_v12) = cutV (F := Bits) (m ((c.tc : Thread nD τ).loc main_arg0)) := by
    rw [end_keeps m c main_v12 (by decide), loop_keep m c main_v12 (by decide +kernel) 64, entry_cut m c]
  have hr : ∀ r : Fin 3, rowSum (after condOps (atK m 64 c) (Proc.devRef .tc main_v35_3)) r
      = total (r.val == 0) (seqOf (rowOf (m ((c.tc : Thread nD τ).loc main_arg0)) (m ((c.tc : Thread nD τ).loc main_arg1)) (m ((c.tc : Thread nD τ).loc main_arg2))
      (m ((c.tc : Thread nD τ).loc main_arg3)) r.val)) := fun r => by
    rw [e3]
    refine K.colTo_congr fun s hs => (loop_sums m c r _).trans ?_
    show accTo _ (chunk _ (s % 16)) 64 = _
    rw [Nat.mod_eq_of_lt hs]
  refine e.trans ((end_value _ _ rfl).trans (funext fun i => ?_))
  rw [K.out_eq, hr 0, hr 1, hr 2, e14, e12, set_eq _ _ (low_at _), rest_at _ (lows_lt _), cutV_eq]
  have t1 : total false (seqOf (rowOf (m ((c.tc : Thread nD τ).loc main_arg0)) (m ((c.tc : Thread nD τ).loc main_arg1)) (m ((c.tc : Thread nD τ).loc main_arg2))
      (m ((c.tc : Thread nD τ).loc main_arg3)) 1)) = total false (K.taken (F := Bits) (seqOf (m ((c.tc : Thread nD τ).loc main_arg1) : FVec Bits S16384 .f32)) (seqOf (m ((c.tc : Thread nD τ).loc main_arg3) : IVec S16384 32))) :=
    K.total_congr fun n hn => taken_row (m ((c.tc : Thread nD τ).loc main_arg3)) (m ((c.tc : Thread nD τ).loc main_arg1)) n hn
  have t2 : total false (seqOf (rowOf (m ((c.tc : Thread nD τ).loc main_arg0)) (m ((c.tc : Thread nD τ).loc main_arg1)) (m ((c.tc : Thread nD τ).loc main_arg2))
      (m ((c.tc : Thread nD τ).loc main_arg3)) 2)) = total false (K.below (F := Bits) (seqOf (m ((c.tc : Thread nD τ).loc main_arg0) : FVec Bits S16384 .f32)) (cut (F := Bits) (seqOf (m ((c.tc : Thread nD τ).loc main_arg0) : FVec Bits S16384 .f32)))) :=
    K.total_congr fun n _ => low_row (m ((c.tc : Thread nD τ).loc main_arg0)) n
  rw [← t1, ← t2]
  rfl

end Cert.Proof.Ref

end
-- ==== Proof.RowMath.lean ====
/-
  The mathematics of one row: the terms that the first call keeps of a row are the difference of the costs, and the two
  losses, which the problem defines by its decisions.
-/
module

public import Idealize.ShloMosaic.PureOps.Ideal.Laws
public import Mathlib.Data.EReal.Inv
public import Mathlib.Data.Finset.Lattice.Fold

@[expose] public section

noncomputable section

namespace Cert.Proof.Row

open Idealize.ShloMosaic
open scoped BigOperators

/-- The number of classes, less one is the last. -/
abbrev Cls : Type := Fin 1000

/-- A fold by `max` from `-∞` lies below a bound exactly if its members do. -/
theorem foldMax_le {ι : Type} [DecidableEq ι] (s : Finset ι) (f : ι → EReal) (b : EReal) : s.fold max ⊥ f ≤ b ↔ ∀ i ∈ s, f i ≤ b := by
  rw [Finset.fold_max_le]; simp

theorem le_foldMax {ι : Type} [DecidableEq ι] {s : Finset ι} (f : ι → EReal) {i : ι} (h : i ∈ s) : f i ≤ s.fold max ⊥ f :=
  (Finset.le_fold_max _).2 (.inr ⟨i, h, le_rfl⟩)

theorem le_foldMin {ι : Type} [DecidableEq ι] (s : Finset ι) (f : ι → EReal) (b : EReal) : b ≤ s.fold min ⊤ f ↔ ∀ i ∈ s, b ≤ f i := by
  rw [Finset.le_fold_min]; simp

theorem foldMin_le {ι : Type} [DecidableEq ι] {s : Finset ι} (f : ι → EReal) {i : ι} (h : i ∈ s) : s.fold min ⊤ f ≤ f i :=
  (Finset.fold_min_le _).2 (.inr ⟨i, h, le_rfl⟩)

/-- The weights of a row: real, not negative, and all zero if their sum is not positive. -/
structure Weights (e : Cls → EReal) (r : Cls → ℝ) : Prop where
  eq : ∀ c, e c = (r c : EReal)
  nonneg : ∀ c, 0 ≤ r c
  sum : (∀ c, r c = 0) ∨ 0 < ∑ c, r c

/-- The weights that a softmax takes, of any row of extended reals. -/
theorem weights (x : Cls → EReal) :
    ∃ r, Weights (fun c => Ideal.exp (x c - (Finset.univ : Finset Cls).fold max ⊥ x)) r := by
  set m := (Finset.univ : Finset Cls).fold max ⊥ x with hm
  have hle : ∀ c, x c ≤ m := fun c => le_foldMax x (Finset.mem_univ c)
  have hall : (∀ c, x c - m = ⊥) → ∃ r, Weights (fun c => Ideal.exp (x c - m)) r := fun h =>
    ⟨fun _ => 0, fun c => by show Ideal.exp (x c - m) = _; rw [h c]; rfl, fun _ => le_rfl, .inl fun _ => rfl⟩
  rcases eq_or_ne m ⊤ with ht | ht
  · exact hall fun c => by rw [ht]; simp [sub_eq_add_neg]
  rcases eq_or_ne m ⊥ with hb | hb
  · exact hall fun c => by
      have : x c = ⊥ := le_bot_iff.1 (hb ▸ hle c)
      rw [this]; simp [sub_eq_add_neg]
  lift m to ℝ using ⟨ht, hb⟩ with M
  have key : ∀ c, ∃ r : ℝ, Ideal.exp (x c - (M : EReal)) = (r : EReal) ∧ 0 ≤ r ∧ (x c = (M : EReal) → 0 < r) := by
    intro c
    have hc := hle c
    rcases eq_or_ne (x c) ⊥ with h | h
    · refine ⟨0, ?_, le_rfl, fun h' => absurd (h.symm.trans h') (by simp)⟩
      rw [h, sub_eq_add_neg, EReal.bot_add]; rfl
    · have h' : x c ≠ ⊤ := fun h' => by rw [h'] at hc; simp at hc
      have hx : x c = (((x c).toReal : ℝ) : EReal) := (EReal.coe_toReal h' h).symm
      refine ⟨Real.exp ((x c).toReal - M), ?_, (Real.exp_pos _).le, fun _ => Real.exp_pos _⟩
      rw [hx, ← EReal.coe_sub]
      rfl
  choose r h1 h2 h3 using key
  refine ⟨r, h1, h2, .inr ?_⟩
  have : ∃ c, x c = (M : EReal) := by
    by_contra hne
    simp only [not_exists] at hne
    have hlt : ∀ c, x c < (M : EReal) := fun c => lt_of_le_of_ne (hle c) (hne c)
    have : (Finset.univ : Finset Cls).fold max ⊥ x < (M : EReal) :=
      (Finset.fold_max_lt _).2 ⟨EReal.bot_lt_coe M, fun c _ => hlt c⟩
    exact absurd (hm ▸ this) (lt_irrefl _)
  obtain ⟨c, hc⟩ := this
  exact lt_of_lt_of_le (h3 c hc) (Finset.single_le_sum (f := r) (fun i _ => h2 i) (Finset.mem_univ c))

/-! ## What the call keeps of a row -/

section Call

variable (e : Cls → EReal) (y : Cls) (t : EReal)

def tot : EReal := ∑ c, e c

def own : EReal := ∑ c, if c = y then e c else 0

def top : EReal := (Finset.univ : Finset Cls).fold max ⊥ fun c => if 1 ≤ c.val ∧ c ≠ y then e c else 0

def mo : EReal := Ideal.div (max (2 * top e y) (if y = 0 then t else 2 * own e y - tot e)) (tot e)

def p0 : EReal := Ideal.div (e 0) (tot e)

def pb : EReal := Ideal.div (if y = 0 then e 1 else own e y) (tot e)

def diff : EReal := mo e y t - 2 * p0 e + (if y = 0 then 1 else 0)

def corr : EReal := pb e y - p0 e

def base : EReal := pb e y - mo e y t

end Call

/-! ## What the problem says of a row -/

section Problem

variable (e : Cls → EReal) (y : Cls)

/-- The predicted cost of a class. -/
def pc (c : Cls) : EReal := 1 - Ideal.div (e c) (tot e)

/-- Its true cost. -/
def tc (c : Cls) : EReal := 1 - (if c = y then 1 else 0)

def cost (c : Cls) : EReal := 2 * pc e c - tc y c

def best : EReal := (Finset.univ : Finset Cls).fold min ⊤ fun c => if c = 0 then ⊤ else cost e y c

/-- The class with the least true cost but class 0, the first of them. -/
def lab : Cls := if y = 0 then 1 else y

end Problem

theorem own_eq (e : Cls → EReal) (y : Cls) : own e y = e y := by
  unfold own; simp

/-- The heaviest of the other classes. -/
theorem top_spec {e : Cls → EReal} {r : Cls → ℝ} (w : Weights e r) (y : Cls) :
    ∃ k : Cls, 1 ≤ k.val ∧ k ≠ y ∧ top e y = (r k : EReal) ∧ ∀ c : Cls, 1 ≤ c.val → c ≠ y → r c ≤ r k := by
  have hne : ((Finset.univ : Finset Cls).filter fun c => 1 ≤ c.val ∧ c ≠ y).Nonempty := by
    by_cases h : y = 1
    · exact ⟨2, by simp [h]⟩
    · exact ⟨1, by simp; exact fun h' => h h'.symm⟩
  obtain ⟨k, hk, hmax⟩ := Finset.exists_max_image _ r hne
  simp only [Finset.mem_filter, Finset.mem_univ, true_and] at hk hmax
  refine ⟨k, hk.1, hk.2, le_antisymm ?_ ?_, fun c h1 h2 => hmax c ⟨h1, h2⟩⟩
  · refine (foldMax_le _ _ _).2 fun c _ => ?_
    split_ifs with h
    · rw [w.eq]; exact EReal.coe_le_coe_iff.2 (hmax c h)
    · exact EReal.coe_nonneg.2 (w.nonneg k)
  · have := le_foldMax (s := Finset.univ) (fun c : Cls => if 1 ≤ c.val ∧ c ≠ y then e c else 0) (Finset.mem_univ k)
    rwa [if_pos hk, w.eq] at this

theorem tot_eq {e : Cls → EReal} {r : Cls → ℝ} (w : Weights e r) : tot e = ((∑ c, r c : ℝ) : EReal) := by
  unfold tot
  simp only [w.eq]
  induction (Finset.univ : Finset Cls) using Finset.induction_on with
  | empty => simp
  | insert a s ha ih => rw [Finset.sum_insert ha, Finset.sum_insert ha, ih, EReal.coe_add]

theorem div_coe (a s : ℝ) (h : 0 < s) : Ideal.div (a : EReal) (s : EReal) = ((a / s : ℝ) : EReal) := by
  unfold Ideal.div
  rw [if_neg (by exact_mod_cast h.ne'), ← EReal.coe_inv, ← EReal.coe_mul, div_eq_mul_inv]

theorem div_zero : Ideal.div 0 0 = ⊥ := by simp [Ideal.div]

theorem two_mul_top : (2 : EReal) * ⊤ = ⊤ := by
  rw [show (2 : EReal) = ((2 : ℝ) : EReal) from rfl]; exact EReal.coe_mul_top_of_pos (by norm_num)

theorem one_sub_bot : (1 : EReal) - ⊥ = ⊤ := by
  rw [sub_eq_add_neg, EReal.neg_bot]; exact EReal.coe_add_top 1

/-- One where a proposition holds, zero where not. -/
theorem ind_eq (q : Prop) [Decidable q] : (if q then (1 : EReal) else 0) = ((if q then (1 : ℝ) else 0 : ℝ) : EReal) := by
  split_ifs <;> rfl

theorem tc_eq (y c : Cls) : tc y c = ((1 - (if c = y then 1 else 0) : ℝ) : EReal) := by
  unfold tc; rw [ind_eq, EReal.coe_sub]; rfl

/-- A row whose weights are all zero: nothing of it is defined, on either side. -/
theorem zero_row {e : Cls → EReal} (h : ∀ c, e c = 0) (y : Cls) (t : EReal) (ht0 : t ≤ 0) :
    diff e y t = cost e y 0 - best e y ∧ corr e y = pc e 0 - pc e (lab y) ∧ base e y t = best e y - pc e (lab y) := by
  have ht : tot e = 0 := by simp [tot, h]
  have hp : ∀ c, Ideal.div (e c) (tot e) = ⊥ := fun c => by rw [h, ht, div_zero]
  have hpc : ∀ c, pc e c = ⊤ := fun c => by rw [pc, hp, one_sub_bot]
  have hcost : ∀ c, cost e y c = ⊤ := fun c => by
    rw [cost, hpc, two_mul_top, tc_eq]; exact EReal.top_sub_coe _
  have hbest : best e y = ⊤ := le_antisymm le_top ((le_foldMin _ _ _).2 fun c _ => by
    split_ifs
    · exact le_rfl
    · exact (hcost c).ge)
  have htop : top e y = 0 := by
    refine le_antisymm ((foldMax_le _ _ _).2 fun c _ => by simp [h]) ?_
    have := le_foldMax (s := Finset.univ) (fun c : Cls => if 1 ≤ c.val ∧ c ≠ y then e c else 0) (Finset.mem_univ 0)
    simpa [top] using this
  have hmo : mo e y t = ⊥ := by
    unfold mo
    rw [htop, own_eq, h, ht, mul_zero, sub_zero, max_eq_left, div_zero]
    split_ifs
    · exact ht0
    · exact le_rfl
  have hp0 : p0 e = ⊥ := hp 0
  have hpb : pb e y = ⊥ := by
    unfold pb; rw [own_eq, h, h, ht, ite_self, div_zero]
  refine ⟨?_, ?_, ?_⟩
  · unfold diff
    rw [hmo, hcost, hbest, sub_eq_add_neg, EReal.bot_add, EReal.bot_add]; rfl
  · unfold corr
    rw [hpb, hp0, hpc, hpc]; rfl
  · unfold base
    rw [hpb, hmo, hpc, hbest]; rfl

/-- A row with a positive weight: everything is a real number, and the two agree. -/
theorem pos_row {e : Cls → EReal} {r : Cls → ℝ} (w : Weights e r) (hs : 0 < ∑ c, r c) (y : Cls) (t : EReal) (ht0 : t ≤ 0) :
    diff e y t = cost e y 0 - best e y ∧ corr e y = pc e 0 - pc e (lab y) ∧ base e y t = best e y - pc e (lab y) := by
  have ht := tot_eq w
  set s := ∑ c, r c with hsdef
  have hpc : ∀ c, pc e c = ((1 - r c / s : ℝ) : EReal) := fun c => by
    rw [pc, ht, w.eq, div_coe _ _ hs, EReal.coe_sub]; rfl
  have hcost : ∀ c, cost e y c = ((2 * (1 - r c / s) - (1 - (if c = y then 1 else 0)) : ℝ) : EReal) := fun c => by
    rw [cost, hpc, tc_eq, EReal.coe_sub (2 * _), EReal.coe_mul]; rfl
  obtain ⟨k, hk1, hky, htop, hkmax⟩ := top_spec w y
  have hk0 : k ≠ 0 := fun h => by rw [h] at hk1; exact absurd hk1 (by decide)
  -- the largest of `2 p - [the label]` over the classes but 0
  obtain ⟨M, hmo, hbest⟩ : ∃ M : ℝ, mo e y t = (M : EReal) ∧ best e y = ((1 - M : ℝ) : EReal) := by
    have hdiv : ∀ c, r c ≤ r k → r c / s ≤ r k / s := fun c h => div_le_div_of_nonneg_right h hs.le
    have h2 : (2 : EReal) * (r k : EReal) = ((2 * r k : ℝ) : EReal) := by rw [EReal.coe_mul]; rfl
    have hkcost := hcost k
    rw [if_neg hky] at hkcost
    have pos_of : ∀ c : Cls, c ≠ 0 → 1 ≤ c.val := fun c h => Nat.one_le_iff_ne_zero.2 fun h' => h (Fin.ext h')
    by_cases hy : y = 0
    · refine ⟨2 * r k / s, ?_, le_antisymm ?_ ?_⟩
      · unfold mo
        rw [if_pos hy, htop, ht, max_eq_left, h2, div_coe _ _ hs]
        rw [h2]
        exact ht0.trans (EReal.coe_nonneg.2 (by have := w.nonneg k; linarith))
      · have := foldMin_le (s := Finset.univ) (fun c : Cls => if c = 0 then ⊤ else cost e y c) (Finset.mem_univ k)
        simp only [if_neg hk0, hkcost] at this
        refine this.trans (EReal.coe_le_coe_iff.2 (le_of_eq (by ring)))
      · refine (le_foldMin _ _ _).2 fun c _ => ?_
        split_ifs with h
        · exact le_top
        · rw [hcost, if_neg (by rw [hy]; exact h)]
          refine EReal.coe_le_coe_iff.2 ?_
          have := hdiv c (hkmax c (pos_of c h) (by rw [hy]; exact h))
          rw [mul_div_assoc]; linarith
    · refine ⟨max (2 * r k / s) (2 * (r y / s) - 1), ?_, le_antisymm ?_ ?_⟩
      · unfold mo
        have h2y : (2 : EReal) * (r y : EReal) = ((2 * r y : ℝ) : EReal) := by rw [EReal.coe_mul]; rfl
        rw [if_neg hy, htop, own_eq, w.eq, ht, h2, h2y, ← EReal.coe_sub, ← EReal.coe_strictMono.monotone.map_max, div_coe _ _ hs]
        congr 1
        rw [← max_div_div_right hs.le, sub_div, div_self hs.ne', mul_div_assoc]
        try rw [mul_div_assoc]
      · have h1 := foldMin_le (s := Finset.univ) (fun c : Cls => if c = 0 then ⊤ else cost e y c) (Finset.mem_univ k)
        have h3 := foldMin_le (s := Finset.univ) (fun c : Cls => if c = 0 then ⊤ else cost e y c) (Finset.mem_univ y)
        simp only [if_neg hk0, hkcost] at h1
        simp only [if_neg hy, hcost y, if_pos] at h3
        rcases max_cases (2 * r k / s) (2 * (r y / s) - 1) with ⟨h, _⟩ | ⟨h, _⟩ <;> rw [h]
        · exact h1.trans (EReal.coe_le_coe_iff.2 (le_of_eq (by ring)))
        · exact h3.trans (EReal.coe_le_coe_iff.2 (le_of_eq (by ring)))
      · refine (le_foldMin _ _ _).2 fun c _ => ?_
        split_ifs with h
        · exact le_top
        · rw [hcost]
          refine EReal.coe_le_coe_iff.2 ?_
          by_cases hc : c = y
          · rw [if_pos hc, hc]
            have := le_max_right (2 * r k / s) (2 * (r y / s) - 1)
            linarith
          · rw [if_neg hc]
            have h1 := le_max_left (2 * r k / s) (2 * (r y / s) - 1)
            have h3 := hdiv c (hkmax c (pos_of c h) hc)
            rw [mul_div_assoc] at h1 ⊢; linarith
  have hp0 : p0 e = ((r 0 / s : ℝ) : EReal) := by unfold p0; rw [w.eq, ht, div_coe _ _ hs]
  have hpb : pb e y = ((r (lab y) / s : ℝ) : EReal) := by
    unfold pb lab
    rw [own_eq, ht]
    split_ifs <;> rw [w.eq, div_coe _ _ hs]
  refine ⟨?_, ?_, ?_⟩
  · have h2 : (2 : EReal) * ((r 0 / s : ℝ) : EReal) = ((2 * (r 0 / s) : ℝ) : EReal) := by rw [EReal.coe_mul]; rfl
    unfold diff
    rw [hmo, hp0, hcost, hbest, h2, ind_eq, ← EReal.coe_sub, ← EReal.coe_add, ← EReal.coe_sub]
    congr 1
    by_cases hy : y = 0
    · rw [if_pos hy, if_pos hy.symm]; ring
    · rw [if_neg hy, if_neg (Ne.symm hy)]; ring
  · unfold corr
    rw [hpb, hp0, hpc, hpc, ← EReal.coe_sub, ← EReal.coe_sub]
    congr 1; ring
  · unfold base
    rw [hpb, hmo, hpc, hbest, ← EReal.coe_sub, ← EReal.coe_sub]
    congr 1; ring

/-- The terms that the call keeps of a row are the problem's. -/
theorem row {e : Cls → EReal} {r : Cls → ℝ} (w : Weights e r) (y : Cls) (t : EReal) (ht0 : t ≤ 0) :
    diff e y t = cost e y 0 - best e y ∧ corr e y = pc e 0 - pc e (lab y) ∧ base e y t = best e y - pc e (lab y) := by
  rcases w.sum with h | h
  · exact zero_row (fun c => by rw [w.eq, h]; rfl) y t ht0
  · exact pos_row w h y t ht0

end Cert.Proof.Row

end
-- ==== Proof.RowsBlock.lean ====
/-
  What the first call's body leaves in a block, row by row: the row's terms, of the softmax weights of the row of the block.
-/
module

public import proofs.«01_k».proof.Proof.Gen.RowsIdeal.Frame
public import proofs.«01_k».proof.Proof.RowMath
public import Idealize.ShloMosaic.Lib.Pipeline.Value
public import Idealize.ShloMosaic.Lib.WordCmp

@[expose] public section

noncomputable section

namespace Cert.Proof.Rows

open Cert.RowsIdeal Cert.RowsIdeal.Gen Idealize.ShloMosaic Cert.Proof.Row
open scoped BigOperators

/-! ## Constants, words and masks -/

theorem one_bits : Ideal.ofBits .f32 0x3F800000#32 = 1 := by
  norm_num [Ideal.ofBits, Ideal.ieee, Nat.shiftRight_eq_div_pow, show (BitVec.extractLsb' 31 1 1065353216#32 = 1#1) = False by decide]

theorem two_bits : Ideal.ofBits .f32 0x40000000#32 = 2 := by
  norm_num [Ideal.ofBits, Ideal.ieee, Nat.shiftRight_eq_div_pow, show (BitVec.extractLsb' 31 1 1073741824#32 = 1#1) = False by decide]
  try rfl

theorem bot_bits : Ideal.ofBits .f32 0xFF800000#32 = ⊥ := by
  norm_num [Ideal.ofBits, Ideal.ieee, Nat.shiftRight_eq_div_pow, show (BitVec.extractLsb' 31 1 4286578688#32 = 1#1) = True by decide]

theorem top_bits : Ideal.ofBits .f32 0x7F800000#32 = ⊤ := by
  norm_num [Ideal.ofBits, Ideal.ieee, Nat.shiftRight_eq_div_pow, show (BitVec.extractLsb' 31 1 2139095040#32 = 1#1) = False by decide]

/-- The word that the call writes for a value below all: negative. -/
theorem low_bits : Ideal.ofBits .f32 0xF149F2CA#32 ≤ 0 := by
  norm_num [Ideal.ofBits, Ideal.ieee, Nat.shiftRight_eq_div_pow, show (BitVec.extractLsb' 31 1 4048155338#32 = 1#1) = True by decide]

/-- The word of a class. -/
abbrev cw (c : Cls) : BitVec 32 := BitVec.ofNat 32 c.val

theorem cw_lt (c : Cls) : c.val < 2 ^ 32 := by have := c.isLt; omega

theorem eq_mask (c y : Cls) : IntOp.cmpi .eq (cw c) (cw y) = if c = y then 1#1 else 0#1 := by
  rw [WordCmp.cmpi_eq_ofNat (cw_lt c) (cw_lt y)]
  by_cases h : c = y
  · simp [h]
  · have : c.val ≠ y.val := fun h' => h (Fin.ext h')
    simp [h, this]

theorem ge_mask (c : Cls) : IntOp.cmpi .sge (cw c) 1#32 = if 1 ≤ c.val then 1#1 else 0#1 := by
  have := c.isLt
  have h1 : (cw c).toInt = (c.val : Int) := by
    rw [BitVec.toInt_ofNat', Int.bmod_def]
    omega
  simp only [IntOp.cmpi, BitVec.sle, h1]
  by_cases h : 1 ≤ c.val
  · rw [if_pos h, decide_eq_true (show (1#32).toInt ≤ (c.val : Int) from by rw [show (1#32).toInt = 1 from rfl]; omega)]; rfl
  · rw [if_neg h, decide_eq_false (show ¬ (1#32).toInt ≤ (c.val : Int) from by rw [show (1#32).toInt = 1 from rfl]; omega)]; rfl

theorem select_if {α : Type} (q : Prop) [Decidable q] (a b : α) : Scalar.select (if q then 1#1 else 0#1) a b = if q then a else b := by
  unfold Scalar.select; split_ifs <;> first | rfl | simp_all

/-! ## Places of a block -/

/-- Row `p`, class `c`. -/
def sq (p : Fin 256) (c : Cls) : S256x1000.Idx := fun a => match a with | ⟨0, _⟩ => p | ⟨1, _⟩ => c

/-- Row `p` of a column. -/
def col (p : Fin 256) : S256x1.Idx := fun a => match a with | ⟨0, _⟩ => p | ⟨1, _⟩ => (0 : Fin 1)

/-- Row `p` of a vector. -/
def vec (p : Fin 256) : S256.Idx := fun a => match a with | ⟨0, _⟩ => p

theorem col_surj (j : S256x1.Idx) : j = col (j 0) := by
  funext a
  match a with
  | ⟨0, _⟩ => rfl
  | ⟨1, _⟩ => exact Fin.ext (by have : (j 1).val < 1 := (j 1).isLt; show (j 1).val = 0; omega)

theorem cast_col {α : Type} (v : S256.Idx → α) (p : Fin 256) : shapeCast S256x1 v shapeCasts_S256_S256x1 (col p) = v (vec p) :=
  shapeCast_apply _ _ _ _ (by rw [Shape.rowMajor_val_one, Shape.rowMajor_val_two]; show p.val = p.val * 1 + 0; omega)

theorem cast_same {α : Type} (v : S256x1.Idx → α) (p : Fin 256) : shapeCast S256x1 v shapeCasts_S256x1_S256x1 (col p) = v (col p) :=
  shapeCast_apply _ _ _ _ rfl

theorem spread {α : Type} (v : S256x1.Idx → α) (p : Fin 256) (c : Cls) : broadcastTo S256x1000 v broadcasts_S256x1_S256x1000 (sq p c) = v (col p) :=
  broadcastTo_apply _ _ _ _ (fun a => match a with
    | ⟨0, _⟩ => by show p.val = if (256 : Nat) = 1 then 0 else p.val; rw [if_neg (by decide)]
    | ⟨1, _⟩ => by show 0 = if (1 : Nat) = 1 then 0 else c.val; rw [if_pos rfl])

theorem take0 {α : Type} (v : S256x1000.Idx → α) (p : Fin 256) : extractStridedSlice S256x1 ![0, 0] v slices_S256x1000_o0_0_S256x1 (col p) = v (sq p 0) :=
  extractStridedSlice_apply _ _ _ _ _ (fun a => match a with
    | ⟨0, _⟩ => by show p.val = 0 + p.val; omega
    | ⟨1, _⟩ => rfl)

theorem take1 {α : Type} (v : S256x1000.Idx → α) (p : Fin 256) : extractStridedSlice S256x1 ![0, 1] v slices_S256x1000_o0_1_S256x1 (col p) = v (sq p 1) :=
  extractStridedSlice_apply _ _ _ _ _ (fun a => match a with
    | ⟨0, _⟩ => by show p.val = 0 + p.val; omega
    | ⟨1, _⟩ => rfl)

theorem lift_sq (p : Fin 256) (c : Cls) : reduces_S256x1000_S256.lift (vec p) c = sq p c :=
  funext fun a => Fin.ext (by match a with | ⟨0, _⟩ => rfl | ⟨1, _⟩ => rfl)

theorem row_sum (X : FVec Ideal S256x1000 .f32) (p : Fin 256) :
    multiReduction .add [1] S256 X 0x00000000#32 reduces_S256x1000_S256 (.inl rfl) rfl (vec p) = ∑ c : Cls, X (sq p c) := by
  refine (Ideal.multiReduction_add_single X _ _ _ _ _).trans ?_
  exact Finset.sum_congr rfl fun c _ => congrArg X (lift_sq p c)

theorem row_max (X : FVec Ideal S256x1000 .f32) (p : Fin 256) :
    multiReduction .maximumf [1] S256 X 0xFF800000#32 reduces_S256x1000_S256 (.inl rfl) rfl (vec p)
      = (Finset.univ : Finset Cls).fold max (⊥ : EReal) fun c => X (sq p c) := by
  refine (Ideal.multiReduction_maximumf_single X _ _ _ _ _).trans ?_
  show Finset.fold max (Ideal.ofBits .f32 0xFF800000#32) _ _ = _
  rw [bot_bits]
  exact Finset.fold_congr fun c _ => congrArg X (lift_sq p c)

/-! ## The terms of a row -/

/-- The softmax weights of a row. -/
def ex (x : Cls → EReal) : Cls → EReal := fun c => Ideal.exp (x c - (Finset.univ : Finset Cls).fold max ⊥ x)

section Block

variable (X : Vec Ideal S256x1000 .f32) (Y : Vec Ideal S256x1 .i32) (p : Fin 256) (y : Cls)

/-- Row `p` of the block. -/
abbrev rowOf : Cls → EReal := fun c => X (sq p c)

theorem pay6 (c : Cls) : k0_pay6 (F := Ideal) X (sq p c) = ex (rowOf X p) c := by
  show Ideal.exp (X (sq p c) - broadcastTo S256x1000 _ broadcasts_S256x1_S256x1000 (sq p c)) = _
  rw [spread, cast_col, row_max]; rfl

theorem pay7 : k0_pay7 (F := Ideal) X (col p) = tot (ex (rowOf X p)) := by
  unfold k0_pay7
  rw [cast_col, row_sum]
  exact Finset.sum_congr rfl fun c _ => pay6 X p c

theorem pay8 (hy : Y (col p) = cw y) (c : Cls) : k0_pay8 (F := Ideal) Y (sq p c) = if c = y then 1#1 else 0#1 := by
  show IntOp.cmpi .eq (iota .tc S256x1000 32 [1] iota_S256x1000_d1_w32 (sq p c)) (broadcastTo S256x1000 _ broadcasts_S256x1_S256x1000 (sq p c)) = _
  rw [iota_single_apply, spread]
  show IntOp.cmpi .eq (cw c) (shapeCast S256x1 Y shapeCasts_S256x1_S256x1 (col p)) = _
  rw [cast_same, hy, eq_mask]

theorem pay9 (hy : Y (col p) = cw y) : k0_pay9 (F := Ideal) X Y (col p) = own (ex (rowOf X p)) y := by
  unfold k0_pay9
  rw [cast_col, row_sum]
  refine Finset.sum_congr rfl fun c _ => ?_
  show Scalar.select (k0_pay8 (F := Ideal) Y (sq p c)) (k0_pay6 (F := Ideal) X (sq p c)) (Ideal.ofBits .f32 0x00000000#32) = _
  rw [pay8 Y p y hy, select_if, pay6, Ideal.ofBits_zero_f32]

theorem pay10 : k0_pay10 (F := Ideal) X (col p) = ex (rowOf X p) 1 := by
  unfold k0_pay10
  rw [take1, pay6]

theorem pay11 (hy : Y (col p) = cw y) : k0_pay11 (F := Ideal) Y (col p) = if y = 0 then 1#1 else 0#1 := by
  show IntOp.cmpi .eq (shapeCast S256x1 Y shapeCasts_S256x1_S256x1 (col p)) 0#32 = _
  rw [cast_same, hy]
  exact eq_mask y 0

theorem pay12 : k0_pay12 (F := Ideal) X (col p) = p0 (ex (rowOf X p)) := by
  show Ideal.div (extractStridedSlice S256x1 ![0, 0] (k0_pay6 (F := Ideal) X) slices_S256x1000_o0_0_S256x1 (col p)) (k0_pay7 (F := Ideal) X (col p)) = _
  rw [take0, pay6, pay7]; rfl

/-- The value below all, as the call takes it. -/
def low : EReal := Ideal.ofBits .f32 0xF149F2CA#32

theorem and_mask (q r : Prop) [Decidable q] [Decidable r] :
    IntOp.andi (if q then 1#1 else 0#1) (IntOp.xori (if r then 1#1 else 0#1) 1#1) = if q ∧ ¬ r then 1#1 else 0#1 := by
  by_cases hq : q <;> by_cases hr : r <;> simp [hq, hr] <;> rfl

theorem pay13 (hy : Y (col p) = cw y) : k0_pay13 (F := Ideal) X Y (col p) = mo (ex (rowOf X p)) y low := by
  show Ideal.div (max (Ideal.ofBits .f32 0x40000000#32 * shapeCast S256x1 _ shapeCasts_S256_S256x1 (col p))
    (Scalar.select (k0_pay11 (F := Ideal) Y (col p)) (Ideal.ofBits .f32 0xF149F2CA#32)
      (Ideal.ofBits .f32 0x40000000#32 * k0_pay9 (F := Ideal) X Y (col p) - k0_pay7 (F := Ideal) X (col p))))
    (k0_pay7 (F := Ideal) X (col p)) = _
  rw [pay11 Y p y hy, select_if, pay9 X Y p y hy, pay7, two_bits, cast_col, row_max]
  unfold mo top
  refine congrArg (fun z => Ideal.div (max (2 * z) _) _) (Finset.fold_congr fun c _ => ?_)
  show Scalar.select (IntOp.andi (IntOp.cmpi .sge (iota .tc S256x1000 32 [1] iota_S256x1000_d1_w32 (sq p c)) 1#32)
    (IntOp.xori (k0_pay8 (F := Ideal) Y (sq p c)) 1#1)) (k0_pay6 (F := Ideal) X (sq p c)) (Ideal.ofBits .f32 0x00000000#32) = _
  rw [iota_single_apply, pay8 Y p y hy, pay6, Ideal.ofBits_zero_f32]
  show Scalar.select (IntOp.andi (IntOp.cmpi .sge (cw c) 1#32) _) _ _ = _
  rw [ge_mask, and_mask, select_if]

theorem out2 (hy : Y (col p) = cw y) :
    k0_pay1 (F := Ideal) (k0_pay11 Y) (k0_pay14 X Y) (col p) = diff (ex (rowOf X p)) y low := by
  show k0_pay13 (F := Ideal) X Y (col p) - Ideal.ofBits .f32 0x40000000#32 * k0_pay12 (F := Ideal) X (col p)
    + Scalar.select (k0_pay11 (F := Ideal) Y (col p)) (Ideal.ofBits .f32 0x3F800000#32) (Ideal.ofBits .f32 0x00000000#32) = _
  rw [pay13 X Y p y hy, pay12, pay11 Y p y hy, select_if, two_bits, one_bits, Ideal.ofBits_zero_f32]; rfl

theorem pay2 (hy : Y (col p) = cw y) :
    k0_pay2 (F := Ideal) (k0_pay7 X) (k0_pay9 X Y) (k0_pay10 X) (k0_pay11 Y) (col p) = pb (ex (rowOf X p)) y := by
  show Ideal.div (Scalar.select (k0_pay11 (F := Ideal) Y (col p)) (k0_pay10 (F := Ideal) X (col p)) (k0_pay9 (F := Ideal) X Y (col p)))
    (k0_pay7 (F := Ideal) X (col p)) = _
  rw [pay11 Y p y hy, select_if, pay10, pay9 X Y p y hy, pay7]; rfl

theorem out3 (hy : Y (col p) = cw y) :
    k0_pay3 (F := Ideal) (k0_pay7 X) (k0_pay9 X Y) (k0_pay10 X) (k0_pay11 Y) (k0_pay12 X) (col p) = corr (ex (rowOf X p)) y := by
  show k0_pay2 (F := Ideal) (k0_pay7 X) (k0_pay9 X Y) (k0_pay10 X) (k0_pay11 Y) (col p) - k0_pay12 (F := Ideal) X (col p) = _
  rw [pay2 X Y p y hy, pay12]; rfl

theorem out4 (hy : Y (col p) = cw y) :
    k0_pay4 (F := Ideal) (k0_pay7 X) (k0_pay9 X Y) (k0_pay10 X) (k0_pay11 Y) (k0_pay13 X Y) (col p) = base (ex (rowOf X p)) y low := by
  show k0_pay2 (F := Ideal) (k0_pay7 X) (k0_pay9 X Y) (k0_pay10 X) (k0_pay11 Y) (col p) - k0_pay13 (F := Ideal) X Y (col p) = _
  rw [pay2 X Y p y hy, pay13 X Y p y hy]; rfl

end Block

end Cert.Proof.Rows

end
-- ==== Proof.RowsRef.lean ====
/-
  What the rows' reference leaves, row by row: the difference of the costs and the two losses, by the problem's decisions.
-/
module

public import proofs.«01_k».proof.Proof.Gen.RowsReferenceIdeal.Read
public import proofs.«01_k».proof.Proof.RowsBlock

@[expose] public section

noncomputable section

namespace Cert.Proof.RowsRef

open Cert.RowsReferenceIdeal Cert.RowsReferenceIdeal.Gen Cert.RowsReferenceIdeal.Read Idealize.ShloMosaic Cert.Proof.Row
open Cert.Proof.Rows (cw eq_mask select_if ex one_bits two_bits bot_bits top_bits cw_lt)
open scoped BigOperators

/-! ## Places -/

/-- Row `r`, class `c`. -/
def sq (r : Fin 16384) (c : Cls) : S16384x1000.Idx := fun a => match a with | ⟨0, _⟩ => r | ⟨1, _⟩ => c

/-- Row `r` of a column. -/
def col (r : Fin 16384) : S16384x1.Idx := fun a => match a with | ⟨0, _⟩ => r | ⟨1, _⟩ => (0 : Fin 1)

/-- Row `r` of a vector. -/
def vec (r : Fin 16384) : S16384.Idx := fun a => match a with | ⟨0, _⟩ => r

theorem col_surj (j : S16384x1.Idx) : j = col (j 0) := by
  funext a
  match a with
  | ⟨0, _⟩ => rfl
  | ⟨1, _⟩ => exact Fin.ext (by have : (j 1).val < 1 := (j 1).isLt; show (j 1).val = 0; omega)

/-- The classes of a row are the axis that a reduction leaves out. -/
theorem red : S16384x1000.Reduces [1] S16384 := by decide

theorem lift_sq (r : Fin 16384) (c : Cls) : red.lift (vec r) c = sq r c :=
  funext fun a => Fin.ext (by match a with | ⟨0, _⟩ => rfl | ⟨1, _⟩ => rfl)

theorem fold_row {α : Type} (f : α → α → α) [Std.Commutative f] [Std.Associative f] (X : S16384x1000.Idx → α) (v : S_.Idx → α) (r : Fin 16384) :
    Host.reduce f X v reducesTo_S16384x1000_S16384_d1 h_S_ (vec r) = (Finset.univ : Finset Cls).fold f (v (Shape.Idx.first h_S_)) fun c => X (sq r c) := by
  refine (Host.reduce_eq_fold_single f X v reducesTo_S16384x1000_S16384_d1 red h_S_ (vec r)).trans ?_
  exact Finset.fold_congr fun c _ => congrArg X (lift_sq r c)

/-! ## The least of some words -/

/-- The least word of the classes of a set, any other class counted past the last, is the set's least class. -/
theorem least_word (P : Cls → Prop) [DecidablePred P] (l : Cls) (hl : P l) (hP : ∀ c, P c → l ≤ c) :
    (Finset.univ : Finset Cls).fold IntOp.minsi 2147483647#32 (fun c => if P c then cw c else 1000#32) = cw l := by
  have hm : ∀ a b : BitVec 32, (IntOp.minsi a b).toInt = min a.toInt b.toInt := fun a b => by
    unfold IntOp.minsi
    rw [BitVec.slt_eq_decide]
    by_cases h : a.toInt < b.toInt
    · simp [h, min_eq_left h.le]
    · simp [h, min_eq_right (not_lt.1 h)]
  have hc : ∀ c : Cls, (cw c).toInt = (c.val : Int) := fun c => by
    have := c.isLt
    rw [BitVec.toInt_ofNat', Int.bmod_def]; omega
  refine BitVec.eq_of_toInt_eq (le_antisymm ?_ ?_)
  · refine (Finset.fold_op_rel_iff_or (r := fun a b : BitVec 32 => b.toInt ≤ a.toInt) (fun {x y z} => ?_)).2 (.inr ⟨l, Finset.mem_univ l, ?_⟩)
    · show (IntOp.minsi y z).toInt ≤ x.toInt ↔ _
      rw [hm]; exact min_le_iff
    · show (if P l then cw l else 1000#32).toInt ≤ (cw l).toInt
      rw [if_pos hl]
  · refine (Finset.fold_op_rel_iff_and (r := fun a b : BitVec 32 => a.toInt ≤ b.toInt) (fun {x y z} => ?_)).2 ⟨?_, fun c _ => ?_⟩
    · show x.toInt ≤ (IntOp.minsi y z).toInt ↔ _
      rw [hm]; exact le_min_iff
    · have := l.isLt
      rw [hc, show (2147483647#32).toInt = 2147483647 from rfl]; omega
    · have := l.isLt
      rw [hc]
      by_cases h : P c
      · rw [if_pos h, hc]; exact_mod_cast hP c h
      · rw [if_neg h, show (1000#32).toInt = 1000 from rfl]; omega

/-! ## The row's values -/

section Row

variable (x : (⟨S16384x1000, .f32⟩ : BufTy).Contents (Elt Ideal)) (w : (⟨S16384, .i32⟩ : BufTy).Contents (Elt Ideal)) (r : Fin 16384) (y : Cls)

/-- Row `r` of the logits. -/
abbrev row : Cls → EReal := fun c => x (sq r c)

theorem v0 : val_main_v0 (F := Ideal) x (vec r) = (Finset.univ : Finset Cls).fold max (⊥ : EReal) (row x r) := by
  unfold val_main_v0
  refine (fold_row (max : EReal → EReal → EReal) x _ r).trans ?_
  rw [val_main_cst_apply]
  show Finset.fold max (Ideal.ofBits .f32 0xFF800000#32) _ _ = _
  rw [bot_bits]

theorem v2 : val_main_v2 (F := Ideal) x (vec r) = (Finset.univ : Finset Cls).fold max (⊥ : EReal) (row x r) := by
  rw [val_main_v2_apply, v0, val_main_v1_apply, val_main_cst_0_apply]
  show max (Ideal.ofBits .f32 0xFF800000#32) _ = _
  rw [bot_bits]; exact max_eq_right bot_le

theorem v4 (c : Cls) : val_main_v4 (F := Ideal) x (sq r c) = (Finset.univ : Finset Cls).fold max (⊥ : EReal) (row x r) := by
  rw [val_main_v4_apply, val_main_v3_apply]
  exact (congrArg _ (funext fun a => match a with | ⟨0, _⟩ => rfl)).trans (v2 x r)

theorem v6 (c : Cls) : val_main_v6 (F := Ideal) x (sq r c) = ex (row x r) c := by
  rw [val_main_v6_apply, val_main_v5_apply, v4]; rfl

theorem v7 : val_main_v7 (F := Ideal) x (vec r) = tot (ex (row x r)) := by
  rw [val_main_v7_apply, val_main_cst_1_apply]
  show Ideal.ofBits .f32 0x00000000#32 + _ = _
  rw [Ideal.ofBits_zero_f32, zero_add]
  refine Finset.sum_congr rfl fun c _ => (congrArg _ (funext fun a => match a with | ⟨0, _⟩ => rfl | ⟨1, _⟩ => rfl)).trans (v6 x r c)

theorem v9 (c : Cls) : val_main_v9 (F := Ideal) x (sq r c) = tot (ex (row x r)) := by
  rw [val_main_v9_apply, val_main_v8_apply]
  exact (congrArg _ (funext fun a => match a with | ⟨0, _⟩ => rfl)).trans (v7 x r)

theorem v15 (c : Cls) : val_main_v15 (F := Ideal) x (sq r c) = pc (ex (row x r)) c := by
  rw [val_main_v15_apply, val_main_v10_apply, v6, v9, val_main_v14_apply, val_main_cst_3_apply]
  show Ideal.ofBits .f32 0x3F800000#32 - Ideal.div _ _ = _
  rw [one_bits]; rfl

variable {w r y} (hy : w (vec r) = cw y)

include hy

theorem v13 (c : Cls) : val_main_v13 (F := Ideal) w (sq r c) = tc y c := by
  rw [val_main_v13_apply, val_main_v11_apply, val_main_call0_v4_apply, val_main_call0_v2_apply, val_main_call0_v0_apply,
    val_main_call0_v3_apply, val_main_call0_v1_apply, val_main_v12_apply, val_main_cst_2_apply]
  have e : w (idx_main_call0_v0 (idx_main_call0_v2 (sq r c))) = cw y :=
    (congrArg w (funext fun a => match a with | ⟨0, _⟩ => rfl)).trans hy
  rw [e]
  show Ideal.ofBits .f32 0x3F800000#32 - (((IntOp.cmpi .eq (cw y) (cw c)).toNat : ℝ) : EReal) = _
  rw [eq_mask, one_bits]
  unfold tc
  by_cases h : c = y
  · subst h; simp
  · rw [if_neg (fun h' => h h'.symm), if_neg h]; simp

theorem v18 (c : Cls) : val_main_v18 (F := Ideal) x w (sq r c) = cost (ex (row x r)) y c := by
  rw [val_main_v18_apply, val_main_v17_apply, v15, v13 hy, val_main_v16_apply, val_main_cst_4_apply]
  show Ideal.ofBits .f32 0x40000000#32 * _ - _ = _
  rw [two_bits]; rfl

theorem v22 (c : Cls) : val_main_v22 (F := Ideal) x w (sq r c) = if c = 0 then ⊤ else cost (ex (row x r)) y c := by
  rw [val_main_v22_apply, val_main_v21_apply, val_main_v19_apply, val_main_v20_apply, val_main_c_apply, val_main_call1_v1_apply,
    val_main_call1_v0_apply, val_main_cst_5_apply, v18 x hy]
  show Scalar.select (IntOp.cmpi .eq (cw c) (cw 0)) (Ideal.ofBits .f32 0x7F800000#32) _ = _
  rw [eq_mask, select_if, top_bits]

theorem v24 : val_main_v24 (F := Ideal) x w (col r) = best (ex (row x r)) y := by
  rw [val_main_v24_apply]
  refine (congrArg (val_main_v23 (F := Ideal) x w) (show _ = vec r from funext fun a => match a with | ⟨0, _⟩ => rfl)).trans ?_
  unfold val_main_v23
  refine (fold_row (min : EReal → EReal → EReal) _ _ r).trans ?_
  rw [val_main_cst_6_apply]
  show Finset.fold min (Ideal.ofBits .f32 0x7F800000#32) _ _ = _
  rw [top_bits]
  exact Finset.fold_congr fun c _ => v22 x hy c

/-- A class's true cost, the class `0` left out. -/
def oth (y c : Cls) : EReal := if c = 0 then ⊤ else tc y c

theorem v27 (c : Cls) : val_main_v27 (F := Ideal) w (sq r c) = oth y c := by
  rw [val_main_v27_apply, val_main_v26_apply, val_main_v19_apply, val_main_v25_apply, val_main_c_7_apply, val_main_call2_v1_apply,
    val_main_call2_v0_apply, val_main_cst_8_apply, v13 hy]
  show Scalar.select (IntOp.cmpi .eq (cw c) (cw 0)) (Ideal.ofBits .f32 0x7F800000#32) _ = _
  rw [eq_mask, select_if, top_bits]; rfl

theorem v30 (c : Cls) : val_main_v30 (F := Ideal) w (sq r c) = (Finset.univ : Finset Cls).fold min (⊤ : EReal) (oth y) := by
  rw [val_main_v30_apply, val_main_v29_apply]
  refine (congrArg (val_main_v28 (F := Ideal) w) (show _ = vec r from funext fun a => match a with | ⟨0, _⟩ => rfl)).trans ?_
  unfold val_main_v28
  refine (fold_row (min : EReal → EReal → EReal) _ _ r).trans ?_
  rw [val_main_cst_9_apply]
  show Finset.fold min (Ideal.ofBits .f32 0x7F800000#32) _ _ = _
  rw [top_bits]
  exact Finset.fold_congr fun c _ => v27 hy c

omit hy in
/-- The least true cost away from the class `0` is that of `lab y`, and no class before `lab y` has it. -/
theorem least_oth (y : Cls) : (Finset.univ : Finset Cls).fold min (⊤ : EReal) (oth y) = oth y (lab y)
    ∧ ∀ c, oth y c = oth y (lab y) → lab y ≤ c := by
  have h1 : ∀ c, c ≠ y → tc y c = 1 := fun c h => by simp [tc, h]
  have h0 : tc y y = 0 := by rw [tc_eq]; simp
  have hpos : ∀ c, 0 ≤ tc y c := fun c => by
    by_cases h : c = y
    · rw [h, h0]
    · rw [h1 c h]; exact zero_le_one
  have key : ∀ c, oth y (lab y) ≤ oth y c := by
    intro c
    unfold oth
    by_cases hc : c = 0
    · rw [if_pos hc]; exact le_top
    rw [if_neg hc]
    by_cases hy0 : y = 0
    · subst hy0
      rw [show lab 0 = 1 from if_pos rfl, if_neg (by decide), h1 1 (by decide), h1 c hc]
    · rw [show lab y = y from if_neg hy0, if_neg hy0, h0]; exact hpos c
  refine ⟨le_antisymm (foldMin_le (oth y) (Finset.mem_univ _)) ((le_foldMin _ _ _).2 fun c _ => key c), fun c hc => ?_⟩
  unfold oth at hc
  by_cases hy0 : y = 0
  · subst hy0
    rw [show lab 0 = 1 from if_pos rfl] at hc ⊢
    by_cases h : c = 0
    · subst h
      rw [if_pos rfl, if_neg (by decide), h1 1 (by decide)] at hc
      exact absurd hc (by decide)
    · exact Fin.le_def.2 (by
        have : c.val ≠ 0 := fun h' => h (Fin.ext h')
        show 1 ≤ c.val; omega)
  · rw [show lab y = y from if_neg hy0, if_neg hy0, h0] at hc
    rw [show lab y = y from if_neg hy0]
    by_cases h : c = y
    · rw [h]
    · by_cases h2 : c = 0
      · rw [if_pos h2] at hc; exact absurd hc (by simp)
      · rw [if_neg h2, h1 c h] at hc; exact absurd hc (by simp)

theorem v32 (c : Cls) : val_main_v32 (F := Ideal) w (sq r c) = if oth y c = oth y (lab y) then cw c else 1000#32 := by
  rw [val_main_v32_apply, val_main_v31_apply, v27 hy, v30 hy, val_main_v19_apply, val_main_call3_v1_apply, val_main_call3_v0_apply,
    val_main_c_10_apply, (least_oth y).1]
  show Scalar.select (BitVec.ofBool (decide (oth y c = oth y (lab y)))) (cw c) 1000#32 = _
  by_cases h : oth y c = oth y (lab y)
  · rw [if_pos h, decide_eq_true h]; rfl
  · rw [if_neg h, decide_eq_false h]; rfl

theorem v35 (c : Cls) : val_main_v35 (F := Ideal) w (sq r c) = cw (lab y) := by
  rw [val_main_v35_apply, val_main_v34_apply]
  refine (congrArg (val_main_v33 (F := Ideal) w) (show _ = vec r from funext fun a => match a with | ⟨0, _⟩ => rfl)).trans ?_
  unfold val_main_v33
  refine (fold_row IntOp.minsi _ _ r).trans ?_
  rw [val_main_c_11_apply]
  refine (Finset.fold_congr fun c _ => v32 hy c).trans ?_
  exact least_word (fun c => oth y c = oth y (lab y)) (lab y) rfl (least_oth y).2

theorem v37 (c : Cls) : val_main_v37 (F := Ideal) x w (sq r c) = if c = lab y then pc (ex (row x r)) c else 0 := by
  rw [val_main_v37_apply, val_main_v36_apply, val_main_v19_apply, v35 hy, v15, val_main_call4_v1_apply, val_main_call4_v0_apply,
    val_main_cst_12_apply]
  show Scalar.select (IntOp.cmpi .eq (cw c) (cw (lab y))) _ (Ideal.ofBits .f32 0x00000000#32) = _
  rw [eq_mask, select_if, Ideal.ofBits_zero_f32]

theorem v39 : val_main_v39 (F := Ideal) x w (col r) = pc (ex (row x r)) (lab y) := by
  rw [val_main_v39_apply]
  refine (congrArg (val_main_v38 (F := Ideal) x w) (show _ = vec r from funext fun a => match a with | ⟨0, _⟩ => rfl)).trans ?_
  rw [val_main_v38_apply, val_main_cst_13_apply]
  show Ideal.ofBits .f32 0x00000000#32 + _ = _
  rw [Ideal.ofBits_zero_f32, zero_add]
  refine (Finset.sum_congr rfl fun c _ =>
    (congrArg (val_main_v37 (F := Ideal) x w) (show _ = sq r c from funext fun a => match a with | ⟨0, _⟩ => rfl | ⟨1, _⟩ => rfl)).trans (v37 x hy c)).trans ?_
  rw [Finset.sum_ite_eq' Finset.univ (lab y) (pc (ex (row x r))), if_pos (Finset.mem_univ _)]

/-- The difference of the costs. -/
theorem v41 : val_main_v41 (F := Ideal) x w (col r) = cost (ex (row x r)) y 0 - best (ex (row x r)) y := by
  rw [val_main_v41_apply, v24 x hy, val_main_v40_apply]
  exact congrArg (· - best (ex (row x r)) y) ((congrArg (val_main_v18 (F := Ideal) x w)
    (show _ = sq r 0 from funext fun a => match a with | ⟨0, _⟩ => rfl | ⟨1, _⟩ => rfl)).trans (v18 x hy 0))

/-- The first loss. -/
theorem v43 : val_main_v43 (F := Ideal) x w (col r) = pc (ex (row x r)) 0 - pc (ex (row x r)) (lab y) := by
  rw [val_main_v43_apply, v39 x hy, val_main_v42_apply]
  exact congrArg (· - pc (ex (row x r)) (lab y)) ((congrArg (val_main_v15 (F := Ideal) x)
    (show _ = sq r 0 from funext fun a => match a with | ⟨0, _⟩ => rfl | ⟨1, _⟩ => rfl)).trans (v15 x r 0))

/-- The second loss. -/
theorem v44 : val_main_v44 (F := Ideal) x w (col r) = best (ex (row x r)) y - pc (ex (row x r)) (lab y) := by
  rw [val_main_v44_apply, v39 x hy, v24 x hy]; rfl

end Row

end Cert.Proof.RowsRef

end
-- ==== Proof.RowsValue.lean ====
/-
  What the first call leaves in its three arrays, row by row, and its run.
-/
module

public import proofs.«01_k».proof.Proof.RowsRef
public import Idealize.ShloMosaic.Lib.Pipeline.ValueKit

@[expose] public section

set_option maxRecDepth 16384

noncomputable section

namespace Cert.Proof.RowsValue

open Cert.RowsIdeal Cert.RowsIdeal.Gen Idealize.ShloMosaic Idealize.ShloMosaic.TcCoe Idealize.SL.Sem Cert.Proof.Row
open Idealize.ShloMosaic.Pipeline (Dat Cfg Window)
open Cert.Proof.Rows (cw ex low)
open Cert.Proof.RowsRef (row)

variable (m : (ℓ : Loc nD τ sig) → Buf (Elt Ideal) ℓ) (ρ : Dev nD → PrngReg)

/-- The logits and the labels of a device. -/
abbrev X (c : Dev nD) : Cert.RowsReferenceIdeal.S16384x1000.Idx → EReal := m ((c : Thread nD τ).loc main_arg0)
abbrev Y (c : Dev nD) : Cert.RowsReferenceIdeal.S16384.Idx → BitVec 32 := m ((c : Thread nD τ).loc main_arg1)

/-! ## The blocks' places -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Row `p` of block `t`. -/
def at_ (t : Fin cfg0.N) (p : Fin 256) : Fin 16384 := ⟨t.val * 256 + p.val, by
  have h : t.val < 64 := t.isLt; omega⟩

theorem emb0 (t : Fin cfg0.N) (p : Fin 256) (k : Cls) : ((cfg0.win 0).blk t).view.emb (Rows.sq p k) = RowsRef.sq (at_ t p) k := by
  obtain ⟨e0, e1⟩ := idx0 t
  funext a; apply Fin.ext
  match a with
  | ⟨0, _⟩ => show win0_0.index t (0 : Fin 2) * 256 + 1 * p.val = t.val * 256 + p.val; omega
  | ⟨1, _⟩ => show win0_0.index t (1 : Fin 2) * 1000 + 1 * k.val = k.val; omega
theorem emb1 (t : Fin cfg0.N) (p : Fin 256) : ((cfg0.win 1).blk t).view.emb (Rows.col p) = RowsRef.col (at_ t p) := by
  obtain ⟨e0, e1⟩ := idx1 t
  funext a; apply Fin.ext
  match a with
  | ⟨0, _⟩ => show win0_1.index t (0 : Fin 2) * 256 + 1 * p.val = t.val * 256 + p.val; omega
  | ⟨1, _⟩ => show win0_1.index t (1 : Fin 2) * 1 + 1 * 0 = 0; omega
theorem emb2 (t : Fin cfg0.N) (p : Fin 256) : ((cfg0.win 2).blk t).view.emb (Rows.col p) = RowsRef.col (at_ t p) := by
  obtain ⟨e0, e1⟩ := idx2 t
  funext a; apply Fin.ext
  match a with
  | ⟨0, _⟩ => show win0_2.index t (0 : Fin 2) * 256 + 1 * p.val = t.val * 256 + p.val; omega
  | ⟨1, _⟩ => show win0_2.index t (1 : Fin 2) * 1 + 1 * 0 = 0; omega
theorem emb3 (t : Fin cfg0.N) (p : Fin 256) : ((cfg0.win 3).blk t).view.emb (Rows.col p) = RowsRef.col (at_ t p) := by
  obtain ⟨e0, e1⟩ := idx3 t
  funext a; apply Fin.ext
  match a with
  | ⟨0, _⟩ => show win0_3.index t (0 : Fin 2) * 256 + 1 * p.val = t.val * 256 + p.val; omega
  | ⟨1, _⟩ => show win0_3.index t (1 : Fin 2) * 1 + 1 * 0 = 0; omega
theorem emb4 (t : Fin cfg0.N) (p : Fin 256) : ((cfg0.win 4).blk t).view.emb (Rows.col p) = RowsRef.col (at_ t p) := by
  obtain ⟨e0, e1⟩ := idx4 t
  funext a; apply Fin.ext
  match a with
  | ⟨0, _⟩ => show win0_4.index t (0 : Fin 2) * 256 + 1 * p.val = t.val * 256 + p.val; omega
  | ⟨1, _⟩ => show win0_4.index t (1 : Fin 2) * 1 + 1 * 0 = 0; omega

/-! ## The blocks' values -/

/-- The labels as the call's second array holds them: a column. -/
theorem labels (c : Dev nD) (r : Fin 16384) : V m c main_v0 (RowsRef.col r) = Y m c (RowsRef.vec r) := by
  have e : V m c main_v0 = shapeCast S16384x1 (Y m c) shapeCasts_S16384_S16384x1 := rfl
  rw [e]
  exact shapeCast_apply _ _ _ _ (by rw [Shape.rowMajor_val_one, Shape.rowMajor_val_two]; show r.val = r.val * 1 + 0; omega)

theorem blk0 (c : Dev nD) (t : Fin cfg0.N) (p : Fin 256) (k : Cls) : iblk m c 0 t (Rows.sq p k) = X m c (RowsRef.sq (at_ t p) k) := by
  show V m c main_arg0 (((cfg0.win 0).blk t).view.emb (Rows.sq p k)) = _
  rw [emb0, V_main_arg0]

theorem blk1 (c : Dev nD) (t : Fin cfg0.N) (p : Fin 256) : iblk m c 1 t (Rows.col p) = Y m c (RowsRef.vec (at_ t p)) := by
  show V m c main_v0 (((cfg0.win 1).blk t).view.emb (Rows.col p)) = _
  rw [emb1, labels]

theorem hz : (![0, 0] : Fin 2 → Nat) = fun _ => 0 := by decide

section Out

variable (A : Vec Ideal S256x1000 .f32) (B : Vec Ideal S256x1 .i32)

theorem out2_eq : out0_2 A B = k0_pay1 (F := Ideal) (k0_pay11 B) (k0_pay14 A B) := by
  unfold out0_2 k0_pay18
  rw [View.canon_unit_zero hz, View.ld_unit_zero hz, View.ld_unit_zero hz]

theorem out3_eq : out0_3 A B = k0_pay3 (F := Ideal) (k0_pay7 A) (k0_pay9 A B) (k0_pay10 A) (k0_pay11 B) (k0_pay12 A) := by
  unfold out0_3 k0_pay15 k0_pay16 k0_pay17 k0_pay18
  rw [View.canon_unit_zero hz, View.ld_unit_zero hz, View.ld_unit_zero hz]

theorem out4_eq : out0_4 A B = k0_pay4 (F := Ideal) (k0_pay7 A) (k0_pay9 A B) (k0_pay10 A) (k0_pay11 B) (k0_pay13 A B) := by
  unfold out0_4 k0_pay15 k0_pay16 k0_pay17 k0_pay18
  rw [View.canon_unit_zero hz, View.ld_unit_zero hz, View.ld_unit_zero hz]

end Out

/-! ## The arrays -/

section Arrays

variable {m}
variable (c : Dev nD)

theorem rows_eq (t : Fin cfg0.N) (p : Fin 256) : Rows.rowOf (iblk m c 0 t) p = row (X m c) (at_ t p) := funext fun k => blk0 m c t p k

/-- The first array, at a row whose label is the class `y`. -/
theorem arr2 (r : Fin 16384) (y : Cls) (hy : Y m c (RowsRef.vec r) = cw y) :
    (dats m 0 c).arrAt 2 cfg0.N (RowsRef.col r) = diff (ex (row (X m c) r)) y low := by
  refine (dats m 0 c).arrAt_forall_of_covers 2 (fun i v => ∀ (r : Fin 16384) (y : Cls), i = RowsRef.col r → Y m c (RowsRef.vec r) = cw y →
    v = diff (ex (row (X m c) r)) y low) (by decide +kernel) (fun t hf j => ?_) (RowsRef.col r) (by exact Memref.isWhole_whole _) r y rfl hy
  intro r y hr hy
  obtain ⟨p, rfl⟩ : ∃ p : Fin 256, j = Rows.col p := ⟨_, Rows.col_surj j⟩
  have hr' : at_ t p = r := congrFun ((emb2 t p).symm.trans hr) 0
  subst hr'
  blk_simp
  rw [after0_2, out2_eq]
  refine (Rows.out2 (iblk m c 0 t) (iblk m c 1 t) p y ((blk1 m c t p).trans hy)).trans ?_
  rw [rows_eq]

/-- The second array, at a row whose label is the class `y`. -/
theorem arr3 (r : Fin 16384) (y : Cls) (hy : Y m c (RowsRef.vec r) = cw y) :
    (dats m 0 c).arrAt 3 cfg0.N (RowsRef.col r) = corr (ex (row (X m c) r)) y := by
  refine (dats m 0 c).arrAt_forall_of_covers 3 (fun i v => ∀ (r : Fin 16384) (y : Cls), i = RowsRef.col r → Y m c (RowsRef.vec r) = cw y →
    v = corr (ex (row (X m c) r)) y) (by decide +kernel) (fun t hf j => ?_) (RowsRef.col r) (by exact Memref.isWhole_whole _) r y rfl hy
  intro r y hr hy
  obtain ⟨p, rfl⟩ : ∃ p : Fin 256, j = Rows.col p := ⟨_, Rows.col_surj j⟩
  have hr' : at_ t p = r := congrFun ((emb3 t p).symm.trans hr) 0
  subst hr'
  blk_simp
  rw [after0_3, out3_eq]
  refine (Rows.out3 (iblk m c 0 t) (iblk m c 1 t) p y ((blk1 m c t p).trans hy)).trans ?_
  rw [rows_eq]

/-- The third array, at a row whose label is the class `y`. -/
theorem arr4 (r : Fin 16384) (y : Cls) (hy : Y m c (RowsRef.vec r) = cw y) :
    (dats m 0 c).arrAt 4 cfg0.N (RowsRef.col r) = base (ex (row (X m c) r)) y low := by
  refine (dats m 0 c).arrAt_forall_of_covers 4 (fun i v => ∀ (r : Fin 16384) (y : Cls), i = RowsRef.col r → Y m c (RowsRef.vec r) = cw y →
    v = base (ex (row (X m c) r)) y low) (by decide +kernel) (fun t hf j => ?_) (RowsRef.col r) (by exact Memref.isWhole_whole _) r y rfl hy
  intro r y hr hy
  obtain ⟨p, rfl⟩ : ∃ p : Fin 256, j = Rows.col p := ⟨_, Rows.col_surj j⟩
  have hr' : at_ t p = r := congrFun ((emb4 t p).symm.trans hr) 0
  subst hr'
  blk_simp
  rw [after0_4, out4_eq]
  refine (Rows.out4 (iblk m c 0 t) (iblk m c 1 t) p y ((blk1 m c t p).trans hy)).trans ?_
  rw [rows_eq]

end Arrays

end Cert.Proof.RowsValue

end
-- ==== Proof.RowsSame.lean ====
/-
  The first call and the rows' reference leave the same three arrays, where every label is a class.
-/
module

public import proofs.«01_k».proof.Proof.RowsValue
public import proofs.«01_k».proof.Proof.Gen.Pre_rows_pre

@[expose] public section

set_option maxRecDepth 16384

noncomputable section

namespace Cert.Proof.RowsSame

open Idealize.ShloMosaic Idealize.ShloMosaic.TcCoe Idealize.SL.Sem Cert.Proof.Row
open Cert.Proof.Rows (cw ex low low_bits)
open Cert.Proof.RowsRef (row vec col)

/-! ## The precondition -/

theorem one_place (i j : Cert.Pre_rows_pre.S_.Idx) : i = j := funext fun a => a.elim0

theorem and_one : ∀ a b : BitVec 1, IntOp.andi a b = 1#1 ↔ a = 1#1 ∧ b = 1#1 := by decide

/-- Where the precondition holds, every row's label is the word of a class. -/
theorem label (a : Cert.RowsReferenceIdeal.S16384x1000.Idx → EReal) (b : Cert.RowsReferenceIdeal.S16384.Idx → BitVec 32)
    (h : Cert.Pre_rows_pre.fn (F := Ideal) a b = fun _ => 1#1) (r : Fin 16384) : ∃ y : Cls, b (vec r) = cw y := by
  have h0 := congrFun h (Shape.Idx.first Cert.Pre_rows_pre.Gen.h_S_)
  have h1 := (Host.reduce_eq_fold IntOp.andi _ _ _ _ _).symm.trans h0
  have h2 := ((Finset.fold_op_rel_iff_and (r := fun _ z : BitVec 1 => z = 1#1) (c := 1#1)
    (fun {_ y z} => and_one y z)).1 h1).2 (vec r) (Finset.mem_filter.2 ⟨Finset.mem_univ _, one_place _ _⟩)
  have h3 : IntOp.andi (IntOp.cmpi .sge (b (vec r)) 0#32) (IntOp.cmpi .slt (b (vec r)) 1000#32) = 1#1 := h2
  obtain ⟨h4, h5⟩ := (and_one _ _).1 h3
  generalize b (vec r) = w at h4 h5
  have h6 : (0 : Int) ≤ w.toInt := by
    by_contra hn
    have : IntOp.cmpi .sge w 0#32 = 0#1 := by
      show BitVec.ofBool ((0#32).sle w) = _
      rw [BitVec.sle_eq_decide, decide_eq_false (by simpa using hn)]; rfl
    rw [this] at h4; exact absurd h4 (by decide)
  have h7 : w.toInt < 1000 := by
    by_contra hn
    have : IntOp.cmpi .slt w 1000#32 = 0#1 := by
      show BitVec.ofBool (w.slt 1000#32) = _
      rw [BitVec.slt_eq_decide, decide_eq_false (by simpa using hn)]; rfl
    rw [this] at h5; exact absurd h5 (by decide)
  have h8 : w.toNat < 1000 := by
    rw [BitVec.toInt_eq_toNat_cond] at h6 h7
    have := w.isLt
    split_ifs at h6 h7 <;> omega
  exact ⟨⟨w.toNat, h8⟩, by simp [cw]⟩

/-! ## The arrays -/

section Arrays

variable (m : (ℓ : Loc Cert.RowsIdeal.nD Cert.RowsIdeal.τ Cert.RowsIdeal.sig) → Buf (Elt Ideal) ℓ) (c : Dev Cert.RowsIdeal.nD)
variable (hp : ∀ r, ∃ y : Cls, RowsValue.Y m c (vec r) = cw y)

include hp

theorem same0 : (Cert.RowsIdeal.Gen.dats m 0 c).arrAt 2 Cert.RowsIdeal.cfg0.N
    = Cert.RowsReferenceIdeal.Read.val_main_v41 (F := Ideal) (RowsValue.X m c) (RowsValue.Y m c) := by
  funext i
  obtain ⟨r, rfl⟩ : ∃ r : Fin 16384, i = col r := ⟨_, RowsRef.col_surj i⟩
  obtain ⟨y, hy⟩ := hp r
  obtain ⟨e, w⟩ := weights (row (RowsValue.X m c) r)
  exact (RowsValue.arr2 c r y hy).trans ((Row.row w y low low_bits).1.trans (RowsRef.v41 (RowsValue.X m c) hy).symm)

theorem same1 : (Cert.RowsIdeal.Gen.dats m 0 c).arrAt 3 Cert.RowsIdeal.cfg0.N
    = Cert.RowsReferenceIdeal.Read.val_main_v43 (F := Ideal) (RowsValue.X m c) (RowsValue.Y m c) := by
  funext i
  obtain ⟨r, rfl⟩ : ∃ r : Fin 16384, i = col r := ⟨_, RowsRef.col_surj i⟩
  obtain ⟨y, hy⟩ := hp r
  obtain ⟨e, w⟩ := weights (row (RowsValue.X m c) r)
  exact (RowsValue.arr3 c r y hy).trans ((Row.row w y low low_bits).2.1.trans (RowsRef.v43 (RowsValue.X m c) hy).symm)

theorem same2 : (Cert.RowsIdeal.Gen.dats m 0 c).arrAt 4 Cert.RowsIdeal.cfg0.N
    = Cert.RowsReferenceIdeal.Read.val_main_v44 (F := Ideal) (RowsValue.X m c) (RowsValue.Y m c) := by
  funext i
  obtain ⟨r, rfl⟩ : ∃ r : Fin 16384, i = col r := ⟨_, RowsRef.col_surj i⟩
  obtain ⟨y, hy⟩ := hp r
  obtain ⟨e, w⟩ := weights (row (RowsValue.X m c) r)
  exact (RowsValue.arr4 c r y hy).trans ((Row.row w y low low_bits).2.2.trans (RowsRef.v44 (RowsValue.X m c) hy).symm)

end Arrays

end Cert.Proof.RowsSame

end
-- ==== Proof.lean ====
/-
  The proof of the certificate: every program runs to the end, leaves its arguments unchanged and every semaphore at
  zero; from equal arguments the second call's result and its reference's are the same word, and the first call's three
  arrays and its reference's are the same extended reals.
-/
module

public import proofs.«01_k».proof.Defs
public import proofs.«01_k».proof.Proof.Gen.Kernel
public import proofs.«01_k».proof.Proof.Gen.Reference
public import proofs.«01_k».proof.Proof.Run
public import proofs.«01_k».proof.Proof.RefOut
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.RowsReference
public import proofs.«01_k».proof.Proof.Gen.RowsReference.Run
public import proofs.«01_k».proof.Proof.Gen.RowsReferenceIdeal
public import proofs.«01_k».proof.Proof.Gen.RowsReferenceIdeal.Run
public import proofs.«01_k».proof.Proof.Gen.Pre_rows_pre
public import proofs.«01_k».proof.Proof.RowsSame

@[expose] public section

noncomputable section

namespace Cert.Proof

open Idealize.ShloMosaic Idealize.ShloMosaic.TcCoe Idealize.SL.Sem

/-- From equal arguments the reference's result is the kernel's. -/
theorem same (m : (ℓ : Loc Cert.Kernel.nD Cert.Kernel.τ Cert.Kernel.sig) → Buf (Elt Bits) ℓ)
    (m' : (ℓ : Loc Cert.Reference.nD Cert.Reference.τ Cert.Reference.sig) → Buf (Elt Bits) ℓ) (c : Dev Cert.Kernel.nD)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3)) :
    Ref.last m' c (Proc.devRef .tc Cert.Reference.main_v99) = K.result m c := by
  refine (Ref.result_eq m' c (K.pos 16 0)).trans ?_
  rw [h0, h1, h2, h3, K.result_eq]
  rfl

/-- `Cert.bitexact_Kernel_Reference` (Defs.lean). -/
theorem bitexact : Cert.bitexact_Kernel_Reference := by
  intro m g m' g' _ h
  refine ⟨fun c => K.result m c, ?_, ?_⟩
  · exact (θ_run Cert.Kernel.defs _ _).mono (fun _ q c => ⟨(q.1 c).2, (q.1 c).1⟩) (K.run_main (F := Bits) m g)
  · exact (θ_run Cert.Reference.defs _ _).mono (fun _ q c => ⟨(q c).1.trans (same m m' c (h c).1 (h c).2.1 (h c).2.2.1 (h c).2.2.2), (q c).2⟩)
      (Ref.run (F := Bits) m' g')

/-- The rows' reference runs and leaves its arguments unchanged; it has no semaphore. -/
theorem rowsReference_frame : Cert.quiescent_RowsReference := fun m ρ _ =>
  (θ_run Cert.RowsReference.defs _ _).mono (fun r h => ⟨fun c => (h c).2.2.2, sem_eq_zero_of_no_sems (by decide) r.2⟩)
    (Cert.RowsReference.Value.run (F := Bits) m ρ)

/-- The same of its idealization. -/
theorem rowsReferenceIdeal_frame : Cert.quiescent_RowsReferenceIdeal := fun m ρ _ =>
  (θ_run Cert.RowsReferenceIdeal.defs _ _).mono (fun r h => ⟨fun c => (h c).2.2.2, sem_eq_zero_of_no_sems (by decide) r.2⟩)
    (Cert.RowsReferenceIdeal.Value.run (F := Ideal) m ρ)

/-- `Cert.algebraic_RowsIdeal_RowsReferenceIdeal_pre_rows_pre` (Defs.lean). -/
theorem algebraic : Cert.algebraic_RowsIdeal_RowsReferenceIdeal_pre_rows_pre := by
  intro m g m' g' hp h
  have hp' : ∀ c r, ∃ y : Row.Cls, RowsValue.Y m c (RowsRef.vec r) = Rows.cw y := fun c r =>
    RowsSame.label (RowsValue.X m c) (RowsValue.Y m c) (hp c) r
  refine ⟨fun c => (Cert.RowsIdeal.Gen.dats m 0 c).arrAt 2 Cert.RowsIdeal.cfg0.N, fun c => (Cert.RowsIdeal.Gen.dats m 0 c).arrAt 3 Cert.RowsIdeal.cfg0.N,
    fun c => (Cert.RowsIdeal.Gen.dats m 0 c).arrAt 4 Cert.RowsIdeal.cfg0.N, ?_, ?_⟩
  · exact (θ_run Cert.RowsIdeal.defs _ _).mono (fun _ q c => ⟨(q.1 c).1 2, (q.1 c).1 3, (q.1 c).1 4, (q.2 c).1, (q.2 c).2⟩)
      (θ_run_and (Cert.RowsIdeal.Gen.run_main m g) (Cert.RowsIdeal.Gen.unchanged m g))
  · refine (θ_run Cert.RowsReferenceIdeal.defs _ _).mono (fun _ q c => ⟨?_, ?_, ?_, (q c).2.2.2⟩) (Cert.RowsReferenceIdeal.Value.run (F := Ideal) m' g')
    · refine (q c).1.trans ((Cert.RowsReferenceIdeal.Read.val_main_v41_eq _ _).trans ?_)
      rw [(h c).1, (h c).2]
      exact (RowsSame.same0 m c (hp' c)).symm
    · refine (q c).2.1.trans ((Cert.RowsReferenceIdeal.Read.val_main_v43_eq m' c).trans ?_)
      rw [(h c).1, (h c).2]
      exact (RowsSame.same1 m c (hp' c)).symm
    · refine (q c).2.2.1.trans ((Cert.RowsReferenceIdeal.Read.val_main_v44_eq m' c).trans ?_)
      rw [(h c).1, (h c).2]
      exact (RowsSame.same2 m c (hp' c)).symm

/-- Everything that the certificate claims. -/
theorem claim : Cert.Claim :=
  ⟨Cert.Kernel.Gen.facts, Cert.Reference.Gen.facts, Cert.Rows.Gen.facts, Cert.RowsReference.Gen.facts, Cert.RowsIdeal.Gen.facts,
    Cert.RowsReferenceIdeal.Gen.facts, Cert.Pre_rows_pre.Gen.facts,
    K.frame, Ref.frame, fun m ρ _ => Cert.Rows.Gen.frame m ρ, rowsReference_frame,
    fun m ρ _ => Cert.RowsIdeal.Gen.frame m ρ, fun m ρ _ => Cert.RowsIdeal.Gen.frame m ρ,
    rowsReferenceIdeal_frame, fun m ρ _ => rowsReferenceIdeal_frame m ρ trivial,
    bitexact, trivial, trivial, algebraic⟩

end Cert.Proof

end
